-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_on_compared [hKernelIdeal : Cert.KernelIdeal.Facts] [hReferenceIdeal : Cert.ReferenceIdeal.Facts] [hOn_compared : Cert.On_compared.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![36, 64, 256]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v11_0) i = v0 c i)
          ∧ (∀ i : (⟨4, ![36, 64, 256, 128]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.KernelIdeal.nD Cert.KernelIdeal.τ).loc Cert.KernelIdeal.main_v11_1) i = v1 c i)
          ∧ (∀ i : (⟨3, ![36, 64, 256]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 i = 1#1 → r.2.mem ((c.tc : Thread Cert.KernelIdeal.nD Cert.KernelIdeal.τ).loc Cert.KernelIdeal.main_v11_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![36, 64, 256]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v99) i = v0 c i)
          ∧ (∀ i : (⟨4, ![36, 64, 256, 128]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.ReferenceIdeal.nD Cert.ReferenceIdeal.τ).loc Cert.ReferenceIdeal.main_v98) i = v1 c i)
          ∧ (∀ i : (⟨3, ![36, 64, 256]⟩ : Shape).Idx, (Cert.On_compared.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 i = 1#1 → r.2.mem ((c.tc : Thread Cert.ReferenceIdeal.nD Cert.ReferenceIdeal.τ).loc Cert.ReferenceIdeal.main_v90) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hOn_compared : Cert.On_compared.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_compared (hKernelIdeal := hKernelIdeal) (hReferenceIdeal := hReferenceIdeal) (hOn_compared := hOn_compared)
-- ==== On_compared.lean ====
abbrev S36x1x16x128 : Shape := ⟨4, ![36, 1, 16, 128]⟩
abbrev S36x1x64x256 : Shape := ⟨4, ![36, 1, 64, 256]⟩
abbrev S36x1x64 : Shape := ⟨3, ![36, 1, 64]⟩
abbrev S36x64x256x128 : Shape := ⟨4, ![36, 64, 256, 128]⟩
abbrev S36x64x256 : Shape := ⟨3, ![36, 64, 256]⟩
abbrev S36x16x128 : Shape := ⟨3, ![36, 16, 128]⟩
abbrev S_ : Shape := ⟨0, ![]⟩
abbrev S36x16 : Shape := ⟨2, ![36, 16]⟩
abbrev S36x16x4 : Shape := ⟨3, ![36, 16, 4]⟩
abbrev S36x64 : Shape := ⟨2, ![36, 64]⟩
abbrev S36x64x1 : Shape := ⟨3, ![36, 64, 1]⟩
abbrev S36x64x256x1 : Shape := ⟨4, ![36, 64, 256, 1]⟩

class Facts : Prop where
  shapeCasts_S36x1x16x128_S36x16x128 : S36x1x16x128.ShapeCasts S36x16x128
  bitsLt_bf16_f32 : FTy.bits .bf16 < FTy.bits .f32
  reducesTo_S36x16x128_S36x16_d2 : S36x16x128.ReducesTo [2] S36x16
  h_S_ : 0 < S_.numel
  bcast_S36x16_S36x16x4_0_1 : S36x16.BroadcastsInDim S36x16x4 (![0, 1] : Fin 2 → Fin S36x16x4.rank)
  shapeCasts_S36x16x4_S36x64 : S36x16x4.ShapeCasts S36x64
  bcast_S36x64_S36x64x1_0_1 : S36x64.BroadcastsInDim S36x64x1 (![0, 1] : Fin 2 → Fin S36x64x1.rank)
  shapeCasts_S36x1x64x256_S36x64x256 : S36x1x64x256.ShapeCasts S36x64x256
  shapeCasts_S36x1x64_S36x64 : S36x1x64.ShapeCasts S36x64
  bcast_S36x64x1_S36x64x256_0_1_2 : S36x64x1.BroadcastsInDim S36x64x256 (![0, 1, 2] : Fin 3 → Fin S36x64x256.rank)
  bcast_S_S36x64x256x128 : S_.BroadcastsInDim S36x64x256x128 (![] : Fin 0 → Fin S36x64x256x128.rank)
  reducesTo_S36x64x256x128_S36x64x256_d3 : S36x64x256x128.ReducesTo [3] S36x64x256
  bcast_S_S36x64x1 : S_.BroadcastsInDim S36x64x1 (![] : Fin 0 → Fin S36x64x1.rank)
  bcast_S_S36x64x256 : S_.BroadcastsInDim S36x64x256 (![] : Fin 0 → Fin S36x64x256.rank)
  bcast_S36x64x256_S36x64x256x1_0_1_2 : S36x64x256.BroadcastsInDim S36x64x256x1 (![0, 1, 2] : Fin 3 → Fin S36x64x256x1.rank)
  bcast_S36x64x256x1_S36x64x256x128_0_1_2_3 : S36x64x256x1.BroadcastsInDim S36x64x256x128 (![0, 1, 2, 3] : Fin 4 → Fin S36x64x256x128.rank)

variable [Facts]

def fn_part3 {F : FTy → Type} [FloatOps F] (main_v55 : IVec S36x64x256 1) (main_v57 : IVec S36x64x256 1) : IVec S36x64x256 1 × IVec S36x64x256x128 1 × IVec S36x64x256 1 :=
  let main_v58 : IVec S36x64x256x1 1 := broadcastInDim S36x64x256x1 ![0, 1, 2] bcast_S36x64x256_S36x64x256x1_0_1_2 main_v55
  let main_v59 : IVec S36x64x256x128 1 := broadcastInDim S36x64x256x128 ![0, 1, 2, 3] bcast_S36x64x256x1_S36x64x256x128_0_1_2_3 main_v58
  (main_v57, main_v59, main_v55)

def fn_part2 {F : FTy → Type} [FloatOps F] (main_arg2 : FVec F S36x1x64x256 .bf16) (main_v9 : FVec F S36x64x256 .f32) (main_v12 : FVec F S36x64x1 .f32) (main_v17 : FVec F S36x64x256 .f32) (main_v33 : IVec S36x64x256 1) (main_v35 : IVec S36x64x256 1) (main_v38 : IVec S36x64x256 1) : IVec S36x64x256 1 × IVec S36x64x256x128 1 × IVec S36x64x256 1 :=
  let main_v39 : IVec S36x64x256 1 := andi main_v35 main_v38
  let main_v40 : IVec S36x64x256 1 := andi main_v33 main_v39
  let main_cst_7 : FVec F S_ .f32 := constant S_ .f32 0x00800000#32
  let main_v41 : FVec F S36x64x256 .f32 := broadcastInDim S36x64x256 ![] bcast_S_S36x64x256 main_cst_7
  let main_v42 : IVec S36x64x256 1 := cmpf .oge main_v17 main_v41
  let main_cst_8 : FVec F S_ .f32 := constant S_ .f32 0x5D800000#32
  let main_v43 : FVec F S36x64x256 .f32 := broadcastInDim S36x64x256 ![] bcast_S_S36x64x256 main_cst_8
  let main_v44 : IVec S36x64x256 1 := cmpf .ole main_v17 main_v43
  let main_v45 : IVec S36x64x256 1 := andi main_v42 main_v44
  let main_v46 : IVec S36x64x256 1 := andi main_v40 main_v45
  let main_cst_9 : FVec F S_ .f32 := constant S_ .f32 0x47800000#32
  let main_v47 : FVec F S36x64x256 .f32 := broadcastInDim S36x64x256 ![] bcast_S_S36x64x256 main_cst_9
  let main_v48 : FVec F S36x64x256 .f32 := mulf main_v47 main_v17
  let main_v49 : FVec F S36x64x256 .f32 := addf main_v9 main_v48
  let main_v50 : FVec F S36x64x256 .f32 := broadcastInDim S36x64x256 ![0, 1, 2] bcast_S36x64x1_S36x64x256_0_1_2 main_v12
  let main_v51 : FVec F S36x64x256 .f32 := mulf main_v50 main_v49
  let main_cst_10 : FVec F S_ .f32 := constant S_ .f32 0x5D800000#32
  let main_v52 : FVec F S36x64x256 .f32 := broadcastInDim S36x64x256 ![] bcast_S_S36x64x256 main_cst_10
  let main_v53 : FVec F S36x64x256 .f32 := mulf main_v52 main_v17
  let main_v54 : IVec S36x64x256 1 := cmpf .ole main_v51 main_v53
  let main_v55 : IVec S36x64x256 1 := andi main_v46 main_v54
  let main_v56 : FVec F S36x64x256 .bf16 := shapeCast S36x64x256 main_arg2 shapeCasts_S36x1x64x256_S36x64x256
  let main_c_11 : IVec S_ 1 := constantI S_ 1 1#1
  let main_v57 : IVec S36x64x256 1 := broadcastInDim S36x64x256 ![] bcast_S_S36x64x256 main_c_11
  fn_part3 (F := F) main_v55 main_v57

def fn_part1 {F : FTy → Type} [FloatOps F] (main_arg2 : FVec F S36x1x64x256 .bf16) (main_arg5 : IVec S36x64x256x128 8) (main_v6 : FVec F S36x64x1 .f32) (main_v9 : FVec F S36x64x256 .f32) (main_v12 : FVec F S36x64x1 .f32) (main_v17 : FVec F S36x64x256 .f32) (main_v19 : IVec S36x64x256x128 1) (main_v20 : IVec S36x64x256x128 8) : IVec S36x64x256 1 × IVec S36x64x256x128 1 × IVec S36x64x256 1 :=
  let main_v21 : IVec S36x64x256x128 1 := cmpi .ne main_arg5 main_v20
  let main_v22 : IVec S36x64x256x128 1 := andi main_v19 main_v21
  let main_c_1 : IVec S_ 1 := constantI S_ 1 1#1
  let main_v23 : IVec S36x64x256 1 := (fun x v => Host.reduce IntOp.andi x v reducesTo_S36x64x256x128_S36x64x256_d3 h_S_) main_v22 main_c_1
  let main_cst_2 : FVec F S_ .f32 := constant S_ .f32 0x7F7FFFFF#32
  let main_v24 : FVec F S36x64x1 .f32 := broadcastInDim S36x64x1 ![] bcast_S_S36x64x1 main_cst_2
  let main_v25 : IVec S36x64x1 1 := cmpf .ole main_v6 main_v24
  let main_cst_3 : FVec F S_ .f32 := constant S_ .f32 0x00000000#32
  let main_v26 : FVec F S36x64x1 .f32 := broadcastInDim S36x64x1 ![] bcast_S_S36x64x1 main_cst_3
  let main_v27 : IVec S36x64x1 1 := cmpf .oeq main_v6 main_v26
  let main_cst_4 : FVec F S_ .f32 := constant S_ .f32 0x00800000#32
  let main_v28 : FVec F S36x64x1 .f32 := broadcastInDim S36x64x1 ![] bcast_S_S36x64x1 main_cst_4
  let main_v29 : IVec S36x64x1 1 := cmpf .oge main_v6 main_v28
  let main_v30 : IVec S36x64x1 1 := ori main_v27 main_v29
  let main_v31 : IVec S36x64x1 1 := andi main_v25 main_v30
  let main_v32 : IVec S36x64x256 1 := broadcastInDim S36x64x256 ![0, 1, 2] bcast_S36x64x1_S36x64x256_0_1_2 main_v31
  let main_v33 : IVec S36x64x256 1 := andi main_v23 main_v32
  let main_cst_5 : FVec F S_ .f32 := constant S_ .f32 0x7F7FFFFF#32
  let main_v34 : FVec F S36x64x256 .f32 := broadcastInDim S36x64x256 ![] bcast_S_S36x64x256 main_cst_5
  let main_v35 : IVec S36x64x256 1 := cmpf .ole main_v9 main_v34
  let main_cst_6 : FVec F S_ .f32 := constant S_ .f32 0x7F7FFFFF#32
  let main_v36 : FVec F S36x64x1 .f32 := broadcastInDim S36x64x1 ![] bcast_S_S36x64x1 main_cst_6
  let main_v37 : IVec S36x64x1 1 := cmpf .ole main_v12 main_v36
  let main_v38 : IVec S36x64x256 1 := broadcastInDim S36x64x256 ![0, 1, 2] bcast_S36x64x1_S36x64x256_0_1_2 main_v37
  fn_part2 (F := F) main_arg2 main_v9 main_v12 main_v17 main_v33 main_v35 main_v38

def fn {F : FTy → Type} [FloatOps F] (main_arg0 : FVec F S36x1x16x128 .bf16) (main_arg1 : FVec F S36x1x16x128 .bf16) (main_arg2 : FVec F S36x1x64x256 .bf16) (main_arg3 : FVec F S36x1x64 .f32) (main_arg4 : FVec F S36x1x64 .f32) (main_arg5 : IVec S36x64x256x128 8) (main_arg6 : FVec F S36x64x256 .f32) : IVec S36x64x256 1 × IVec S36x64x256x128 1 × IVec S36x64x256 1 :=
  let main_v0 : FVec F S36x16x128 .bf16 := shapeCast S36x16x128 main_arg1 shapeCasts_S36x1x16x128_S36x16x128
  let main_v1 : FVec F S36x16x128 .f32 := (extf .f32 · bitsLt_bf16_f32) main_v0
  let main_v2 : FVec F S36x16x128 .f32 := Host.absf main_v1
  let main_cst : FVec F S_ .f32 := constant S_ .f32 0xFF800000#32
  let main_v3 : FVec F S36x16 .f32 := (fun x v => Host.reduce FloatOps.maximumf x v reducesTo_S36x16x128_S36x16_d2 h_S_) main_v2 main_cst
  let main_v4 : FVec F S36x16x4 .f32 := broadcastInDim S36x16x4 ![0, 1] bcast_S36x16_S36x16x4_0_1 main_v3
  let main_v5 : FVec F S36x64 .f32 := shapeCast S36x64 main_v4 shapeCasts_S36x16x4_S36x64
  let main_v6 : FVec F S36x64x1 .f32 := broadcastInDim S36x64x1 ![0, 1] bcast_S36x64_S36x64x1_0_1 main_v5
  let main_v7 : FVec F S36x64x256 .bf16 := shapeCast S36x64x256 main_arg2 shapeCasts_S36x1x64x256_S36x64x256
  let main_v8 : FVec F S36x64x256 .f32 := (extf .f32 · bitsLt_bf16_f32) main_v7
  let main_v9 : FVec F S36x64x256 .f32 := Host.absf main_v8
  let main_v10 : FVec F S36x64 .f32 := shapeCast S36x64 main_arg4 shapeCasts_S36x1x64_S36x64
  let main_v11 : FVec F S36x64 .f32 := Host.absf main_v10
  let main_v12 : FVec F S36x64x1 .f32 := broadcastInDim S36x64x1 ![0, 1] bcast_S36x64_S36x64x1_0_1 main_v11
  let main_v13 : FVec F S36x64 .f32 := shapeCast S36x64 main_arg3 shapeCasts_S36x1x64_S36x64
  let main_v14 : FVec F S36x64 .f32 := Host.exp main_v13
  let main_v15 : FVec F S36x64x1 .f32 := broadcastInDim S36x64x1 ![0, 1] bcast_S36x64_S36x64x1_0_1 main_v14
  let main_v16 : FVec F S36x64x256 .f32 := broadcastInDim S36x64x256 ![0, 1, 2] bcast_S36x64x1_S36x64x256_0_1_2 main_v15
  let main_v17 : FVec F S36x64x256 .f32 := mulf main_v16 main_arg6
  let main_c : IVec S_ 8 := constantI S_ 8 127#8
  let main_v18 : IVec S36x64x256x128 8 := broadcastInDim S36x64x256x128 ![] bcast_S_S36x64x256x128 main_c
  let main_v19 : IVec S36x64x256x128 1 := cmpi .ne main_arg5 main_v18
  let main_c_0 : IVec S_ 8 := constantI S_ 8 255#8
  let main_v20 : IVec S36x64x256x128 8 := broadcastInDim S36x64x256x128 ![] bcast_S_S36x64x256x128 main_c_0
  fn_part1 (F := F) main_arg2 main_arg5 main_v6 main_v9 main_v12 main_v17 main_v19 main_v20
-- ==== Kernel.lean ====
abbrev S36x1x16x128 : Shape := ⟨4, ![36, 1, 16, 128]⟩
abbrev S36x1x64x256 : Shape := ⟨4, ![36, 1, 64, 256]⟩
abbrev S36x1x64 : Shape := ⟨3, ![36, 1, 64]⟩
abbrev S36x64x256x128 : Shape := ⟨4, ![36, 64, 256, 128]⟩
abbrev S36x64x256 : Shape := ⟨3, ![36, 64, 256]⟩
abbrev S128x128 : Shape := ⟨2, ![128, 128]⟩
abbrev S_ : Shape := ⟨0, ![]⟩
abbrev S36x16x128 : Shape := ⟨3, ![36, 16, 128]⟩
abbrev S1x16x128 : Shape := ⟨3, ![1, 16, 128]⟩
abbrev S1x64x256 : Shape := ⟨3, ![1, 64, 256]⟩
abbrev S1x1x64 : Shape := ⟨3, ![1, 1, 64]⟩
abbrev S1x64x256x128 : Shape := ⟨4, ![1, 64, 256, 128]⟩
abbrev S16x128x128 : Shape := ⟨3, ![16, 128, 128]⟩
abbrev S16x128 : Shape := ⟨2, ![16, 128]⟩
abbrev S64x256 : Shape := ⟨2, ![64, 256]⟩
abbrev S8x128x256 : Shape := ⟨3, ![8, 128, 256]⟩
abbrev S16 : Shape := ⟨1, ![16]⟩
abbrev S16x1 : Shape := ⟨2, ![16, 1]⟩
abbrev S1x64 : Shape := ⟨2, ![1, 64]⟩
abbrev S64x64 : Shape := ⟨2, ![64, 64]⟩
abbrev S64 : Shape := ⟨1, ![64]⟩
abbrev S64x1 : Shape := ⟨2, ![64, 1]⟩
abbrev S1x128 : Shape := ⟨2, ![1, 128]⟩
abbrev S1x128x128 : Shape := ⟨3, ![1, 128, 128]⟩
abbrev S8x128 : Shape := ⟨2, ![8, 128]⟩
abbrev S16x1024 : Shape := ⟨2, ![16, 1024]⟩
abbrev S1x1x256x128 : Shape := ⟨4, ![1, 1, 256, 128]⟩
abbrev S256x128 : Shape := ⟨2, ![256, 128]⟩
abbrev S256x1024 : Shape := ⟨2, ![256, 1024]⟩
abbrev S16x256 : Shape := ⟨2, ![16, 256]⟩
abbrev S1x8x256 : Shape := ⟨3, ![1, 8, 256]⟩
abbrev S8x256 : Shape := ⟨2, ![8, 256]⟩
abbrev S8x1 : Shape := ⟨2, ![8, 1]⟩
abbrev S8 : Shape := ⟨1, ![8]⟩
abbrev S128x256 : Shape := ⟨2, ![128, 256]⟩
abbrev S1x256 : Shape := ⟨2, ![1, 256]⟩
abbrev S1x128x256 : Shape := ⟨3, ![1, 128, 256]⟩
abbrev S256 : Shape := ⟨1, ![256]⟩

abbrev nBuf : Space → Nat
  | .hbm => 22
  | .vmem => 26
  | .smem => 0
  | _ => 0

abbrev bufTy : (tb : Table) → Fin (tcTables nBuf tb) → BufTy
  | .hbm, ⟨0, _⟩ => ⟨S36x1x16x128, .bf16⟩
  | .hbm, ⟨1, _⟩ => ⟨S36x1x16x128, .bf16⟩
  | .hbm, ⟨2, _⟩ => ⟨S36x1x64x256, .bf16⟩
  | .hbm, ⟨3, _⟩ => ⟨S36x1x64, .f32⟩
  | .hbm, ⟨4, _⟩ => ⟨S36x1x64, .f32⟩
  | .hbm, ⟨5, _⟩ => ⟨S36x64x256x128, .i8⟩
  | .hbm, ⟨6, _⟩ => ⟨S36x64x256, .f32⟩
  | .hbm, ⟨7, _⟩ => ⟨S36x64x256x128, .fp8e4m3⟩
  | .hbm, ⟨8, _⟩ => ⟨S128x128, .i32⟩
  | .hbm, ⟨9, _⟩ => ⟨S128x128, .i32⟩
  | .hbm, ⟨10, _⟩ => ⟨S_, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S128x128, .f32⟩
  | .hbm, ⟨15, _⟩ => ⟨S128x128, .fp8e4m3⟩
  | .hbm, ⟨16, _⟩ => ⟨S36x16x128, .bf16⟩
  | .hbm, ⟨17, _⟩ => ⟨S36x16x128, .bf16⟩
  | .hbm, ⟨18, _⟩ => ⟨S36x64x256, .bf16⟩
  | .hbm, ⟨19, _⟩ => ⟨S36x64x256, .bf16⟩
  | .hbm, ⟨20, _⟩ => ⟨S36x64x256x128, .fp8e4m3⟩
  | .hbm, ⟨21, _⟩ => ⟨S36x64x256, .f32⟩
  | .local _ .vmem, ⟨0, _⟩ => ⟨S128x128, .fp8e4m3⟩
  | .local _ .vmem, ⟨1, _⟩ => ⟨S1x16x128, .bf16⟩
  | .local _ .vmem, ⟨2, _⟩ => ⟨S1x16x128, .bf16⟩
  | .local _ .vmem, ⟨3, _⟩ => ⟨S1x16x128, .bf16⟩
  | .local _ .vmem, ⟨4, _⟩ => ⟨S1x16x128, .bf16⟩
  | .local _ .vmem, ⟨5, _⟩ => ⟨S1x64x256, .bf16⟩
  | .local _ .vmem, ⟨6, _⟩ => ⟨S1x64x256, .bf16⟩
  | .local _ .vmem, ⟨7, _⟩ => ⟨S1x1x64, .f32⟩
  | .local _ .vmem, ⟨8, _⟩ => ⟨S1x1x64, .f32⟩
  | .local _ .vmem, ⟨9, _⟩ => ⟨S1x1x64, .f32⟩
  | .local _ .vmem, ⟨10, _⟩ => ⟨S1x1x64, .f32⟩
  | .local _ .vmem, ⟨11, _⟩ => ⟨S1x64x256x128, .fp8e4m3⟩
  | .local _ .vmem, ⟨12, _⟩ => ⟨S1x64x256x128, .fp8e4m3⟩
  | .local _ .vmem, ⟨13, _⟩ => ⟨S1x64x256, .f32⟩
  | .local _ .vmem, ⟨14, _⟩ => ⟨S1x64x256, .f32⟩
  | .local _ .vmem, ⟨15, _⟩ => ⟨S1x64x256, .bf16⟩
  | .local _ .vmem, ⟨16, _⟩ => ⟨S1x64x256, .bf16⟩
  | .local _ .vmem, ⟨17, _⟩ => ⟨S1x64x256x128, .fp8e4m3⟩
  | .local _ .vmem, ⟨18, _⟩ => ⟨S1x64x256x128, .fp8e4m3⟩
  | .local _ .vmem, ⟨19, _⟩ => ⟨S1x64x256, .f32⟩
  | .local _ .vmem, ⟨20, _⟩ => ⟨S1x64x256, .f32⟩
  | .local _ .vmem, ⟨21, _⟩ => ⟨S16x128x128, .f32⟩
  | .local _ .vmem, ⟨22, _⟩ => ⟨S16x128, .f32⟩
  | .local _ .vmem, ⟨23, _⟩ => ⟨S16x128, .f32⟩
  | .local _ .vmem, ⟨24, _⟩ => ⟨S64x256, .f32⟩
  | .local _ .vmem, ⟨25, _⟩ => ⟨S8x128x256, .f32⟩
  | _, _ => ⟨S36x1x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x256x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x256x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x64x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S36x1x16x128 : Shape := ⟨4, ![36, 1, 16, 128]⟩
abbrev S36x1x64x256 : Shape := ⟨4, ![36, 1, 64, 256]⟩
abbrev S36x1x64 : Shape := ⟨3, ![36, 1, 64]⟩
abbrev S36x64x256x128 : Shape := ⟨4, ![36, 64, 256, 128]⟩
abbrev S36x64x256 : Shape := ⟨3, ![36, 64, 256]⟩
abbrev S36x16x128 : Shape := ⟨3, ![36, 16, 128]⟩
abbrev S_ : Shape := ⟨0, ![]⟩
abbrev S36x16 : Shape := ⟨2, ![36, 16]⟩
abbrev S36x16x1 : Shape := ⟨3, ![36, 16, 1]⟩
abbrev S36x16x4x128 : Shape := ⟨4, ![36, 16, 4, 128]⟩
abbrev S36x64x128 : Shape := ⟨3, ![36, 64, 128]⟩
abbrev S36x64 : Shape := ⟨2, ![36, 64]⟩
abbrev S36x64x1x128 : Shape := ⟨4, ![36, 64, 1, 128]⟩
abbrev S36x64x1 : Shape := ⟨3, ![36, 64, 1]⟩
abbrev S36x64x256x1 : Shape := ⟨4, ![36, 64, 256, 1]⟩
abbrev S36x64x1x1 : Shape := ⟨4, ![36, 64, 1, 1]⟩

abbrev nBuf : Space → Nat
  | .hbm => 132
  | .vmem => 2
  | .smem => 0
  | _ => 0

abbrev hbmTy0_0 (i : Nat) : BufTy := match i % 128 with
  | 0 => ⟨S36x1x16x128, .bf16⟩
  | 1 => ⟨S36x1x16x128, .bf16⟩
  | 2 => ⟨S36x1x64x256, .bf16⟩
  | 3 => ⟨S36x1x64, .f32⟩
  | 4 => ⟨S36x1x64, .f32⟩
  | 5 => ⟨S36x64x256x128, .i8⟩
  | 6 => ⟨S36x64x256, .f32⟩
  | 7 => ⟨S36x64x256x128, .fp8e4m3⟩
  | 8 => ⟨S36x64x256x128, .f32⟩
  | 9 => ⟨S36x16x128, .bf16⟩
  | 10 => ⟨S36x16x128, .f32⟩
  | 11 => ⟨S36x16x128, .f32⟩
  | 12 => ⟨S_, .f32⟩
  | 13 => ⟨S36x16, .f32⟩
  | 14 => ⟨S36x16x1, .f32⟩
  | 15 => ⟨S_, .f32⟩
  | 16 => ⟨S36x16x1, .f32⟩
  | 17 => ⟨S36x16x1, .f32⟩
  | 18 => ⟨S36x16x1, .f32⟩
  | 19 => ⟨S36x16x128, .f32⟩
  | 20 => ⟨S36x16x128, .f32⟩
  | 21 => ⟨S_, .f32⟩
  | 22 => ⟨S36x16x128, .f32⟩
  | 23 => ⟨S36x16x128, .f32⟩
  | 24 => ⟨S36x16x128, .bf16⟩
  | 25 => ⟨S36x16x128, .bf16⟩
  | 26 => ⟨S36x16x128, .f32⟩
  | 27 => ⟨S36x16x128, .f32⟩
  | 28 => ⟨S_, .f32⟩
  | 29 => ⟨S36x16, .f32⟩
  | 30 => ⟨S36x16x1, .f32⟩
  | 31 => ⟨S_, .f32⟩
  | 32 => ⟨S36x16x1, .f32⟩
  | 33 => ⟨S36x16x1, .f32⟩
  | 34 => ⟨S36x16x1, .f32⟩
  | 35 => ⟨S36x16x128, .f32⟩
  | 36 => ⟨S36x16x128, .f32⟩
  | 37 => ⟨S36x16x128, .bf16⟩
  | 38 => ⟨S36x16x4x128, .bf16⟩
  | 39 => ⟨S36x64x128, .bf16⟩
  | 40 => ⟨S36x64x128, .f32⟩
  | 41 => ⟨S36x16x4x128, .bf16⟩
  | 42 => ⟨S36x64x128, .bf16⟩
  | 43 => ⟨S36x64x128, .f32⟩
  | 44 => ⟨S36x64, .f32⟩
  | 45 => ⟨S36x64, .f32⟩
  | 46 => ⟨S36x64, .f32⟩
  | 47 => ⟨S36x64x1x128, .f32⟩
  | 48 => ⟨S36x64x256x128, .f32⟩
  | 49 => ⟨S36x64x256x128, .f32⟩
  | 50 => ⟨S_, .f32⟩
  | 51 => ⟨S36x64x256, .f32⟩
  | 52 => ⟨S36x64x256, .f32⟩
  | 53 => ⟨S36x64x1x128, .f32⟩
  | 54 => ⟨S36x64x256x128, .f32⟩
  | 55 => ⟨S36x64x256x128, .f32⟩
  | 56 => ⟨S_, .f32⟩
  | 57 => ⟨S36x64x256, .f32⟩
  | 58 => ⟨S36x64x256, .f32⟩
  | 59 => ⟨S36x64x128, .f32⟩
  | 60 => ⟨S_, .f32⟩
  | 61 => ⟨S36x64, .f32⟩
  | 62 => ⟨S36x64x1, .f32⟩
  | 63 => ⟨S36x64x256, .bf16⟩
  | 64 => ⟨S36x64x256, .f32⟩
  | 65 => ⟨S36x64x1, .f32⟩
  | 66 => ⟨S36x64x256, .f32⟩
  | 67 => ⟨S36x64x256, .f32⟩
  | 68 => ⟨S36x64x256, .f32⟩
  | 69 => ⟨S36x64x256, .f32⟩
  | 70 => ⟨S36x64x256, .f32⟩
  | 71 => ⟨S36x64x1, .f32⟩
  | 72 => ⟨S36x64x256, .f32⟩
  | 73 => ⟨S36x64x256, .f32⟩
  | 74 => ⟨S36x64x1, .f32⟩
  | 75 => ⟨S36x64x256, .f32⟩
  | 76 => ⟨S36x64x256, .f32⟩
  | 77 => ⟨S36x64x256, .f32⟩
  | 78 => ⟨S36x64x256x1, .f32⟩
  | 79 => ⟨S36x64x256x128, .f32⟩
  | 80 => ⟨S36x64x256x128, .f32⟩
  | 81 => ⟨S36x64x1x1, .f32⟩
  | 82 => ⟨S36x64x256x128, .f32⟩
  | 83 => ⟨S36x64x256x128, .f32⟩
  | 84 => ⟨S36x64x256x1, .f32⟩
  | 85 => ⟨S36x64x1x128, .f32⟩
  | 86 => ⟨S36x64x256x128, .f32⟩
  | 87 => ⟨S36x64x256x128, .f32⟩
  | 88 => ⟨S36x64x256x128, .f32⟩
  | 89 => ⟨S36x64x256x128, .f32⟩
  | 90 => ⟨S36x64x256x128, .f32⟩
  | 91 => ⟨S_, .f32⟩
  | 92 => ⟨S36x64x256, .f32⟩
  | 93 => ⟨S_, .f32⟩
  | 94 => ⟨S36x64x256, .f32⟩
  | 95 => ⟨S36x64x256, .f32⟩
  | 96 => ⟨S36x64x256, .f32⟩
  | 97 => ⟨S_, .f32⟩
  | 98 => ⟨S36x64x256, .f32⟩
  | 99 => ⟨S36x64x256, .f32⟩
  | 100 => ⟨S36x64x256, .f32⟩
  | 101 => ⟨S_, .f32⟩
  | 102 => ⟨S36x64x256, .f32⟩
  | 103 => ⟨S36x64x256, .i1⟩
  | 104 => ⟨S36x64x256, .f32⟩
  | 105 => ⟨S_, .f32⟩
  | 106 => ⟨S36x64x256, .f32⟩
  | 107 => ⟨S36x64x256, .f32⟩
  | 108 => ⟨S_, .f32⟩
  | 109 => ⟨S_, .f32⟩
  | 110 => ⟨S36x64x256, .f32⟩
  | 111 => ⟨S36x64x256, .f32⟩
  | 112 => ⟨S_, .f32⟩
  | 113 => ⟨S36x64x256, .f32⟩
  | 114 => ⟨S36x64x256, .f32⟩
  | 115 => ⟨S36x64x256, .f32⟩
  | 116 => ⟨S_, .f32⟩
  | 117 => ⟨S36x64x256, .f32⟩
  | 118 => ⟨S36x64x256, .f32⟩
  | 119 => ⟨S36x64x256x1, .f32⟩
  | 120 => ⟨S36x64x256x128, .f32⟩
  | 121 => ⟨S36x64x256x128, .f32⟩
  | 122 => ⟨S_, .f32⟩
  | 123 => ⟨S_, .f32⟩
  | 124 => ⟨S_, .f32⟩
  | 125 => ⟨S36x64x256x128, .f32⟩
  | 126 => ⟨S36x64x256x128, .f32⟩
  | 127 => ⟨S_, .f32⟩
  | _ => ⟨S36x1x16x128, .bf16⟩

abbrev hbmTy0_1 (i : Nat) : BufTy := match i % 128 with
  | 0 => ⟨S36x64x256x128, .f32⟩
  | 1 => ⟨S36x64x256x128, .f32⟩
  | 2 => ⟨S36x64x256x128, .fp8e4m3⟩
  | 3 => ⟨S36x64x256, .bf16⟩
  | _ => ⟨S36x1x16x128, .bf16⟩

abbrev hbmTy (i : Nat) : BufTy := match i / 128 with
  | 0 => hbmTy0_0 i
  | 1 => hbmTy0_1 i
  | _ => ⟨S36x1x16x128, .bf16⟩

abbrev bufTy : (tb : Table) → Fin (tcTables nBuf tb) → BufTy
  | .hbm, ⟨i, _⟩ => hbmTy i
  | .local _ .vmem, ⟨0, _⟩ => ⟨S36x64x256x128, .fp8e4m3⟩
  | .local _ .vmem, ⟨1, _⟩ => ⟨S36x64x256x128, .f32⟩
  | _, _ => ⟨S36x1x16x128, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_cst_7 : Ref sig .tc := ⟨.hbm, 91, rfl⟩
abbrev main_v76 : Ref sig .tc := ⟨.hbm, 92, rfl⟩
abbrev main_cst_8 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_9 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_cst_10 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_cst_11 : Ref sig .tc := ⟨.hbm, 105, rfl⟩
abbrev main_v86 : Ref sig .tc := ⟨.hbm, 106, rfl⟩
abbrev main_v87 : Ref sig .tc := ⟨.hbm, 107, rfl⟩
abbrev main_cst_12 : Ref sig .tc := ⟨.hbm, 108, rfl⟩
abbrev main_call0_v0 : Ref sig .tc := ⟨.hbm, 109, rfl⟩
abbrev main_call0_v1 : Ref sig .tc := ⟨.hbm, 110, rfl⟩
abbrev main_v88 : Ref sig .tc := ⟨.hbm, 111, rfl⟩
abbrev main_cst_13 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_14 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_15 : Ref sig .tc := ⟨.hbm, 122, rfl⟩
abbrev main_cst_16 : Ref sig .tc := ⟨.hbm, 123, rfl⟩
abbrev main_call1_v0 : Ref sig .tc := ⟨.hbm, 124, rfl⟩
abbrev main_call1_v1 : Ref sig .tc := ⟨.hbm, 125, rfl⟩
abbrev main_call1_v2 : Ref sig .tc := ⟨.hbm, 126, rfl⟩
abbrev main_call1_v3 : Ref sig .tc := ⟨.hbm, 127, rfl⟩
abbrev main_call1_v4 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S36x64x256x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S36x64x256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Model.lean ====
/- What one block of eight heads computes, as functions of the values it loads: the same operations as the kernel's
   body, one definition per stage, so that the eight unrolled blocks can be read once. -/
module

public import proofs.«01_k».proof.Proof.Gen.KernelIdeal.Skeleton

@[expose] public section

noncomputable section

namespace Cert.Delta

open Idealize.ShloMosaic Idealize.SL.Sem Cert.KernelIdeal Cert.KernelIdeal.Gen

variable {F : FTy → Type} [FloatOps F]

/-- The exponent field of a positive number, shifted to its place: a power of two found from the logarithm and
    corrected by one step where it misses. -/
def expBits (s : Shape) (x : FVec F s .f32) : IVec s 32 :=
  have e : IVec s 32 := shli (addi (fptosi 32 (minimumf (broadcast s (Scalar.ofBits .f32 0x42FE0000#32))
    (maximumf (broadcast s (Scalar.ofBits .f32 0xC2FC0000#32))
      (floor (divf (log x) (log (broadcast s (Scalar.ofBits .f32 0x40000000#32)))))))) (broadcast s 127#32)) (broadcast s 23#32)
  have p : FVec F s .f32 := bitcastToFloat .f32 e
  select (cmpf .olt x p) (subi e (broadcast s 8388608#32))
    (select (cmpf .olt x (mulf (broadcast s (Scalar.ofBits .f32 0x40000000#32)) p)) e (addi e (broadcast s 8388608#32)))

/-- The power of two at or below `x`. -/
def powUp (s : Shape) (x : FVec F s .f32) : FVec F s .f32 := bitcastToFloat .f32 (expBits s x)

/-- Its reciprocal, by the bits. -/
def powDown (s : Shape) (x : FVec F s .f32) : FVec F s .f32 := bitcastToFloat .f32 (subi (broadcast s 2130706432#32) (expBits s x))

/-- The kernel's normalised keys with their largest entry scaled near one. -/
def knUnit (kn : FVec F S16x128 .f32) : FVec F S16x128 .f32 :=
  mulf kn (powDown S16x128 (broadcastTo S16x128 (shapeCast S16x1 (shapeCast S16x1 (multiReduction .maximumf [1] S16 (absf kn) 0xFF800000#32
    reduces_S16x128_S16 (.inl rfl) rfl) shapeCasts_S16_S16x1) shapeCasts_S16x1_S16x1) broadcasts_S16x1_S16x128))

/-- One row of keys (or queries), placed at head `i` of the block, zero elsewhere. -/
def placed (sub : IVec S8x128 32) (i : BitVec 32) (row : FVec F S1x128 .f32) : FVec F S8x128 .f32 :=
  select (cmpi .eq sub (broadcast S8x128 i)) (broadcastTo S8x128 (shapeCast S1x128 row shapeCasts_S1x128_S1x128) broadcasts_S1x128_S8x128)
    (broadcast S8x128 (Scalar.ofBits .f32 0x00000000#32))

/-- The eight rows of keys (or queries) of the block: four heads share a row. -/
def rows (sub : IVec S8x128 32) (r0 r1 : FVec F S1x128 .f32) : FVec F S8x128 .f32 :=
  addf (addf (addf (addf (addf (addf (addf (addf (broadcast S8x128 (Scalar.ofBits .f32 0x00000000#32)) (placed sub 0#32 r0)) (placed sub 1#32 r0))
    (placed sub 2#32 r0)) (placed sub 3#32 r0)) (placed sub 4#32 r1)) (placed sub 5#32 r1)) (placed sub 6#32 r1)) (placed sub 7#32 r1)

/-- The key row over the query row, one head of the block. -/
def pair (sub : IVec S8x128 32) (i : BitVec 32) (k q : FVec F S1x128 .f32) : FVec F S16x128 .bf16 :=
  truncf .bf16 (concatenate S16x128 0 [⟨S8x128, placed sub i k⟩, ⟨S8x128, placed sub i q⟩] concatenates_S8x128_S8x128_S16x128_d0) bitsLt_bf16_f32

/-- The product of all eight heads' keys and queries with their codes, in one contraction. -/
def proj (sub : IVec S8x128 32) (k0 k1 q0 q1 : FVec F S1x128 .f32) (c0 c1 c2 c3 c4 c5 c6 c7 : FVec F S1x1x256x128 .fp8e4m3) : FVec F S16x256 .f32 :=
  matmul dot_S16x1024_S256x1024_S16x256_1_1_0_0_n_n none
    (concatenate S16x1024 1 [⟨S16x128, pair sub 0#32 k0 q0⟩, ⟨S16x128, pair sub 1#32 k0 q0⟩, ⟨S16x128, pair sub 2#32 k0 q0⟩, ⟨S16x128, pair sub 3#32 k0 q0⟩,
      ⟨S16x128, pair sub 4#32 k1 q1⟩, ⟨S16x128, pair sub 5#32 k1 q1⟩, ⟨S16x128, pair sub 6#32 k1 q1⟩, ⟨S16x128, pair sub 7#32 k1 q1⟩]
      concatenates_S16x128_S16x128_S16x128_S16x128_S16x128_S16x128_S16x128_S16x128_S16x1024_d1)
    (concatenate S256x1024 1 [⟨S256x128, shapeCast S256x128 c0 shapeCasts_S1x1x256x128_S256x128⟩, ⟨S256x128, shapeCast S256x128 c1 shapeCasts_S1x1x256x128_S256x128⟩,
      ⟨S256x128, shapeCast S256x128 c2 shapeCasts_S1x1x256x128_S256x128⟩, ⟨S256x128, shapeCast S256x128 c3 shapeCasts_S1x1x256x128_S256x128⟩,
      ⟨S256x128, shapeCast S256x128 c4 shapeCasts_S1x1x256x128_S256x128⟩, ⟨S256x128, shapeCast S256x128 c5 shapeCasts_S1x1x256x128_S256x128⟩,
      ⟨S256x128, shapeCast S256x128 c6 shapeCasts_S1x1x256x128_S256x128⟩, ⟨S256x128, shapeCast S256x128 c7 shapeCasts_S1x1x256x128_S256x128⟩]
      concatenates_S256x128_S256x128_S256x128_S256x128_S256x128_S256x128_S256x128_S256x128_S256x1024_d1)
    (constant S16x256 .f32 0x00000000#32)

/-- A column over the heads, repeated along the value axis. -/
def wide (a : FVec F S8x1 .f32) : FVec F S8x256 .f32 := broadcastTo S8x256 a broadcasts_S8x1_S8x256

/-- The block's update `beta (v - a kv)`. -/
def delta (pr : FVec F S16x256 .f32) (sc : FVec F S1x8x256 .f32) (v : FVec F S1x8x256 .bf16) (a b : FVec F S8x1 .f32) : FVec F S8x256 .f32 :=
  mulf (wide b) (subf (extf .f32 (shapeCast S8x256 v shapeCasts_S1x8x256_S8x256) bitsLt_bf16_f32)
    (mulf (wide a) (mulf (extractStridedSlice S8x256 ![0, 0] pr slices_S16x256_o0_0_S8x256) (shapeCast S8x256 sc shapeCasts_S1x8x256_S8x256))))

/-- The block's output `a qs + (q . k) delta`. -/
def outO (qr kr : FVec F S8x128 .f32) (pr : FVec F S16x256 .f32) (sc : FVec F S1x8x256 .f32) (v : FVec F S1x8x256 .bf16) (a b : FVec F S8x1 .f32) :
    FVec F S1x8x256 .bf16 :=
  shapeCast S1x8x256 (truncf .bf16 (addf (mulf (wide a) (mulf (extractStridedSlice S8x256 ![8, 0] pr slices_S16x256_o8_0_S8x256)
      (shapeCast S8x256 sc shapeCasts_S1x8x256_S8x256)))
    (mulf (wide (shapeCast S8x1 (multiReduction .add [1] S8 (mulf qr kr) 0x00000000#32 reduces_S8x128_S8 (.inl rfl) rfl) shapeCasts_S8_S8x1))
      (delta pr sc v a b))) bitsLt_bf16_f32) shapeCasts_S8x256_S1x8x256

/-- The decayed scale of each row. -/
def decayed (sc : FVec F S1x8x256 .f32) (a : FVec F S8x1 .f32) : FVec F S8x256 .f32 :=
  mulf (wide a) (shapeCast S8x256 sc shapeCasts_S1x8x256_S8x256)

/-- The update scaled by the power of two below the key's largest entry. -/
def dk (kr : FVec F S8x128 .f32) (d : FVec F S8x256 .f32) : FVec F S8x256 .f32 :=
  mulf d (powUp S8x256 (broadcastTo S8x256 (shapeCast S8x1 (shapeCast S8x1 (multiReduction .maximumf [1] S8 (absf kr) 0xFF800000#32
    reduces_S8x128_S8 (.inl rfl) rfl) shapeCasts_S8_S8x1) shapeCasts_S8x1_S8x1) broadcasts_S8x1_S8x256))

/-- The larger of the row's decayed scale and its update. -/
def top (r d : FVec F S8x256 .f32) : FVec F S8x256 .f32 := maximumf r (absf d)

/-- The update over that power of two. -/
def dk1 (r d : FVec F S8x256 .f32) : FVec F S8x256 .f32 := mulf d (powDown S8x256 (top r d))

/-- The decayed scale over that power of two, kept from vanishing beside the update. -/
def rc (r d : FVec F S8x256 .f32) : FVec F S8x256 .f32 :=
  maximumf (mulf r (powDown S8x256 (top r d))) (mulf (absf (dk1 r d)) (broadcast S8x256 (Scalar.ofBits .f32 0x21800000#32)))

/-- The update in units of the codes. -/
def inCodes (r d : FVec F S8x256 .f32) : FVec F S8x256 .f32 :=
  shapeCast S8x256 (divf (dk1 r d) (maximumf (rc r d) (broadcast S8x256 (Scalar.ofBits .f32 0x0D800000#32)))) shapeCasts_S8x256_S8x256

/-- One head's new state in units of its old codes, transposed. -/
def newZ (eye : FVec F S128x128 .fp8e4m3) (c : FVec F S1x1x256x128 .fp8e4m3) (col : FVec F S1x128x128 .f32) (d : FVec F S1x256 .f32) : FVec F S128x256 .f32 :=
  have k : FVec F S128x128 .f32 := shapeCast S128x128 col shapeCasts_S1x128x128_S128x128
  addf (matmul dot_S128x128_S256x128_S128x256_1_1_0_0_n_n none eye (shapeCast S256x128 c shapeCasts_S1x1x256x128_S256x128) (constant S128x256 .f32 0x00000000#32))
    (mulf (concatenate S128x256 1 [⟨S128x128, k⟩, ⟨S128x128, k⟩] concatenates_S128x128_S128x128_S128x256_d1) (broadcastTo S128x256 d broadcasts_S1x256_S128x256))

/-- The largest entry of each row of one head's new state. -/
def newTop (z : FVec F S128x256 .f32) : FVec F S1x256 .f32 :=
  shapeCast S1x256 (multiReduction .maximumf [0] S256 (absf z) 0xFF800000#32 reduces_S128x256_S256 (.inl rfl) rfl) shapeCasts_S256_S1x256

/-- The largest entry of each row of the block's new states, in true units. -/
def amax (z0 z1 z2 z3 z4 z5 z6 z7 : FVec F S128x256 .f32) (r d : FVec F S8x256 .f32) : FVec F S8x256 .f32 :=
  mulf (mulf (concatenate S8x256 0 [⟨S1x256, newTop z0⟩, ⟨S1x256, newTop z1⟩, ⟨S1x256, newTop z2⟩, ⟨S1x256, newTop z3⟩, ⟨S1x256, newTop z4⟩,
    ⟨S1x256, newTop z5⟩, ⟨S1x256, newTop z6⟩, ⟨S1x256, newTop z7⟩]
    concatenates_S1x256_S1x256_S1x256_S1x256_S1x256_S1x256_S1x256_S1x256_S8x256_d0) (rc r d)) (powUp S8x256 (top r d))

/-- The bits of the new scale. -/
def scaleBits (am : FVec F S8x256 .f32) : IVec S8x256 32 :=
  have m : IVec S8x256 32 := expBits S8x256 (mulf am (broadcast S8x256 (Scalar.ofBits .f32 0x3B124925#32)))
  select (cmpi .eq m (broadcast S8x256 0#32)) (broadcast S8x256 1065353216#32) (addi m (broadcast S8x256 8388608#32))

/-- The new scale of each row. -/
def newScale (am : FVec F S8x256 .f32) : FVec F S1x8x256 .f32 :=
  shapeCast S1x8x256 (bitcastToFloat .f32 (scaleBits am)) shapeCasts_S8x256_S1x8x256

/-- What a row in units of the old codes is multiplied by to be in units of the new ones. -/
def mulRow (am r d : FVec F S8x256 .f32) : FVec F S8x256 .f32 :=
  shapeCast S8x256 (mulf (mulf (bitcastToFloat .f32 (subi (broadcast S8x256 2130706432#32) (scaleBits am))) (powUp S8x256 (top r d))) (rc r d))
    shapeCasts_S8x256_S8x256

end Cert.Delta

end
-- ==== Proof.Block.lean ====
/- The eight blocks of heads as functions of the point's input blocks alone: no buffer, no view. -/
module

public import proofs.«01_k».proof.Proof.Model
public import Idealize.ShloMosaic.Lib.Pipeline.ReadBack
public import Idealize.ShloMosaic.Lib.Pointwise

@[expose] public section

noncomputable section

namespace Cert.Delta

open Idealize.ShloMosaic Idealize.SL.Sem Cert.KernelIdeal Cert.KernelIdeal.Gen

variable {F : FTy → Type} [FloatOps F]

theorem inbRow16 (j : ℕ) (hj : j < 16) : ∀ a, (![j, 0] : Fin 2 → Nat) a + S1x128.size a ≤ S16x128.size a := by
  intro a; fin_cases a
  · show j + 1 ≤ 16; omega
  · show 0 + 128 ≤ 128; omega

theorem inbCol16 (j : ℕ) (hj : j < 16) : ∀ a, (![j, 0, 0] : Fin 3 → Nat) a + S1x128x128.size a ≤ S16x128x128.size a := by
  intro a; fin_cases a
  · show j + 1 ≤ 16; omega
  · show 0 + 128 ≤ 128; omega
  · show 0 + 128 ≤ 128; omega

theorem inbHead (h : ℕ) (hh : h < 64) : ∀ a, (![0, h, 0, 0] : Fin 4 → Nat) a + S1x1x256x128.size a ≤ S1x64x256x128.size a := by
  intro a; fin_cases a
  · show 0 + 1 ≤ 1; omega
  · show h + 1 ≤ 64; omega
  · show 0 + 256 ≤ 256; omega
  · show 0 + 128 ≤ 128; omega

theorem inbBlk (h : ℕ) (hh : h + 8 ≤ 64) : ∀ a, (![0, h, 0] : Fin 3 → Nat) a + S1x8x256.size a ≤ S1x64x256.size a := by
  intro a; fin_cases a
  · show 0 + 1 ≤ 1; omega
  · show h + 8 ≤ 64; omega
  · show 0 + 256 ≤ 256; omega

theorem inbRows (h : ℕ) (hh : h + 8 ≤ 64) : ∀ a, (![h, 0] : Fin 2 → Nat) a + S8x256.size a ≤ S64x256.size a := by
  intro a; fin_cases a
  · show h + 8 ≤ 64; omega
  · show 0 + 256 ≤ 256; omega

theorem slicesCol (h : ℕ) (hh : h + 8 ≤ 64) : S64x1.Slices ![h, 0] S8x1 := by
  have : ∀ h : Fin 57, S64x1.Slices ![h.val, 0] S8x1 := by decide +kernel
  exact this ⟨h, by omega⟩

theorem slicesRow (j : ℕ) (hj : j < 16) : S16x128.Slices ![j, 0] S1x128 := by
  have : ∀ h : Fin 16, S16x128.Slices ![h.val, 0] S1x128 := by decide +kernel
  exact this ⟨j, hj⟩

section
variable (x0 : Vec F S128x128 .fp8e4m3) (x1 x2 : Vec F S1x16x128 .bf16) (x3 : Vec F S1x64x256 .bf16) (x4 x5 : Vec F S1x1x64 .f32)
  (x6 : Vec F S1x64x256x128 .fp8e4m3) (x7 : Vec F S1x64x256 .f32)

/-- The point's normalised keys. -/
def KN : FVec F S16x128 .f32 := k0_pay5 (View.ld x2 (Rect.unit ![0, 0, 0] S1x16x128.size inb_S1x16x128_S1x16x128_0_0_0))

/-- The point's normalised and scaled queries. -/
def QN : FVec F S16x128 .f32 := k0_pay4 (View.ld x1 (Rect.unit ![0, 0, 0] S1x16x128.size inb_S1x16x128_S1x16x128_0_0_0))

/-- The decay of each head, as a column. -/
def Acol : FVec F S64x1 .f32 := k0_pay8 (k0_pay6 (View.ld x4 (Rect.unit ![0, 0, 0] S1x1x64.size inb_S1x1x64_S1x1x64_0_0_0))) k0_pay7

/-- The writing strength of each head, as a column. -/
def Bcol : FVec F S64x1 .f32 := k0_pay9 (View.ld x5 (Rect.unit ![0, 0, 0] S1x1x64.size inb_S1x1x64_S1x1x64_0_0_0))

/-- The identity matrix the codes are multiplied by. -/
def Eye : FVec F S128x128 .fp8e4m3 := k0_pay36 (View.ld x0 (Rect.unit ![0, 0] S128x128.size inb_S128x128_S128x128_0_0))

/-- The row numbers of a block. -/
def sub : IVec S8x128 32 := iota .tc S8x128 32 [0] iota_S8x128_d0_w32

/-- Key row `j`. -/
def kRow (j : ℕ) (hj : j < 16) : FVec F S1x128 .f32 := View.ld (Val := Elt F) (e' := .f32) (KN x2) (Rect.unit ![j, 0] S1x128.size (inbRow16 j hj))

/-- Query row `j`. -/
def qRow (j : ℕ) (hj : j < 16) : FVec F S1x128 .f32 := View.ld (Val := Elt F) (e' := .f32) (QN x1) (Rect.unit ![j, 0] S1x128.size (inbRow16 j hj))

/-- Key row `j` scaled near one, as a column repeated along a tile, from the normalised keys. -/
def kColOf (kn : FVec F S16x128 .f32) (j : ℕ) (hj : j < 16) : FVec F S1x128x128 .f32 :=
  shapeCast S1x128x128 (transpose S128x128 [1, 0] (broadcastTo S128x128 (shapeCast S1x128 (extractStridedSlice S1x128 ![j, 0] (knUnit kn)
      (slicesRow j hj))
    shapeCasts_S1x128_S1x128) broadcasts_S1x128_S128x128) transposes_S128x128_p1_0_S128x128) shapeCasts_S128x128_S1x128x128

/-- The same of the point's keys. -/
def kCol (j : ℕ) (hj : j < 16) : FVec F S1x128x128 .f32 :=
  kColOf (k0_pay3 (View.ld x2 (Rect.unit ![0, 0, 0] S1x16x128.size inb_S1x16x128_S1x16x128_0_0_0))) j hj

/-- The codes of head `h`. -/
def codes (h : ℕ) (hh : h < 64) : FVec F S1x1x256x128 .fp8e4m3 := View.ld x6 (Rect.unit ![0, h, 0, 0] S1x1x256x128.size (inbHead h hh))

/-- The block's key rows. -/
def krs (j : ℕ) (hj : j + 1 < 16) : FVec F S8x128 .f32 := rows sub (kRow x2 j (by omega)) (kRow x2 (j + 1) hj)

/-- The block's query rows. -/
def qrs (j : ℕ) (hj : j + 1 < 16) : FVec F S8x128 .f32 := rows sub (qRow x1 j (by omega)) (qRow x1 (j + 1) hj)

variable (h : ℕ) (hh : h + 8 ≤ 64)

/-- The old scales of the block's rows. -/
def scs : FVec F S1x8x256 .f32 := View.ld x7 (Rect.unit ![0, h, 0] S1x8x256.size (inbBlk h hh))

/-- The values of the block's rows. -/
def vs : FVec F S1x8x256 .bf16 := View.ld x3 (Rect.unit ![0, h, 0] S1x8x256.size (inbBlk h hh))

/-- The block's decays. -/
def aOf : FVec F S8x1 .f32 := extractStridedSlice S8x1 ![h, 0] (Acol x4) (slicesCol h hh)

/-- The block's writing strengths. -/
def bOf : FVec F S8x1 .f32 := extractStridedSlice S8x1 ![h, 0] (Bcol x5) (slicesCol h hh)

variable (j : ℕ) (hj : j + 1 < 16)

/-- The block's contraction. -/
def prj : FVec F S16x256 .f32 :=
  proj sub (kRow x2 j (by omega)) (kRow x2 (j + 1) hj) (qRow x1 j (by omega)) (qRow x1 (j + 1) hj)
    (codes x6 h (by omega)) (codes x6 (h + 1) (by omega)) (codes x6 (h + 2) (by omega)) (codes x6 (h + 3) (by omega))
    (codes x6 (h + 4) (by omega)) (codes x6 (h + 5) (by omega)) (codes x6 (h + 6) (by omega)) (codes x6 (h + 7) (by omega))

/-- The block's update. -/
def dlt : FVec F S8x256 .f32 := delta (prj x1 x2 x6 h hh j hj) (scs x7 h hh) (vs x3 h hh) (aOf x4 h hh) (bOf x5 h hh)

/-- The block's output. -/
def OB : FVec F S1x8x256 .bf16 :=
  outO (qrs x1 j hj) (krs x2 j hj) (prj x1 x2 x6 h hh j hj) (scs x7 h hh) (vs x3 h hh) (aOf x4 h hh) (bOf x5 h hh)

/-- The block's decayed scales. -/
def rB : FVec F S8x256 .f32 := decayed (scs x7 h hh) (aOf x4 h hh)

/-- The block's scaled updates. -/
def dB : FVec F S8x256 .f32 := dk (krs x2 j hj) (dlt x1 x2 x3 x4 x5 x6 x7 h hh j hj)

/-- The block's updates in units of the old codes. -/
def icB : FVec F S8x256 .f32 := inCodes (rB x4 x7 h hh) (dB x1 x2 x3 x4 x5 x6 x7 h hh j hj)

/-- Row `i` of them. -/
def icRow (i : Fin 8) : FVec F S1x256 .f32 := fun y => icB x1 x2 x3 x4 x5 x6 x7 h hh j hj (ix2 i (y 1))

/-- The new state of the block's head `i`, in units of its old codes, transposed. -/
def zB (i : ℕ) (hi : i < 8) (jj : ℕ) (hjj : jj < 16) : FVec F S128x256 .f32 :=
  newZ (Eye x0) (codes x6 (h + i) (by omega)) (kCol x2 jj hjj) (icRow x1 x2 x3 x4 x5 x6 x7 h hh j hj ⟨i, hi⟩)

/-- The largest entries of the block's new states. -/
def amB : FVec F S8x256 .f32 :=
  amax (zB x0 x1 x2 x3 x4 x5 x6 x7 h hh j hj 0 (by omega) j (by omega)) (zB x0 x1 x2 x3 x4 x5 x6 x7 h hh j hj 1 (by omega) j (by omega))
    (zB x0 x1 x2 x3 x4 x5 x6 x7 h hh j hj 2 (by omega) j (by omega)) (zB x0 x1 x2 x3 x4 x5 x6 x7 h hh j hj 3 (by omega) j (by omega))
    (zB x0 x1 x2 x3 x4 x5 x6 x7 h hh j hj 4 (by omega) (j + 1) hj) (zB x0 x1 x2 x3 x4 x5 x6 x7 h hh j hj 5 (by omega) (j + 1) hj)
    (zB x0 x1 x2 x3 x4 x5 x6 x7 h hh j hj 6 (by omega) (j + 1) hj) (zB x0 x1 x2 x3 x4 x5 x6 x7 h hh j hj 7 (by omega) (j + 1) hj)
    (rB x4 x7 h hh) (dB x1 x2 x3 x4 x5 x6 x7 h hh j hj)

/-- The block's new scales. -/
def nsB : FVec F S1x8x256 .f32 := newScale (amB x0 x1 x2 x3 x4 x5 x6 x7 h hh j hj)

/-- The block's multipliers. -/
def mB : FVec F S8x256 .f32 := mulRow (amB x0 x1 x2 x3 x4 x5 x6 x7 h hh j hj) (rB x4 x7 h hh) (dB x1 x2 x3 x4 x5 x6 x7 h hh j hj)

/-- Row `i` of them. -/
def mRow (i : Fin 8) : FVec F S1x256 .f32 := fun y => mB x0 x1 x2 x3 x4 x5 x6 x7 h hh j hj (ix2 i (y 1))

/-- The new codes of the block's head `i`. -/
def ncB (i : ℕ) (hi : i < 8) (jj : ℕ) (hjj : jj < 16) : FVec F S1x1x256x128 .fp8e4m3 :=
  k0_pay2 (shapeCast S1x128x256 (zB x0 x1 x2 x3 x4 x5 x6 x7 h hh j hj i hi jj hjj) shapeCasts_S128x256_S1x128x256)
    (mRow x0 x1 x2 x3 x4 x5 x6 x7 h hh j hj ⟨i, hi⟩)

end

/-! ## Loads -/

/-- A load of an input block that holds `x` reads `x`. -/
theorem ld_input {sig : RefSig} {κ : Kind} {sp : Space} {s : Shape} {e : EltTy} (m : Memref sig κ sp s e) (hm : m.IsWhole)
    (x : s.Idx → Elt F e) (r : Rect s) : View.readAt (Elt F) m.view r.toLoadRect (hm.unread x) = View.ld x r := by
  rw [View.readAt_eq_ld, hm.read_unread]

/-- A load of one row of the block of eight rows last stored reads that row. -/
theorem cov_row {sig : RefSig} {κ : Kind} {sp : Space} (v : View sig κ sp S64x256 .f32) (h k i : ℕ) (hi : i < 8) (hk : k = h + i)
    (inb : ∀ a, (![h, 0] : Fin 2 → Nat) a + S8x256.size a ≤ S64x256.size a)
    (inb' : ∀ a, (![k, 0] : Fin 2 → Nat) a + S1x256.size a ≤ S64x256.size a)
    (w : FVec F S8x256 .f32) (L : List (View.Piece (Elt F) S64x256 .f32)) :
    v.readCov (⟨Rect.unit ![h, 0] (no_index S8x256.size) inb, w⟩ :: L) (Rect.unit (s := S64x256) ![k, 0] (no_index S1x256.size) inb').toLoadRect
      = fun y => w (ix2 ⟨i, hi⟩ (y 1)) := by
  subst hk
  rw [View.readCov_eq_canon']
  funext y
  have : (Rect.unit (s := S64x256) ![h + i, 0] S1x256.size inb').toLoadRect.idx y
      = (Rect.unit (s := S64x256) ![h, 0] S8x256.size inb).emb (ix2 ⟨i, hi⟩ (y 1)) := by
    funext a; apply Fin.ext
    rw [Rect.emb_apply]
    fin_cases a
    · have h0 : (y 0).val = 0 := by have : (y 0).val < 1 := (y 0).isLt; omega
      show h + i + 1 * (y 0).val = h + 1 * i
      omega
    · rfl
  rw [this]
  exact View.canon_cons_emb (Rect.unit (s := S64x256) ![h, 0] S8x256.size inb) w L (ix2 ⟨i, hi⟩ (y 1))

end Cert.Delta

end
-- ==== Proof.Loads.lean ====
/- What the kernel's loads read: rows of the scratch buffers it filled earlier in the same point. -/
module

public import proofs.«01_k».proof.Proof.Block
public import proofs.«01_k».proof.Proof.Gen.KernelIdeal.Frame.RunA

@[expose] public section

set_option maxRecDepth 16384

noncomputable section

namespace Cert.Delta

open Idealize.ShloMosaic Idealize.SL.Sem Cert.KernelIdeal Cert.KernelIdeal.Gen

variable {F : FTy → Type} [FloatOps F]

theorem ltRow16 {j : ℕ} (inb : ∀ a, (![j, 0] : Fin 2 → Nat) a + S1x128.size a ≤ S16x128.size a) : j < 16 := by
  have : j + 1 ≤ 16 := inb 0
  omega

/-- The store of the normalised keys. -/
theorem kn_raw (c : Dev nD) (arg3 : Memref sig .tc .vmem S1x16x128 .bf16) (harg3 : arg3.IsWhole) (x2 : Vec F S1x16x128 .bf16) :
    kernelRun0_A.sl.HS1_1 (F := F) c arg3 harg3 x2 = [⟨Rect.unit ![0, 0] S16x128.size inb_S16x128_S16x128_0_0, k0_pay5 (View.readAt (Elt F) arg3.view
      (Rect.unit (s := S1x16x128) ![0, 0, 0] S1x16x128.size inb_S1x16x128_S1x16x128_0_0_0).toLoadRect (harg3.unread x2))⟩] := rfl

/-- The store of the normalised queries. -/
theorem qn_raw (c : Dev nD) (arg2 : Memref sig .tc .vmem S1x16x128 .bf16) (harg2 : arg2.IsWhole) (x1 : Vec F S1x16x128 .bf16) :
    kernelRun0_A.sl.HS2_1 (F := F) c arg2 harg2 x1 = [⟨Rect.unit ![0, 0] S16x128.size inb_S16x128_S16x128_0_0, k0_pay4 (View.readAt (Elt F) arg2.view
      (Rect.unit (s := S1x16x128) ![0, 0, 0] S1x16x128.size inb_S1x16x128_S1x16x128_0_0_0).toLoadRect (harg2.unread x1))⟩] := rfl

/-- A load of a key row. -/
theorem k_cov (c : Dev nD) (arg3 : Memref sig .tc .vmem S1x16x128 .bf16) (harg3 : arg3.IsWhole) (arg13 : Memref sig .tc .vmem S16x128 .f32)
    (x2 : Vec F S1x16x128 .bf16) (j : ℕ) (inb : ∀ a, (![j, 0] : Fin 2 → Nat) a + S1x128.size a ≤ S16x128.size a) :
    arg13.view.readCov (kernelRun0_A.sl.HS1_1 (F := F) c arg3 harg3 x2) (Rect.unit (s := S16x128) ![j, 0] (no_index S1x128.size) inb).toLoadRect
      = kRow x2 j (ltRow16 inb) := by
  rw [kn_raw, ld_input]
  exact View.readCov_fill _ _ _ _ _ (by decide)

/-- A load of a query row. -/
theorem q_cov (c : Dev nD) (arg2 : Memref sig .tc .vmem S1x16x128 .bf16) (harg2 : arg2.IsWhole) (arg14 : Memref sig .tc .vmem S16x128 .f32)
    (x1 : Vec F S1x16x128 .bf16) (j : ℕ) (inb : ∀ a, (![j, 0] : Fin 2 → Nat) a + S1x128.size a ≤ S16x128.size a) :
    arg14.view.readCov (kernelRun0_A.sl.HS2_1 (F := F) c arg2 harg2 x1) (Rect.unit (s := S16x128) ![j, 0] (no_index S1x128.size) inb).toLoadRect
      = qRow x1 j (ltRow16 inb) := by
  rw [qn_raw, ld_input]
  exact View.readCov_fill _ _ _ _ _ (by decide)

theorem r2_eq (c : Dev nD) (arg5 : Memref sig .tc .vmem S1x1x64 .f32) (harg5 : arg5.IsWhole) (x4 : Vec F S1x1x64 .f32) :
    kernelRun0_A.sl.r_2 (F := F) c arg5 harg5 x4 = Acol x4 := by
  show k0_pay8 (k0_pay6 (View.readAt (Elt F) arg5.view (Rect.unit (s := S1x1x64) ![0, 0, 0] S1x1x64.size inb_S1x1x64_S1x1x64_0_0_0).toLoadRect (harg5.unread x4))) k0_pay7 = _
  rw [ld_input]; rfl

theorem r3_eq (c : Dev nD) (arg6 : Memref sig .tc .vmem S1x1x64 .f32) (harg6 : arg6.IsWhole) (x5 : Vec F S1x1x64 .f32) :
    kernelRun0_A.sl.r_3 (F := F) c arg6 harg6 x5 = Bcol x5 := by
  show k0_pay9 (View.readAt (Elt F) arg6.view (Rect.unit (s := S1x1x64) ![0, 0, 0] S1x1x64.size inb_S1x1x64_S1x1x64_0_0_0).toLoadRect (harg6.unread x5)) = _
  rw [ld_input]; rfl

theorem r10_eq (c : Dev nD) (arg1 : Memref sig .tc .vmem S128x128 .fp8e4m3) (harg1 : arg1.IsWhole) (x0 : Vec F S128x128 .fp8e4m3) :
    kernelRun0_A.sl.r_10 (F := F) c arg1 harg1 x0 = Eye x0 := by
  show k0_pay36 (View.readAt (Elt F) arg1.view (Rect.unit (s := S128x128) ![0, 0] S128x128.size inb_S128x128_S128x128_0_0).toLoadRect (harg1.unread x0)) = _
  rw [ld_input]; rfl

theorem v203_eq : (kernelRun0_A.sl.v203 : IVec S8x128 32) = sub := rfl

/-- Sixteen stores of a matrix each, one per slot. -/
def cols (w : Fin 16 → FVec F S1x128x128 .f32) : List (View.Piece (Elt F) S16x128x128 .f32) :=
    [⟨Rect.unit ![15, 0, 0] S1x128x128.size inb_S16x128x128_S1x128x128_15_0_0, w 15⟩,
      ⟨Rect.unit ![14, 0, 0] S1x128x128.size inb_S16x128x128_S1x128x128_14_0_0, w 14⟩,
      ⟨Rect.unit ![13, 0, 0] S1x128x128.size inb_S16x128x128_S1x128x128_13_0_0, w 13⟩,
      ⟨Rect.unit ![12, 0, 0] S1x128x128.size inb_S16x128x128_S1x128x128_12_0_0, w 12⟩,
      ⟨Rect.unit ![11, 0, 0] S1x128x128.size inb_S16x128x128_S1x128x128_11_0_0, w 11⟩,
      ⟨Rect.unit ![10, 0, 0] S1x128x128.size inb_S16x128x128_S1x128x128_10_0_0, w 10⟩,
      ⟨Rect.unit ![9, 0, 0] S1x128x128.size inb_S16x128x128_S1x128x128_9_0_0, w 9⟩,
      ⟨Rect.unit ![8, 0, 0] S1x128x128.size inb_S16x128x128_S1x128x128_8_0_0, w 8⟩,
      ⟨Rect.unit ![7, 0, 0] S1x128x128.size inb_S16x128x128_S1x128x128_7_0_0, w 7⟩,
      ⟨Rect.unit ![6, 0, 0] S1x128x128.size inb_S16x128x128_S1x128x128_6_0_0, w 6⟩,
      ⟨Rect.unit ![5, 0, 0] S1x128x128.size inb_S16x128x128_S1x128x128_5_0_0, w 5⟩,
      ⟨Rect.unit ![4, 0, 0] S1x128x128.size inb_S16x128x128_S1x128x128_4_0_0, w 4⟩,
      ⟨Rect.unit ![3, 0, 0] S1x128x128.size inb_S16x128x128_S1x128x128_3_0_0, w 3⟩,
      ⟨Rect.unit ![2, 0, 0] S1x128x128.size inb_S16x128x128_S1x128x128_2_0_0, w 2⟩,
      ⟨Rect.unit ![1, 0, 0] S1x128x128.size inb_S16x128x128_S1x128x128_1_0_0, w 1⟩,
      ⟨Rect.unit ![0, 0, 0] S1x128x128.size inb_S16x128x128_S1x128x128_0_0_0, w 0⟩]

/-- The stores of the key columns. -/
theorem col_raw (c : Dev nD) (arg3 : Memref sig .tc .vmem S1x16x128 .bf16) (harg3 : arg3.IsWhole) (x2 : Vec F S1x16x128 .bf16) :
    kernelRun0_A.sl.HS0_16 (F := F) c arg3 harg3 x2 = cols (fun j => kColOf (k0_pay3 (View.readAt (Elt F) arg3.view
      (Rect.unit (s := S1x16x128) ![0, 0, 0] S1x16x128.size inb_S1x16x128_S1x16x128_0_0_0).toLoadRect (harg3.unread x2))) j.val j.isLt) := rfl

theorem cols_cov_0 {sig : RefSig} {κ : Kind} {sp : Space} (v : View sig κ sp S16x128x128 .f32) (w : Fin 16 → FVec F S1x128x128 .f32) :
    v.readCov (cols w) (Rect.unit (s := S16x128x128) ![0, 0, 0] (no_index S1x128x128.size) inb_S16x128x128_S1x128x128_0_0_0).toLoadRect = w 0 := by
  unfold cols
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]

/-- A load of key column 0. -/
theorem col_cov_0 (c : Dev nD) (arg3 : Memref sig .tc .vmem S1x16x128 .bf16) (harg3 : arg3.IsWhole) (arg12 : Memref sig .tc .vmem S16x128x128 .f32)
    (x2 : Vec F S1x16x128 .bf16) :
    arg12.view.readCov (kernelRun0_A.sl.HS0_16 (F := F) c arg3 harg3 x2) (Rect.unit (s := S16x128x128) ![0, 0, 0] (no_index S1x128x128.size) inb_S16x128x128_S1x128x128_0_0_0).toLoadRect
      = kCol x2 0 (by decide) := by
  rw [col_raw, cols_cov_0, ld_input]; rfl

theorem cols_cov_1 {sig : RefSig} {κ : Kind} {sp : Space} (v : View sig κ sp S16x128x128 .f32) (w : Fin 16 → FVec F S1x128x128 .f32) :
    v.readCov (cols w) (Rect.unit (s := S16x128x128) ![1, 0, 0] (no_index S1x128x128.size) inb_S16x128x128_S1x128x128_1_0_0).toLoadRect = w 1 := by
  unfold cols
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]

/-- A load of key column 1. -/
theorem col_cov_1 (c : Dev nD) (arg3 : Memref sig .tc .vmem S1x16x128 .bf16) (harg3 : arg3.IsWhole) (arg12 : Memref sig .tc .vmem S16x128x128 .f32)
    (x2 : Vec F S1x16x128 .bf16) :
    arg12.view.readCov (kernelRun0_A.sl.HS0_16 (F := F) c arg3 harg3 x2) (Rect.unit (s := S16x128x128) ![1, 0, 0] (no_index S1x128x128.size) inb_S16x128x128_S1x128x128_1_0_0).toLoadRect
      = kCol x2 1 (by decide) := by
  rw [col_raw, cols_cov_1, ld_input]; rfl

theorem cols_cov_2 {sig : RefSig} {κ : Kind} {sp : Space} (v : View sig κ sp S16x128x128 .f32) (w : Fin 16 → FVec F S1x128x128 .f32) :
    v.readCov (cols w) (Rect.unit (s := S16x128x128) ![2, 0, 0] (no_index S1x128x128.size) inb_S16x128x128_S1x128x128_2_0_0).toLoadRect = w 2 := by
  unfold cols
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]

/-- A load of key column 2. -/
theorem col_cov_2 (c : Dev nD) (arg3 : Memref sig .tc .vmem S1x16x128 .bf16) (harg3 : arg3.IsWhole) (arg12 : Memref sig .tc .vmem S16x128x128 .f32)
    (x2 : Vec F S1x16x128 .bf16) :
    arg12.view.readCov (kernelRun0_A.sl.HS0_16 (F := F) c arg3 harg3 x2) (Rect.unit (s := S16x128x128) ![2, 0, 0] (no_index S1x128x128.size) inb_S16x128x128_S1x128x128_2_0_0).toLoadRect
      = kCol x2 2 (by decide) := by
  rw [col_raw, cols_cov_2, ld_input]; rfl

theorem cols_cov_3 {sig : RefSig} {κ : Kind} {sp : Space} (v : View sig κ sp S16x128x128 .f32) (w : Fin 16 → FVec F S1x128x128 .f32) :
    v.readCov (cols w) (Rect.unit (s := S16x128x128) ![3, 0, 0] (no_index S1x128x128.size) inb_S16x128x128_S1x128x128_3_0_0).toLoadRect = w 3 := by
  unfold cols
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]

/-- A load of key column 3. -/
theorem col_cov_3 (c : Dev nD) (arg3 : Memref sig .tc .vmem S1x16x128 .bf16) (harg3 : arg3.IsWhole) (arg12 : Memref sig .tc .vmem S16x128x128 .f32)
    (x2 : Vec F S1x16x128 .bf16) :
    arg12.view.readCov (kernelRun0_A.sl.HS0_16 (F := F) c arg3 harg3 x2) (Rect.unit (s := S16x128x128) ![3, 0, 0] (no_index S1x128x128.size) inb_S16x128x128_S1x128x128_3_0_0).toLoadRect
      = kCol x2 3 (by decide) := by
  rw [col_raw, cols_cov_3, ld_input]; rfl

theorem cols_cov_4 {sig : RefSig} {κ : Kind} {sp : Space} (v : View sig κ sp S16x128x128 .f32) (w : Fin 16 → FVec F S1x128x128 .f32) :
    v.readCov (cols w) (Rect.unit (s := S16x128x128) ![4, 0, 0] (no_index S1x128x128.size) inb_S16x128x128_S1x128x128_4_0_0).toLoadRect = w 4 := by
  unfold cols
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]

/-- A load of key column 4. -/
theorem col_cov_4 (c : Dev nD) (arg3 : Memref sig .tc .vmem S1x16x128 .bf16) (harg3 : arg3.IsWhole) (arg12 : Memref sig .tc .vmem S16x128x128 .f32)
    (x2 : Vec F S1x16x128 .bf16) :
    arg12.view.readCov (kernelRun0_A.sl.HS0_16 (F := F) c arg3 harg3 x2) (Rect.unit (s := S16x128x128) ![4, 0, 0] (no_index S1x128x128.size) inb_S16x128x128_S1x128x128_4_0_0).toLoadRect
      = kCol x2 4 (by decide) := by
  rw [col_raw, cols_cov_4, ld_input]; rfl

theorem cols_cov_5 {sig : RefSig} {κ : Kind} {sp : Space} (v : View sig κ sp S16x128x128 .f32) (w : Fin 16 → FVec F S1x128x128 .f32) :
    v.readCov (cols w) (Rect.unit (s := S16x128x128) ![5, 0, 0] (no_index S1x128x128.size) inb_S16x128x128_S1x128x128_5_0_0).toLoadRect = w 5 := by
  unfold cols
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]

/-- A load of key column 5. -/
theorem col_cov_5 (c : Dev nD) (arg3 : Memref sig .tc .vmem S1x16x128 .bf16) (harg3 : arg3.IsWhole) (arg12 : Memref sig .tc .vmem S16x128x128 .f32)
    (x2 : Vec F S1x16x128 .bf16) :
    arg12.view.readCov (kernelRun0_A.sl.HS0_16 (F := F) c arg3 harg3 x2) (Rect.unit (s := S16x128x128) ![5, 0, 0] (no_index S1x128x128.size) inb_S16x128x128_S1x128x128_5_0_0).toLoadRect
      = kCol x2 5 (by decide) := by
  rw [col_raw, cols_cov_5, ld_input]; rfl

theorem cols_cov_6 {sig : RefSig} {κ : Kind} {sp : Space} (v : View sig κ sp S16x128x128 .f32) (w : Fin 16 → FVec F S1x128x128 .f32) :
    v.readCov (cols w) (Rect.unit (s := S16x128x128) ![6, 0, 0] (no_index S1x128x128.size) inb_S16x128x128_S1x128x128_6_0_0).toLoadRect = w 6 := by
  unfold cols
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]

/-- A load of key column 6. -/
theorem col_cov_6 (c : Dev nD) (arg3 : Memref sig .tc .vmem S1x16x128 .bf16) (harg3 : arg3.IsWhole) (arg12 : Memref sig .tc .vmem S16x128x128 .f32)
    (x2 : Vec F S1x16x128 .bf16) :
    arg12.view.readCov (kernelRun0_A.sl.HS0_16 (F := F) c arg3 harg3 x2) (Rect.unit (s := S16x128x128) ![6, 0, 0] (no_index S1x128x128.size) inb_S16x128x128_S1x128x128_6_0_0).toLoadRect
      = kCol x2 6 (by decide) := by
  rw [col_raw, cols_cov_6, ld_input]; rfl

theorem cols_cov_7 {sig : RefSig} {κ : Kind} {sp : Space} (v : View sig κ sp S16x128x128 .f32) (w : Fin 16 → FVec F S1x128x128 .f32) :
    v.readCov (cols w) (Rect.unit (s := S16x128x128) ![7, 0, 0] (no_index S1x128x128.size) inb_S16x128x128_S1x128x128_7_0_0).toLoadRect = w 7 := by
  unfold cols
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]

/-- A load of key column 7. -/
theorem col_cov_7 (c : Dev nD) (arg3 : Memref sig .tc .vmem S1x16x128 .bf16) (harg3 : arg3.IsWhole) (arg12 : Memref sig .tc .vmem S16x128x128 .f32)
    (x2 : Vec F S1x16x128 .bf16) :
    arg12.view.readCov (kernelRun0_A.sl.HS0_16 (F := F) c arg3 harg3 x2) (Rect.unit (s := S16x128x128) ![7, 0, 0] (no_index S1x128x128.size) inb_S16x128x128_S1x128x128_7_0_0).toLoadRect
      = kCol x2 7 (by decide) := by
  rw [col_raw, cols_cov_7, ld_input]; rfl

theorem cols_cov_8 {sig : RefSig} {κ : Kind} {sp : Space} (v : View sig κ sp S16x128x128 .f32) (w : Fin 16 → FVec F S1x128x128 .f32) :
    v.readCov (cols w) (Rect.unit (s := S16x128x128) ![8, 0, 0] (no_index S1x128x128.size) inb_S16x128x128_S1x128x128_8_0_0).toLoadRect = w 8 := by
  unfold cols
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]

/-- A load of key column 8. -/
theorem col_cov_8 (c : Dev nD) (arg3 : Memref sig .tc .vmem S1x16x128 .bf16) (harg3 : arg3.IsWhole) (arg12 : Memref sig .tc .vmem S16x128x128 .f32)
    (x2 : Vec F S1x16x128 .bf16) :
    arg12.view.readCov (kernelRun0_A.sl.HS0_16 (F := F) c arg3 harg3 x2) (Rect.unit (s := S16x128x128) ![8, 0, 0] (no_index S1x128x128.size) inb_S16x128x128_S1x128x128_8_0_0).toLoadRect
      = kCol x2 8 (by decide) := by
  rw [col_raw, cols_cov_8, ld_input]; rfl

theorem cols_cov_9 {sig : RefSig} {κ : Kind} {sp : Space} (v : View sig κ sp S16x128x128 .f32) (w : Fin 16 → FVec F S1x128x128 .f32) :
    v.readCov (cols w) (Rect.unit (s := S16x128x128) ![9, 0, 0] (no_index S1x128x128.size) inb_S16x128x128_S1x128x128_9_0_0).toLoadRect = w 9 := by
  unfold cols
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]

/-- A load of key column 9. -/
theorem col_cov_9 (c : Dev nD) (arg3 : Memref sig .tc .vmem S1x16x128 .bf16) (harg3 : arg3.IsWhole) (arg12 : Memref sig .tc .vmem S16x128x128 .f32)
    (x2 : Vec F S1x16x128 .bf16) :
    arg12.view.readCov (kernelRun0_A.sl.HS0_16 (F := F) c arg3 harg3 x2) (Rect.unit (s := S16x128x128) ![9, 0, 0] (no_index S1x128x128.size) inb_S16x128x128_S1x128x128_9_0_0).toLoadRect
      = kCol x2 9 (by decide) := by
  rw [col_raw, cols_cov_9, ld_input]; rfl

theorem cols_cov_10 {sig : RefSig} {κ : Kind} {sp : Space} (v : View sig κ sp S16x128x128 .f32) (w : Fin 16 → FVec F S1x128x128 .f32) :
    v.readCov (cols w) (Rect.unit (s := S16x128x128) ![10, 0, 0] (no_index S1x128x128.size) inb_S16x128x128_S1x128x128_10_0_0).toLoadRect = w 10 := by
  unfold cols
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]

/-- A load of key column 10. -/
theorem col_cov_10 (c : Dev nD) (arg3 : Memref sig .tc .vmem S1x16x128 .bf16) (harg3 : arg3.IsWhole) (arg12 : Memref sig .tc .vmem S16x128x128 .f32)
    (x2 : Vec F S1x16x128 .bf16) :
    arg12.view.readCov (kernelRun0_A.sl.HS0_16 (F := F) c arg3 harg3 x2) (Rect.unit (s := S16x128x128) ![10, 0, 0] (no_index S1x128x128.size) inb_S16x128x128_S1x128x128_10_0_0).toLoadRect
      = kCol x2 10 (by decide) := by
  rw [col_raw, cols_cov_10, ld_input]; rfl

theorem cols_cov_11 {sig : RefSig} {κ : Kind} {sp : Space} (v : View sig κ sp S16x128x128 .f32) (w : Fin 16 → FVec F S1x128x128 .f32) :
    v.readCov (cols w) (Rect.unit (s := S16x128x128) ![11, 0, 0] (no_index S1x128x128.size) inb_S16x128x128_S1x128x128_11_0_0).toLoadRect = w 11 := by
  unfold cols
  rw [View.readCov_skip _ _ _ _ _ (by decide), View.readCov_skip _ _ _ _ _ (by decide), View.readCov_skip _ _ _ _ _ (by decide), View.readCov_skip _ _ _ _ _ (by decide), View.readCov_cons_toLoadRect]

/-- A load of key column 11. -/
theorem col_cov_11 (c : Dev nD) (arg3 : Memref sig .tc .vmem S1x16x128 .bf16) (harg3 : arg3.IsWhole) (arg12 : Memref sig .tc .vmem S16x128x128 .f32)
    (x2 : Vec F S1x16x128 .bf16) :
    arg12.view.readCov (kernelRun0_A.sl.HS0_16 (F := F) c arg3 harg3 x2) (Rect.unit (s := S16x128x128) ![11, 0, 0] (no_index S1x128x128.size) inb_S16x128x128_S1x128x128_11_0_0).toLoadRect
      = kCol x2 11 (by decide) := by
  rw [col_raw, cols_cov_11, ld_input]; rfl

theorem cols_cov_12 {sig : RefSig} {κ : Kind} {sp : Space} (v : View sig κ sp S16x128x128 .f32) (w : Fin 16 → FVec F S1x128x128 .f32) :
    v.readCov (cols w) (Rect.unit (s := S16x128x128) ![12, 0, 0] (no_index S1x128x128.size) inb_S16x128x128_S1x128x128_12_0_0).toLoadRect = w 12 := by
  unfold cols
  rw [View.readCov_skip _ _ _ _ _ (by decide), View.readCov_skip _ _ _ _ _ (by decide), View.readCov_skip _ _ _ _ _ (by decide), View.readCov_cons_toLoadRect]

/-- A load of key column 12. -/
theorem col_cov_12 (c : Dev nD) (arg3 : Memref sig .tc .vmem S1x16x128 .bf16) (harg3 : arg3.IsWhole) (arg12 : Memref sig .tc .vmem S16x128x128 .f32)
    (x2 : Vec F S1x16x128 .bf16) :
    arg12.view.readCov (kernelRun0_A.sl.HS0_16 (F := F) c arg3 harg3 x2) (Rect.unit (s := S16x128x128) ![12, 0, 0] (no_index S1x128x128.size) inb_S16x128x128_S1x128x128_12_0_0).toLoadRect
      = kCol x2 12 (by decide) := by
  rw [col_raw, cols_cov_12, ld_input]; rfl

theorem cols_cov_13 {sig : RefSig} {κ : Kind} {sp : Space} (v : View sig κ sp S16x128x128 .f32) (w : Fin 16 → FVec F S1x128x128 .f32) :
    v.readCov (cols w) (Rect.unit (s := S16x128x128) ![13, 0, 0] (no_index S1x128x128.size) inb_S16x128x128_S1x128x128_13_0_0).toLoadRect = w 13 := by
  unfold cols
  rw [View.readCov_skip _ _ _ _ _ (by decide), View.readCov_skip _ _ _ _ _ (by decide), View.readCov_cons_toLoadRect]

/-- A load of key column 13. -/
theorem col_cov_13 (c : Dev nD) (arg3 : Memref sig .tc .vmem S1x16x128 .bf16) (harg3 : arg3.IsWhole) (arg12 : Memref sig .tc .vmem S16x128x128 .f32)
    (x2 : Vec F S1x16x128 .bf16) :
    arg12.view.readCov (kernelRun0_A.sl.HS0_16 (F := F) c arg3 harg3 x2) (Rect.unit (s := S16x128x128) ![13, 0, 0] (no_index S1x128x128.size) inb_S16x128x128_S1x128x128_13_0_0).toLoadRect
      = kCol x2 13 (by decide) := by
  rw [col_raw, cols_cov_13, ld_input]; rfl

theorem cols_cov_14 {sig : RefSig} {κ : Kind} {sp : Space} (v : View sig κ sp S16x128x128 .f32) (w : Fin 16 → FVec F S1x128x128 .f32) :
    v.readCov (cols w) (Rect.unit (s := S16x128x128) ![14, 0, 0] (no_index S1x128x128.size) inb_S16x128x128_S1x128x128_14_0_0).toLoadRect = w 14 := by
  unfold cols
  rw [View.readCov_skip _ _ _ _ _ (by decide), View.readCov_cons_toLoadRect]

/-- A load of key column 14. -/
theorem col_cov_14 (c : Dev nD) (arg3 : Memref sig .tc .vmem S1x16x128 .bf16) (harg3 : arg3.IsWhole) (arg12 : Memref sig .tc .vmem S16x128x128 .f32)
    (x2 : Vec F S1x16x128 .bf16) :
    arg12.view.readCov (kernelRun0_A.sl.HS0_16 (F := F) c arg3 harg3 x2) (Rect.unit (s := S16x128x128) ![14, 0, 0] (no_index S1x128x128.size) inb_S16x128x128_S1x128x128_14_0_0).toLoadRect
      = kCol x2 14 (by decide) := by
  rw [col_raw, cols_cov_14, ld_input]; rfl

theorem cols_cov_15 {sig : RefSig} {κ : Kind} {sp : Space} (v : View sig κ sp S16x128x128 .f32) (w : Fin 16 → FVec F S1x128x128 .f32) :
    v.readCov (cols w) (Rect.unit (s := S16x128x128) ![15, 0, 0] (no_index S1x128x128.size) inb_S16x128x128_S1x128x128_15_0_0).toLoadRect = w 15 := by
  unfold cols
  rw [View.readCov_cons_toLoadRect]

/-- A load of key column 15. -/
theorem col_cov_15 (c : Dev nD) (arg3 : Memref sig .tc .vmem S1x16x128 .bf16) (harg3 : arg3.IsWhole) (arg12 : Memref sig .tc .vmem S16x128x128 .f32)
    (x2 : Vec F S1x16x128 .bf16) :
    arg12.view.readCov (kernelRun0_A.sl.HS0_16 (F := F) c arg3 harg3 x2) (Rect.unit (s := S16x128x128) ![15, 0, 0] (no_index S1x128x128.size) inb_S16x128x128_S1x128x128_15_0_0).toLoadRect
      = kCol x2 15 (by decide) := by
  rw [col_raw, cols_cov_15, ld_input]; rfl

/-- Eight stores of a state each, one per slot, over earlier stores. -/
def states (w0 w1 w2 w3 w4 w5 w6 w7 : FVec F S128x256 .f32) (L : List (View.Piece (Elt F) S8x128x256 .f32)) : List (View.Piece (Elt F) S8x128x256 .f32) :=
    ⟨Rect.unit ![7, 0, 0] S1x128x256.size inb_S8x128x256_S1x128x256_7_0_0, shapeCast S1x128x256 w7 shapeCasts_S128x256_S1x128x256⟩ ::
      ⟨Rect.unit ![6, 0, 0] S1x128x256.size inb_S8x128x256_S1x128x256_6_0_0, shapeCast S1x128x256 w6 shapeCasts_S128x256_S1x128x256⟩ ::
      ⟨Rect.unit ![5, 0, 0] S1x128x256.size inb_S8x128x256_S1x128x256_5_0_0, shapeCast S1x128x256 w5 shapeCasts_S128x256_S1x128x256⟩ ::
      ⟨Rect.unit ![4, 0, 0] S1x128x256.size inb_S8x128x256_S1x128x256_4_0_0, shapeCast S1x128x256 w4 shapeCasts_S128x256_S1x128x256⟩ ::
      ⟨Rect.unit ![3, 0, 0] S1x128x256.size inb_S8x128x256_S1x128x256_3_0_0, shapeCast S1x128x256 w3 shapeCasts_S128x256_S1x128x256⟩ ::
      ⟨Rect.unit ![2, 0, 0] S1x128x256.size inb_S8x128x256_S1x128x256_2_0_0, shapeCast S1x128x256 w2 shapeCasts_S128x256_S1x128x256⟩ ::
      ⟨Rect.unit ![1, 0, 0] S1x128x256.size inb_S8x128x256_S1x128x256_1_0_0, shapeCast S1x128x256 w1 shapeCasts_S128x256_S1x128x256⟩ ::
      ⟨Rect.unit ![0, 0, 0] S1x128x256.size inb_S8x128x256_S1x128x256_0_0_0, shapeCast S1x128x256 w0 shapeCasts_S128x256_S1x128x256⟩ :: L

/-- A load of the state in slot 0. -/
theorem states_cov_0 {sig : RefSig} {κ : Kind} {sp : Space} (v : View sig κ sp S8x128x256 .f32) (w0 w1 w2 w3 w4 w5 w6 w7 : FVec F S128x256 .f32)
    (L : List (View.Piece (Elt F) S8x128x256 .f32)) :
    v.readCov (states w0 w1 w2 w3 w4 w5 w6 w7 L) (Rect.unit (s := S8x128x256) ![0, 0, 0] (no_index S1x128x256.size) inb_S8x128x256_S1x128x256_0_0_0).toLoadRect
      = shapeCast S1x128x256 w0 shapeCasts_S128x256_S1x128x256 := by
  unfold states
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]

/-- A load of the state in slot 1. -/
theorem states_cov_1 {sig : RefSig} {κ : Kind} {sp : Space} (v : View sig κ sp S8x128x256 .f32) (w0 w1 w2 w3 w4 w5 w6 w7 : FVec F S128x256 .f32)
    (L : List (View.Piece (Elt F) S8x128x256 .f32)) :
    v.readCov (states w0 w1 w2 w3 w4 w5 w6 w7 L) (Rect.unit (s := S8x128x256) ![1, 0, 0] (no_index S1x128x256.size) inb_S8x128x256_S1x128x256_1_0_0).toLoadRect
      = shapeCast S1x128x256 w1 shapeCasts_S128x256_S1x128x256 := by
  unfold states
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]

/-- A load of the state in slot 2. -/
theorem states_cov_2 {sig : RefSig} {κ : Kind} {sp : Space} (v : View sig κ sp S8x128x256 .f32) (w0 w1 w2 w3 w4 w5 w6 w7 : FVec F S128x256 .f32)
    (L : List (View.Piece (Elt F) S8x128x256 .f32)) :
    v.readCov (states w0 w1 w2 w3 w4 w5 w6 w7 L) (Rect.unit (s := S8x128x256) ![2, 0, 0] (no_index S1x128x256.size) inb_S8x128x256_S1x128x256_2_0_0).toLoadRect
      = shapeCast S1x128x256 w2 shapeCasts_S128x256_S1x128x256 := by
  unfold states
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_cons_toLoadRect]

/-- A load of the state in slot 3. -/
theorem states_cov_3 {sig : RefSig} {κ : Kind} {sp : Space} (v : View sig κ sp S8x128x256 .f32) (w0 w1 w2 w3 w4 w5 w6 w7 : FVec F S128x256 .f32)
    (L : List (View.Piece (Elt F) S8x128x256 .f32)) :
    v.readCov (states w0 w1 w2 w3 w4 w5 w6 w7 L) (Rect.unit (s := S8x128x256) ![3, 0, 0] (no_index S1x128x256.size) inb_S8x128x256_S1x128x256_3_0_0).toLoadRect
      = shapeCast S1x128x256 w3 shapeCasts_S128x256_S1x128x256 := by
  unfold states
  rw [View.readCov_skip _ _ _ _ _ (by decide), View.readCov_skip _ _ _ _ _ (by decide), View.readCov_skip _ _ _ _ _ (by decide), View.readCov_skip _ _ _ _ _ (by decide), View.readCov_cons_toLoadRect]

/-- A load of the state in slot 4. -/
theorem states_cov_4 {sig : RefSig} {κ : Kind} {sp : Space} (v : View sig κ sp S8x128x256 .f32) (w0 w1 w2 w3 w4 w5 w6 w7 : FVec F S128x256 .f32)
    (L : List (View.Piece (Elt F) S8x128x256 .f32)) :
    v.readCov (states w0 w1 w2 w3 w4 w5 w6 w7 L) (Rect.unit (s := S8x128x256) ![4, 0, 0] (no_index S1x128x256.size) inb_S8x128x256_S1x128x256_4_0_0).toLoadRect
      = shapeCast S1x128x256 w4 shapeCasts_S128x256_S1x128x256 := by
  unfold states
  rw [View.readCov_skip _ _ _ _ _ (by decide), View.readCov_skip _ _ _ _ _ (by decide), View.readCov_skip _ _ _ _ _ (by decide), View.readCov_cons_toLoadRect]

/-- A load of the state in slot 5. -/
theorem states_cov_5 {sig : RefSig} {κ : Kind} {sp : Space} (v : View sig κ sp S8x128x256 .f32) (w0 w1 w2 w3 w4 w5 w6 w7 : FVec F S128x256 .f32)
    (L : List (View.Piece (Elt F) S8x128x256 .f32)) :
    v.readCov (states w0 w1 w2 w3 w4 w5 w6 w7 L) (Rect.unit (s := S8x128x256) ![5, 0, 0] (no_index S1x128x256.size) inb_S8x128x256_S1x128x256_5_0_0).toLoadRect
      = shapeCast S1x128x256 w5 shapeCasts_S128x256_S1x128x256 := by
  unfold states
  rw [View.readCov_skip _ _ _ _ _ (by decide), View.readCov_skip _ _ _ _ _ (by decide), View.readCov_cons_toLoadRect]

/-- A load of the state in slot 6. -/
theorem states_cov_6 {sig : RefSig} {κ : Kind} {sp : Space} (v : View sig κ sp S8x128x256 .f32) (w0 w1 w2 w3 w4 w5 w6 w7 : FVec F S128x256 .f32)
    (L : List (View.Piece (Elt F) S8x128x256 .f32)) :
    v.readCov (states w0 w1 w2 w3 w4 w5 w6 w7 L) (Rect.unit (s := S8x128x256) ![6, 0, 0] (no_index S1x128x256.size) inb_S8x128x256_S1x128x256_6_0_0).toLoadRect
      = shapeCast S1x128x256 w6 shapeCasts_S128x256_S1x128x256 := by
  unfold states
  rw [View.readCov_skip _ _ _ _ _ (by decide), View.readCov_cons_toLoadRect]

/-- A load of the state in slot 7. -/
theorem states_cov_7 {sig : RefSig} {κ : Kind} {sp : Space} (v : View sig κ sp S8x128x256 .f32) (w0 w1 w2 w3 w4 w5 w6 w7 : FVec F S128x256 .f32)
    (L : List (View.Piece (Elt F) S8x128x256 .f32)) :
    v.readCov (states w0 w1 w2 w3 w4 w5 w6 w7 L) (Rect.unit (s := S8x128x256) ![7, 0, 0] (no_index S1x128x256.size) inb_S8x128x256_S1x128x256_7_0_0).toLoadRect
      = shapeCast S1x128x256 w7 shapeCasts_S128x256_S1x128x256 := by
  unfold states
  rw [View.readCov_cons_toLoadRect]

end Cert.Delta

end
-- ==== Proof.Out8.lean ====
/- The stores of the output, from the point's input blocks. -/
module

public import proofs.«01_k».proof.Proof.Loads

@[expose] public section

set_option maxRecDepth 16384
set_option maxHeartbeats 4000000

noncomputable section

namespace Cert.Delta

open Idealize.ShloMosaic Idealize.SL.Sem Cert.KernelIdeal Cert.KernelIdeal.Gen

variable {F : FTy → Type} [FloatOps F]

/-- The stores of the output, as the run leaves them. -/
theorem out8_raw (c : Dev nD) (i : grid0.Coords) (arg1 : Memref sig .tc .vmem S128x128 .fp8e4m3) (harg1 : arg1.IsWhole) (arg2 : Memref sig .tc .vmem S1x16x128 .bf16) (harg2 : arg2.IsWhole) (arg3 : Memref sig .tc .vmem S1x16x128 .bf16) (harg3 : arg3.IsWhole) (arg4 : Memref sig .tc .vmem S1x64x256 .bf16) (harg4 : arg4.IsWhole) (arg5 : Memref sig .tc .vmem S1x1x64 .f32) (harg5 : arg5.IsWhole) (arg6 : Memref sig .tc .vmem S1x1x64 .f32) (harg6 : arg6.IsWhole) (arg7 : Memref sig .tc .vmem S1x64x256x128 .fp8e4m3) (harg7 : arg7.IsWhole) (arg8 : Memref sig .tc .vmem S1x64x256 .f32) (harg8 : arg8.IsWhole) (arg9 : Memref sig .tc .vmem S1x64x256 .bf16) (harg9 : arg9.IsWhole) (arg10 : Memref sig .tc .vmem S1x64x256x128 .fp8e4m3) (harg10 : arg10.IsWhole) (arg11 : Memref sig .tc .vmem S1x64x256 .f32) (harg11 : arg11.IsWhole) (arg12 : Memref sig .tc .vmem S16x128x128 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S64x256 .f32) (harg15 : arg15.IsWhole) (arg16 : Memref sig .tc .vmem S8x128x256 .f32) (harg16 : arg16.IsWhole) (x0 : Vec F S128x128 .fp8e4m3) (x1 : Vec F S1x16x128 .bf16) (x2 : Vec F S1x16x128 .bf16) (x3 : Vec F S1x64x256 .bf16) (x4 : Vec F S1x1x64 .f32) (x5 : Vec F S1x1x64 .f32) (x6 : Vec F S1x64x256x128 .fp8e4m3) (x7 : Vec F S1x64x256 .f32) :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).1 = [⟨Rect.unit (s := S1x64x256) ![0, 56, 0] S1x8x256.size inb_S1x64x256_S1x8x256_0_56_0, (outO (rows (kernelRun0_A.sl.v203 : IVec S8x128 32) (arg14.view.readCov (kernelRun0_A.sl.HS2_1 (F := F) c arg2 harg2 x1) (Rect.unit (s := S16x128) ![14, 0] S1x128.size inb_S16x128_S1x128_14_0).toLoadRect) (arg14.view.readCov (kernelRun0_A.sl.HS2_1 (F := F) c arg2 harg2 x1) (Rect.unit (s := S16x128) ![15, 0] S1x128.size inb_S16x128_S1x128_15_0).toLoadRect)) (rows (kernelRun0_A.sl.v203 : IVec S8x128 32) (arg13.view.readCov (kernelRun0_A.sl.HS1_1 (F := F) c arg3 harg3 x2) (Rect.unit (s := S16x128) ![14, 0] S1x128.size inb_S16x128_S1x128_14_0).toLoadRect) (arg13.view.readCov (kernelRun0_A.sl.HS1_1 (F := F) c arg3 harg3 x2) (Rect.unit (s := S16x128) ![15, 0] S1x128.size inb_S16x128_S1x128_15_0).toLoadRect)) (proj (kernelRun0_A.sl.v203 : IVec S8x128 32) (arg13.view.readCov (kernelRun0_A.sl.HS1_1 (F := F) c arg3 harg3 x2) (Rect.unit (s := S16x128) ![14, 0] S1x128.size inb_S16x128_S1x128_14_0).toLoadRect) (arg13.view.readCov (kernelRun0_A.sl.HS1_1 (F := F) c arg3 harg3 x2) (Rect.unit (s := S16x128) ![15, 0] S1x128.size inb_S16x128_S1x128_15_0).toLoadRect) (arg14.view.readCov (kernelRun0_A.sl.HS2_1 (F := F) c arg2 harg2 x1) (Rect.unit (s := S16x128) ![14, 0] S1x128.size inb_S16x128_S1x128_14_0).toLoadRect) (arg14.view.readCov (kernelRun0_A.sl.HS2_1 (F := F) c arg2 harg2 x1) (Rect.unit (s := S16x128) ![15, 0] S1x128.size inb_S16x128_S1x128_15_0).toLoadRect) (View.readAt (Elt F) arg7.view (Rect.unit (s := S1x64x256x128) ![0, 56, 0, 0] S1x1x256x128.size inb_S1x64x256x128_S1x1x256x128_0_56_0_0).toLoadRect (harg7.unread x6)) (View.readAt (Elt F) arg7.view (Rect.unit (s := S1x64x256x128) ![0, 57, 0, 0] S1x1x256x128.size inb_S1x64x256x128_S1x1x256x128_0_57_0_0).toLoadRect (harg7.unread x6)) (View.readAt (Elt F) arg7.view (Rect.unit (s := S1x64x256x128) ![0, 58, 0, 0] S1x1x256x128.size inb_S1x64x256x128_S1x1x256x128_0_58_0_0).toLoadRect (harg7.unread x6)) (View.readAt (Elt F) arg7.view (Rect.unit (s := S1x64x256x128) ![0, 59, 0, 0] S1x1x256x128.size inb_S1x64x256x128_S1x1x256x128_0_59_0_0).toLoadRect (harg7.unread x6)) (View.readAt (Elt F) arg7.view (Rect.unit (s := S1x64x256x128) ![0, 60, 0, 0] S1x1x256x128.size inb_S1x64x256x128_S1x1x256x128_0_60_0_0).toLoadRect (harg7.unread x6)) (View.readAt (Elt F) arg7.view (Rect.unit (s := S1x64x256x128) ![0, 61, 0, 0] S1x1x256x128.size inb_S1x64x256x128_S1x1x256x128_0_61_0_0).toLoadRect (harg7.unread x6)) (View.readAt (Elt F) arg7.view (Rect.unit (s := S1x64x256x128) ![0, 62, 0, 0] S1x1x256x128.size inb_S1x64x256x128_S1x1x256x128_0_62_0_0).toLoadRect (harg7.unread x6)) (View.readAt (Elt F) arg7.view (Rect.unit (s := S1x64x256x128) ![0, 63, 0, 0] S1x1x256x128.size inb_S1x64x256x128_S1x1x256x128_0_63_0_0).toLoadRect (harg7.unread x6))) (View.readAt (Elt F) arg8.view (Rect.unit (s := S1x64x256) ![0, 56, 0] S1x8x256.size inb_S1x64x256_S1x8x256_0_56_0).toLoadRect (harg8.unread x7)) (View.readAt (Elt F) arg4.view (Rect.unit (s := S1x64x256) ![0, 56, 0] S1x8x256.size inb_S1x64x256_S1x8x256_0_56_0).toLoadRect (harg4.unread x3)) (extractStridedSlice S8x1 ![56, 0] (kernelRun0_A.sl.r_2 (F := F) c arg5 harg5 x4) slices_S64x1_o56_0_S8x1) (extractStridedSlice S8x1 ![56, 0] (kernelRun0_A.sl.r_3 (F := F) c arg6 harg6 x5) slices_S64x1_o56_0_S8x1))⟩,
      ⟨Rect.unit (s := S1x64x256) ![0, 48, 0] S1x8x256.size inb_S1x64x256_S1x8x256_0_48_0, (outO (rows (kernelRun0_A.sl.v203 : IVec S8x128 32) (arg14.view.readCov (kernelRun0_A.sl.HS2_1 (F := F) c arg2 harg2 x1) (Rect.unit (s := S16x128) ![12, 0] S1x128.size inb_S16x128_S1x128_12_0).toLoadRect) (arg14.view.readCov (kernelRun0_A.sl.HS2_1 (F := F) c arg2 harg2 x1) (Rect.unit (s := S16x128) ![13, 0] S1x128.size inb_S16x128_S1x128_13_0).toLoadRect)) (rows (kernelRun0_A.sl.v203 : IVec S8x128 32) (arg13.view.readCov (kernelRun0_A.sl.HS1_1 (F := F) c arg3 harg3 x2) (Rect.unit (s := S16x128) ![12, 0] S1x128.size inb_S16x128_S1x128_12_0).toLoadRect) (arg13.view.readCov (kernelRun0_A.sl.HS1_1 (F := F) c arg3 harg3 x2) (Rect.unit (s := S16x128) ![13, 0] S1x128.size inb_S16x128_S1x128_13_0).toLoadRect)) (proj (kernelRun0_A.sl.v203 : IVec S8x128 32) (arg13.view.readCov (kernelRun0_A.sl.HS1_1 (F := F) c arg3 harg3 x2) (Rect.unit (s := S16x128) ![12, 0] S1x128.size inb_S16x128_S1x128_12_0).toLoadRect) (arg13.view.readCov (kernelRun0_A.sl.HS1_1 (F := F) c arg3 harg3 x2) (Rect.unit (s := S16x128) ![13, 0] S1x128.size inb_S16x128_S1x128_13_0).toLoadRect) (arg14.view.readCov (kernelRun0_A.sl.HS2_1 (F := F) c arg2 harg2 x1) (Rect.unit (s := S16x128) ![12, 0] S1x128.size inb_S16x128_S1x128_12_0).toLoadRect) (arg14.view.readCov (kernelRun0_A.sl.HS2_1 (F := F) c arg2 harg2 x1) (Rect.unit (s := S16x128) ![13, 0] S1x128.size inb_S16x128_S1x128_13_0).toLoadRect) (View.readAt (Elt F) arg7.view (Rect.unit (s := S1x64x256x128) ![0, 48, 0, 0] S1x1x256x128.size inb_S1x64x256x128_S1x1x256x128_0_48_0_0).toLoadRect (harg7.unread x6)) (View.readAt (Elt F) arg7.view (Rect.unit (s := S1x64x256x128) ![0, 49, 0, 0] S1x1x256x128.size inb_S1x64x256x128_S1x1x256x128_0_49_0_0).toLoadRect (harg7.unread x6)) (View.readAt (Elt F) arg7.view (Rect.unit (s := S1x64x256x128) ![0, 50, 0, 0] S1x1x256x128.size inb_S1x64x256x128_S1x1x256x128_0_50_0_0).toLoadRect (harg7.unread x6)) (View.readAt (Elt F) arg7.view (Rect.unit (s := S1x64x256x128) ![0, 51, 0, 0] S1x1x256x128.size inb_S1x64x256x128_S1x1x256x128_0_51_0_0).toLoadRect (harg7.unread x6)) (View.readAt (Elt F) arg7.view (Rect.unit (s := S1x64x256x128) ![0, 52, 0, 0] S1x1x256x128.size inb_S1x64x256x128_S1x1x256x128_0_52_0_0).toLoadRect (harg7.unread x6)) (View.readAt (Elt F) arg7.view (Rect.unit (s := S1x64x256x128) ![0, 53, 0, 0] S1x1x256x128.size inb_S1x64x256x128_S1x1x256x128_0_53_0_0).toLoadRect (harg7.unread x6)) (View.readAt (Elt F) arg7.view (Rect.unit (s := S1x64x256x128) ![0, 54, 0, 0] S1x1x256x128.size inb_S1x64x256x128_S1x1x256x128_0_54_0_0).toLoadRect (harg7.unread x6)) (View.readAt (Elt F) arg7.view (Rect.unit (s := S1x64x256x128) ![0, 55, 0, 0] S1x1x256x128.size inb_S1x64x256x128_S1x1x256x128_0_55_0_0).toLoadRect (harg7.unread x6))) (View.readAt (Elt F) arg8.view (Rect.unit (s := S1x64x256) ![0, 48, 0] S1x8x256.size inb_S1x64x256_S1x8x256_0_48_0).toLoadRect (harg8.unread x7)) (View.readAt (Elt F) arg4.view (Rect.unit (s := S1x64x256) ![0, 48, 0] S1x8x256.size inb_S1x64x256_S1x8x256_0_48_0).toLoadRect (harg4.unread x3)) (extractStridedSlice S8x1 ![48, 0] (kernelRun0_A.sl.r_2 (F := F) c arg5 harg5 x4) slices_S64x1_o48_0_S8x1) (extractStridedSlice S8x1 ![48, 0] (kernelRun0_A.sl.r_3 (F := F) c arg6 harg6 x5) slices_S64x1_o48_0_S8x1))⟩,
      ⟨Rect.unit (s := S1x64x256) ![0, 40, 0] S1x8x256.size inb_S1x64x256_S1x8x256_0_40_0, (outO (rows (kernelRun0_A.sl.v203 : IVec S8x128 32) (arg14.view.readCov (kernelRun0_A.sl.HS2_1 (F := F) c arg2 harg2 x1) (Rect.unit (s := S16x128) ![10, 0] S1x128.size inb_S16x128_S1x128_10_0).toLoadRect) (arg14.view.readCov (kernelRun0_A.sl.HS2_1 (F := F) c arg2 harg2 x1) (Rect.unit (s := S16x128) ![11, 0] S1x128.size inb_S16x128_S1x128_11_0).toLoadRect)) (rows (kernelRun0_A.sl.v203 : IVec S8x128 32) (arg13.view.readCov (kernelRun0_A.sl.HS1_1 (F := F) c arg3 harg3 x2) (Rect.unit (s := S16x128) ![10, 0] S1x128.size inb_S16x128_S1x128_10_0).toLoadRect) (arg13.view.readCov (kernelRun0_A.sl.HS1_1 (F := F) c arg3 harg3 x2) (Rect.unit (s := S16x128) ![11, 0] S1x128.size inb_S16x128_S1x128_11_0).toLoadRect)) (proj (kernelRun0_A.sl.v203 : IVec S8x128 32) (arg13.view.readCov (kernelRun0_A.sl.HS1_1 (F := F) c arg3 harg3 x2) (Rect.unit (s := S16x128) ![10, 0] S1x128.size inb_S16x128_S1x128_10_0).toLoadRect) (arg13.view.readCov (kernelRun0_A.sl.HS1_1 (F := F) c arg3 harg3 x2) (Rect.unit (s := S16x128) ![11, 0] S1x128.size inb_S16x128_S1x128_11_0).toLoadRect) (arg14.view.readCov (kernelRun0_A.sl.HS2_1 (F := F) c arg2 harg2 x1) (Rect.unit (s := S16x128) ![10, 0] S1x128.size inb_S16x128_S1x128_10_0).toLoadRect) (arg14.view.readCov (kernelRun0_A.sl.HS2_1 (F := F) c arg2 harg2 x1) (Rect.unit (s := S16x128) ![11, 0] S1x128.size inb_S16x128_S1x128_11_0).toLoadRect) (View.readAt (Elt F) arg7.view (Rect.unit (s := S1x64x256x128) ![0, 40, 0, 0] S1x1x256x128.size inb_S1x64x256x128_S1x1x256x128_0_40_0_0).toLoadRect (harg7.unread x6)) (View.readAt (Elt F) arg7.view (Rect.unit (s := S1x64x256x128) ![0, 41, 0, 0] S1x1x256x128.size inb_S1x64x256x128_S1x1x256x128_0_41_0_0).toLoadRect (harg7.unread x6)) (View.readAt (Elt F) arg7.view (Rect.unit (s := S1x64x256x128) ![0, 42, 0, 0] S1x1x256x128.size inb_S1x64x256x128_S1x1x256x128_0_42_0_0).toLoadRect (harg7.unread x6)) (View.readAt (Elt F) arg7.view (Rect.unit (s := S1x64x256x128) ![0, 43, 0, 0] S1x1x256x128.size inb_S1x64x256x128_S1x1x256x128_0_43_0_0).toLoadRect (harg7.unread x6)) (View.readAt (Elt F) arg7.view (Rect.unit (s := S1x64x256x128) ![0, 44, 0, 0] S1x1x256x128.size inb_S1x64x256x128_S1x1x256x128_0_44_0_0).toLoadRect (harg7.unread x6)) (View.readAt (Elt F) arg7.view (Rect.unit (s := S1x64x256x128) ![0, 45, 0, 0] S1x1x256x128.size inb_S1x64x256x128_S1x1x256x128_0_45_0_0).toLoadRect (harg7.unread x6)) (View.readAt (Elt F) arg7.view (Rect.unit (s := S1x64x256x128) ![0, 46, 0, 0] S1x1x256x128.size inb_S1x64x256x128_S1x1x256x128_0_46_0_0).toLoadRect (harg7.unread x6)) (View.readAt (Elt F) arg7.view (Rect.unit (s := S1x64x256x128) ![0, 47, 0, 0] S1x1x256x128.size inb_S1x64x256x128_S1x1x256x128_0_47_0_0).toLoadRect (harg7.unread x6))) (View.readAt (Elt F) arg8.view (Rect.unit (s := S1x64x256) ![0, 40, 0] S1x8x256.size inb_S1x64x256_S1x8x256_0_40_0).toLoadRect (harg8.unread x7)) (View.readAt (Elt F) arg4.view (Rect.unit (s := S1x64x256) ![0, 40, 0] S1x8x256.size inb_S1x64x256_S1x8x256_0_40_0).toLoadRect (harg4.unread x3)) (extractStridedSlice S8x1 ![40, 0] (kernelRun0_A.sl.r_2 (F := F) c arg5 harg5 x4) slices_S64x1_o40_0_S8x1) (extractStridedSlice S8x1 ![40, 0] (kernelRun0_A.sl.r_3 (F := F) c arg6 harg6 x5) slices_S64x1_o40_0_S8x1))⟩,
      ⟨Rect.unit (s := S1x64x256) ![0, 32, 0] S1x8x256.size inb_S1x64x256_S1x8x256_0_32_0, (outO (rows (kernelRun0_A.sl.v203 : IVec S8x128 32) (arg14.view.readCov (kernelRun0_A.sl.HS2_1 (F := F) c arg2 harg2 x1) (Rect.unit (s := S16x128) ![8, 0] S1x128.size inb_S16x128_S1x128_8_0).toLoadRect) (arg14.view.readCov (kernelRun0_A.sl.HS2_1 (F := F) c arg2 harg2 x1) (Rect.unit (s := S16x128) ![9, 0] S1x128.size inb_S16x128_S1x128_9_0).toLoadRect)) (rows (kernelRun0_A.sl.v203 : IVec S8x128 32) (arg13.view.readCov (kernelRun0_A.sl.HS1_1 (F := F) c arg3 harg3 x2) (Rect.unit (s := S16x128) ![8, 0] S1x128.size inb_S16x128_S1x128_8_0).toLoadRect) (arg13.view.readCov (kernelRun0_A.sl.HS1_1 (F := F) c arg3 harg3 x2) (Rect.unit (s := S16x128) ![9, 0] S1x128.size inb_S16x128_S1x128_9_0).toLoadRect)) (proj (kernelRun0_A.sl.v203 : IVec S8x128 32) (arg13.view.readCov (kernelRun0_A.sl.HS1_1 (F := F) c arg3 harg3 x2) (Rect.unit (s := S16x128) ![8, 0] S1x128.size inb_S16x128_S1x128_8_0).toLoadRect) (arg13.view.readCov (kernelRun0_A.sl.HS1_1 (F := F) c arg3 harg3 x2) (Rect.unit (s := S16x128) ![9, 0] S1x128.size inb_S16x128_S1x128_9_0).toLoadRect) (arg14.view.readCov (kernelRun0_A.sl.HS2_1 (F := F) c arg2 harg2 x1) (Rect.unit (s := S16x128) ![8, 0] S1x128.size inb_S16x128_S1x128_8_0).toLoadRect) (arg14.view.readCov (kernelRun0_A.sl.HS2_1 (F := F) c arg2 harg2 x1) (Rect.unit (s := S16x128) ![9, 0] S1x128.size inb_S16x128_S1x128_9_0).toLoadRect) (View.readAt (Elt F) arg7.view (Rect.unit (s := S1x64x256x128) ![0, 32, 0, 0] S1x1x256x128.size inb_S1x64x256x128_S1x1x256x128_0_32_0_0).toLoadRect (harg7.unread x6)) (View.readAt (Elt F) arg7.view (Rect.unit (s := S1x64x256x128) ![0, 33, 0, 0] S1x1x256x128.size inb_S1x64x256x128_S1x1x256x128_0_33_0_0).toLoadRect (harg7.unread x6)) (View.readAt (Elt F) arg7.view (Rect.unit (s := S1x64x256x128) ![0, 34, 0, 0] S1x1x256x128.size inb_S1x64x256x128_S1x1x256x128_0_34_0_0).toLoadRect (harg7.unread x6)) (View.readAt (Elt F) arg7.view (Rect.unit (s := S1x64x256x128) ![0, 35, 0, 0] S1x1x256x128.size inb_S1x64x256x128_S1x1x256x128_0_35_0_0).toLoadRect (harg7.unread x6)) (View.readAt (Elt F) arg7.view (Rect.unit (s := S1x64x256x128) ![0, 36, 0, 0] S1x1x256x128.size inb_S1x64x256x128_S1x1x256x128_0_36_0_0).toLoadRect (harg7.unread x6)) (View.readAt (Elt F) arg7.view (Rect.unit (s := S1x64x256x128) ![0, 37, 0, 0] S1x1x256x128.size inb_S1x64x256x128_S1x1x256x128_0_37_0_0).toLoadRect (harg7.unread x6)) (View.readAt (Elt F) arg7.view (Rect.unit (s := S1x64x256x128) ![0, 38, 0, 0] S1x1x256x128.size inb_S1x64x256x128_S1x1x256x128_0_38_0_0).toLoadRect (harg7.unread x6)) (View.readAt (Elt F) arg7.view (Rect.unit (s := S1x64x256x128) ![0, 39, 0, 0] S1x1x256x128.size inb_S1x64x256x128_S1x1x256x128_0_39_0_0).toLoadRect (harg7.unread x6))) (View.readAt (Elt F) arg8.view (Rect.unit (s := S1x64x256) ![0, 32, 0] S1x8x256.size inb_S1x64x256_S1x8x256_0_32_0).toLoadRect (harg8.unread x7)) (View.readAt (Elt F) arg4.view (Rect.unit (s := S1x64x256) ![0, 32, 0] S1x8x256.size inb_S1x64x256_S1x8x256_0_32_0).toLoadRect (harg4.unread x3)) (extractStridedSlice S8x1 ![32, 0] (kernelRun0_A.sl.r_2 (F := F) c arg5 harg5 x4) slices_S64x1_o32_0_S8x1) (extractStridedSlice S8x1 ![32, 0] (kernelRun0_A.sl.r_3 (F := F) c arg6 harg6 x5) slices_S64x1_o32_0_S8x1))⟩,
      ⟨Rect.unit (s := S1x64x256) ![0, 24, 0] S1x8x256.size inb_S1x64x256_S1x8x256_0_24_0, (outO (rows (kernelRun0_A.sl.v203 : IVec S8x128 32) (arg14.view.readCov (kernelRun0_A.sl.HS2_1 (F := F) c arg2 harg2 x1) (Rect.unit (s := S16x128) ![6, 0] S1x128.size inb_S16x128_S1x128_6_0).toLoadRect) (arg14.view.readCov (kernelRun0_A.sl.HS2_1 (F := F) c arg2 harg2 x1) (Rect.unit (s := S16x128) ![7, 0] S1x128.size inb_S16x128_S1x128_7_0).toLoadRect)) (rows (kernelRun0_A.sl.v203 : IVec S8x128 32) (arg13.view.readCov (kernelRun0_A.sl.HS1_1 (F := F) c arg3 harg3 x2) (Rect.unit (s := S16x128) ![6, 0] S1x128.size inb_S16x128_S1x128_6_0).toLoadRect) (arg13.view.readCov (kernelRun0_A.sl.HS1_1 (F := F) c arg3 harg3 x2) (Rect.unit (s := S16x128) ![7, 0] S1x128.size inb_S16x128_S1x128_7_0).toLoadRect)) (proj (kernelRun0_A.sl.v203 : IVec S8x128 32) (arg13.view.readCov (kernelRun0_A.sl.HS1_1 (F := F) c arg3 harg3 x2) (Rect.unit (s := S16x128) ![6, 0] S1x128.size inb_S16x128_S1x128_6_0).toLoadRect) (arg13.view.readCov (kernelRun0_A.sl.HS1_1 (F := F) c arg3 harg3 x2) (Rect.unit (s := S16x128) ![7, 0] S1x128.size inb_S16x128_S1x128_7_0).toLoadRect) (arg14.view.readCov (kernelRun0_A.sl.HS2_1 (F := F) c arg2 harg2 x1) (Rect.unit (s := S16x128) ![6, 0] S1x128.size inb_S16x128_S1x128_6_0).toLoadRect) (arg14.view.readCov (kernelRun0_A.sl.HS2_1 (F := F) c arg2 harg2 x1) (Rect.unit (s := S16x128) ![7, 0] S1x128.size inb_S16x128_S1x128_7_0).toLoadRect) (View.readAt (Elt F) arg7.view (Rect.unit (s := S1x64x256x128) ![0, 24, 0, 0] S1x1x256x128.size inb_S1x64x256x128_S1x1x256x128_0_24_0_0).toLoadRect (harg7.unread x6)) (View.readAt (Elt F) arg7.view (Rect.unit (s := S1x64x256x128) ![0, 25, 0, 0] S1x1x256x128.size inb_S1x64x256x128_S1x1x256x128_0_25_0_0).toLoadRect (harg7.unread x6)) (View.readAt (Elt F) arg7.view (Rect.unit (s := S1x64x256x128) ![0, 26, 0, 0] S1x1x256x128.size inb_S1x64x256x128_S1x1x256x128_0_26_0_0).toLoadRect (harg7.unread x6)) (View.readAt (Elt F) arg7.view (Rect.unit (s := S1x64x256x128) ![0, 27, 0, 0] S1x1x256x128.size inb_S1x64x256x128_S1x1x256x128_0_27_0_0).toLoadRect (harg7.unread x6)) (View.readAt (Elt F) arg7.view (Rect.unit (s := S1x64x256x128) ![0, 28, 0, 0] S1x1x256x128.size inb_S1x64x256x128_S1x1x256x128_0_28_0_0).toLoadRect (harg7.unread x6)) (View.readAt (Elt F) arg7.view (Rect.unit (s := S1x64x256x128) ![0, 29, 0, 0] S1x1x256x128.size inb_S1x64x256x128_S1x1x256x128_0_29_0_0).toLoadRect (harg7.unread x6)) (View.readAt (Elt F) arg7.view (Rect.unit (s := S1x64x256x128) ![0, 30, 0, 0] S1x1x256x128.size inb_S1x64x256x128_S1x1x256x128_0_30_0_0).toLoadRect (harg7.unread x6)) (View.readAt (Elt F) arg7.view (Rect.unit (s := S1x64x256x128) ![0, 31, 0, 0] S1x1x256x128.size inb_S1x64x256x128_S1x1x256x128_0_31_0_0).toLoadRect (harg7.unread x6))) (View.readAt (Elt F) arg8.view (Rect.unit (s := S1x64x256) ![0, 24, 0] S1x8x256.size inb_S1x64x256_S1x8x256_0_24_0).toLoadRect (harg8.unread x7)) (View.readAt (Elt F) arg4.view (Rect.unit (s := S1x64x256) ![0, 24, 0] S1x8x256.size inb_S1x64x256_S1x8x256_0_24_0).toLoadRect (harg4.unread x3)) (extractStridedSlice S8x1 ![24, 0] (kernelRun0_A.sl.r_2 (F := F) c arg5 harg5 x4) slices_S64x1_o24_0_S8x1) (extractStridedSlice S8x1 ![24, 0] (kernelRun0_A.sl.r_3 (F := F) c arg6 harg6 x5) slices_S64x1_o24_0_S8x1))⟩,
      ⟨Rect.unit (s := S1x64x256) ![0, 16, 0] S1x8x256.size inb_S1x64x256_S1x8x256_0_16_0, (outO (rows (kernelRun0_A.sl.v203 : IVec S8x128 32) (arg14.view.readCov (kernelRun0_A.sl.HS2_1 (F := F) c arg2 harg2 x1) (Rect.unit (s := S16x128) ![4, 0] S1x128.size inb_S16x128_S1x128_4_0).toLoadRect) (arg14.view.readCov (kernelRun0_A.sl.HS2_1 (F := F) c arg2 harg2 x1) (Rect.unit (s := S16x128) ![5, 0] S1x128.size inb_S16x128_S1x128_5_0).toLoadRect)) (rows (kernelRun0_A.sl.v203 : IVec S8x128 32) (arg13.view.readCov (kernelRun0_A.sl.HS1_1 (F := F) c arg3 harg3 x2) (Rect.unit (s := S16x128) ![4, 0] S1x128.size inb_S16x128_S1x128_4_0).toLoadRect) (arg13.view.readCov (kernelRun0_A.sl.HS1_1 (F := F) c arg3 harg3 x2) (Rect.unit (s := S16x128) ![5, 0] S1x128.size inb_S16x128_S1x128_5_0).toLoadRect)) (proj (kernelRun0_A.sl.v203 : IVec S8x128 32) (arg13.view.readCov (kernelRun0_A.sl.HS1_1 (F := F) c arg3 harg3 x2) (Rect.unit (s := S16x128) ![4, 0] S1x128.size inb_S16x128_S1x128_4_0).toLoadRect) (arg13.view.readCov (kernelRun0_A.sl.HS1_1 (F := F) c arg3 harg3 x2) (Rect.unit (s := S16x128) ![5, 0] S1x128.size inb_S16x128_S1x128_5_0).toLoadRect) (arg14.view.readCov (kernelRun0_A.sl.HS2_1 (F := F) c arg2 harg2 x1) (Rect.unit (s := S16x128) ![4, 0] S1x128.size inb_S16x128_S1x128_4_0).toLoadRect) (arg14.view.readCov (kernelRun0_A.sl.HS2_1 (F := F) c arg2 harg2 x1) (Rect.unit (s := S16x128) ![5, 0] S1x128.size inb_S16x128_S1x128_5_0).toLoadRect) (View.readAt (Elt F) arg7.view (Rect.unit (s := S1x64x256x128) ![0, 16, 0, 0] S1x1x256x128.size inb_S1x64x256x128_S1x1x256x128_0_16_0_0).toLoadRect (harg7.unread x6)) (View.readAt (Elt F) arg7.view (Rect.unit (s := S1x64x256x128) ![0, 17, 0, 0] S1x1x256x128.size inb_S1x64x256x128_S1x1x256x128_0_17_0_0).toLoadRect (harg7.unread x6)) (View.readAt (Elt F) arg7.view (Rect.unit (s := S1x64x256x128) ![0, 18, 0, 0] S1x1x256x128.size inb_S1x64x256x128_S1x1x256x128_0_18_0_0).toLoadRect (harg7.unread x6)) (View.readAt (Elt F) arg7.view (Rect.unit (s := S1x64x256x128) ![0, 19, 0, 0] S1x1x256x128.size inb_S1x64x256x128_S1x1x256x128_0_19_0_0).toLoadRect (harg7.unread x6)) (View.readAt (Elt F) arg7.view (Rect.unit (s := S1x64x256x128) ![0, 20, 0, 0] S1x1x256x128.size inb_S1x64x256x128_S1x1x256x128_0_20_0_0).toLoadRect (harg7.unread x6)) (View.readAt (Elt F) arg7.view (Rect.unit (s := S1x64x256x128) ![0, 21, 0, 0] S1x1x256x128.size inb_S1x64x256x128_S1x1x256x128_0_21_0_0).toLoadRect (harg7.unread x6)) (View.readAt (Elt F) arg7.view (Rect.unit (s := S1x64x256x128) ![0, 22, 0, 0] S1x1x256x128.size inb_S1x64x256x128_S1x1x256x128_0_22_0_0).toLoadRect (harg7.unread x6)) (View.readAt (Elt F) arg7.view (Rect.unit (s := S1x64x256x128) ![0, 23, 0, 0] S1x1x256x128.size inb_S1x64x256x128_S1x1x256x128_0_23_0_0).toLoadRect (harg7.unread x6))) (View.readAt (Elt F) arg8.view (Rect.unit (s := S1x64x256) ![0, 16, 0] S1x8x256.size inb_S1x64x256_S1x8x256_0_16_0).toLoadRect (harg8.unread x7)) (View.readAt (Elt F) arg4.view (Rect.unit (s := S1x64x256) ![0, 16, 0] S1x8x256.size inb_S1x64x256_S1x8x256_0_16_0).toLoadRect (harg4.unread x3)) (extractStridedSlice S8x1 ![16, 0] (kernelRun0_A.sl.r_2 (F := F) c arg5 harg5 x4) slices_S64x1_o16_0_S8x1) (extractStridedSlice S8x1 ![16, 0] (kernelRun0_A.sl.r_3 (F := F) c arg6 harg6 x5) slices_S64x1_o16_0_S8x1))⟩,
      ⟨Rect.unit (s := S1x64x256) ![0, 8, 0] S1x8x256.size inb_S1x64x256_S1x8x256_0_8_0, (outO (rows (kernelRun0_A.sl.v203 : IVec S8x128 32) (arg14.view.readCov (kernelRun0_A.sl.HS2_1 (F := F) c arg2 harg2 x1) (Rect.unit (s := S16x128) ![2, 0] S1x128.size inb_S16x128_S1x128_2_0).toLoadRect) (arg14.view.readCov (kernelRun0_A.sl.HS2_1 (F := F) c arg2 harg2 x1) (Rect.unit (s := S16x128) ![3, 0] S1x128.size inb_S16x128_S1x128_3_0).toLoadRect)) (rows (kernelRun0_A.sl.v203 : IVec S8x128 32) (arg13.view.readCov (kernelRun0_A.sl.HS1_1 (F := F) c arg3 harg3 x2) (Rect.unit (s := S16x128) ![2, 0] S1x128.size inb_S16x128_S1x128_2_0).toLoadRect) (arg13.view.readCov (kernelRun0_A.sl.HS1_1 (F := F) c arg3 harg3 x2) (Rect.unit (s := S16x128) ![3, 0] S1x128.size inb_S16x128_S1x128_3_0).toLoadRect)) (proj (kernelRun0_A.sl.v203 : IVec S8x128 32) (arg13.view.readCov (kernelRun0_A.sl.HS1_1 (F := F) c arg3 harg3 x2) (Rect.unit (s := S16x128) ![2, 0] S1x128.size inb_S16x128_S1x128_2_0).toLoadRect) (arg13.view.readCov (kernelRun0_A.sl.HS1_1 (F := F) c arg3 harg3 x2) (Rect.unit (s := S16x128) ![3, 0] S1x128.size inb_S16x128_S1x128_3_0).toLoadRect) (arg14.view.readCov (kernelRun0_A.sl.HS2_1 (F := F) c arg2 harg2 x1) (Rect.unit (s := S16x128) ![2, 0] S1x128.size inb_S16x128_S1x128_2_0).toLoadRect) (arg14.view.readCov (kernelRun0_A.sl.HS2_1 (F := F) c arg2 harg2 x1) (Rect.unit (s := S16x128) ![3, 0] S1x128.size inb_S16x128_S1x128_3_0).toLoadRect) (View.readAt (Elt F) arg7.view (Rect.unit (s := S1x64x256x128) ![0, 8, 0, 0] S1x1x256x128.size inb_S1x64x256x128_S1x1x256x128_0_8_0_0).toLoadRect (harg7.unread x6)) (View.readAt (Elt F) arg7.view (Rect.unit (s := S1x64x256x128) ![0, 9, 0, 0] S1x1x256x128.size inb_S1x64x256x128_S1x1x256x128_0_9_0_0).toLoadRect (harg7.unread x6)) (View.readAt (Elt F) arg7.view (Rect.unit (s := S1x64x256x128) ![0, 10, 0, 0] S1x1x256x128.size inb_S1x64x256x128_S1x1x256x128_0_10_0_0).toLoadRect (harg7.unread x6)) (View.readAt (Elt F) arg7.view (Rect.unit (s := S1x64x256x128) ![0, 11, 0, 0] S1x1x256x128.size inb_S1x64x256x128_S1x1x256x128_0_11_0_0).toLoadRect (harg7.unread x6)) (View.readAt (Elt F) arg7.view (Rect.unit (s := S1x64x256x128) ![0, 12, 0, 0] S1x1x256x128.size inb_S1x64x256x128_S1x1x256x128_0_12_0_0).toLoadRect (harg7.unread x6)) (View.readAt (Elt F) arg7.view (Rect.unit (s := S1x64x256x128) ![0, 13, 0, 0] S1x1x256x128.size inb_S1x64x256x128_S1x1x256x128_0_13_0_0).toLoadRect (harg7.unread x6)) (View.readAt (Elt F) arg7.view (Rect.unit (s := S1x64x256x128) ![0, 14, 0, 0] S1x1x256x128.size inb_S1x64x256x128_S1x1x256x128_0_14_0_0).toLoadRect (harg7.unread x6)) (View.readAt (Elt F) arg7.view (Rect.unit (s := S1x64x256x128) ![0, 15, 0, 0] S1x1x256x128.size inb_S1x64x256x128_S1x1x256x128_0_15_0_0).toLoadRect (harg7.unread x6))) (View.readAt (Elt F) arg8.view (Rect.unit (s := S1x64x256) ![0, 8, 0] S1x8x256.size inb_S1x64x256_S1x8x256_0_8_0).toLoadRect (harg8.unread x7)) (View.readAt (Elt F) arg4.view (Rect.unit (s := S1x64x256) ![0, 8, 0] S1x8x256.size inb_S1x64x256_S1x8x256_0_8_0).toLoadRect (harg4.unread x3)) (extractStridedSlice S8x1 ![8, 0] (kernelRun0_A.sl.r_2 (F := F) c arg5 harg5 x4) slices_S64x1_o8_0_S8x1) (extractStridedSlice S8x1 ![8, 0] (kernelRun0_A.sl.r_3 (F := F) c arg6 harg6 x5) slices_S64x1_o8_0_S8x1))⟩,
      ⟨Rect.unit (s := S1x64x256) ![0, 0, 0] S1x8x256.size inb_S1x64x256_S1x8x256_0_0_0, (outO (rows (kernelRun0_A.sl.v203 : IVec S8x128 32) (arg14.view.readCov (kernelRun0_A.sl.HS2_1 (F := F) c arg2 harg2 x1) (Rect.unit (s := S16x128) ![0, 0] S1x128.size inb_S16x128_S1x128_0_0).toLoadRect) (arg14.view.readCov (kernelRun0_A.sl.HS2_1 (F := F) c arg2 harg2 x1) (Rect.unit (s := S16x128) ![1, 0] S1x128.size inb_S16x128_S1x128_1_0).toLoadRect)) (rows (kernelRun0_A.sl.v203 : IVec S8x128 32) (arg13.view.readCov (kernelRun0_A.sl.HS1_1 (F := F) c arg3 harg3 x2) (Rect.unit (s := S16x128) ![0, 0] S1x128.size inb_S16x128_S1x128_0_0).toLoadRect) (arg13.view.readCov (kernelRun0_A.sl.HS1_1 (F := F) c arg3 harg3 x2) (Rect.unit (s := S16x128) ![1, 0] S1x128.size inb_S16x128_S1x128_1_0).toLoadRect)) (proj (kernelRun0_A.sl.v203 : IVec S8x128 32) (arg13.view.readCov (kernelRun0_A.sl.HS1_1 (F := F) c arg3 harg3 x2) (Rect.unit (s := S16x128) ![0, 0] S1x128.size inb_S16x128_S1x128_0_0).toLoadRect) (arg13.view.readCov (kernelRun0_A.sl.HS1_1 (F := F) c arg3 harg3 x2) (Rect.unit (s := S16x128) ![1, 0] S1x128.size inb_S16x128_S1x128_1_0).toLoadRect) (arg14.view.readCov (kernelRun0_A.sl.HS2_1 (F := F) c arg2 harg2 x1) (Rect.unit (s := S16x128) ![0, 0] S1x128.size inb_S16x128_S1x128_0_0).toLoadRect) (arg14.view.readCov (kernelRun0_A.sl.HS2_1 (F := F) c arg2 harg2 x1) (Rect.unit (s := S16x128) ![1, 0] S1x128.size inb_S16x128_S1x128_1_0).toLoadRect) (View.readAt (Elt F) arg7.view (Rect.unit (s := S1x64x256x128) ![0, 0, 0, 0] S1x1x256x128.size inb_S1x64x256x128_S1x1x256x128_0_0_0_0).toLoadRect (harg7.unread x6)) (View.readAt (Elt F) arg7.view (Rect.unit (s := S1x64x256x128) ![0, 1, 0, 0] S1x1x256x128.size inb_S1x64x256x128_S1x1x256x128_0_1_0_0).toLoadRect (harg7.unread x6)) (View.readAt (Elt F) arg7.view (Rect.unit (s := S1x64x256x128) ![0, 2, 0, 0] S1x1x256x128.size inb_S1x64x256x128_S1x1x256x128_0_2_0_0).toLoadRect (harg7.unread x6)) (View.readAt (Elt F) arg7.view (Rect.unit (s := S1x64x256x128) ![0, 3, 0, 0] S1x1x256x128.size inb_S1x64x256x128_S1x1x256x128_0_3_0_0).toLoadRect (harg7.unread x6)) (View.readAt (Elt F) arg7.view (Rect.unit (s := S1x64x256x128) ![0, 4, 0, 0] S1x1x256x128.size inb_S1x64x256x128_S1x1x256x128_0_4_0_0).toLoadRect (harg7.unread x6)) (View.readAt (Elt F) arg7.view (Rect.unit (s := S1x64x256x128) ![0, 5, 0, 0] S1x1x256x128.size inb_S1x64x256x128_S1x1x256x128_0_5_0_0).toLoadRect (harg7.unread x6)) (View.readAt (Elt F) arg7.view (Rect.unit (s := S1x64x256x128) ![0, 6, 0, 0] S1x1x256x128.size inb_S1x64x256x128_S1x1x256x128_0_6_0_0).toLoadRect (harg7.unread x6)) (View.readAt (Elt F) arg7.view (Rect.unit (s := S1x64x256x128) ![0, 7, 0, 0] S1x1x256x128.size inb_S1x64x256x128_S1x1x256x128_0_7_0_0).toLoadRect (harg7.unread x6))) (View.readAt (Elt F) arg8.view (Rect.unit (s := S1x64x256) ![0, 0, 0] S1x8x256.size inb_S1x64x256_S1x8x256_0_0_0).toLoadRect (harg8.unread x7)) (View.readAt (Elt F) arg4.view (Rect.unit (s := S1x64x256) ![0, 0, 0] S1x8x256.size inb_S1x64x256_S1x8x256_0_0_0).toLoadRect (harg4.unread x3)) (extractStridedSlice S8x1 ![0, 0] (kernelRun0_A.sl.r_2 (F := F) c arg5 harg5 x4) slices_S64x1_o0_0_S8x1) (extractStridedSlice S8x1 ![0, 0] (kernelRun0_A.sl.r_3 (F := F) c arg6 harg6 x5) slices_S64x1_o0_0_S8x1))⟩] := rfl

/-- The same as functions of the input blocks. -/
theorem out8_blk (c : Dev nD) (i : grid0.Coords) (arg1 : Memref sig .tc .vmem S128x128 .fp8e4m3) (harg1 : arg1.IsWhole) (arg2 : Memref sig .tc .vmem S1x16x128 .bf16) (harg2 : arg2.IsWhole) (arg3 : Memref sig .tc .vmem S1x16x128 .bf16) (harg3 : arg3.IsWhole) (arg4 : Memref sig .tc .vmem S1x64x256 .bf16) (harg4 : arg4.IsWhole) (arg5 : Memref sig .tc .vmem S1x1x64 .f32) (harg5 : arg5.IsWhole) (arg6 : Memref sig .tc .vmem S1x1x64 .f32) (harg6 : arg6.IsWhole) (arg7 : Memref sig .tc .vmem S1x64x256x128 .fp8e4m3) (harg7 : arg7.IsWhole) (arg8 : Memref sig .tc .vmem S1x64x256 .f32) (harg8 : arg8.IsWhole) (arg9 : Memref sig .tc .vmem S1x64x256 .bf16) (harg9 : arg9.IsWhole) (arg10 : Memref sig .tc .vmem S1x64x256x128 .fp8e4m3) (harg10 : arg10.IsWhole) (arg11 : Memref sig .tc .vmem S1x64x256 .f32) (harg11 : arg11.IsWhole) (arg12 : Memref sig .tc .vmem S16x128x128 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S64x256 .f32) (harg15 : arg15.IsWhole) (arg16 : Memref sig .tc .vmem S8x128x256 .f32) (harg16 : arg16.IsWhole) (x0 : Vec F S128x128 .fp8e4m3) (x1 : Vec F S1x16x128 .bf16) (x2 : Vec F S1x16x128 .bf16) (x3 : Vec F S1x64x256 .bf16) (x4 : Vec F S1x1x64 .f32) (x5 : Vec F S1x1x64 .f32) (x6 : Vec F S1x64x256x128 .fp8e4m3) (x7 : Vec F S1x64x256 .f32) :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).1 = [⟨Rect.unit (s := S1x64x256) ![0, 56, 0] S1x8x256.size inb_S1x64x256_S1x8x256_0_56_0, OB x1 x2 x3 x4 x5 x6 x7 56 (by decide) 14 (by decide)⟩,
      ⟨Rect.unit (s := S1x64x256) ![0, 48, 0] S1x8x256.size inb_S1x64x256_S1x8x256_0_48_0, OB x1 x2 x3 x4 x5 x6 x7 48 (by decide) 12 (by decide)⟩,
      ⟨Rect.unit (s := S1x64x256) ![0, 40, 0] S1x8x256.size inb_S1x64x256_S1x8x256_0_40_0, OB x1 x2 x3 x4 x5 x6 x7 40 (by decide) 10 (by decide)⟩,
      ⟨Rect.unit (s := S1x64x256) ![0, 32, 0] S1x8x256.size inb_S1x64x256_S1x8x256_0_32_0, OB x1 x2 x3 x4 x5 x6 x7 32 (by decide) 8 (by decide)⟩,
      ⟨Rect.unit (s := S1x64x256) ![0, 24, 0] S1x8x256.size inb_S1x64x256_S1x8x256_0_24_0, OB x1 x2 x3 x4 x5 x6 x7 24 (by decide) 6 (by decide)⟩,
      ⟨Rect.unit (s := S1x64x256) ![0, 16, 0] S1x8x256.size inb_S1x64x256_S1x8x256_0_16_0, OB x1 x2 x3 x4 x5 x6 x7 16 (by decide) 4 (by decide)⟩,
      ⟨Rect.unit (s := S1x64x256) ![0, 8, 0] S1x8x256.size inb_S1x64x256_S1x8x256_0_8_0, OB x1 x2 x3 x4 x5 x6 x7 8 (by decide) 2 (by decide)⟩,
      ⟨Rect.unit (s := S1x64x256) ![0, 0, 0] S1x8x256.size inb_S1x64x256_S1x8x256_0_0_0, OB x1 x2 x3 x4 x5 x6 x7 0 (by decide) 0 (by decide)⟩] := by
  rw [out8_raw]; simp only [ld_input, k_cov, q_cov, r2_eq, r3_eq, r10_eq, v203_eq]; rfl

end Cert.Delta

end
-- ==== Proof.Chunk0.lean ====
/- Block of heads 0 to 7: what its stores hold, from the point's input blocks. -/
module

public import proofs.«01_k».proof.Proof.Loads

@[expose] public section

set_option maxRecDepth 16384
set_option maxHeartbeats 4000000

noncomputable section

namespace Cert.Delta

open Idealize.ShloMosaic Idealize.SL.Sem Cert.KernelIdeal Cert.KernelIdeal.Gen

variable {F : FTy → Type} [FloatOps F]
variable (c : Dev nD) (arg1 : Memref sig .tc .vmem S128x128 .fp8e4m3) (harg1 : arg1.IsWhole) (arg2 : Memref sig .tc .vmem S1x16x128 .bf16) (harg2 : arg2.IsWhole)
  (arg3 : Memref sig .tc .vmem S1x16x128 .bf16) (harg3 : arg3.IsWhole) (arg4 : Memref sig .tc .vmem S1x64x256 .bf16) (harg4 : arg4.IsWhole)
  (arg5 : Memref sig .tc .vmem S1x1x64 .f32) (harg5 : arg5.IsWhole) (arg6 : Memref sig .tc .vmem S1x1x64 .f32) (harg6 : arg6.IsWhole)
  (arg7 : Memref sig .tc .vmem S1x64x256x128 .fp8e4m3) (harg7 : arg7.IsWhole) (arg8 : Memref sig .tc .vmem S1x64x256 .f32) (harg8 : arg8.IsWhole)
  (arg12 : Memref sig .tc .vmem S16x128x128 .f32) (arg13 : Memref sig .tc .vmem S16x128 .f32)
  (arg14 : Memref sig .tc .vmem S16x128 .f32) (arg15 : Memref sig .tc .vmem S64x256 .f32)
  (x0 : Vec F S128x128 .fp8e4m3) (x1 : Vec F S1x16x128 .bf16) (x2 : Vec F S1x16x128 .bf16) (x3 : Vec F S1x64x256 .bf16)
  (x4 : Vec F S1x1x64 .f32) (x5 : Vec F S1x1x64 .f32) (x6 : Vec F S1x64x256x128 .fp8e4m3) (x7 : Vec F S1x64x256 .f32)

/-- The store of the updates in units of the old codes, as the run leaves it. -/
theorem d_raw_0 (c : Dev nD) (arg2 : Memref sig .tc .vmem S1x16x128 .bf16) (harg2 : arg2.IsWhole) (arg3 : Memref sig .tc .vmem S1x16x128 .bf16) (harg3 : arg3.IsWhole) (arg4 : Memref sig .tc .vmem S1x64x256 .bf16) (harg4 : arg4.IsWhole) (arg5 : Memref sig .tc .vmem S1x1x64 .f32) (harg5 : arg5.IsWhole) (arg6 : Memref sig .tc .vmem S1x1x64 .f32) (harg6 : arg6.IsWhole) (arg7 : Memref sig .tc .vmem S1x64x256x128 .fp8e4m3) (harg7 : arg7.IsWhole) (arg8 : Memref sig .tc .vmem S1x64x256 .f32) (harg8 : arg8.IsWhole) (arg13 : Memref sig .tc .vmem S16x128 .f32) (arg14 : Memref sig .tc .vmem S16x128 .f32) (x1 : Vec F S1x16x128 .bf16) (x2 : Vec F S1x16x128 .bf16) (x3 : Vec F S1x64x256 .bf16) (x4 : Vec F S1x1x64 .f32) (x5 : Vec F S1x1x64 .f32) (x6 : Vec F S1x64x256x128 .fp8e4m3) (x7 : Vec F S1x64x256 .f32) :
    kernelRun0_A.sl.HS3_1 (F := F) c arg2 harg2 arg3 harg3 arg4 harg4 arg5 harg5 arg6 harg6 arg7 harg7 arg8 harg8 arg13 arg14 x1 x2 x3 x4 x5 x6 x7
      = ⟨Rect.unit ![0, 0] S8x256.size inb_S64x256_S8x256_0_0, inCodes (decayed (View.readAt (Elt F) arg8.view (Rect.unit (s := S1x64x256) ![0, 0, 0] S1x8x256.size inb_S1x64x256_S1x8x256_0_0_0).toLoadRect (harg8.unread x7)) (extractStridedSlice S8x1 ![0, 0] (kernelRun0_A.sl.r_2 (F := F) c arg5 harg5 x4) slices_S64x1_o0_0_S8x1)) (dk (rows (kernelRun0_A.sl.v203 : IVec S8x128 32) (arg13.view.readCov (kernelRun0_A.sl.HS1_1 (F := F) c arg3 harg3 x2) (Rect.unit (s := S16x128) ![0, 0] S1x128.size inb_S16x128_S1x128_0_0).toLoadRect) (arg13.view.readCov (kernelRun0_A.sl.HS1_1 (F := F) c arg3 harg3 x2) (Rect.unit (s := S16x128) ![1, 0] S1x128.size inb_S16x128_S1x128_1_0).toLoadRect)) (delta (proj (kernelRun0_A.sl.v203 : IVec S8x128 32) (arg13.view.readCov (kernelRun0_A.sl.HS1_1 (F := F) c arg3 harg3 x2) (Rect.unit (s := S16x128) ![0, 0] S1x128.size inb_S16x128_S1x128_0_0).toLoadRect) (arg13.view.readCov (kernelRun0_A.sl.HS1_1 (F := F) c arg3 harg3 x2) (Rect.unit (s := S16x128) ![1, 0] S1x128.size inb_S16x128_S1x128_1_0).toLoadRect) (arg14.view.readCov (kernelRun0_A.sl.HS2_1 (F := F) c arg2 harg2 x1) (Rect.unit (s := S16x128) ![0, 0] S1x128.size inb_S16x128_S1x128_0_0).toLoadRect) (arg14.view.readCov (kernelRun0_A.sl.HS2_1 (F := F) c arg2 harg2 x1) (Rect.unit (s := S16x128) ![1, 0] S1x128.size inb_S16x128_S1x128_1_0).toLoadRect) (View.readAt (Elt F) arg7.view (Rect.unit (s := S1x64x256x128) ![0, 0, 0, 0] S1x1x256x128.size inb_S1x64x256x128_S1x1x256x128_0_0_0_0).toLoadRect (harg7.unread x6)) (View.readAt (Elt F) arg7.view (Rect.unit (s := S1x64x256x128) ![0, 1, 0, 0] S1x1x256x128.size inb_S1x64x256x128_S1x1x256x128_0_1_0_0).toLoadRect (harg7.unread x6)) (View.readAt (Elt F) arg7.view (Rect.unit (s := S1x64x256x128) ![0, 2, 0, 0] S1x1x256x128.size inb_S1x64x256x128_S1x1x256x128_0_2_0_0).toLoadRect (harg7.unread x6)) (View.readAt (Elt F) arg7.view (Rect.unit (s := S1x64x256x128) ![0, 3, 0, 0] S1x1x256x128.size inb_S1x64x256x128_S1x1x256x128_0_3_0_0).toLoadRect (harg7.unread x6)) (View.readAt (Elt F) arg7.view (Rect.unit (s := S1x64x256x128) ![0, 4, 0, 0] S1x1x256x128.size inb_S1x64x256x128_S1x1x256x128_0_4_0_0).toLoadRect (harg7.unread x6)) (View.readAt (Elt F) arg7.view (Rect.unit (s := S1x64x256x128) ![0, 5, 0, 0] S1x1x256x128.size inb_S1x64x256x128_S1x1x256x128_0_5_0_0).toLoadRect (harg7.unread x6)) (View.readAt (Elt F) arg7.view (Rect.unit (s := S1x64x256x128) ![0, 6, 0, 0] S1x1x256x128.size inb_S1x64x256x128_S1x1x256x128_0_6_0_0).toLoadRect (harg7.unread x6)) (View.readAt (Elt F) arg7.view (Rect.unit (s := S1x64x256x128) ![0, 7, 0, 0] S1x1x256x128.size inb_S1x64x256x128_S1x1x256x128_0_7_0_0).toLoadRect (harg7.unread x6))) (View.readAt (Elt F) arg8.view (Rect.unit (s := S1x64x256) ![0, 0, 0] S1x8x256.size inb_S1x64x256_S1x8x256_0_0_0).toLoadRect (harg8.unread x7)) (View.readAt (Elt F) arg4.view (Rect.unit (s := S1x64x256) ![0, 0, 0] S1x8x256.size inb_S1x64x256_S1x8x256_0_0_0).toLoadRect (harg4.unread x3)) (extractStridedSlice S8x1 ![0, 0] (kernelRun0_A.sl.r_2 (F := F) c arg5 harg5 x4) slices_S64x1_o0_0_S8x1) (extractStridedSlice S8x1 ![0, 0] (kernelRun0_A.sl.r_3 (F := F) c arg6 harg6 x5) slices_S64x1_o0_0_S8x1)))⟩ :: [] := rfl

/-- The same as a function of the input blocks. -/
theorem d_blk_0 (c : Dev nD) (arg2 : Memref sig .tc .vmem S1x16x128 .bf16) (harg2 : arg2.IsWhole) (arg3 : Memref sig .tc .vmem S1x16x128 .bf16) (harg3 : arg3.IsWhole) (arg4 : Memref sig .tc .vmem S1x64x256 .bf16) (harg4 : arg4.IsWhole) (arg5 : Memref sig .tc .vmem S1x1x64 .f32) (harg5 : arg5.IsWhole) (arg6 : Memref sig .tc .vmem S1x1x64 .f32) (harg6 : arg6.IsWhole) (arg7 : Memref sig .tc .vmem S1x64x256x128 .fp8e4m3) (harg7 : arg7.IsWhole) (arg8 : Memref sig .tc .vmem S1x64x256 .f32) (harg8 : arg8.IsWhole) (arg13 : Memref sig .tc .vmem S16x128 .f32) (arg14 : Memref sig .tc .vmem S16x128 .f32) (x1 : Vec F S1x16x128 .bf16) (x2 : Vec F S1x16x128 .bf16) (x3 : Vec F S1x64x256 .bf16) (x4 : Vec F S1x1x64 .f32) (x5 : Vec F S1x1x64 .f32) (x6 : Vec F S1x64x256x128 .fp8e4m3) (x7 : Vec F S1x64x256 .f32) :
    kernelRun0_A.sl.HS3_1 (F := F) c arg2 harg2 arg3 harg3 arg4 harg4 arg5 harg5 arg6 harg6 arg7 harg7 arg8 harg8 arg13 arg14 x1 x2 x3 x4 x5 x6 x7
      = ⟨Rect.unit ![0, 0] S8x256.size inb_S64x256_S8x256_0_0, icB x1 x2 x3 x4 x5 x6 x7 0 (by decide) 0 (by decide)⟩ :: [] := by
  rw [d_raw_0]; simp only [ld_input, k_cov, q_cov, r2_eq, r3_eq, r10_eq, v203_eq, col_cov_0, col_cov_1]; rfl

/-- The store of the multipliers, as the run leaves it. -/
theorem m_raw_0 :
    kernelRun0_A.sl.HS3_2 (F := F) c arg1 harg1 arg2 harg2 arg3 harg3 arg4 harg4 arg5 harg5 arg6 harg6 arg7 harg7 arg8 harg8 arg12 arg13 arg14 arg15 x0 x1 x2 x3 x4 x5 x6 x7
      = ⟨Rect.unit ![0, 0] S8x256.size inb_S64x256_S8x256_0_0, mulRow (amax (newZ (kernelRun0_A.sl.r_10 (F := F) c arg1 harg1 x0) (View.readAt (Elt F) arg7.view (Rect.unit (s := S1x64x256x128) ![0, 0, 0, 0] S1x1x256x128.size inb_S1x64x256x128_S1x1x256x128_0_0_0_0).toLoadRect (harg7.unread x6)) (arg12.view.readCov (kernelRun0_A.sl.HS0_16 (F := F) c arg3 harg3 x2) (Rect.unit (s := S16x128x128) ![0, 0, 0] S1x128x128.size inb_S16x128x128_S1x128x128_0_0_0).toLoadRect) (arg15.view.readCov (kernelRun0_A.sl.HS3_1 (F := F) c arg2 harg2 arg3 harg3 arg4 harg4 arg5 harg5 arg6 harg6 arg7 harg7 arg8 harg8 arg13 arg14 x1 x2 x3 x4 x5 x6 x7) (Rect.unit (s := S64x256) ![0, 0] S1x256.size inb_S64x256_S1x256_0_0).toLoadRect)) (newZ (kernelRun0_A.sl.r_10 (F := F) c arg1 harg1 x0) (View.readAt (Elt F) arg7.view (Rect.unit (s := S1x64x256x128) ![0, 1, 0, 0] S1x1x256x128.size inb_S1x64x256x128_S1x1x256x128_0_1_0_0).toLoadRect (harg7.unread x6)) (arg12.view.readCov (kernelRun0_A.sl.HS0_16 (F := F) c arg3 harg3 x2) (Rect.unit (s := S16x128x128) ![0, 0, 0] S1x128x128.size inb_S16x128x128_S1x128x128_0_0_0).toLoadRect) (arg15.view.readCov (kernelRun0_A.sl.HS3_1 (F := F) c arg2 harg2 arg3 harg3 arg4 harg4 arg5 harg5 arg6 harg6 arg7 harg7 arg8 harg8 arg13 arg14 x1 x2 x3 x4 x5 x6 x7) (Rect.unit (s := S64x256) ![1, 0] S1x256.size inb_S64x256_S1x256_1_0).toLoadRect)) (newZ (kernelRun0_A.sl.r_10 (F := F) c arg1 harg1 x0) (View.readAt (Elt F) arg7.view (Rect.unit (s := S1x64x256x128) ![0, 2, 0, 0] S1x1x256x128.size inb_S1x64x256x128_S1x1x256x128_0_2_0_0).toLoadRect (harg7.unread x6)) (arg12.view.readCov (kernelRun0_A.sl.HS0_16 (F := F) c arg3 harg3 x2) (Rect.unit (s := S16x128x128) ![0, 0, 0] S1x128x128.size inb_S16x128x128_S1x128x128_0_0_0).toLoadRect) (arg15.view.readCov (kernelRun0_A.sl.HS3_1 (F := F) c arg2 harg2 arg3 harg3 arg4 harg4 arg5 harg5 arg6 harg6 arg7 harg7 arg8 harg8 arg13 arg14 x1 x2 x3 x4 x5 x6 x7) (Rect.unit (s := S64x256) ![2, 0] S1x256.size inb_S64x256_S1x256_2_0).toLoadRect)) (newZ (kernelRun0_A.sl.r_10 (F := F) c arg1 harg1 x0) (View.readAt (Elt F) arg7.view (Rect.unit (s := S1x64x256x128) ![0, 3, 0, 0] S1x1x256x128.size inb_S1x64x256x128_S1x1x256x128_0_3_0_0).toLoadRect (harg7.unread x6)) (arg12.view.readCov (kernelRun0_A.sl.HS0_16 (F := F) c arg3 harg3 x2) (Rect.unit (s := S16x128x128) ![0, 0, 0] S1x128x128.size inb_S16x128x128_S1x128x128_0_0_0).toLoadRect) (arg15.view.readCov (kernelRun0_A.sl.HS3_1 (F := F) c arg2 harg2 arg3 harg3 arg4 harg4 arg5 harg5 arg6 harg6 arg7 harg7 arg8 harg8 arg13 arg14 x1 x2 x3 x4 x5 x6 x7) (Rect.unit (s := S64x256) ![3, 0] S1x256.size inb_S64x256_S1x256_3_0).toLoadRect)) (newZ (kernelRun0_A.sl.r_10 (F := F) c arg1 harg1 x0) (View.readAt (Elt F) arg7.view (Rect.unit (s := S1x64x256x128) ![0, 4, 0, 0] S1x1x256x128.size inb_S1x64x256x128_S1x1x256x128_0_4_0_0).toLoadRect (harg7.unread x6)) (arg12.view.readCov (kernelRun0_A.sl.HS0_16 (F := F) c arg3 harg3 x2) (Rect.unit (s := S16x128x128) ![1, 0, 0] S1x128x128.size inb_S16x128x128_S1x128x128_1_0_0).toLoadRect) (arg15.view.readCov (kernelRun0_A.sl.HS3_1 (F := F) c arg2 harg2 arg3 harg3 arg4 harg4 arg5 harg5 arg6 harg6 arg7 harg7 arg8 harg8 arg13 arg14 x1 x2 x3 x4 x5 x6 x7) (Rect.unit (s := S64x256) ![4, 0] S1x256.size inb_S64x256_S1x256_4_0).toLoadRect)) (newZ (kernelRun0_A.sl.r_10 (F := F) c arg1 harg1 x0) (View.readAt (Elt F) arg7.view (Rect.unit (s := S1x64x256x128) ![0, 5, 0, 0] S1x1x256x128.size inb_S1x64x256x128_S1x1x256x128_0_5_0_0).toLoadRect (harg7.unread x6)) (arg12.view.readCov (kernelRun0_A.sl.HS0_16 (F := F) c arg3 harg3 x2) (Rect.unit (s := S16x128x128) ![1, 0, 0] S1x128x128.size inb_S16x128x128_S1x128x128_1_0_0).toLoadRect) (arg15.view.readCov (kernelRun0_A.sl.HS3_1 (F := F) c arg2 harg2 arg3 harg3 arg4 harg4 arg5 harg5 arg6 harg6 arg7 harg7 arg8 harg8 arg13 arg14 x1 x2 x3 x4 x5 x6 x7) (Rect.unit (s := S64x256) ![5, 0] S1x256.size inb_S64x256_S1x256_5_0).toLoadRect)) (newZ (kernelRun0_A.sl.r_10 (F := F) c arg1 harg1 x0) (View.readAt (Elt F) arg7.view (Rect.unit (s := S1x64x256x128) ![0, 6, 0, 0] S1x1x256x128.size inb_S1x64x256x128_S1x1x256x128_0_6_0_0).toLoadRect (harg7.unread x6)) (arg12.view.readCov (kernelRun0_A.sl.HS0_16 (F := F) c arg3 harg3 x2) (Rect.unit (s := S16x128x128) ![1, 0, 0] S1x128x128.size inb_S16x128x128_S1x128x128_1_0_0).toLoadRect) (arg15.view.readCov (kernelRun0_A.sl.HS3_1 (F := F) c arg2 harg2 arg3 harg3 arg4 harg4 arg5 harg5 arg6 harg6 arg7 harg7 arg8 harg8 arg13 arg14 x1 x2 x3 x4 x5 x6 x7) (Rect.unit (s := S64x256) ![6, 0] S1x256.size inb_S64x256_S1x256_6_0).toLoadRect)) (newZ (kernelRun0_A.sl.r_10 (F := F) c arg1 harg1 x0) (View.readAt (Elt F) arg7.view (Rect.unit (s := S1x64x256x128) ![0, 7, 0, 0] S1x1x256x128.size inb_S1x64x256x128_S1x1x256x128_0_7_0_0).toLoadRect (harg7.unread x6)) (arg12.view.readCov (kernelRun0_A.sl.HS0_16 (F := F) c arg3 harg3 x2) (Rect.unit (s := S16x128x128) ![1, 0, 0] S1x128x128.size inb_S16x128x128_S1x128x128_1_0_0).toLoadRect) (arg15.view.readCov (kernelRun0_A.sl.HS3_1 (F := F) c arg2 harg2 arg3 harg3 arg4 harg4 arg5 harg5 arg6 harg6 arg7 harg7 arg8 harg8 arg13 arg14 x1 x2 x3 x4 x5 x6 x7) (Rect.unit (s := S64x256) ![7, 0] S1x256.size inb_S64x256_S1x256_7_0).toLoadRect)) (decayed (View.readAt (Elt F) arg8.view (Rect.unit (s := S1x64x256) ![0, 0, 0] S1x8x256.size inb_S1x64x256_S1x8x256_0_0_0).toLoadRect (harg8.unread x7)) (extractStridedSlice S8x1 ![0, 0] (kernelRun0_A.sl.r_2 (F := F) c arg5 harg5 x4) slices_S64x1_o0_0_S8x1)) (dk (rows (kernelRun0_A.sl.v203 : IVec S8x128 32) (arg13.view.readCov (kernelRun0_A.sl.HS1_1 (F := F) c arg3 harg3 x2) (Rect.unit (s := S16x128) ![0, 0] S1x128.size inb_S16x128_S1x128_0_0).toLoadRect) (arg13.view.readCov (kernelRun0_A.sl.HS1_1 (F := F) c arg3 harg3 x2) (Rect.unit (s := S16x128) ![1, 0] S1x128.size inb_S16x128_S1x128_1_0).toLoadRect)) (delta (proj (kernelRun0_A.sl.v203 : IVec S8x128 32) (arg13.view.readCov (kernelRun0_A.sl.HS1_1 (F := F) c arg3 harg3 x2) (Rect.unit (s := S16x128) ![0, 0] S1x128.size inb_S16x128_S1x128_0_0).toLoadRect) (arg13.view.readCov (kernelRun0_A.sl.HS1_1 (F := F) c arg3 harg3 x2) (Rect.unit (s := S16x128) ![1, 0] S1x128.size inb_S16x128_S1x128_1_0).toLoadRect) (arg14.view.readCov (kernelRun0_A.sl.HS2_1 (F := F) c arg2 harg2 x1) (Rect.unit (s := S16x128) ![0, 0] S1x128.size inb_S16x128_S1x128_0_0).toLoadRect) (arg14.view.readCov (kernelRun0_A.sl.HS2_1 (F := F) c arg2 harg2 x1) (Rect.unit (s := S16x128) ![1, 0] S1x128.size inb_S16x128_S1x128_1_0).toLoadRect) (View.readAt (Elt F) arg7.view (Rect.unit (s := S1x64x256x128) ![0, 0, 0, 0] S1x1x256x128.size inb_S1x64x256x128_S1x1x256x128_0_0_0_0).toLoadRect (harg7.unread x6)) (View.readAt (Elt F) arg7.view (Rect.unit (s := S1x64x256x128) ![0, 1, 0, 0] S1x1x256x128.size inb_S1x64x256x128_S1x1x256x128_0_1_0_0).toLoadRect (harg7.unread x6)) (View.readAt (Elt F) arg7.view (Rect.unit (s := S1x64x256x128) ![0, 2, 0, 0] S1x1x256x128.size inb_S1x64x256x128_S1x1x256x128_0_2_0_0).toLoadRect (harg7.unread x6)) (View.readAt (Elt F) arg7.view (Rect.unit (s := S1x64x256x128) ![0, 3, 0, 0] S1x1x256x128.size inb_S1x64x256x128_S1x1x256x128_0_3_0_0).toLoadRect (harg7.unread x6)) (View.readAt (Elt F) arg7.view (Rect.unit (s := S1x64x256x128) ![0, 4, 0, 0] S1x1x256x128.size inb_S1x64x256x128_S1x1x256x128_0_4_0_0).toLoadRect (harg7.unread x6)) (View.readAt (Elt F) arg7.view (Rect.unit (s := S1x64x256x128) ![0, 5, 0, 0] S1x1x256x128.size inb_S1x64x256x128_S1x1x256x128_0_5_0_0).toLoadRect (harg7.unread x6)) (View.readAt (Elt F) arg7.view (Rect.unit (s := S1x64x256x128) ![0, 6, 0, 0] S1x1x256x128.size inb_S1x64x256x128_S1x1x256x128_0_6_0_0).toLoadRect (harg7.unread x6)) (View.readAt (Elt F) arg7.view (Rect.unit (s := S1x64x256x128) ![0, 7, 0, 0] S1x1x256x128.size inb_S1x64x256x128_S1x1x256x128_0_7_0_0).toLoadRect (harg7.unread x6))) (View.readAt (Elt F) arg8.view (Rect.unit (s := S1x64x256) ![0, 0, 0] S1x8x256.size inb_S1x64x256_S1x8x256_0_0_0).toLoadRect (harg8.unread x7)) (View.readAt (Elt F) arg4.view (Rect.unit (s := S1x64x256) ![0, 0, 0] S1x8x256.size inb_S1x64x256_S1x8x256_0_0_0).toLoadRect (harg4.unread x3)) (extractStridedSlice S8x1 ![0, 0] (kernelRun0_A.sl.r_2 (F := F) c arg5 harg5 x4) slices_S64x1_o0_0_S8x1) (extractStridedSlice S8x1 ![0, 0] (kernelRun0_A.sl.r_3 (F := F) c arg6 harg6 x5) slices_S64x1_o0_0_S8x1)))) (decayed (View.readAt (Elt F) arg8.view (Rect.unit (s := S1x64x256) ![0, 0, 0] S1x8x256.size inb_S1x64x256_S1x8x256_0_0_0).toLoadRect (harg8.unread x7)) (extractStridedSlice S8x1 ![0, 0] (kernelRun0_A.sl.r_2 (F := F) c arg5 harg5 x4) slices_S64x1_o0_0_S8x1)) (dk (rows (kernelRun0_A.sl.v203 : IVec S8x128 32) (arg13.view.readCov (kernelRun0_A.sl.HS1_1 (F := F) c arg3 harg3 x2) (Rect.unit (s := S16x128) ![0, 0] S1x128.size inb_S16x128_S1x128_0_0).toLoadRect) (arg13.view.readCov (kernelRun0_A.sl.HS1_1 (F := F) c arg3 harg3 x2) (Rect.unit (s := S16x128) ![1, 0] S1x128.size inb_S16x128_S1x128_1_0).toLoadRect)) (delta (proj (kernelRun0_A.sl.v203 : IVec S8x128 32) (arg13.view.readCov (kernelRun0_A.sl.HS1_1 (F := F) c arg3 harg3 x2) (Rect.unit (s := S16x128) ![0, 0] S1x128.size inb_S16x128_S1x128_0_0).toLoadRect) (arg13.view.readCov (kernelRun0_A.sl.HS1_1 (F := F) c arg3 harg3 x2) (Rect.unit (s := S16x128) ![1, 0] S1x128.size inb_S16x128_S1x128_1_0).toLoadRect) (arg14.view.readCov (kernelRun0_A.sl.HS2_1 (F := F) c arg2 harg2 x1) (Rect.unit (s := S16x128) ![0, 0] S1x128.size inb_S16x128_S1x128_0_0).toLoadRect) (arg14.view.readCov (kernelRun0_A.sl.HS2_1 (F := F) c arg2 harg2 x1) (Rect.unit (s := S16x128) ![1, 0] S1x128.size inb_S16x128_S1x128_1_0).toLoadRect) (View.readAt (Elt F) arg7.view (Rect.unit (s := S1x64x256x128) ![0, 0, 0, 0] S1x1x256x128.size inb_S1x64x256x128_S1x1x256x128_0_0_0_0).toLoadRect (harg7.unread x6)) (View.readAt (Elt F) arg7.view (Rect.unit (s := S1x64x256x128) ![0, 1, 0, 0] S1x1x256x128.size inb_S1x64x256x128_S1x1x256x128_0_1_0_0).toLoadRect (harg7.unread x6)) (View.readAt (Elt F) arg7.view (Rect.unit (s := S1x64x256x128) ![0, 2, 0, 0] S1x1x256x128.size inb_S1x64x256x128_S1x1x256x128_0_2_0_0).toLoadRect (harg7.unread x6)) (View.readAt (Elt F) arg7.view (Rect.unit (s := S1x64x256x128) ![0, 3, 0, 0] S1x1x256x128.size inb_S1x64x256x128_S1x1x256x128_0_3_0_0).toLoadRect (harg7.unread x6)) (View.readAt (Elt F) arg7.view (Rect.unit (s := S1x64x256x128) ![0, 4, 0, 0] S1x1x256x128.size inb_S1x64x256x128_S1x1x256x128_0_4_0_0).toLoadRect (harg7.unread x6)) (View.readAt (Elt F) arg7.view (Rect.unit (s := S1x64x256x128) ![0, 5, 0, 0] S1x1x256x128.size inb_S1x64x256x128_S1x1x256x128_0_5_0_0).toLoadRect (harg7.unread x6)) (View.readAt (Elt F) arg7.view (Rect.unit (s := S1x64x256x128) ![0, 6, 0, 0] S1x1x256x128.size inb_S1x64x256x128_S1x1x256x128_0_6_0_0).toLoadRect (harg7.unread x6)) (View.readAt (Elt F) arg7.view (Rect.unit (s := S1x64x256x128) ![0, 7, 0, 0] S1x1x256x128.size inb_S1x64x256x128_S1x1x256x128_0_7_0_0).toLoadRect (harg7.unread x6))) (View.readAt (Elt F) arg8.view (Rect.unit (s := S1x64x256) ![0, 0, 0] S1x8x256.size inb_S1x64x256_S1x8x256_0_0_0).toLoadRect (harg8.unread x7)) (View.readAt (Elt F) arg4.view (Rect.unit (s := S1x64x256) ![0, 0, 0] S1x8x256.size inb_S1x64x256_S1x8x256_0_0_0).toLoadRect (harg4.unread x3)) (extractStridedSlice S8x1 ![0, 0] (kernelRun0_A.sl.r_2 (F := F) c arg5 harg5 x4) slices_S64x1_o0_0_S8x1) (extractStridedSlice S8x1 ![0, 0] (kernelRun0_A.sl.r_3 (F := F) c arg6 harg6 x5) slices_S64x1_o0_0_S8x1)))⟩ :: kernelRun0_A.sl.HS3_1 (F := F) c arg2 harg2 arg3 harg3 arg4 harg4 arg5 harg5 arg6 harg6 arg7 harg7 arg8 harg8 arg13 arg14 x1 x2 x3 x4 x5 x6 x7 := rfl

/-- The same as a function of the input blocks. -/
theorem m_blk_0 :
    kernelRun0_A.sl.HS3_2 (F := F) c arg1 harg1 arg2 harg2 arg3 harg3 arg4 harg4 arg5 harg5 arg6 harg6 arg7 harg7 arg8 harg8 arg12 arg13 arg14 arg15 x0 x1 x2 x3 x4 x5 x6 x7
      = ⟨Rect.unit ![0, 0] S8x256.size inb_S64x256_S8x256_0_0, mB x0 x1 x2 x3 x4 x5 x6 x7 0 (by decide) 0 (by decide)⟩ :: kernelRun0_A.sl.HS3_1 (F := F) c arg2 harg2 arg3 harg3 arg4 harg4 arg5 harg5 arg6 harg6 arg7 harg7 arg8 harg8 arg13 arg14 x1 x2 x3 x4 x5 x6 x7 := by
  rw [m_raw_0]; simp only [d_blk_0, ld_input, k_cov, q_cov, r2_eq, r3_eq, r10_eq, v203_eq, col_cov_0, col_cov_1, cov_row _ 0 0 0 (by decide) rfl, cov_row _ 0 1 1 (by decide) rfl, cov_row _ 0 2 2 (by decide) rfl, cov_row _ 0 3 3 (by decide) rfl, cov_row _ 0 4 4 (by decide) rfl, cov_row _ 0 5 5 (by decide) rfl, cov_row _ 0 6 6 (by decide) rfl, cov_row _ 0 7 7 (by decide) rfl]; rfl

/-- The stores of the new states, as the run leaves them. -/
theorem z_raw_0 :
    kernelRun0_A.sl.HS4_8 (F := F) c arg1 harg1 arg2 harg2 arg3 harg3 arg4 harg4 arg5 harg5 arg6 harg6 arg7 harg7 arg8 harg8 arg12 arg13 arg14 arg15 x0 x1 x2 x3 x4 x5 x6 x7
      = states (newZ (kernelRun0_A.sl.r_10 (F := F) c arg1 harg1 x0) (View.readAt (Elt F) arg7.view (Rect.unit (s := S1x64x256x128) ![0, 0, 0, 0] S1x1x256x128.size inb_S1x64x256x128_S1x1x256x128_0_0_0_0).toLoadRect (harg7.unread x6)) (arg12.view.readCov (kernelRun0_A.sl.HS0_16 (F := F) c arg3 harg3 x2) (Rect.unit (s := S16x128x128) ![0, 0, 0] S1x128x128.size inb_S16x128x128_S1x128x128_0_0_0).toLoadRect) (arg15.view.readCov (kernelRun0_A.sl.HS3_1 (F := F) c arg2 harg2 arg3 harg3 arg4 harg4 arg5 harg5 arg6 harg6 arg7 harg7 arg8 harg8 arg13 arg14 x1 x2 x3 x4 x5 x6 x7) (Rect.unit (s := S64x256) ![0, 0] S1x256.size inb_S64x256_S1x256_0_0).toLoadRect)) (newZ (kernelRun0_A.sl.r_10 (F := F) c arg1 harg1 x0) (View.readAt (Elt F) arg7.view (Rect.unit (s := S1x64x256x128) ![0, 1, 0, 0] S1x1x256x128.size inb_S1x64x256x128_S1x1x256x128_0_1_0_0).toLoadRect (harg7.unread x6)) (arg12.view.readCov (kernelRun0_A.sl.HS0_16 (F := F) c arg3 harg3 x2) (Rect.unit (s := S16x128x128) ![0, 0, 0] S1x128x128.size inb_S16x128x128_S1x128x128_0_0_0).toLoadRect) (arg15.view.readCov (kernelRun0_A.sl.HS3_1 (F := F) c arg2 harg2 arg3 harg3 arg4 harg4 arg5 harg5 arg6 harg6 arg7 harg7 arg8 harg8 arg13 arg14 x1 x2 x3 x4 x5 x6 x7) (Rect.unit (s := S64x256) ![1, 0] S1x256.size inb_S64x256_S1x256_1_0).toLoadRect)) (newZ (kernelRun0_A.sl.r_10 (F := F) c arg1 harg1 x0) (View.readAt (Elt F) arg7.view (Rect.unit (s := S1x64x256x128) ![0, 2, 0, 0] S1x1x256x128.size inb_S1x64x256x128_S1x1x256x128_0_2_0_0).toLoadRect (harg7.unread x6)) (arg12.view.readCov (kernelRun0_A.sl.HS0_16 (F := F) c arg3 harg3 x2) (Rect.unit (s := S16x128x128) ![0, 0, 0] S1x128x128.size inb_S16x128x128_S1x128x128_0_0_0).toLoadRect) (arg15.view.readCov (kernelRun0_A.sl.HS3_1 (F := F) c arg2 harg2 arg3 harg3 arg4 harg4 arg5 harg5 arg6 harg6 arg7 harg7 arg8 harg8 arg13 arg14 x1 x2 x3 x4 x5 x6 x7) (Rect.unit (s := S64x256) ![2, 0] S1x256.size inb_S64x256_S1x256_2_0).toLoadRect)) (newZ (kernelRun0_A.sl.r_10 (F := F) c arg1 harg1 x0) (View.readAt (Elt F) arg7.view (Rect.unit (s := S1x64x256x128) ![0, 3, 0, 0] S1x1x256x128.size inb_S1x64x256x128_S1x1x256x128_0_3_0_0).toLoadRect (harg7.unread x6)) (arg12.view.readCov (kernelRun0_A.sl.HS0_16 (F := F) c arg3 harg3 x2) (Rect.unit (s := S16x128x128) ![0, 0, 0] S1x128x128.size inb_S16x128x128_S1x128x128_0_0_0).toLoadRect) (arg15.view.readCov (kernelRun0_A.sl.HS3_1 (F := F) c arg2 harg2 arg3 harg3 arg4 harg4 arg5 harg5 arg6 harg6 arg7 harg7 arg8 harg8 arg13 arg14 x1 x2 x3 x4 x5 x6 x7) (Rect.unit (s := S64x256) ![3, 0] S1x256.size inb_S64x256_S1x256_3_0).toLoadRect)) (newZ (kernelRun0_A.sl.r_10 (F := F) c arg1 harg1 x0) (View.readAt (Elt F) arg7.view (Rect.unit (s := S1x64x256x128) ![0, 4, 0, 0] S1x1x256x128.size inb_S1x64x256x128_S1x1x256x128_0_4_0_0).toLoadRect (harg7.unread x6)) (arg12.view.readCov (kernelRun0_A.sl.HS0_16 (F := F) c arg3 harg3 x2) (Rect.unit (s := S16x128x128) ![1, 0, 0] S1x128x128.size inb_S16x128x128_S1x128x128_1_0_0).toLoadRect) (arg15.view.readCov (kernelRun0_A.sl.HS3_1 (F := F) c arg2 harg2 arg3 harg3 arg4 harg4 arg5 harg5 arg6 harg6 arg7 harg7 arg8 harg8 arg13 arg14 x1 x2 x3 x4 x5 x6 x7) (Rect.unit (s := S64x256) ![4, 0] S1x256.size inb_S64x256_S1x256_4_0).toLoadRect)) (newZ (kernelRun0_A.sl.r_10 (F := F) c arg1 harg1 x0) (View.readAt (Elt F) arg7.view (Rect.unit (s := S1x64x256x128) ![0, 5, 0, 0] S1x1x256x128.size inb_S1x64x256x128_S1x1x256x128_0_5_0_0).toLoadRect (harg7.unread x6)) (arg12.view.readCov (kernelRun0_A.sl.HS0_16 (F := F) c arg3 harg3 x2) (Rect.unit (s := S16x128x128) ![1, 0, 0] S1x128x128.size inb_S16x128x128_S1x128x128_1_0_0).toLoadRect) (arg15.view.readCov (kernelRun0_A.sl.HS3_1 (F := F) c arg2 harg2 arg3 harg3 arg4 harg4 arg5 harg5 arg6 harg6 arg7 harg7 arg8 harg8 arg13 arg14 x1 x2 x3 x4 x5 x6 x7) (Rect.unit (s := S64x256) ![5, 0] S1x256.size inb_S64x256_S1x256_5_0).toLoadRect)) (newZ (kernelRun0_A.sl.r_10 (F := F) c arg1 harg1 x0) (View.readAt (Elt F) arg7.view (Rect.unit (s := S1x64x256x128) ![0, 6, 0, 0] S1x1x256x128.size inb_S1x64x256x128_S1x1x256x128_0_6_0_0).toLoadRect (harg7.unread x6)) (arg12.view.readCov (kernelRun0_A.sl.HS0_16 (F := F) c arg3 harg3 x2) (Rect.unit (s := S16x128x128) ![1, 0, 0] S1x128x128.size inb_S16x128x128_S1x128x128_1_0_0).toLoadRect) (arg15.view.readCov (kernelRun0_A.sl.HS3_1 (F := F) c arg2 harg2 arg3 harg3 arg4 harg4 arg5 harg5 arg6 harg6 arg7 harg7 arg8 harg8 arg13 arg14 x1 x2 x3 x4 x5 x6 x7) (Rect.unit (s := S64x256) ![6, 0] S1x256.size inb_S64x256_S1x256_6_0).toLoadRect)) (newZ (kernelRun0_A.sl.r_10 (F := F) c arg1 harg1 x0) (View.readAt (Elt F) arg7.view (Rect.unit (s := S1x64x256x128) ![0, 7, 0, 0] S1x1x256x128.size inb_S1x64x256x128_S1x1x256x128_0_7_0_0).toLoadRect (harg7.unread x6)) (arg12.view.readCov (kernelRun0_A.sl.HS0_16 (F := F) c arg3 harg3 x2) (Rect.unit (s := S16x128x128) ![1, 0, 0] S1x128x128.size inb_S16x128x128_S1x128x128_1_0_0).toLoadRect) (arg15.view.readCov (kernelRun0_A.sl.HS3_1 (F := F) c arg2 harg2 arg3 harg3 arg4 harg4 arg5 harg5 arg6 harg6 arg7 harg7 arg8 harg8 arg13 arg14 x1 x2 x3 x4 x5 x6 x7) (Rect.unit (s := S64x256) ![7, 0] S1x256.size inb_S64x256_S1x256_7_0).toLoadRect)) ([]) := rfl

/-- The same as functions of the input blocks. -/
theorem z_blk_0 :
    kernelRun0_A.sl.HS4_8 (F := F) c arg1 harg1 arg2 harg2 arg3 harg3 arg4 harg4 arg5 harg5 arg6 harg6 arg7 harg7 arg8 harg8 arg12 arg13 arg14 arg15 x0 x1 x2 x3 x4 x5 x6 x7
      = states (zB x0 x1 x2 x3 x4 x5 x6 x7 0 (by decide) 0 (by decide) 0 (by decide) 0 (by decide)) (zB x0 x1 x2 x3 x4 x5 x6 x7 0 (by decide) 0 (by decide) 1 (by decide) 0 (by decide)) (zB x0 x1 x2 x3 x4 x5 x6 x7 0 (by decide) 0 (by decide) 2 (by decide) 0 (by decide)) (zB x0 x1 x2 x3 x4 x5 x6 x7 0 (by decide) 0 (by decide) 3 (by decide) 0 (by decide)) (zB x0 x1 x2 x3 x4 x5 x6 x7 0 (by decide) 0 (by decide) 4 (by decide) 1 (by decide)) (zB x0 x1 x2 x3 x4 x5 x6 x7 0 (by decide) 0 (by decide) 5 (by decide) 1 (by decide)) (zB x0 x1 x2 x3 x4 x5 x6 x7 0 (by decide) 0 (by decide) 6 (by decide) 1 (by decide)) (zB x0 x1 x2 x3 x4 x5 x6 x7 0 (by decide) 0 (by decide) 7 (by decide) 1 (by decide)) ([]) := by
  rw [z_raw_0]; simp only [d_blk_0, ld_input, k_cov, q_cov, r2_eq, r3_eq, r10_eq, v203_eq, col_cov_0, col_cov_1, cov_row _ 0 0 0 (by decide) rfl, cov_row _ 0 1 1 (by decide) rfl, cov_row _ 0 2 2 (by decide) rfl, cov_row _ 0 3 3 (by decide) rfl, cov_row _ 0 4 4 (by decide) rfl, cov_row _ 0 5 5 (by decide) rfl, cov_row _ 0 6 6 (by decide) rfl, cov_row _ 0 7 7 (by decide) rfl]; rfl

end Cert.Delta

end
-- ==== Proof.Chunk1.lean ====
/- Block of heads 8 to 15: what its stores hold, from the point's input blocks. -/
module

public import proofs.«01_k».proof.Proof.Loads

@[expose] public section

set_option maxRecDepth 16384
set_option maxHeartbeats 4000000

noncomputable section

namespace Cert.Delta

open Idealize.ShloMosaic Idealize.SL.Sem Cert.KernelIdeal Cert.KernelIdeal.Gen

variable {F : FTy → Type} [FloatOps F]
variable (c : Dev nD) (arg1 : Memref sig .tc .vmem S128x128 .fp8e4m3) (harg1 : arg1.IsWhole) (arg2 : Memref sig .tc .vmem S1x16x128 .bf16) (harg2 : arg2.IsWhole)
  (arg3 : Memref sig .tc .vmem S1x16x128 .bf16) (harg3 : arg3.IsWhole) (arg4 : Memref sig .tc .vmem S1x64x256 .bf16) (harg4 : arg4.IsWhole)
  (arg5 : Memref sig .tc .vmem S1x1x64 .f32) (harg5 : arg5.IsWhole) (arg6 : Memref sig .tc .vmem S1x1x64 .f32) (harg6 : arg6.IsWhole)
  (arg7 : Memref sig .tc .vmem S1x64x256x128 .fp8e4m3) (harg7 : arg7.IsWhole) (arg8 : Memref sig .tc .vmem S1x64x256 .f32) (harg8 : arg8.IsWhole)
  (arg12 : Memref sig .tc .vmem S16x128x128 .f32) (arg13 : Memref sig .tc .vmem S16x128 .f32)
  (arg14 : Memref sig .tc .vmem S16x128 .f32) (arg15 : Memref sig .tc .vmem S64x256 .f32)
  (x0 : Vec F S128x128 .fp8e4m3) (x1 : Vec F S1x16x128 .bf16) (x2 : Vec F S1x16x128 .bf16) (x3 : Vec F S1x64x256 .bf16)
  (x4 : Vec F S1x1x64 .f32) (x5 : Vec F S1x1x64 .f32) (x6 : Vec F S1x64x256x128 .fp8e4m3) (x7 : Vec F S1x64x256 .f32)

/-- The store of the updates in units of the old codes, as the run leaves it. -/
theorem d_raw_1 :
    kernelRun0_A.sl.HS3_3 (F := F) c arg1 harg1 arg2 harg2 arg3 harg3 arg4 harg4 arg5 harg5 arg6 harg6 arg7 harg7 arg8 harg8 arg12 arg13 arg14 arg15 x0 x1 x2 x3 x4 x5 x6 x7
      = ⟨Rect.unit ![8, 0] S8x256.size inb_S64x256_S8x256_8_0, inCodes (decayed (View.readAt (Elt F) arg8.view (Rect.unit (s := S1x64x256) ![0, 8, 0] S1x8x256.size inb_S1x64x256_S1x8x256_0_8_0).toLoadRect (harg8.unread x7)) (extractStridedSlice S8x1 ![8, 0] (kernelRun0_A.sl.r_2 (F := F) c arg5 harg5 x4) slices_S64x1_o8_0_S8x1)) (dk (rows (kernelRun0_A.sl.v203 : IVec S8x128 32) (arg13.view.readCov (kernelRun0_A.sl.HS1_1 (F := F) c arg3 harg3 x2) (Rect.unit (s := S16x128) ![2, 0] S1x128.size inb_S16x128_S1x128_2_0).toLoadRect) (arg13.view.readCov (kernelRun0_A.sl.HS1_1 (F := F) c arg3 harg3 x2) (Rect.unit (s := S16x128) ![3, 0] S1x128.size inb_S16x128_S1x128_3_0).toLoadRect)) (delta (proj (kernelRun0_A.sl.v203 : IVec S8x128 32) (arg13.view.readCov (kernelRun0_A.sl.HS1_1 (F := F) c arg3 harg3 x2) (Rect.unit (s := S16x128) ![2, 0] S1x128.size inb_S16x128_S1x128_2_0).toLoadRect) (arg13.view.readCov (kernelRun0_A.sl.HS1_1 (F := F) c arg3 harg3 x2) (Rect.unit (s := S16x128) ![3, 0] S1x128.size inb_S16x128_S1x128_3_0).toLoadRect) (arg14.view.readCov (kernelRun0_A.sl.HS2_1 (F := F) c arg2 harg2 x1) (Rect.unit (s := S16x128) ![2, 0] S1x128.size inb_S16x128_S1x128_2_0).toLoadRect) (arg14.view.readCov (kernelRun0_A.sl.HS2_1 (F := F) c arg2 harg2 x1) (Rect.unit (s := S16x128) ![3, 0] S1x128.size inb_S16x128_S1x128_3_0).toLoadRect) (View.readAt (Elt F) arg7.view (Rect.unit (s := S1x64x256x128) ![0, 8, 0, 0] S1x1x256x128.size inb_S1x64x256x128_S1x1x256x128_0_8_0_0).toLoadRect (harg7.unread x6)) (View.readAt (Elt F) arg7.view (Rect.unit (s := S1x64x256x128) ![0, 9, 0, 0] S1x1x256x128.size inb_S1x64x256x128_S1x1x256x128_0_9_0_0).toLoadRect (harg7.unread x6)) (View.readAt (Elt F) arg7.view (Rect.unit (s := S1x64x256x128) ![0, 10, 0, 0] S1x1x256x128.size inb_S1x64x256x128_S1x1x256x128_0_10_0_0).toLoadRect (harg7.unread x6)) (View.readAt (Elt F) arg7.view (Rect.unit (s := S1x64x256x128) ![0, 11, 0, 0] S1x1x256x128.size inb_S1x64x256x128_S1x1x256x128_0_11_0_0).toLoadRect (harg7.unread x6)) (View.readAt (Elt F) arg7.view (Rect.unit (s := S1x64x256x128) ![0, 12, 0, 0] S1x1x256x128.size inb_S1x64x256x128_S1x1x256x128_0_12_0_0).toLoadRect (harg7.unread x6)) (View.readAt (Elt F) arg7.view (Rect.unit (s := S1x64x256x128) ![0, 13, 0, 0] S1x1x256x128.size inb_S1x64x256x128_S1x1x256x128_0_13_0_0).toLoadRect (harg7.unread x6)) (View.readAt (Elt F) arg7.view (Rect.unit (s := S1x64x256x128) ![0, 14, 0, 0] S1x1x256x128.size inb_S1x64x256x128_S1x1x256x128_0_14_0_0).toLoadRect (harg7.unread x6)) (View.readAt (Elt F) arg7.view (Rect.unit (s := S1x64x256x128) ![0, 15, 0, 0] S1x1x256x128.size inb_S1x64x256x128_S1x1x256x128_0_15_0_0).toLoadRect (harg7.unread x6))) (View.readAt (Elt F) arg8.view (Rect.unit (s := S1x64x256) ![0, 8, 0] S1x8x256.size inb_S1x64x256_S1x8x256_0_8_0).toLoadRect (harg8.unread x7)) (View.readAt (Elt F) arg4.view (Rect.unit (s := S1x64x256) ![0, 8, 0] S1x8x256.size inb_S1x64x256_S1x8x256_0_8_0).toLoadRect (harg4.unread x3)) (extractStridedSlice S8x1 ![8, 0] (kernelRun0_A.sl.r_2 (F := F) c arg5 harg5 x4) slices_S64x1_o8_0_S8x1) (extractStridedSlice S8x1 ![8, 0] (kernelRun0_A.sl.r_3 (F := F) c arg6 harg6 x5) slices_S64x1_o8_0_S8x1)))⟩ :: kernelRun0_A.sl.HS3_2 (F := F) c arg1 harg1 arg2 harg2 arg3 harg3 arg4 harg4 arg5 harg5 arg6 harg6 arg7 harg7 arg8 harg8 arg12 arg13 arg14 arg15 x0 x1 x2 x3 x4 x5 x6 x7 := rfl

/-- The same as a function of the input blocks. -/
theorem d_blk_1 :
    kernelRun0_A.sl.HS3_3 (F := F) c arg1 harg1 arg2 harg2 arg3 harg3 arg4 harg4 arg5 harg5 arg6 harg6 arg7 harg7 arg8 harg8 arg12 arg13 arg14 arg15 x0 x1 x2 x3 x4 x5 x6 x7
      = ⟨Rect.unit ![8, 0] S8x256.size inb_S64x256_S8x256_8_0, icB x1 x2 x3 x4 x5 x6 x7 8 (by decide) 2 (by decide)⟩ :: kernelRun0_A.sl.HS3_2 (F := F) c arg1 harg1 arg2 harg2 arg3 harg3 arg4 harg4 arg5 harg5 arg6 harg6 arg7 harg7 arg8 harg8 arg12 arg13 arg14 arg15 x0 x1 x2 x3 x4 x5 x6 x7 := by
  rw [d_raw_1]; simp only [ld_input, k_cov, q_cov, r2_eq, r3_eq, r10_eq, v203_eq, col_cov_2, col_cov_3]; rfl

/-- The store of the multipliers, as the run leaves it. -/
theorem m_raw_1 :
    kernelRun0_A.sl.HS3_4 (F := F) c arg1 harg1 arg2 harg2 arg3 harg3 arg4 harg4 arg5 harg5 arg6 harg6 arg7 harg7 arg8 harg8 arg12 arg13 arg14 arg15 x0 x1 x2 x3 x4 x5 x6 x7
      = ⟨Rect.unit ![8, 0] S8x256.size inb_S64x256_S8x256_8_0, mulRow (amax (newZ (kernelRun0_A.sl.r_10 (F := F) c arg1 harg1 x0) (View.readAt (Elt F) arg7.view (Rect.unit (s := S1x64x256x128) ![0, 8, 0, 0] S1x1x256x128.size inb_S1x64x256x128_S1x1x256x128_0_8_0_0).toLoadRect (harg7.unread x6)) (arg12.view.readCov (kernelRun0_A.sl.HS0_16 (F := F) c arg3 harg3 x2) (Rect.unit (s := S16x128x128) ![2, 0, 0] S1x128x128.size inb_S16x128x128_S1x128x128_2_0_0).toLoadRect) (arg15.view.readCov (kernelRun0_A.sl.HS3_3 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![8, 0] S1x256.size inb_S64x256_S1x256_8_0).toLoadRect)) (newZ (kernelRun0_A.sl.r_10 (F := F) c arg1 harg1 x0) (View.readAt (Elt F) arg7.view (Rect.unit (s := S1x64x256x128) ![0, 9, 0, 0] S1x1x256x128.size inb_S1x64x256x128_S1x1x256x128_0_9_0_0).toLoadRect (harg7.unread x6)) (arg12.view.readCov (kernelRun0_A.sl.HS0_16 (F := F) c arg3 harg3 x2) (Rect.unit (s := S16x128x128) ![2, 0, 0] S1x128x128.size inb_S16x128x128_S1x128x128_2_0_0).toLoadRect) (arg15.view.readCov (kernelRun0_A.sl.HS3_3 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![9, 0] S1x256.size inb_S64x256_S1x256_9_0).toLoadRect)) (newZ (kernelRun0_A.sl.r_10 (F := F) c arg1 harg1 x0) (View.readAt (Elt F) arg7.view (Rect.unit (s := S1x64x256x128) ![0, 10, 0, 0] S1x1x256x128.size inb_S1x64x256x128_S1x1x256x128_0_10_0_0).toLoadRect (harg7.unread x6)) (arg12.view.readCov (kernelRun0_A.sl.HS0_16 (F := F) c arg3 harg3 x2) (Rect.unit (s := S16x128x128) ![2, 0, 0] S1x128x128.size inb_S16x128x128_S1x128x128_2_0_0).toLoadRect) (arg15.view.readCov (kernelRun0_A.sl.HS3_3 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![10, 0] S1x256.size inb_S64x256_S1x256_10_0).toLoadRect)) (newZ (kernelRun0_A.sl.r_10 (F := F) c arg1 harg1 x0) (View.readAt (Elt F) arg7.view (Rect.unit (s := S1x64x256x128) ![0, 11, 0, 0] S1x1x256x128.size inb_S1x64x256x128_S1x1x256x128_0_11_0_0).toLoadRect (harg7.unread x6)) (arg12.view.readCov (kernelRun0_A.sl.HS0_16 (F := F) c arg3 harg3 x2) (Rect.unit (s := S16x128x128) ![2, 0, 0] S1x128x128.size inb_S16x128x128_S1x128x128_2_0_0).toLoadRect) (arg15.view.readCov (kernelRun0_A.sl.HS3_3 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![11, 0] S1x256.size inb_S64x256_S1x256_11_0).toLoadRect)) (newZ (kernelRun0_A.sl.r_10 (F := F) c arg1 harg1 x0) (View.readAt (Elt F) arg7.view (Rect.unit (s := S1x64x256x128) ![0, 12, 0, 0] S1x1x256x128.size inb_S1x64x256x128_S1x1x256x128_0_12_0_0).toLoadRect (harg7.unread x6)) (arg12.view.readCov (kernelRun0_A.sl.HS0_16 (F := F) c arg3 harg3 x2) (Rect.unit (s := S16x128x128) ![3, 0, 0] S1x128x128.size inb_S16x128x128_S1x128x128_3_0_0).toLoadRect) (arg15.view.readCov (kernelRun0_A.sl.HS3_3 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![12, 0] S1x256.size inb_S64x256_S1x256_12_0).toLoadRect)) (newZ (kernelRun0_A.sl.r_10 (F := F) c arg1 harg1 x0) (View.readAt (Elt F) arg7.view (Rect.unit (s := S1x64x256x128) ![0, 13, 0, 0] S1x1x256x128.size inb_S1x64x256x128_S1x1x256x128_0_13_0_0).toLoadRect (harg7.unread x6)) (arg12.view.readCov (kernelRun0_A.sl.HS0_16 (F := F) c arg3 harg3 x2) (Rect.unit (s := S16x128x128) ![3, 0, 0] S1x128x128.size inb_S16x128x128_S1x128x128_3_0_0).toLoadRect) (arg15.view.readCov (kernelRun0_A.sl.HS3_3 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![13, 0] S1x256.size inb_S64x256_S1x256_13_0).toLoadRect)) (newZ (kernelRun0_A.sl.r_10 (F := F) c arg1 harg1 x0) (View.readAt (Elt F) arg7.view (Rect.unit (s := S1x64x256x128) ![0, 14, 0, 0] S1x1x256x128.size inb_S1x64x256x128_S1x1x256x128_0_14_0_0).toLoadRect (harg7.unread x6)) (arg12.view.readCov (kernelRun0_A.sl.HS0_16 (F := F) c arg3 harg3 x2) (Rect.unit (s := S16x128x128) ![3, 0, 0] S1x128x128.size inb_S16x128x128_S1x128x128_3_0_0).toLoadRect) (arg15.view.readCov (kernelRun0_A.sl.HS3_3 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![14, 0] S1x256.size inb_S64x256_S1x256_14_0).toLoadRect)) (newZ (kernelRun0_A.sl.r_10 (F := F) c arg1 harg1 x0) (View.readAt (Elt F) arg7.view (Rect.unit (s := S1x64x256x128) ![0, 15, 0, 0] S1x1x256x128.size inb_S1x64x256x128_S1x1x256x128_0_15_0_0).toLoadRect (harg7.unread x6)) (arg12.view.readCov (kernelRun0_A.sl.HS0_16 (F := F) c arg3 harg3 x2) (Rect.unit (s := S16x128x128) ![3, 0, 0] S1x128x128.size inb_S16x128x128_S1x128x128_3_0_0).toLoadRect) (arg15.view.readCov (kernelRun0_A.sl.HS3_3 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![15, 0] S1x256.size inb_S64x256_S1x256_15_0).toLoadRect)) (decayed (View.readAt (Elt F) arg8.view (Rect.unit (s := S1x64x256) ![0, 8, 0] S1x8x256.size inb_S1x64x256_S1x8x256_0_8_0).toLoadRect (harg8.unread x7)) (extractStridedSlice S8x1 ![8, 0] (kernelRun0_A.sl.r_2 (F := F) c arg5 harg5 x4) slices_S64x1_o8_0_S8x1)) (dk (rows (kernelRun0_A.sl.v203 : IVec S8x128 32) (arg13.view.readCov (kernelRun0_A.sl.HS1_1 (F := F) c arg3 harg3 x2) (Rect.unit (s := S16x128) ![2, 0] S1x128.size inb_S16x128_S1x128_2_0).toLoadRect) (arg13.view.readCov (kernelRun0_A.sl.HS1_1 (F := F) c arg3 harg3 x2) (Rect.unit (s := S16x128) ![3, 0] S1x128.size inb_S16x128_S1x128_3_0).toLoadRect)) (delta (proj (kernelRun0_A.sl.v203 : IVec S8x128 32) (arg13.view.readCov (kernelRun0_A.sl.HS1_1 (F := F) c arg3 harg3 x2) (Rect.unit (s := S16x128) ![2, 0] S1x128.size inb_S16x128_S1x128_2_0).toLoadRect) (arg13.view.readCov (kernelRun0_A.sl.HS1_1 (F := F) c arg3 harg3 x2) (Rect.unit (s := S16x128) ![3, 0] S1x128.size inb_S16x128_S1x128_3_0).toLoadRect) (arg14.view.readCov (kernelRun0_A.sl.HS2_1 (F := F) c arg2 harg2 x1) (Rect.unit (s := S16x128) ![2, 0] S1x128.size inb_S16x128_S1x128_2_0).toLoadRect) (arg14.view.readCov (kernelRun0_A.sl.HS2_1 (F := F) c arg2 harg2 x1) (Rect.unit (s := S16x128) ![3, 0] S1x128.size inb_S16x128_S1x128_3_0).toLoadRect) (View.readAt (Elt F) arg7.view (Rect.unit (s := S1x64x256x128) ![0, 8, 0, 0] S1x1x256x128.size inb_S1x64x256x128_S1x1x256x128_0_8_0_0).toLoadRect (harg7.unread x6)) (View.readAt (Elt F) arg7.view (Rect.unit (s := S1x64x256x128) ![0, 9, 0, 0] S1x1x256x128.size inb_S1x64x256x128_S1x1x256x128_0_9_0_0).toLoadRect (harg7.unread x6)) (View.readAt (Elt F) arg7.view (Rect.unit (s := S1x64x256x128) ![0, 10, 0, 0] S1x1x256x128.size inb_S1x64x256x128_S1x1x256x128_0_10_0_0).toLoadRect (harg7.unread x6)) (View.readAt (Elt F) arg7.view (Rect.unit (s := S1x64x256x128) ![0, 11, 0, 0] S1x1x256x128.size inb_S1x64x256x128_S1x1x256x128_0_11_0_0).toLoadRect (harg7.unread x6)) (View.readAt (Elt F) arg7.view (Rect.unit (s := S1x64x256x128) ![0, 12, 0, 0] S1x1x256x128.size inb_S1x64x256x128_S1x1x256x128_0_12_0_0).toLoadRect (harg7.unread x6)) (View.readAt (Elt F) arg7.view (Rect.unit (s := S1x64x256x128) ![0, 13, 0, 0] S1x1x256x128.size inb_S1x64x256x128_S1x1x256x128_0_13_0_0).toLoadRect (harg7.unread x6)) (View.readAt (Elt F) arg7.view (Rect.unit (s := S1x64x256x128) ![0, 14, 0, 0] S1x1x256x128.size inb_S1x64x256x128_S1x1x256x128_0_14_0_0).toLoadRect (harg7.unread x6)) (View.readAt (Elt F) arg7.view (Rect.unit (s := S1x64x256x128) ![0, 15, 0, 0] S1x1x256x128.size inb_S1x64x256x128_S1x1x256x128_0_15_0_0).toLoadRect (harg7.unread x6))) (View.readAt (Elt F) arg8.view (Rect.unit (s := S1x64x256) ![0, 8, 0] S1x8x256.size inb_S1x64x256_S1x8x256_0_8_0).toLoadRect (harg8.unread x7)) (View.readAt (Elt F) arg4.view (Rect.unit (s := S1x64x256) ![0, 8, 0] S1x8x256.size inb_S1x64x256_S1x8x256_0_8_0).toLoadRect (harg4.unread x3)) (extractStridedSlice S8x1 ![8, 0] (kernelRun0_A.sl.r_2 (F := F) c arg5 harg5 x4) slices_S64x1_o8_0_S8x1) (extractStridedSlice S8x1 ![8, 0] (kernelRun0_A.sl.r_3 (F := F) c arg6 harg6 x5) slices_S64x1_o8_0_S8x1)))) (decayed (View.readAt (Elt F) arg8.view (Rect.unit (s := S1x64x256) ![0, 8, 0] S1x8x256.size inb_S1x64x256_S1x8x256_0_8_0).toLoadRect (harg8.unread x7)) (extractStridedSlice S8x1 ![8, 0] (kernelRun0_A.sl.r_2 (F := F) c arg5 harg5 x4) slices_S64x1_o8_0_S8x1)) (dk (rows (kernelRun0_A.sl.v203 : IVec S8x128 32) (arg13.view.readCov (kernelRun0_A.sl.HS1_1 (F := F) c arg3 harg3 x2) (Rect.unit (s := S16x128) ![2, 0] S1x128.size inb_S16x128_S1x128_2_0).toLoadRect) (arg13.view.readCov (kernelRun0_A.sl.HS1_1 (F := F) c arg3 harg3 x2) (Rect.unit (s := S16x128) ![3, 0] S1x128.size inb_S16x128_S1x128_3_0).toLoadRect)) (delta (proj (kernelRun0_A.sl.v203 : IVec S8x128 32) (arg13.view.readCov (kernelRun0_A.sl.HS1_1 (F := F) c arg3 harg3 x2) (Rect.unit (s := S16x128) ![2, 0] S1x128.size inb_S16x128_S1x128_2_0).toLoadRect) (arg13.view.readCov (kernelRun0_A.sl.HS1_1 (F := F) c arg3 harg3 x2) (Rect.unit (s := S16x128) ![3, 0] S1x128.size inb_S16x128_S1x128_3_0).toLoadRect) (arg14.view.readCov (kernelRun0_A.sl.HS2_1 (F := F) c arg2 harg2 x1) (Rect.unit (s := S16x128) ![2, 0] S1x128.size inb_S16x128_S1x128_2_0).toLoadRect) (arg14.view.readCov (kernelRun0_A.sl.HS2_1 (F := F) c arg2 harg2 x1) (Rect.unit (s := S16x128) ![3, 0] S1x128.size inb_S16x128_S1x128_3_0).toLoadRect) (View.readAt (Elt F) arg7.view (Rect.unit (s := S1x64x256x128) ![0, 8, 0, 0] S1x1x256x128.size inb_S1x64x256x128_S1x1x256x128_0_8_0_0).toLoadRect (harg7.unread x6)) (View.readAt (Elt F) arg7.view (Rect.unit (s := S1x64x256x128) ![0, 9, 0, 0] S1x1x256x128.size inb_S1x64x256x128_S1x1x256x128_0_9_0_0).toLoadRect (harg7.unread x6)) (View.readAt (Elt F) arg7.view (Rect.unit (s := S1x64x256x128) ![0, 10, 0, 0] S1x1x256x128.size inb_S1x64x256x128_S1x1x256x128_0_10_0_0).toLoadRect (harg7.unread x6)) (View.readAt (Elt F) arg7.view (Rect.unit (s := S1x64x256x128) ![0, 11, 0, 0] S1x1x256x128.size inb_S1x64x256x128_S1x1x256x128_0_11_0_0).toLoadRect (harg7.unread x6)) (View.readAt (Elt F) arg7.view (Rect.unit (s := S1x64x256x128) ![0, 12, 0, 0] S1x1x256x128.size inb_S1x64x256x128_S1x1x256x128_0_12_0_0).toLoadRect (harg7.unread x6)) (View.readAt (Elt F) arg7.view (Rect.unit (s := S1x64x256x128) ![0, 13, 0, 0] S1x1x256x128.size inb_S1x64x256x128_S1x1x256x128_0_13_0_0).toLoadRect (harg7.unread x6)) (View.readAt (Elt F) arg7.view (Rect.unit (s := S1x64x256x128) ![0, 14, 0, 0] S1x1x256x128.size inb_S1x64x256x128_S1x1x256x128_0_14_0_0).toLoadRect (harg7.unread x6)) (View.readAt (Elt F) arg7.view (Rect.unit (s := S1x64x256x128) ![0, 15, 0, 0] S1x1x256x128.size inb_S1x64x256x128_S1x1x256x128_0_15_0_0).toLoadRect (harg7.unread x6))) (View.readAt (Elt F) arg8.view (Rect.unit (s := S1x64x256) ![0, 8, 0] S1x8x256.size inb_S1x64x256_S1x8x256_0_8_0).toLoadRect (harg8.unread x7)) (View.readAt (Elt F) arg4.view (Rect.unit (s := S1x64x256) ![0, 8, 0] S1x8x256.size inb_S1x64x256_S1x8x256_0_8_0).toLoadRect (harg4.unread x3)) (extractStridedSlice S8x1 ![8, 0] (kernelRun0_A.sl.r_2 (F := F) c arg5 harg5 x4) slices_S64x1_o8_0_S8x1) (extractStridedSlice S8x1 ![8, 0] (kernelRun0_A.sl.r_3 (F := F) c arg6 harg6 x5) slices_S64x1_o8_0_S8x1)))⟩ :: kernelRun0_A.sl.HS3_3 (F := F) c arg1 harg1 arg2 harg2 arg3 harg3 arg4 harg4 arg5 harg5 arg6 harg6 arg7 harg7 arg8 harg8 arg12 arg13 arg14 arg15 x0 x1 x2 x3 x4 x5 x6 x7 := rfl

/-- The same as a function of the input blocks. -/
theorem m_blk_1 :
    kernelRun0_A.sl.HS3_4 (F := F) c arg1 harg1 arg2 harg2 arg3 harg3 arg4 harg4 arg5 harg5 arg6 harg6 arg7 harg7 arg8 harg8 arg12 arg13 arg14 arg15 x0 x1 x2 x3 x4 x5 x6 x7
      = ⟨Rect.unit ![8, 0] S8x256.size inb_S64x256_S8x256_8_0, mB x0 x1 x2 x3 x4 x5 x6 x7 8 (by decide) 2 (by decide)⟩ :: kernelRun0_A.sl.HS3_3 (F := F) c arg1 harg1 arg2 harg2 arg3 harg3 arg4 harg4 arg5 harg5 arg6 harg6 arg7 harg7 arg8 harg8 arg12 arg13 arg14 arg15 x0 x1 x2 x3 x4 x5 x6 x7 := by
  rw [m_raw_1]; simp only [d_blk_1, ld_input, k_cov, q_cov, r2_eq, r3_eq, r10_eq, v203_eq, col_cov_2, col_cov_3, cov_row _ 8 8 0 (by decide) rfl, cov_row _ 8 9 1 (by decide) rfl, cov_row _ 8 10 2 (by decide) rfl, cov_row _ 8 11 3 (by decide) rfl, cov_row _ 8 12 4 (by decide) rfl, cov_row _ 8 13 5 (by decide) rfl, cov_row _ 8 14 6 (by decide) rfl, cov_row _ 8 15 7 (by decide) rfl]; rfl

/-- The stores of the new states, as the run leaves them. -/
theorem z_raw_1 :
    kernelRun0_A.sl.HS4_16 (F := F) c arg1 harg1 arg2 harg2 arg3 harg3 arg4 harg4 arg5 harg5 arg6 harg6 arg7 harg7 arg8 harg8 arg12 arg13 arg14 arg15 x0 x1 x2 x3 x4 x5 x6 x7
      = states (newZ (kernelRun0_A.sl.r_10 (F := F) c arg1 harg1 x0) (View.readAt (Elt F) arg7.view (Rect.unit (s := S1x64x256x128) ![0, 8, 0, 0] S1x1x256x128.size inb_S1x64x256x128_S1x1x256x128_0_8_0_0).toLoadRect (harg7.unread x6)) (arg12.view.readCov (kernelRun0_A.sl.HS0_16 (F := F) c arg3 harg3 x2) (Rect.unit (s := S16x128x128) ![2, 0, 0] S1x128x128.size inb_S16x128x128_S1x128x128_2_0_0).toLoadRect) (arg15.view.readCov (kernelRun0_A.sl.HS3_3 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![8, 0] S1x256.size inb_S64x256_S1x256_8_0).toLoadRect)) (newZ (kernelRun0_A.sl.r_10 (F := F) c arg1 harg1 x0) (View.readAt (Elt F) arg7.view (Rect.unit (s := S1x64x256x128) ![0, 9, 0, 0] S1x1x256x128.size inb_S1x64x256x128_S1x1x256x128_0_9_0_0).toLoadRect (harg7.unread x6)) (arg12.view.readCov (kernelRun0_A.sl.HS0_16 (F := F) c arg3 harg3 x2) (Rect.unit (s := S16x128x128) ![2, 0, 0] S1x128x128.size inb_S16x128x128_S1x128x128_2_0_0).toLoadRect) (arg15.view.readCov (kernelRun0_A.sl.HS3_3 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![9, 0] S1x256.size inb_S64x256_S1x256_9_0).toLoadRect)) (newZ (kernelRun0_A.sl.r_10 (F := F) c arg1 harg1 x0) (View.readAt (Elt F) arg7.view (Rect.unit (s := S1x64x256x128) ![0, 10, 0, 0] S1x1x256x128.size inb_S1x64x256x128_S1x1x256x128_0_10_0_0).toLoadRect (harg7.unread x6)) (arg12.view.readCov (kernelRun0_A.sl.HS0_16 (F := F) c arg3 harg3 x2) (Rect.unit (s := S16x128x128) ![2, 0, 0] S1x128x128.size inb_S16x128x128_S1x128x128_2_0_0).toLoadRect) (arg15.view.readCov (kernelRun0_A.sl.HS3_3 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![10, 0] S1x256.size inb_S64x256_S1x256_10_0).toLoadRect)) (newZ (kernelRun0_A.sl.r_10 (F := F) c arg1 harg1 x0) (View.readAt (Elt F) arg7.view (Rect.unit (s := S1x64x256x128) ![0, 11, 0, 0] S1x1x256x128.size inb_S1x64x256x128_S1x1x256x128_0_11_0_0).toLoadRect (harg7.unread x6)) (arg12.view.readCov (kernelRun0_A.sl.HS0_16 (F := F) c arg3 harg3 x2) (Rect.unit (s := S16x128x128) ![2, 0, 0] S1x128x128.size inb_S16x128x128_S1x128x128_2_0_0).toLoadRect) (arg15.view.readCov (kernelRun0_A.sl.HS3_3 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![11, 0] S1x256.size inb_S64x256_S1x256_11_0).toLoadRect)) (newZ (kernelRun0_A.sl.r_10 (F := F) c arg1 harg1 x0) (View.readAt (Elt F) arg7.view (Rect.unit (s := S1x64x256x128) ![0, 12, 0, 0] S1x1x256x128.size inb_S1x64x256x128_S1x1x256x128_0_12_0_0).toLoadRect (harg7.unread x6)) (arg12.view.readCov (kernelRun0_A.sl.HS0_16 (F := F) c arg3 harg3 x2) (Rect.unit (s := S16x128x128) ![3, 0, 0] S1x128x128.size inb_S16x128x128_S1x128x128_3_0_0).toLoadRect) (arg15.view.readCov (kernelRun0_A.sl.HS3_3 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![12, 0] S1x256.size inb_S64x256_S1x256_12_0).toLoadRect)) (newZ (kernelRun0_A.sl.r_10 (F := F) c arg1 harg1 x0) (View.readAt (Elt F) arg7.view (Rect.unit (s := S1x64x256x128) ![0, 13, 0, 0] S1x1x256x128.size inb_S1x64x256x128_S1x1x256x128_0_13_0_0).toLoadRect (harg7.unread x6)) (arg12.view.readCov (kernelRun0_A.sl.HS0_16 (F := F) c arg3 harg3 x2) (Rect.unit (s := S16x128x128) ![3, 0, 0] S1x128x128.size inb_S16x128x128_S1x128x128_3_0_0).toLoadRect) (arg15.view.readCov (kernelRun0_A.sl.HS3_3 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![13, 0] S1x256.size inb_S64x256_S1x256_13_0).toLoadRect)) (newZ (kernelRun0_A.sl.r_10 (F := F) c arg1 harg1 x0) (View.readAt (Elt F) arg7.view (Rect.unit (s := S1x64x256x128) ![0, 14, 0, 0] S1x1x256x128.size inb_S1x64x256x128_S1x1x256x128_0_14_0_0).toLoadRect (harg7.unread x6)) (arg12.view.readCov (kernelRun0_A.sl.HS0_16 (F := F) c arg3 harg3 x2) (Rect.unit (s := S16x128x128) ![3, 0, 0] S1x128x128.size inb_S16x128x128_S1x128x128_3_0_0).toLoadRect) (arg15.view.readCov (kernelRun0_A.sl.HS3_3 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![14, 0] S1x256.size inb_S64x256_S1x256_14_0).toLoadRect)) (newZ (kernelRun0_A.sl.r_10 (F := F) c arg1 harg1 x0) (View.readAt (Elt F) arg7.view (Rect.unit (s := S1x64x256x128) ![0, 15, 0, 0] S1x1x256x128.size inb_S1x64x256x128_S1x1x256x128_0_15_0_0).toLoadRect (harg7.unread x6)) (arg12.view.readCov (kernelRun0_A.sl.HS0_16 (F := F) c arg3 harg3 x2) (Rect.unit (s := S16x128x128) ![3, 0, 0] S1x128x128.size inb_S16x128x128_S1x128x128_3_0_0).toLoadRect) (arg15.view.readCov (kernelRun0_A.sl.HS3_3 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![15, 0] S1x256.size inb_S64x256_S1x256_15_0).toLoadRect)) (kernelRun0_A.sl.HS4_8 (F := F) c arg1 harg1 arg2 harg2 arg3 harg3 arg4 harg4 arg5 harg5 arg6 harg6 arg7 harg7 arg8 harg8 arg12 arg13 arg14 arg15 x0 x1 x2 x3 x4 x5 x6 x7) := rfl

/-- The same as functions of the input blocks. -/
theorem z_blk_1 :
    kernelRun0_A.sl.HS4_16 (F := F) c arg1 harg1 arg2 harg2 arg3 harg3 arg4 harg4 arg5 harg5 arg6 harg6 arg7 harg7 arg8 harg8 arg12 arg13 arg14 arg15 x0 x1 x2 x3 x4 x5 x6 x7
      = states (zB x0 x1 x2 x3 x4 x5 x6 x7 8 (by decide) 2 (by decide) 0 (by decide) 2 (by decide)) (zB x0 x1 x2 x3 x4 x5 x6 x7 8 (by decide) 2 (by decide) 1 (by decide) 2 (by decide)) (zB x0 x1 x2 x3 x4 x5 x6 x7 8 (by decide) 2 (by decide) 2 (by decide) 2 (by decide)) (zB x0 x1 x2 x3 x4 x5 x6 x7 8 (by decide) 2 (by decide) 3 (by decide) 2 (by decide)) (zB x0 x1 x2 x3 x4 x5 x6 x7 8 (by decide) 2 (by decide) 4 (by decide) 3 (by decide)) (zB x0 x1 x2 x3 x4 x5 x6 x7 8 (by decide) 2 (by decide) 5 (by decide) 3 (by decide)) (zB x0 x1 x2 x3 x4 x5 x6 x7 8 (by decide) 2 (by decide) 6 (by decide) 3 (by decide)) (zB x0 x1 x2 x3 x4 x5 x6 x7 8 (by decide) 2 (by decide) 7 (by decide) 3 (by decide)) (kernelRun0_A.sl.HS4_8 (F := F) c arg1 harg1 arg2 harg2 arg3 harg3 arg4 harg4 arg5 harg5 arg6 harg6 arg7 harg7 arg8 harg8 arg12 arg13 arg14 arg15 x0 x1 x2 x3 x4 x5 x6 x7) := by
  rw [z_raw_1]; simp only [d_blk_1, ld_input, k_cov, q_cov, r2_eq, r3_eq, r10_eq, v203_eq, col_cov_2, col_cov_3, cov_row _ 8 8 0 (by decide) rfl, cov_row _ 8 9 1 (by decide) rfl, cov_row _ 8 10 2 (by decide) rfl, cov_row _ 8 11 3 (by decide) rfl, cov_row _ 8 12 4 (by decide) rfl, cov_row _ 8 13 5 (by decide) rfl, cov_row _ 8 14 6 (by decide) rfl, cov_row _ 8 15 7 (by decide) rfl]; rfl

end Cert.Delta

end
-- ==== Proof.Chunk2.lean ====
/- Block of heads 16 to 23: what its stores hold, from the point's input blocks. -/
module

public import proofs.«01_k».proof.Proof.Loads

@[expose] public section

set_option maxRecDepth 16384
set_option maxHeartbeats 4000000

noncomputable section

namespace Cert.Delta

open Idealize.ShloMosaic Idealize.SL.Sem Cert.KernelIdeal Cert.KernelIdeal.Gen

variable {F : FTy → Type} [FloatOps F]
variable (c : Dev nD) (arg1 : Memref sig .tc .vmem S128x128 .fp8e4m3) (harg1 : arg1.IsWhole) (arg2 : Memref sig .tc .vmem S1x16x128 .bf16) (harg2 : arg2.IsWhole)
  (arg3 : Memref sig .tc .vmem S1x16x128 .bf16) (harg3 : arg3.IsWhole) (arg4 : Memref sig .tc .vmem S1x64x256 .bf16) (harg4 : arg4.IsWhole)
  (arg5 : Memref sig .tc .vmem S1x1x64 .f32) (harg5 : arg5.IsWhole) (arg6 : Memref sig .tc .vmem S1x1x64 .f32) (harg6 : arg6.IsWhole)
  (arg7 : Memref sig .tc .vmem S1x64x256x128 .fp8e4m3) (harg7 : arg7.IsWhole) (arg8 : Memref sig .tc .vmem S1x64x256 .f32) (harg8 : arg8.IsWhole)
  (arg12 : Memref sig .tc .vmem S16x128x128 .f32) (arg13 : Memref sig .tc .vmem S16x128 .f32)
  (arg14 : Memref sig .tc .vmem S16x128 .f32) (arg15 : Memref sig .tc .vmem S64x256 .f32)
  (x0 : Vec F S128x128 .fp8e4m3) (x1 : Vec F S1x16x128 .bf16) (x2 : Vec F S1x16x128 .bf16) (x3 : Vec F S1x64x256 .bf16)
  (x4 : Vec F S1x1x64 .f32) (x5 : Vec F S1x1x64 .f32) (x6 : Vec F S1x64x256x128 .fp8e4m3) (x7 : Vec F S1x64x256 .f32)

/-- The store of the updates in units of the old codes, as the run leaves it. -/
theorem d_raw_2 :
    kernelRun0_A.sl.HS3_5 (F := F) c arg1 harg1 arg2 harg2 arg3 harg3 arg4 harg4 arg5 harg5 arg6 harg6 arg7 harg7 arg8 harg8 arg12 arg13 arg14 arg15 x0 x1 x2 x3 x4 x5 x6 x7
      = ⟨Rect.unit ![16, 0] S8x256.size inb_S64x256_S8x256_16_0, inCodes (decayed (View.readAt (Elt F) arg8.view (Rect.unit (s := S1x64x256) ![0, 16, 0] S1x8x256.size inb_S1x64x256_S1x8x256_0_16_0).toLoadRect (harg8.unread x7)) (extractStridedSlice S8x1 ![16, 0] (kernelRun0_A.sl.r_2 (F := F) c arg5 harg5 x4) slices_S64x1_o16_0_S8x1)) (dk (rows (kernelRun0_A.sl.v203 : IVec S8x128 32) (arg13.view.readCov (kernelRun0_A.sl.HS1_1 (F := F) c arg3 harg3 x2) (Rect.unit (s := S16x128) ![4, 0] S1x128.size inb_S16x128_S1x128_4_0).toLoadRect) (arg13.view.readCov (kernelRun0_A.sl.HS1_1 (F := F) c arg3 harg3 x2) (Rect.unit (s := S16x128) ![5, 0] S1x128.size inb_S16x128_S1x128_5_0).toLoadRect)) (delta (proj (kernelRun0_A.sl.v203 : IVec S8x128 32) (arg13.view.readCov (kernelRun0_A.sl.HS1_1 (F := F) c arg3 harg3 x2) (Rect.unit (s := S16x128) ![4, 0] S1x128.size inb_S16x128_S1x128_4_0).toLoadRect) (arg13.view.readCov (kernelRun0_A.sl.HS1_1 (F := F) c arg3 harg3 x2) (Rect.unit (s := S16x128) ![5, 0] S1x128.size inb_S16x128_S1x128_5_0).toLoadRect) (arg14.view.readCov (kernelRun0_A.sl.HS2_1 (F := F) c arg2 harg2 x1) (Rect.unit (s := S16x128) ![4, 0] S1x128.size inb_S16x128_S1x128_4_0).toLoadRect) (arg14.view.readCov (kernelRun0_A.sl.HS2_1 (F := F) c arg2 harg2 x1) (Rect.unit (s := S16x128) ![5, 0] S1x128.size inb_S16x128_S1x128_5_0).toLoadRect) (View.readAt (Elt F) arg7.view (Rect.unit (s := S1x64x256x128) ![0, 16, 0, 0] S1x1x256x128.size inb_S1x64x256x128_S1x1x256x128_0_16_0_0).toLoadRect (harg7.unread x6)) (View.readAt (Elt F) arg7.view (Rect.unit (s := S1x64x256x128) ![0, 17, 0, 0] S1x1x256x128.size inb_S1x64x256x128_S1x1x256x128_0_17_0_0).toLoadRect (harg7.unread x6)) (View.readAt (Elt F) arg7.view (Rect.unit (s := S1x64x256x128) ![0, 18, 0, 0] S1x1x256x128.size inb_S1x64x256x128_S1x1x256x128_0_18_0_0).toLoadRect (harg7.unread x6)) (View.readAt (Elt F) arg7.view (Rect.unit (s := S1x64x256x128) ![0, 19, 0, 0] S1x1x256x128.size inb_S1x64x256x128_S1x1x256x128_0_19_0_0).toLoadRect (harg7.unread x6)) (View.readAt (Elt F) arg7.view (Rect.unit (s := S1x64x256x128) ![0, 20, 0, 0] S1x1x256x128.size inb_S1x64x256x128_S1x1x256x128_0_20_0_0).toLoadRect (harg7.unread x6)) (View.readAt (Elt F) arg7.view (Rect.unit (s := S1x64x256x128) ![0, 21, 0, 0] S1x1x256x128.size inb_S1x64x256x128_S1x1x256x128_0_21_0_0).toLoadRect (harg7.unread x6)) (View.readAt (Elt F) arg7.view (Rect.unit (s := S1x64x256x128) ![0, 22, 0, 0] S1x1x256x128.size inb_S1x64x256x128_S1x1x256x128_0_22_0_0).toLoadRect (harg7.unread x6)) (View.readAt (Elt F) arg7.view (Rect.unit (s := S1x64x256x128) ![0, 23, 0, 0] S1x1x256x128.size inb_S1x64x256x128_S1x1x256x128_0_23_0_0).toLoadRect (harg7.unread x6))) (View.readAt (Elt F) arg8.view (Rect.unit (s := S1x64x256) ![0, 16, 0] S1x8x256.size inb_S1x64x256_S1x8x256_0_16_0).toLoadRect (harg8.unread x7)) (View.readAt (Elt F) arg4.view (Rect.unit (s := S1x64x256) ![0, 16, 0] S1x8x256.size inb_S1x64x256_S1x8x256_0_16_0).toLoadRect (harg4.unread x3)) (extractStridedSlice S8x1 ![16, 0] (kernelRun0_A.sl.r_2 (F := F) c arg5 harg5 x4) slices_S64x1_o16_0_S8x1) (extractStridedSlice S8x1 ![16, 0] (kernelRun0_A.sl.r_3 (F := F) c arg6 harg6 x5) slices_S64x1_o16_0_S8x1)))⟩ :: kernelRun0_A.sl.HS3_4 (F := F) c arg1 harg1 arg2 harg2 arg3 harg3 arg4 harg4 arg5 harg5 arg6 harg6 arg7 harg7 arg8 harg8 arg12 arg13 arg14 arg15 x0 x1 x2 x3 x4 x5 x6 x7 := rfl

/-- The same as a function of the input blocks. -/
theorem d_blk_2 :
    kernelRun0_A.sl.HS3_5 (F := F) c arg1 harg1 arg2 harg2 arg3 harg3 arg4 harg4 arg5 harg5 arg6 harg6 arg7 harg7 arg8 harg8 arg12 arg13 arg14 arg15 x0 x1 x2 x3 x4 x5 x6 x7
      = ⟨Rect.unit ![16, 0] S8x256.size inb_S64x256_S8x256_16_0, icB x1 x2 x3 x4 x5 x6 x7 16 (by decide) 4 (by decide)⟩ :: kernelRun0_A.sl.HS3_4 (F := F) c arg1 harg1 arg2 harg2 arg3 harg3 arg4 harg4 arg5 harg5 arg6 harg6 arg7 harg7 arg8 harg8 arg12 arg13 arg14 arg15 x0 x1 x2 x3 x4 x5 x6 x7 := by
  rw [d_raw_2]; simp only [ld_input, k_cov, q_cov, r2_eq, r3_eq, r10_eq, v203_eq, col_cov_4, col_cov_5]; rfl

/-- The store of the multipliers, as the run leaves it. -/
theorem m_raw_2 :
    kernelRun0_A.sl.HS3_6 (F := F) c arg1 harg1 arg2 harg2 arg3 harg3 arg4 harg4 arg5 harg5 arg6 harg6 arg7 harg7 arg8 harg8 arg12 arg13 arg14 arg15 x0 x1 x2 x3 x4 x5 x6 x7
      = ⟨Rect.unit ![16, 0] S8x256.size inb_S64x256_S8x256_16_0, mulRow (amax (newZ (kernelRun0_A.sl.r_10 (F := F) c arg1 harg1 x0) (View.readAt (Elt F) arg7.view (Rect.unit (s := S1x64x256x128) ![0, 16, 0, 0] S1x1x256x128.size inb_S1x64x256x128_S1x1x256x128_0_16_0_0).toLoadRect (harg7.unread x6)) (arg12.view.readCov (kernelRun0_A.sl.HS0_16 (F := F) c arg3 harg3 x2) (Rect.unit (s := S16x128x128) ![4, 0, 0] S1x128x128.size inb_S16x128x128_S1x128x128_4_0_0).toLoadRect) (arg15.view.readCov (kernelRun0_A.sl.HS3_5 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![16, 0] S1x256.size inb_S64x256_S1x256_16_0).toLoadRect)) (newZ (kernelRun0_A.sl.r_10 (F := F) c arg1 harg1 x0) (View.readAt (Elt F) arg7.view (Rect.unit (s := S1x64x256x128) ![0, 17, 0, 0] S1x1x256x128.size inb_S1x64x256x128_S1x1x256x128_0_17_0_0).toLoadRect (harg7.unread x6)) (arg12.view.readCov (kernelRun0_A.sl.HS0_16 (F := F) c arg3 harg3 x2) (Rect.unit (s := S16x128x128) ![4, 0, 0] S1x128x128.size inb_S16x128x128_S1x128x128_4_0_0).toLoadRect) (arg15.view.readCov (kernelRun0_A.sl.HS3_5 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![17, 0] S1x256.size inb_S64x256_S1x256_17_0).toLoadRect)) (newZ (kernelRun0_A.sl.r_10 (F := F) c arg1 harg1 x0) (View.readAt (Elt F) arg7.view (Rect.unit (s := S1x64x256x128) ![0, 18, 0, 0] S1x1x256x128.size inb_S1x64x256x128_S1x1x256x128_0_18_0_0).toLoadRect (harg7.unread x6)) (arg12.view.readCov (kernelRun0_A.sl.HS0_16 (F := F) c arg3 harg3 x2) (Rect.unit (s := S16x128x128) ![4, 0, 0] S1x128x128.size inb_S16x128x128_S1x128x128_4_0_0).toLoadRect) (arg15.view.readCov (kernelRun0_A.sl.HS3_5 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![18, 0] S1x256.size inb_S64x256_S1x256_18_0).toLoadRect)) (newZ (kernelRun0_A.sl.r_10 (F := F) c arg1 harg1 x0) (View.readAt (Elt F) arg7.view (Rect.unit (s := S1x64x256x128) ![0, 19, 0, 0] S1x1x256x128.size inb_S1x64x256x128_S1x1x256x128_0_19_0_0).toLoadRect (harg7.unread x6)) (arg12.view.readCov (kernelRun0_A.sl.HS0_16 (F := F) c arg3 harg3 x2) (Rect.unit (s := S16x128x128) ![4, 0, 0] S1x128x128.size inb_S16x128x128_S1x128x128_4_0_0).toLoadRect) (arg15.view.readCov (kernelRun0_A.sl.HS3_5 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![19, 0] S1x256.size inb_S64x256_S1x256_19_0).toLoadRect)) (newZ (kernelRun0_A.sl.r_10 (F := F) c arg1 harg1 x0) (View.readAt (Elt F) arg7.view (Rect.unit (s := S1x64x256x128) ![0, 20, 0, 0] S1x1x256x128.size inb_S1x64x256x128_S1x1x256x128_0_20_0_0).toLoadRect (harg7.unread x6)) (arg12.view.readCov (kernelRun0_A.sl.HS0_16 (F := F) c arg3 harg3 x2) (Rect.unit (s := S16x128x128) ![5, 0, 0] S1x128x128.size inb_S16x128x128_S1x128x128_5_0_0).toLoadRect) (arg15.view.readCov (kernelRun0_A.sl.HS3_5 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![20, 0] S1x256.size inb_S64x256_S1x256_20_0).toLoadRect)) (newZ (kernelRun0_A.sl.r_10 (F := F) c arg1 harg1 x0) (View.readAt (Elt F) arg7.view (Rect.unit (s := S1x64x256x128) ![0, 21, 0, 0] S1x1x256x128.size inb_S1x64x256x128_S1x1x256x128_0_21_0_0).toLoadRect (harg7.unread x6)) (arg12.view.readCov (kernelRun0_A.sl.HS0_16 (F := F) c arg3 harg3 x2) (Rect.unit (s := S16x128x128) ![5, 0, 0] S1x128x128.size inb_S16x128x128_S1x128x128_5_0_0).toLoadRect) (arg15.view.readCov (kernelRun0_A.sl.HS3_5 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![21, 0] S1x256.size inb_S64x256_S1x256_21_0).toLoadRect)) (newZ (kernelRun0_A.sl.r_10 (F := F) c arg1 harg1 x0) (View.readAt (Elt F) arg7.view (Rect.unit (s := S1x64x256x128) ![0, 22, 0, 0] S1x1x256x128.size inb_S1x64x256x128_S1x1x256x128_0_22_0_0).toLoadRect (harg7.unread x6)) (arg12.view.readCov (kernelRun0_A.sl.HS0_16 (F := F) c arg3 harg3 x2) (Rect.unit (s := S16x128x128) ![5, 0, 0] S1x128x128.size inb_S16x128x128_S1x128x128_5_0_0).toLoadRect) (arg15.view.readCov (kernelRun0_A.sl.HS3_5 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![22, 0] S1x256.size inb_S64x256_S1x256_22_0).toLoadRect)) (newZ (kernelRun0_A.sl.r_10 (F := F) c arg1 harg1 x0) (View.readAt (Elt F) arg7.view (Rect.unit (s := S1x64x256x128) ![0, 23, 0, 0] S1x1x256x128.size inb_S1x64x256x128_S1x1x256x128_0_23_0_0).toLoadRect (harg7.unread x6)) (arg12.view.readCov (kernelRun0_A.sl.HS0_16 (F := F) c arg3 harg3 x2) (Rect.unit (s := S16x128x128) ![5, 0, 0] S1x128x128.size inb_S16x128x128_S1x128x128_5_0_0).toLoadRect) (arg15.view.readCov (kernelRun0_A.sl.HS3_5 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![23, 0] S1x256.size inb_S64x256_S1x256_23_0).toLoadRect)) (decayed (View.readAt (Elt F) arg8.view (Rect.unit (s := S1x64x256) ![0, 16, 0] S1x8x256.size inb_S1x64x256_S1x8x256_0_16_0).toLoadRect (harg8.unread x7)) (extractStridedSlice S8x1 ![16, 0] (kernelRun0_A.sl.r_2 (F := F) c arg5 harg5 x4) slices_S64x1_o16_0_S8x1)) (dk (rows (kernelRun0_A.sl.v203 : IVec S8x128 32) (arg13.view.readCov (kernelRun0_A.sl.HS1_1 (F := F) c arg3 harg3 x2) (Rect.unit (s := S16x128) ![4, 0] S1x128.size inb_S16x128_S1x128_4_0).toLoadRect) (arg13.view.readCov (kernelRun0_A.sl.HS1_1 (F := F) c arg3 harg3 x2) (Rect.unit (s := S16x128) ![5, 0] S1x128.size inb_S16x128_S1x128_5_0).toLoadRect)) (delta (proj (kernelRun0_A.sl.v203 : IVec S8x128 32) (arg13.view.readCov (kernelRun0_A.sl.HS1_1 (F := F) c arg3 harg3 x2) (Rect.unit (s := S16x128) ![4, 0] S1x128.size inb_S16x128_S1x128_4_0).toLoadRect) (arg13.view.readCov (kernelRun0_A.sl.HS1_1 (F := F) c arg3 harg3 x2) (Rect.unit (s := S16x128) ![5, 0] S1x128.size inb_S16x128_S1x128_5_0).toLoadRect) (arg14.view.readCov (kernelRun0_A.sl.HS2_1 (F := F) c arg2 harg2 x1) (Rect.unit (s := S16x128) ![4, 0] S1x128.size inb_S16x128_S1x128_4_0).toLoadRect) (arg14.view.readCov (kernelRun0_A.sl.HS2_1 (F := F) c arg2 harg2 x1) (Rect.unit (s := S16x128) ![5, 0] S1x128.size inb_S16x128_S1x128_5_0).toLoadRect) (View.readAt (Elt F) arg7.view (Rect.unit (s := S1x64x256x128) ![0, 16, 0, 0] S1x1x256x128.size inb_S1x64x256x128_S1x1x256x128_0_16_0_0).toLoadRect (harg7.unread x6)) (View.readAt (Elt F) arg7.view (Rect.unit (s := S1x64x256x128) ![0, 17, 0, 0] S1x1x256x128.size inb_S1x64x256x128_S1x1x256x128_0_17_0_0).toLoadRect (harg7.unread x6)) (View.readAt (Elt F) arg7.view (Rect.unit (s := S1x64x256x128) ![0, 18, 0, 0] S1x1x256x128.size inb_S1x64x256x128_S1x1x256x128_0_18_0_0).toLoadRect (harg7.unread x6)) (View.readAt (Elt F) arg7.view (Rect.unit (s := S1x64x256x128) ![0, 19, 0, 0] S1x1x256x128.size inb_S1x64x256x128_S1x1x256x128_0_19_0_0).toLoadRect (harg7.unread x6)) (View.readAt (Elt F) arg7.view (Rect.unit (s := S1x64x256x128) ![0, 20, 0, 0] S1x1x256x128.size inb_S1x64x256x128_S1x1x256x128_0_20_0_0).toLoadRect (harg7.unread x6)) (View.readAt (Elt F) arg7.view (Rect.unit (s := S1x64x256x128) ![0, 21, 0, 0] S1x1x256x128.size inb_S1x64x256x128_S1x1x256x128_0_21_0_0).toLoadRect (harg7.unread x6)) (View.readAt (Elt F) arg7.view (Rect.unit (s := S1x64x256x128) ![0, 22, 0, 0] S1x1x256x128.size inb_S1x64x256x128_S1x1x256x128_0_22_0_0).toLoadRect (harg7.unread x6)) (View.readAt (Elt F) arg7.view (Rect.unit (s := S1x64x256x128) ![0, 23, 0, 0] S1x1x256x128.size inb_S1x64x256x128_S1x1x256x128_0_23_0_0).toLoadRect (harg7.unread x6))) (View.readAt (Elt F) arg8.view (Rect.unit (s := S1x64x256) ![0, 16, 0] S1x8x256.size inb_S1x64x256_S1x8x256_0_16_0).toLoadRect (harg8.unread x7)) (View.readAt (Elt F) arg4.view (Rect.unit (s := S1x64x256) ![0, 16, 0] S1x8x256.size inb_S1x64x256_S1x8x256_0_16_0).toLoadRect (harg4.unread x3)) (extractStridedSlice S8x1 ![16, 0] (kernelRun0_A.sl.r_2 (F := F) c arg5 harg5 x4) slices_S64x1_o16_0_S8x1) (extractStridedSlice S8x1 ![16, 0] (kernelRun0_A.sl.r_3 (F := F) c arg6 harg6 x5) slices_S64x1_o16_0_S8x1)))) (decayed (View.readAt (Elt F) arg8.view (Rect.unit (s := S1x64x256) ![0, 16, 0] S1x8x256.size inb_S1x64x256_S1x8x256_0_16_0).toLoadRect (harg8.unread x7)) (extractStridedSlice S8x1 ![16, 0] (kernelRun0_A.sl.r_2 (F := F) c arg5 harg5 x4) slices_S64x1_o16_0_S8x1)) (dk (rows (kernelRun0_A.sl.v203 : IVec S8x128 32) (arg13.view.readCov (kernelRun0_A.sl.HS1_1 (F := F) c arg3 harg3 x2) (Rect.unit (s := S16x128) ![4, 0] S1x128.size inb_S16x128_S1x128_4_0).toLoadRect) (arg13.view.readCov (kernelRun0_A.sl.HS1_1 (F := F) c arg3 harg3 x2) (Rect.unit (s := S16x128) ![5, 0] S1x128.size inb_S16x128_S1x128_5_0).toLoadRect)) (delta (proj (kernelRun0_A.sl.v203 : IVec S8x128 32) (arg13.view.readCov (kernelRun0_A.sl.HS1_1 (F := F) c arg3 harg3 x2) (Rect.unit (s := S16x128) ![4, 0] S1x128.size inb_S16x128_S1x128_4_0).toLoadRect) (arg13.view.readCov (kernelRun0_A.sl.HS1_1 (F := F) c arg3 harg3 x2) (Rect.unit (s := S16x128) ![5, 0] S1x128.size inb_S16x128_S1x128_5_0).toLoadRect) (arg14.view.readCov (kernelRun0_A.sl.HS2_1 (F := F) c arg2 harg2 x1) (Rect.unit (s := S16x128) ![4, 0] S1x128.size inb_S16x128_S1x128_4_0).toLoadRect) (arg14.view.readCov (kernelRun0_A.sl.HS2_1 (F := F) c arg2 harg2 x1) (Rect.unit (s := S16x128) ![5, 0] S1x128.size inb_S16x128_S1x128_5_0).toLoadRect) (View.readAt (Elt F) arg7.view (Rect.unit (s := S1x64x256x128) ![0, 16, 0, 0] S1x1x256x128.size inb_S1x64x256x128_S1x1x256x128_0_16_0_0).toLoadRect (harg7.unread x6)) (View.readAt (Elt F) arg7.view (Rect.unit (s := S1x64x256x128) ![0, 17, 0, 0] S1x1x256x128.size inb_S1x64x256x128_S1x1x256x128_0_17_0_0).toLoadRect (harg7.unread x6)) (View.readAt (Elt F) arg7.view (Rect.unit (s := S1x64x256x128) ![0, 18, 0, 0] S1x1x256x128.size inb_S1x64x256x128_S1x1x256x128_0_18_0_0).toLoadRect (harg7.unread x6)) (View.readAt (Elt F) arg7.view (Rect.unit (s := S1x64x256x128) ![0, 19, 0, 0] S1x1x256x128.size inb_S1x64x256x128_S1x1x256x128_0_19_0_0).toLoadRect (harg7.unread x6)) (View.readAt (Elt F) arg7.view (Rect.unit (s := S1x64x256x128) ![0, 20, 0, 0] S1x1x256x128.size inb_S1x64x256x128_S1x1x256x128_0_20_0_0).toLoadRect (harg7.unread x6)) (View.readAt (Elt F) arg7.view (Rect.unit (s := S1x64x256x128) ![0, 21, 0, 0] S1x1x256x128.size inb_S1x64x256x128_S1x1x256x128_0_21_0_0).toLoadRect (harg7.unread x6)) (View.readAt (Elt F) arg7.view (Rect.unit (s := S1x64x256x128) ![0, 22, 0, 0] S1x1x256x128.size inb_S1x64x256x128_S1x1x256x128_0_22_0_0).toLoadRect (harg7.unread x6)) (View.readAt (Elt F) arg7.view (Rect.unit (s := S1x64x256x128) ![0, 23, 0, 0] S1x1x256x128.size inb_S1x64x256x128_S1x1x256x128_0_23_0_0).toLoadRect (harg7.unread x6))) (View.readAt (Elt F) arg8.view (Rect.unit (s := S1x64x256) ![0, 16, 0] S1x8x256.size inb_S1x64x256_S1x8x256_0_16_0).toLoadRect (harg8.unread x7)) (View.readAt (Elt F) arg4.view (Rect.unit (s := S1x64x256) ![0, 16, 0] S1x8x256.size inb_S1x64x256_S1x8x256_0_16_0).toLoadRect (harg4.unread x3)) (extractStridedSlice S8x1 ![16, 0] (kernelRun0_A.sl.r_2 (F := F) c arg5 harg5 x4) slices_S64x1_o16_0_S8x1) (extractStridedSlice S8x1 ![16, 0] (kernelRun0_A.sl.r_3 (F := F) c arg6 harg6 x5) slices_S64x1_o16_0_S8x1)))⟩ :: kernelRun0_A.sl.HS3_5 (F := F) c arg1 harg1 arg2 harg2 arg3 harg3 arg4 harg4 arg5 harg5 arg6 harg6 arg7 harg7 arg8 harg8 arg12 arg13 arg14 arg15 x0 x1 x2 x3 x4 x5 x6 x7 := rfl

/-- The same as a function of the input blocks. -/
theorem m_blk_2 :
    kernelRun0_A.sl.HS3_6 (F := F) c arg1 harg1 arg2 harg2 arg3 harg3 arg4 harg4 arg5 harg5 arg6 harg6 arg7 harg7 arg8 harg8 arg12 arg13 arg14 arg15 x0 x1 x2 x3 x4 x5 x6 x7
      = ⟨Rect.unit ![16, 0] S8x256.size inb_S64x256_S8x256_16_0, mB x0 x1 x2 x3 x4 x5 x6 x7 16 (by decide) 4 (by decide)⟩ :: kernelRun0_A.sl.HS3_5 (F := F) c arg1 harg1 arg2 harg2 arg3 harg3 arg4 harg4 arg5 harg5 arg6 harg6 arg7 harg7 arg8 harg8 arg12 arg13 arg14 arg15 x0 x1 x2 x3 x4 x5 x6 x7 := by
  rw [m_raw_2]; simp only [d_blk_2, ld_input, k_cov, q_cov, r2_eq, r3_eq, r10_eq, v203_eq, col_cov_4, col_cov_5, cov_row _ 16 16 0 (by decide) rfl, cov_row _ 16 17 1 (by decide) rfl, cov_row _ 16 18 2 (by decide) rfl, cov_row _ 16 19 3 (by decide) rfl, cov_row _ 16 20 4 (by decide) rfl, cov_row _ 16 21 5 (by decide) rfl, cov_row _ 16 22 6 (by decide) rfl, cov_row _ 16 23 7 (by decide) rfl]; rfl

/-- The stores of the new states, as the run leaves them. -/
theorem z_raw_2 :
    kernelRun0_A.sl.HS4_24 (F := F) c arg1 harg1 arg2 harg2 arg3 harg3 arg4 harg4 arg5 harg5 arg6 harg6 arg7 harg7 arg8 harg8 arg12 arg13 arg14 arg15 x0 x1 x2 x3 x4 x5 x6 x7
      = states (newZ (kernelRun0_A.sl.r_10 (F := F) c arg1 harg1 x0) (View.readAt (Elt F) arg7.view (Rect.unit (s := S1x64x256x128) ![0, 16, 0, 0] S1x1x256x128.size inb_S1x64x256x128_S1x1x256x128_0_16_0_0).toLoadRect (harg7.unread x6)) (arg12.view.readCov (kernelRun0_A.sl.HS0_16 (F := F) c arg3 harg3 x2) (Rect.unit (s := S16x128x128) ![4, 0, 0] S1x128x128.size inb_S16x128x128_S1x128x128_4_0_0).toLoadRect) (arg15.view.readCov (kernelRun0_A.sl.HS3_5 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![16, 0] S1x256.size inb_S64x256_S1x256_16_0).toLoadRect)) (newZ (kernelRun0_A.sl.r_10 (F := F) c arg1 harg1 x0) (View.readAt (Elt F) arg7.view (Rect.unit (s := S1x64x256x128) ![0, 17, 0, 0] S1x1x256x128.size inb_S1x64x256x128_S1x1x256x128_0_17_0_0).toLoadRect (harg7.unread x6)) (arg12.view.readCov (kernelRun0_A.sl.HS0_16 (F := F) c arg3 harg3 x2) (Rect.unit (s := S16x128x128) ![4, 0, 0] S1x128x128.size inb_S16x128x128_S1x128x128_4_0_0).toLoadRect) (arg15.view.readCov (kernelRun0_A.sl.HS3_5 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![17, 0] S1x256.size inb_S64x256_S1x256_17_0).toLoadRect)) (newZ (kernelRun0_A.sl.r_10 (F := F) c arg1 harg1 x0) (View.readAt (Elt F) arg7.view (Rect.unit (s := S1x64x256x128) ![0, 18, 0, 0] S1x1x256x128.size inb_S1x64x256x128_S1x1x256x128_0_18_0_0).toLoadRect (harg7.unread x6)) (arg12.view.readCov (kernelRun0_A.sl.HS0_16 (F := F) c arg3 harg3 x2) (Rect.unit (s := S16x128x128) ![4, 0, 0] S1x128x128.size inb_S16x128x128_S1x128x128_4_0_0).toLoadRect) (arg15.view.readCov (kernelRun0_A.sl.HS3_5 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![18, 0] S1x256.size inb_S64x256_S1x256_18_0).toLoadRect)) (newZ (kernelRun0_A.sl.r_10 (F := F) c arg1 harg1 x0) (View.readAt (Elt F) arg7.view (Rect.unit (s := S1x64x256x128) ![0, 19, 0, 0] S1x1x256x128.size inb_S1x64x256x128_S1x1x256x128_0_19_0_0).toLoadRect (harg7.unread x6)) (arg12.view.readCov (kernelRun0_A.sl.HS0_16 (F := F) c arg3 harg3 x2) (Rect.unit (s := S16x128x128) ![4, 0, 0] S1x128x128.size inb_S16x128x128_S1x128x128_4_0_0).toLoadRect) (arg15.view.readCov (kernelRun0_A.sl.HS3_5 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![19, 0] S1x256.size inb_S64x256_S1x256_19_0).toLoadRect)) (newZ (kernelRun0_A.sl.r_10 (F := F) c arg1 harg1 x0) (View.readAt (Elt F) arg7.view (Rect.unit (s := S1x64x256x128) ![0, 20, 0, 0] S1x1x256x128.size inb_S1x64x256x128_S1x1x256x128_0_20_0_0).toLoadRect (harg7.unread x6)) (arg12.view.readCov (kernelRun0_A.sl.HS0_16 (F := F) c arg3 harg3 x2) (Rect.unit (s := S16x128x128) ![5, 0, 0] S1x128x128.size inb_S16x128x128_S1x128x128_5_0_0).toLoadRect) (arg15.view.readCov (kernelRun0_A.sl.HS3_5 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![20, 0] S1x256.size inb_S64x256_S1x256_20_0).toLoadRect)) (newZ (kernelRun0_A.sl.r_10 (F := F) c arg1 harg1 x0) (View.readAt (Elt F) arg7.view (Rect.unit (s := S1x64x256x128) ![0, 21, 0, 0] S1x1x256x128.size inb_S1x64x256x128_S1x1x256x128_0_21_0_0).toLoadRect (harg7.unread x6)) (arg12.view.readCov (kernelRun0_A.sl.HS0_16 (F := F) c arg3 harg3 x2) (Rect.unit (s := S16x128x128) ![5, 0, 0] S1x128x128.size inb_S16x128x128_S1x128x128_5_0_0).toLoadRect) (arg15.view.readCov (kernelRun0_A.sl.HS3_5 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![21, 0] S1x256.size inb_S64x256_S1x256_21_0).toLoadRect)) (newZ (kernelRun0_A.sl.r_10 (F := F) c arg1 harg1 x0) (View.readAt (Elt F) arg7.view (Rect.unit (s := S1x64x256x128) ![0, 22, 0, 0] S1x1x256x128.size inb_S1x64x256x128_S1x1x256x128_0_22_0_0).toLoadRect (harg7.unread x6)) (arg12.view.readCov (kernelRun0_A.sl.HS0_16 (F := F) c arg3 harg3 x2) (Rect.unit (s := S16x128x128) ![5, 0, 0] S1x128x128.size inb_S16x128x128_S1x128x128_5_0_0).toLoadRect) (arg15.view.readCov (kernelRun0_A.sl.HS3_5 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![22, 0] S1x256.size inb_S64x256_S1x256_22_0).toLoadRect)) (newZ (kernelRun0_A.sl.r_10 (F := F) c arg1 harg1 x0) (View.readAt (Elt F) arg7.view (Rect.unit (s := S1x64x256x128) ![0, 23, 0, 0] S1x1x256x128.size inb_S1x64x256x128_S1x1x256x128_0_23_0_0).toLoadRect (harg7.unread x6)) (arg12.view.readCov (kernelRun0_A.sl.HS0_16 (F := F) c arg3 harg3 x2) (Rect.unit (s := S16x128x128) ![5, 0, 0] S1x128x128.size inb_S16x128x128_S1x128x128_5_0_0).toLoadRect) (arg15.view.readCov (kernelRun0_A.sl.HS3_5 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![23, 0] S1x256.size inb_S64x256_S1x256_23_0).toLoadRect)) (kernelRun0_A.sl.HS4_16 (F := F) c arg1 harg1 arg2 harg2 arg3 harg3 arg4 harg4 arg5 harg5 arg6 harg6 arg7 harg7 arg8 harg8 arg12 arg13 arg14 arg15 x0 x1 x2 x3 x4 x5 x6 x7) := rfl

/-- The same as functions of the input blocks. -/
theorem z_blk_2 :
    kernelRun0_A.sl.HS4_24 (F := F) c arg1 harg1 arg2 harg2 arg3 harg3 arg4 harg4 arg5 harg5 arg6 harg6 arg7 harg7 arg8 harg8 arg12 arg13 arg14 arg15 x0 x1 x2 x3 x4 x5 x6 x7
      = states (zB x0 x1 x2 x3 x4 x5 x6 x7 16 (by decide) 4 (by decide) 0 (by decide) 4 (by decide)) (zB x0 x1 x2 x3 x4 x5 x6 x7 16 (by decide) 4 (by decide) 1 (by decide) 4 (by decide)) (zB x0 x1 x2 x3 x4 x5 x6 x7 16 (by decide) 4 (by decide) 2 (by decide) 4 (by decide)) (zB x0 x1 x2 x3 x4 x5 x6 x7 16 (by decide) 4 (by decide) 3 (by decide) 4 (by decide)) (zB x0 x1 x2 x3 x4 x5 x6 x7 16 (by decide) 4 (by decide) 4 (by decide) 5 (by decide)) (zB x0 x1 x2 x3 x4 x5 x6 x7 16 (by decide) 4 (by decide) 5 (by decide) 5 (by decide)) (zB x0 x1 x2 x3 x4 x5 x6 x7 16 (by decide) 4 (by decide) 6 (by decide) 5 (by decide)) (zB x0 x1 x2 x3 x4 x5 x6 x7 16 (by decide) 4 (by decide) 7 (by decide) 5 (by decide)) (kernelRun0_A.sl.HS4_16 (F := F) c arg1 harg1 arg2 harg2 arg3 harg3 arg4 harg4 arg5 harg5 arg6 harg6 arg7 harg7 arg8 harg8 arg12 arg13 arg14 arg15 x0 x1 x2 x3 x4 x5 x6 x7) := by
  rw [z_raw_2]; simp only [d_blk_2, ld_input, k_cov, q_cov, r2_eq, r3_eq, r10_eq, v203_eq, col_cov_4, col_cov_5, cov_row _ 16 16 0 (by decide) rfl, cov_row _ 16 17 1 (by decide) rfl, cov_row _ 16 18 2 (by decide) rfl, cov_row _ 16 19 3 (by decide) rfl, cov_row _ 16 20 4 (by decide) rfl, cov_row _ 16 21 5 (by decide) rfl, cov_row _ 16 22 6 (by decide) rfl, cov_row _ 16 23 7 (by decide) rfl]; rfl

end Cert.Delta

end
-- ==== Proof.Chunk3.lean ====
/- Block of heads 24 to 31: what its stores hold, from the point's input blocks. -/
module

public import proofs.«01_k».proof.Proof.Loads

@[expose] public section

set_option maxRecDepth 16384
set_option maxHeartbeats 4000000

noncomputable section

namespace Cert.Delta

open Idealize.ShloMosaic Idealize.SL.Sem Cert.KernelIdeal Cert.KernelIdeal.Gen

variable {F : FTy → Type} [FloatOps F]
variable (c : Dev nD) (arg1 : Memref sig .tc .vmem S128x128 .fp8e4m3) (harg1 : arg1.IsWhole) (arg2 : Memref sig .tc .vmem S1x16x128 .bf16) (harg2 : arg2.IsWhole)
  (arg3 : Memref sig .tc .vmem S1x16x128 .bf16) (harg3 : arg3.IsWhole) (arg4 : Memref sig .tc .vmem S1x64x256 .bf16) (harg4 : arg4.IsWhole)
  (arg5 : Memref sig .tc .vmem S1x1x64 .f32) (harg5 : arg5.IsWhole) (arg6 : Memref sig .tc .vmem S1x1x64 .f32) (harg6 : arg6.IsWhole)
  (arg7 : Memref sig .tc .vmem S1x64x256x128 .fp8e4m3) (harg7 : arg7.IsWhole) (arg8 : Memref sig .tc .vmem S1x64x256 .f32) (harg8 : arg8.IsWhole)
  (arg12 : Memref sig .tc .vmem S16x128x128 .f32) (arg13 : Memref sig .tc .vmem S16x128 .f32)
  (arg14 : Memref sig .tc .vmem S16x128 .f32) (arg15 : Memref sig .tc .vmem S64x256 .f32)
  (x0 : Vec F S128x128 .fp8e4m3) (x1 : Vec F S1x16x128 .bf16) (x2 : Vec F S1x16x128 .bf16) (x3 : Vec F S1x64x256 .bf16)
  (x4 : Vec F S1x1x64 .f32) (x5 : Vec F S1x1x64 .f32) (x6 : Vec F S1x64x256x128 .fp8e4m3) (x7 : Vec F S1x64x256 .f32)

/-- The store of the updates in units of the old codes, as the run leaves it. -/
theorem d_raw_3 :
    kernelRun0_A.sl.HS3_7 (F := F) c arg1 harg1 arg2 harg2 arg3 harg3 arg4 harg4 arg5 harg5 arg6 harg6 arg7 harg7 arg8 harg8 arg12 arg13 arg14 arg15 x0 x1 x2 x3 x4 x5 x6 x7
      = ⟨Rect.unit ![24, 0] S8x256.size inb_S64x256_S8x256_24_0, inCodes (decayed (View.readAt (Elt F) arg8.view (Rect.unit (s := S1x64x256) ![0, 24, 0] S1x8x256.size inb_S1x64x256_S1x8x256_0_24_0).toLoadRect (harg8.unread x7)) (extractStridedSlice S8x1 ![24, 0] (kernelRun0_A.sl.r_2 (F := F) c arg5 harg5 x4) slices_S64x1_o24_0_S8x1)) (dk (rows (kernelRun0_A.sl.v203 : IVec S8x128 32) (arg13.view.readCov (kernelRun0_A.sl.HS1_1 (F := F) c arg3 harg3 x2) (Rect.unit (s := S16x128) ![6, 0] S1x128.size inb_S16x128_S1x128_6_0).toLoadRect) (arg13.view.readCov (kernelRun0_A.sl.HS1_1 (F := F) c arg3 harg3 x2) (Rect.unit (s := S16x128) ![7, 0] S1x128.size inb_S16x128_S1x128_7_0).toLoadRect)) (delta (proj (kernelRun0_A.sl.v203 : IVec S8x128 32) (arg13.view.readCov (kernelRun0_A.sl.HS1_1 (F := F) c arg3 harg3 x2) (Rect.unit (s := S16x128) ![6, 0] S1x128.size inb_S16x128_S1x128_6_0).toLoadRect) (arg13.view.readCov (kernelRun0_A.sl.HS1_1 (F := F) c arg3 harg3 x2) (Rect.unit (s := S16x128) ![7, 0] S1x128.size inb_S16x128_S1x128_7_0).toLoadRect) (arg14.view.readCov (kernelRun0_A.sl.HS2_1 (F := F) c arg2 harg2 x1) (Rect.unit (s := S16x128) ![6, 0] S1x128.size inb_S16x128_S1x128_6_0).toLoadRect) (arg14.view.readCov (kernelRun0_A.sl.HS2_1 (F := F) c arg2 harg2 x1) (Rect.unit (s := S16x128) ![7, 0] S1x128.size inb_S16x128_S1x128_7_0).toLoadRect) (View.readAt (Elt F) arg7.view (Rect.unit (s := S1x64x256x128) ![0, 24, 0, 0] S1x1x256x128.size inb_S1x64x256x128_S1x1x256x128_0_24_0_0).toLoadRect (harg7.unread x6)) (View.readAt (Elt F) arg7.view (Rect.unit (s := S1x64x256x128) ![0, 25, 0, 0] S1x1x256x128.size inb_S1x64x256x128_S1x1x256x128_0_25_0_0).toLoadRect (harg7.unread x6)) (View.readAt (Elt F) arg7.view (Rect.unit (s := S1x64x256x128) ![0, 26, 0, 0] S1x1x256x128.size inb_S1x64x256x128_S1x1x256x128_0_26_0_0).toLoadRect (harg7.unread x6)) (View.readAt (Elt F) arg7.view (Rect.unit (s := S1x64x256x128) ![0, 27, 0, 0] S1x1x256x128.size inb_S1x64x256x128_S1x1x256x128_0_27_0_0).toLoadRect (harg7.unread x6)) (View.readAt (Elt F) arg7.view (Rect.unit (s := S1x64x256x128) ![0, 28, 0, 0] S1x1x256x128.size inb_S1x64x256x128_S1x1x256x128_0_28_0_0).toLoadRect (harg7.unread x6)) (View.readAt (Elt F) arg7.view (Rect.unit (s := S1x64x256x128) ![0, 29, 0, 0] S1x1x256x128.size inb_S1x64x256x128_S1x1x256x128_0_29_0_0).toLoadRect (harg7.unread x6)) (View.readAt (Elt F) arg7.view (Rect.unit (s := S1x64x256x128) ![0, 30, 0, 0] S1x1x256x128.size inb_S1x64x256x128_S1x1x256x128_0_30_0_0).toLoadRect (harg7.unread x6)) (View.readAt (Elt F) arg7.view (Rect.unit (s := S1x64x256x128) ![0, 31, 0, 0] S1x1x256x128.size inb_S1x64x256x128_S1x1x256x128_0_31_0_0).toLoadRect (harg7.unread x6))) (View.readAt (Elt F) arg8.view (Rect.unit (s := S1x64x256) ![0, 24, 0] S1x8x256.size inb_S1x64x256_S1x8x256_0_24_0).toLoadRect (harg8.unread x7)) (View.readAt (Elt F) arg4.view (Rect.unit (s := S1x64x256) ![0, 24, 0] S1x8x256.size inb_S1x64x256_S1x8x256_0_24_0).toLoadRect (harg4.unread x3)) (extractStridedSlice S8x1 ![24, 0] (kernelRun0_A.sl.r_2 (F := F) c arg5 harg5 x4) slices_S64x1_o24_0_S8x1) (extractStridedSlice S8x1 ![24, 0] (kernelRun0_A.sl.r_3 (F := F) c arg6 harg6 x5) slices_S64x1_o24_0_S8x1)))⟩ :: kernelRun0_A.sl.HS3_6 (F := F) c arg1 harg1 arg2 harg2 arg3 harg3 arg4 harg4 arg5 harg5 arg6 harg6 arg7 harg7 arg8 harg8 arg12 arg13 arg14 arg15 x0 x1 x2 x3 x4 x5 x6 x7 := rfl

/-- The same as a function of the input blocks. -/
theorem d_blk_3 :
    kernelRun0_A.sl.HS3_7 (F := F) c arg1 harg1 arg2 harg2 arg3 harg3 arg4 harg4 arg5 harg5 arg6 harg6 arg7 harg7 arg8 harg8 arg12 arg13 arg14 arg15 x0 x1 x2 x3 x4 x5 x6 x7
      = ⟨Rect.unit ![24, 0] S8x256.size inb_S64x256_S8x256_24_0, icB x1 x2 x3 x4 x5 x6 x7 24 (by decide) 6 (by decide)⟩ :: kernelRun0_A.sl.HS3_6 (F := F) c arg1 harg1 arg2 harg2 arg3 harg3 arg4 harg4 arg5 harg5 arg6 harg6 arg7 harg7 arg8 harg8 arg12 arg13 arg14 arg15 x0 x1 x2 x3 x4 x5 x6 x7 := by
  rw [d_raw_3]; simp only [ld_input, k_cov, q_cov, r2_eq, r3_eq, r10_eq, v203_eq, col_cov_6, col_cov_7]; rfl

/-- The store of the multipliers, as the run leaves it. -/
theorem m_raw_3 :
    kernelRun0_A.sl.HS3_8 (F := F) c arg1 harg1 arg2 harg2 arg3 harg3 arg4 harg4 arg5 harg5 arg6 harg6 arg7 harg7 arg8 harg8 arg12 arg13 arg14 arg15 x0 x1 x2 x3 x4 x5 x6 x7
      = ⟨Rect.unit ![24, 0] S8x256.size inb_S64x256_S8x256_24_0, mulRow (amax (newZ (kernelRun0_A.sl.r_10 (F := F) c arg1 harg1 x0) (View.readAt (Elt F) arg7.view (Rect.unit (s := S1x64x256x128) ![0, 24, 0, 0] S1x1x256x128.size inb_S1x64x256x128_S1x1x256x128_0_24_0_0).toLoadRect (harg7.unread x6)) (arg12.view.readCov (kernelRun0_A.sl.HS0_16 (F := F) c arg3 harg3 x2) (Rect.unit (s := S16x128x128) ![6, 0, 0] S1x128x128.size inb_S16x128x128_S1x128x128_6_0_0).toLoadRect) (arg15.view.readCov (kernelRun0_A.sl.HS3_7 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![24, 0] S1x256.size inb_S64x256_S1x256_24_0).toLoadRect)) (newZ (kernelRun0_A.sl.r_10 (F := F) c arg1 harg1 x0) (View.readAt (Elt F) arg7.view (Rect.unit (s := S1x64x256x128) ![0, 25, 0, 0] S1x1x256x128.size inb_S1x64x256x128_S1x1x256x128_0_25_0_0).toLoadRect (harg7.unread x6)) (arg12.view.readCov (kernelRun0_A.sl.HS0_16 (F := F) c arg3 harg3 x2) (Rect.unit (s := S16x128x128) ![6, 0, 0] S1x128x128.size inb_S16x128x128_S1x128x128_6_0_0).toLoadRect) (arg15.view.readCov (kernelRun0_A.sl.HS3_7 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![25, 0] S1x256.size inb_S64x256_S1x256_25_0).toLoadRect)) (newZ (kernelRun0_A.sl.r_10 (F := F) c arg1 harg1 x0) (View.readAt (Elt F) arg7.view (Rect.unit (s := S1x64x256x128) ![0, 26, 0, 0] S1x1x256x128.size inb_S1x64x256x128_S1x1x256x128_0_26_0_0).toLoadRect (harg7.unread x6)) (arg12.view.readCov (kernelRun0_A.sl.HS0_16 (F := F) c arg3 harg3 x2) (Rect.unit (s := S16x128x128) ![6, 0, 0] S1x128x128.size inb_S16x128x128_S1x128x128_6_0_0).toLoadRect) (arg15.view.readCov (kernelRun0_A.sl.HS3_7 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![26, 0] S1x256.size inb_S64x256_S1x256_26_0).toLoadRect)) (newZ (kernelRun0_A.sl.r_10 (F := F) c arg1 harg1 x0) (View.readAt (Elt F) arg7.view (Rect.unit (s := S1x64x256x128) ![0, 27, 0, 0] S1x1x256x128.size inb_S1x64x256x128_S1x1x256x128_0_27_0_0).toLoadRect (harg7.unread x6)) (arg12.view.readCov (kernelRun0_A.sl.HS0_16 (F := F) c arg3 harg3 x2) (Rect.unit (s := S16x128x128) ![6, 0, 0] S1x128x128.size inb_S16x128x128_S1x128x128_6_0_0).toLoadRect) (arg15.view.readCov (kernelRun0_A.sl.HS3_7 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![27, 0] S1x256.size inb_S64x256_S1x256_27_0).toLoadRect)) (newZ (kernelRun0_A.sl.r_10 (F := F) c arg1 harg1 x0) (View.readAt (Elt F) arg7.view (Rect.unit (s := S1x64x256x128) ![0, 28, 0, 0] S1x1x256x128.size inb_S1x64x256x128_S1x1x256x128_0_28_0_0).toLoadRect (harg7.unread x6)) (arg12.view.readCov (kernelRun0_A.sl.HS0_16 (F := F) c arg3 harg3 x2) (Rect.unit (s := S16x128x128) ![7, 0, 0] S1x128x128.size inb_S16x128x128_S1x128x128_7_0_0).toLoadRect) (arg15.view.readCov (kernelRun0_A.sl.HS3_7 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![28, 0] S1x256.size inb_S64x256_S1x256_28_0).toLoadRect)) (newZ (kernelRun0_A.sl.r_10 (F := F) c arg1 harg1 x0) (View.readAt (Elt F) arg7.view (Rect.unit (s := S1x64x256x128) ![0, 29, 0, 0] S1x1x256x128.size inb_S1x64x256x128_S1x1x256x128_0_29_0_0).toLoadRect (harg7.unread x6)) (arg12.view.readCov (kernelRun0_A.sl.HS0_16 (F := F) c arg3 harg3 x2) (Rect.unit (s := S16x128x128) ![7, 0, 0] S1x128x128.size inb_S16x128x128_S1x128x128_7_0_0).toLoadRect) (arg15.view.readCov (kernelRun0_A.sl.HS3_7 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![29, 0] S1x256.size inb_S64x256_S1x256_29_0).toLoadRect)) (newZ (kernelRun0_A.sl.r_10 (F := F) c arg1 harg1 x0) (View.readAt (Elt F) arg7.view (Rect.unit (s := S1x64x256x128) ![0, 30, 0, 0] S1x1x256x128.size inb_S1x64x256x128_S1x1x256x128_0_30_0_0).toLoadRect (harg7.unread x6)) (arg12.view.readCov (kernelRun0_A.sl.HS0_16 (F := F) c arg3 harg3 x2) (Rect.unit (s := S16x128x128) ![7, 0, 0] S1x128x128.size inb_S16x128x128_S1x128x128_7_0_0).toLoadRect) (arg15.view.readCov (kernelRun0_A.sl.HS3_7 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![30, 0] S1x256.size inb_S64x256_S1x256_30_0).toLoadRect)) (newZ (kernelRun0_A.sl.r_10 (F := F) c arg1 harg1 x0) (View.readAt (Elt F) arg7.view (Rect.unit (s := S1x64x256x128) ![0, 31, 0, 0] S1x1x256x128.size inb_S1x64x256x128_S1x1x256x128_0_31_0_0).toLoadRect (harg7.unread x6)) (arg12.view.readCov (kernelRun0_A.sl.HS0_16 (F := F) c arg3 harg3 x2) (Rect.unit (s := S16x128x128) ![7, 0, 0] S1x128x128.size inb_S16x128x128_S1x128x128_7_0_0).toLoadRect) (arg15.view.readCov (kernelRun0_A.sl.HS3_7 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![31, 0] S1x256.size inb_S64x256_S1x256_31_0).toLoadRect)) (decayed (View.readAt (Elt F) arg8.view (Rect.unit (s := S1x64x256) ![0, 24, 0] S1x8x256.size inb_S1x64x256_S1x8x256_0_24_0).toLoadRect (harg8.unread x7)) (extractStridedSlice S8x1 ![24, 0] (kernelRun0_A.sl.r_2 (F := F) c arg5 harg5 x4) slices_S64x1_o24_0_S8x1)) (dk (rows (kernelRun0_A.sl.v203 : IVec S8x128 32) (arg13.view.readCov (kernelRun0_A.sl.HS1_1 (F := F) c arg3 harg3 x2) (Rect.unit (s := S16x128) ![6, 0] S1x128.size inb_S16x128_S1x128_6_0).toLoadRect) (arg13.view.readCov (kernelRun0_A.sl.HS1_1 (F := F) c arg3 harg3 x2) (Rect.unit (s := S16x128) ![7, 0] S1x128.size inb_S16x128_S1x128_7_0).toLoadRect)) (delta (proj (kernelRun0_A.sl.v203 : IVec S8x128 32) (arg13.view.readCov (kernelRun0_A.sl.HS1_1 (F := F) c arg3 harg3 x2) (Rect.unit (s := S16x128) ![6, 0] S1x128.size inb_S16x128_S1x128_6_0).toLoadRect) (arg13.view.readCov (kernelRun0_A.sl.HS1_1 (F := F) c arg3 harg3 x2) (Rect.unit (s := S16x128) ![7, 0] S1x128.size inb_S16x128_S1x128_7_0).toLoadRect) (arg14.view.readCov (kernelRun0_A.sl.HS2_1 (F := F) c arg2 harg2 x1) (Rect.unit (s := S16x128) ![6, 0] S1x128.size inb_S16x128_S1x128_6_0).toLoadRect) (arg14.view.readCov (kernelRun0_A.sl.HS2_1 (F := F) c arg2 harg2 x1) (Rect.unit (s := S16x128) ![7, 0] S1x128.size inb_S16x128_S1x128_7_0).toLoadRect) (View.readAt (Elt F) arg7.view (Rect.unit (s := S1x64x256x128) ![0, 24, 0, 0] S1x1x256x128.size inb_S1x64x256x128_S1x1x256x128_0_24_0_0).toLoadRect (harg7.unread x6)) (View.readAt (Elt F) arg7.view (Rect.unit (s := S1x64x256x128) ![0, 25, 0, 0] S1x1x256x128.size inb_S1x64x256x128_S1x1x256x128_0_25_0_0).toLoadRect (harg7.unread x6)) (View.readAt (Elt F) arg7.view (Rect.unit (s := S1x64x256x128) ![0, 26, 0, 0] S1x1x256x128.size inb_S1x64x256x128_S1x1x256x128_0_26_0_0).toLoadRect (harg7.unread x6)) (View.readAt (Elt F) arg7.view (Rect.unit (s := S1x64x256x128) ![0, 27, 0, 0] S1x1x256x128.size inb_S1x64x256x128_S1x1x256x128_0_27_0_0).toLoadRect (harg7.unread x6)) (View.readAt (Elt F) arg7.view (Rect.unit (s := S1x64x256x128) ![0, 28, 0, 0] S1x1x256x128.size inb_S1x64x256x128_S1x1x256x128_0_28_0_0).toLoadRect (harg7.unread x6)) (View.readAt (Elt F) arg7.view (Rect.unit (s := S1x64x256x128) ![0, 29, 0, 0] S1x1x256x128.size inb_S1x64x256x128_S1x1x256x128_0_29_0_0).toLoadRect (harg7.unread x6)) (View.readAt (Elt F) arg7.view (Rect.unit (s := S1x64x256x128) ![0, 30, 0, 0] S1x1x256x128.size inb_S1x64x256x128_S1x1x256x128_0_30_0_0).toLoadRect (harg7.unread x6)) (View.readAt (Elt F) arg7.view (Rect.unit (s := S1x64x256x128) ![0, 31, 0, 0] S1x1x256x128.size inb_S1x64x256x128_S1x1x256x128_0_31_0_0).toLoadRect (harg7.unread x6))) (View.readAt (Elt F) arg8.view (Rect.unit (s := S1x64x256) ![0, 24, 0] S1x8x256.size inb_S1x64x256_S1x8x256_0_24_0).toLoadRect (harg8.unread x7)) (View.readAt (Elt F) arg4.view (Rect.unit (s := S1x64x256) ![0, 24, 0] S1x8x256.size inb_S1x64x256_S1x8x256_0_24_0).toLoadRect (harg4.unread x3)) (extractStridedSlice S8x1 ![24, 0] (kernelRun0_A.sl.r_2 (F := F) c arg5 harg5 x4) slices_S64x1_o24_0_S8x1) (extractStridedSlice S8x1 ![24, 0] (kernelRun0_A.sl.r_3 (F := F) c arg6 harg6 x5) slices_S64x1_o24_0_S8x1)))) (decayed (View.readAt (Elt F) arg8.view (Rect.unit (s := S1x64x256) ![0, 24, 0] S1x8x256.size inb_S1x64x256_S1x8x256_0_24_0).toLoadRect (harg8.unread x7)) (extractStridedSlice S8x1 ![24, 0] (kernelRun0_A.sl.r_2 (F := F) c arg5 harg5 x4) slices_S64x1_o24_0_S8x1)) (dk (rows (kernelRun0_A.sl.v203 : IVec S8x128 32) (arg13.view.readCov (kernelRun0_A.sl.HS1_1 (F := F) c arg3 harg3 x2) (Rect.unit (s := S16x128) ![6, 0] S1x128.size inb_S16x128_S1x128_6_0).toLoadRect) (arg13.view.readCov (kernelRun0_A.sl.HS1_1 (F := F) c arg3 harg3 x2) (Rect.unit (s := S16x128) ![7, 0] S1x128.size inb_S16x128_S1x128_7_0).toLoadRect)) (delta (proj (kernelRun0_A.sl.v203 : IVec S8x128 32) (arg13.view.readCov (kernelRun0_A.sl.HS1_1 (F := F) c arg3 harg3 x2) (Rect.unit (s := S16x128) ![6, 0] S1x128.size inb_S16x128_S1x128_6_0).toLoadRect) (arg13.view.readCov (kernelRun0_A.sl.HS1_1 (F := F) c arg3 harg3 x2) (Rect.unit (s := S16x128) ![7, 0] S1x128.size inb_S16x128_S1x128_7_0).toLoadRect) (arg14.view.readCov (kernelRun0_A.sl.HS2_1 (F := F) c arg2 harg2 x1) (Rect.unit (s := S16x128) ![6, 0] S1x128.size inb_S16x128_S1x128_6_0).toLoadRect) (arg14.view.readCov (kernelRun0_A.sl.HS2_1 (F := F) c arg2 harg2 x1) (Rect.unit (s := S16x128) ![7, 0] S1x128.size inb_S16x128_S1x128_7_0).toLoadRect) (View.readAt (Elt F) arg7.view (Rect.unit (s := S1x64x256x128) ![0, 24, 0, 0] S1x1x256x128.size inb_S1x64x256x128_S1x1x256x128_0_24_0_0).toLoadRect (harg7.unread x6)) (View.readAt (Elt F) arg7.view (Rect.unit (s := S1x64x256x128) ![0, 25, 0, 0] S1x1x256x128.size inb_S1x64x256x128_S1x1x256x128_0_25_0_0).toLoadRect (harg7.unread x6)) (View.readAt (Elt F) arg7.view (Rect.unit (s := S1x64x256x128) ![0, 26, 0, 0] S1x1x256x128.size inb_S1x64x256x128_S1x1x256x128_0_26_0_0).toLoadRect (harg7.unread x6)) (View.readAt (Elt F) arg7.view (Rect.unit (s := S1x64x256x128) ![0, 27, 0, 0] S1x1x256x128.size inb_S1x64x256x128_S1x1x256x128_0_27_0_0).toLoadRect (harg7.unread x6)) (View.readAt (Elt F) arg7.view (Rect.unit (s := S1x64x256x128) ![0, 28, 0, 0] S1x1x256x128.size inb_S1x64x256x128_S1x1x256x128_0_28_0_0).toLoadRect (harg7.unread x6)) (View.readAt (Elt F) arg7.view (Rect.unit (s := S1x64x256x128) ![0, 29, 0, 0] S1x1x256x128.size inb_S1x64x256x128_S1x1x256x128_0_29_0_0).toLoadRect (harg7.unread x6)) (View.readAt (Elt F) arg7.view (Rect.unit (s := S1x64x256x128) ![0, 30, 0, 0] S1x1x256x128.size inb_S1x64x256x128_S1x1x256x128_0_30_0_0).toLoadRect (harg7.unread x6)) (View.readAt (Elt F) arg7.view (Rect.unit (s := S1x64x256x128) ![0, 31, 0, 0] S1x1x256x128.size inb_S1x64x256x128_S1x1x256x128_0_31_0_0).toLoadRect (harg7.unread x6))) (View.readAt (Elt F) arg8.view (Rect.unit (s := S1x64x256) ![0, 24, 0] S1x8x256.size inb_S1x64x256_S1x8x256_0_24_0).toLoadRect (harg8.unread x7)) (View.readAt (Elt F) arg4.view (Rect.unit (s := S1x64x256) ![0, 24, 0] S1x8x256.size inb_S1x64x256_S1x8x256_0_24_0).toLoadRect (harg4.unread x3)) (extractStridedSlice S8x1 ![24, 0] (kernelRun0_A.sl.r_2 (F := F) c arg5 harg5 x4) slices_S64x1_o24_0_S8x1) (extractStridedSlice S8x1 ![24, 0] (kernelRun0_A.sl.r_3 (F := F) c arg6 harg6 x5) slices_S64x1_o24_0_S8x1)))⟩ :: kernelRun0_A.sl.HS3_7 (F := F) c arg1 harg1 arg2 harg2 arg3 harg3 arg4 harg4 arg5 harg5 arg6 harg6 arg7 harg7 arg8 harg8 arg12 arg13 arg14 arg15 x0 x1 x2 x3 x4 x5 x6 x7 := rfl

/-- The same as a function of the input blocks. -/
theorem m_blk_3 :
    kernelRun0_A.sl.HS3_8 (F := F) c arg1 harg1 arg2 harg2 arg3 harg3 arg4 harg4 arg5 harg5 arg6 harg6 arg7 harg7 arg8 harg8 arg12 arg13 arg14 arg15 x0 x1 x2 x3 x4 x5 x6 x7
      = ⟨Rect.unit ![24, 0] S8x256.size inb_S64x256_S8x256_24_0, mB x0 x1 x2 x3 x4 x5 x6 x7 24 (by decide) 6 (by decide)⟩ :: kernelRun0_A.sl.HS3_7 (F := F) c arg1 harg1 arg2 harg2 arg3 harg3 arg4 harg4 arg5 harg5 arg6 harg6 arg7 harg7 arg8 harg8 arg12 arg13 arg14 arg15 x0 x1 x2 x3 x4 x5 x6 x7 := by
  rw [m_raw_3]; simp only [d_blk_3, ld_input, k_cov, q_cov, r2_eq, r3_eq, r10_eq, v203_eq, col_cov_6, col_cov_7, cov_row _ 24 24 0 (by decide) rfl, cov_row _ 24 25 1 (by decide) rfl, cov_row _ 24 26 2 (by decide) rfl, cov_row _ 24 27 3 (by decide) rfl, cov_row _ 24 28 4 (by decide) rfl, cov_row _ 24 29 5 (by decide) rfl, cov_row _ 24 30 6 (by decide) rfl, cov_row _ 24 31 7 (by decide) rfl]; rfl

/-- The stores of the new states, as the run leaves them. -/
theorem z_raw_3 :
    kernelRun0_A.sl.HS4_32 (F := F) c arg1 harg1 arg2 harg2 arg3 harg3 arg4 harg4 arg5 harg5 arg6 harg6 arg7 harg7 arg8 harg8 arg12 arg13 arg14 arg15 x0 x1 x2 x3 x4 x5 x6 x7
      = states (newZ (kernelRun0_A.sl.r_10 (F := F) c arg1 harg1 x0) (View.readAt (Elt F) arg7.view (Rect.unit (s := S1x64x256x128) ![0, 24, 0, 0] S1x1x256x128.size inb_S1x64x256x128_S1x1x256x128_0_24_0_0).toLoadRect (harg7.unread x6)) (arg12.view.readCov (kernelRun0_A.sl.HS0_16 (F := F) c arg3 harg3 x2) (Rect.unit (s := S16x128x128) ![6, 0, 0] S1x128x128.size inb_S16x128x128_S1x128x128_6_0_0).toLoadRect) (arg15.view.readCov (kernelRun0_A.sl.HS3_7 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![24, 0] S1x256.size inb_S64x256_S1x256_24_0).toLoadRect)) (newZ (kernelRun0_A.sl.r_10 (F := F) c arg1 harg1 x0) (View.readAt (Elt F) arg7.view (Rect.unit (s := S1x64x256x128) ![0, 25, 0, 0] S1x1x256x128.size inb_S1x64x256x128_S1x1x256x128_0_25_0_0).toLoadRect (harg7.unread x6)) (arg12.view.readCov (kernelRun0_A.sl.HS0_16 (F := F) c arg3 harg3 x2) (Rect.unit (s := S16x128x128) ![6, 0, 0] S1x128x128.size inb_S16x128x128_S1x128x128_6_0_0).toLoadRect) (arg15.view.readCov (kernelRun0_A.sl.HS3_7 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![25, 0] S1x256.size inb_S64x256_S1x256_25_0).toLoadRect)) (newZ (kernelRun0_A.sl.r_10 (F := F) c arg1 harg1 x0) (View.readAt (Elt F) arg7.view (Rect.unit (s := S1x64x256x128) ![0, 26, 0, 0] S1x1x256x128.size inb_S1x64x256x128_S1x1x256x128_0_26_0_0).toLoadRect (harg7.unread x6)) (arg12.view.readCov (kernelRun0_A.sl.HS0_16 (F := F) c arg3 harg3 x2) (Rect.unit (s := S16x128x128) ![6, 0, 0] S1x128x128.size inb_S16x128x128_S1x128x128_6_0_0).toLoadRect) (arg15.view.readCov (kernelRun0_A.sl.HS3_7 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![26, 0] S1x256.size inb_S64x256_S1x256_26_0).toLoadRect)) (newZ (kernelRun0_A.sl.r_10 (F := F) c arg1 harg1 x0) (View.readAt (Elt F) arg7.view (Rect.unit (s := S1x64x256x128) ![0, 27, 0, 0] S1x1x256x128.size inb_S1x64x256x128_S1x1x256x128_0_27_0_0).toLoadRect (harg7.unread x6)) (arg12.view.readCov (kernelRun0_A.sl.HS0_16 (F := F) c arg3 harg3 x2) (Rect.unit (s := S16x128x128) ![6, 0, 0] S1x128x128.size inb_S16x128x128_S1x128x128_6_0_0).toLoadRect) (arg15.view.readCov (kernelRun0_A.sl.HS3_7 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![27, 0] S1x256.size inb_S64x256_S1x256_27_0).toLoadRect)) (newZ (kernelRun0_A.sl.r_10 (F := F) c arg1 harg1 x0) (View.readAt (Elt F) arg7.view (Rect.unit (s := S1x64x256x128) ![0, 28, 0, 0] S1x1x256x128.size inb_S1x64x256x128_S1x1x256x128_0_28_0_0).toLoadRect (harg7.unread x6)) (arg12.view.readCov (kernelRun0_A.sl.HS0_16 (F := F) c arg3 harg3 x2) (Rect.unit (s := S16x128x128) ![7, 0, 0] S1x128x128.size inb_S16x128x128_S1x128x128_7_0_0).toLoadRect) (arg15.view.readCov (kernelRun0_A.sl.HS3_7 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![28, 0] S1x256.size inb_S64x256_S1x256_28_0).toLoadRect)) (newZ (kernelRun0_A.sl.r_10 (F := F) c arg1 harg1 x0) (View.readAt (Elt F) arg7.view (Rect.unit (s := S1x64x256x128) ![0, 29, 0, 0] S1x1x256x128.size inb_S1x64x256x128_S1x1x256x128_0_29_0_0).toLoadRect (harg7.unread x6)) (arg12.view.readCov (kernelRun0_A.sl.HS0_16 (F := F) c arg3 harg3 x2) (Rect.unit (s := S16x128x128) ![7, 0, 0] S1x128x128.size inb_S16x128x128_S1x128x128_7_0_0).toLoadRect) (arg15.view.readCov (kernelRun0_A.sl.HS3_7 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![29, 0] S1x256.size inb_S64x256_S1x256_29_0).toLoadRect)) (newZ (kernelRun0_A.sl.r_10 (F := F) c arg1 harg1 x0) (View.readAt (Elt F) arg7.view (Rect.unit (s := S1x64x256x128) ![0, 30, 0, 0] S1x1x256x128.size inb_S1x64x256x128_S1x1x256x128_0_30_0_0).toLoadRect (harg7.unread x6)) (arg12.view.readCov (kernelRun0_A.sl.HS0_16 (F := F) c arg3 harg3 x2) (Rect.unit (s := S16x128x128) ![7, 0, 0] S1x128x128.size inb_S16x128x128_S1x128x128_7_0_0).toLoadRect) (arg15.view.readCov (kernelRun0_A.sl.HS3_7 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![30, 0] S1x256.size inb_S64x256_S1x256_30_0).toLoadRect)) (newZ (kernelRun0_A.sl.r_10 (F := F) c arg1 harg1 x0) (View.readAt (Elt F) arg7.view (Rect.unit (s := S1x64x256x128) ![0, 31, 0, 0] S1x1x256x128.size inb_S1x64x256x128_S1x1x256x128_0_31_0_0).toLoadRect (harg7.unread x6)) (arg12.view.readCov (kernelRun0_A.sl.HS0_16 (F := F) c arg3 harg3 x2) (Rect.unit (s := S16x128x128) ![7, 0, 0] S1x128x128.size inb_S16x128x128_S1x128x128_7_0_0).toLoadRect) (arg15.view.readCov (kernelRun0_A.sl.HS3_7 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![31, 0] S1x256.size inb_S64x256_S1x256_31_0).toLoadRect)) (kernelRun0_A.sl.HS4_24 (F := F) c arg1 harg1 arg2 harg2 arg3 harg3 arg4 harg4 arg5 harg5 arg6 harg6 arg7 harg7 arg8 harg8 arg12 arg13 arg14 arg15 x0 x1 x2 x3 x4 x5 x6 x7) := rfl

/-- The same as functions of the input blocks. -/
theorem z_blk_3 :
    kernelRun0_A.sl.HS4_32 (F := F) c arg1 harg1 arg2 harg2 arg3 harg3 arg4 harg4 arg5 harg5 arg6 harg6 arg7 harg7 arg8 harg8 arg12 arg13 arg14 arg15 x0 x1 x2 x3 x4 x5 x6 x7
      = states (zB x0 x1 x2 x3 x4 x5 x6 x7 24 (by decide) 6 (by decide) 0 (by decide) 6 (by decide)) (zB x0 x1 x2 x3 x4 x5 x6 x7 24 (by decide) 6 (by decide) 1 (by decide) 6 (by decide)) (zB x0 x1 x2 x3 x4 x5 x6 x7 24 (by decide) 6 (by decide) 2 (by decide) 6 (by decide)) (zB x0 x1 x2 x3 x4 x5 x6 x7 24 (by decide) 6 (by decide) 3 (by decide) 6 (by decide)) (zB x0 x1 x2 x3 x4 x5 x6 x7 24 (by decide) 6 (by decide) 4 (by decide) 7 (by decide)) (zB x0 x1 x2 x3 x4 x5 x6 x7 24 (by decide) 6 (by decide) 5 (by decide) 7 (by decide)) (zB x0 x1 x2 x3 x4 x5 x6 x7 24 (by decide) 6 (by decide) 6 (by decide) 7 (by decide)) (zB x0 x1 x2 x3 x4 x5 x6 x7 24 (by decide) 6 (by decide) 7 (by decide) 7 (by decide)) (kernelRun0_A.sl.HS4_24 (F := F) c arg1 harg1 arg2 harg2 arg3 harg3 arg4 harg4 arg5 harg5 arg6 harg6 arg7 harg7 arg8 harg8 arg12 arg13 arg14 arg15 x0 x1 x2 x3 x4 x5 x6 x7) := by
  rw [z_raw_3]; simp only [d_blk_3, ld_input, k_cov, q_cov, r2_eq, r3_eq, r10_eq, v203_eq, col_cov_6, col_cov_7, cov_row _ 24 24 0 (by decide) rfl, cov_row _ 24 25 1 (by decide) rfl, cov_row _ 24 26 2 (by decide) rfl, cov_row _ 24 27 3 (by decide) rfl, cov_row _ 24 28 4 (by decide) rfl, cov_row _ 24 29 5 (by decide) rfl, cov_row _ 24 30 6 (by decide) rfl, cov_row _ 24 31 7 (by decide) rfl]; rfl

end Cert.Delta

end
-- ==== Proof.Chunk4.lean ====
/- Block of heads 32 to 39: what its stores hold, from the point's input blocks. -/
module

public import proofs.«01_k».proof.Proof.Loads

@[expose] public section

set_option maxRecDepth 16384
set_option maxHeartbeats 4000000

noncomputable section

namespace Cert.Delta

open Idealize.ShloMosaic Idealize.SL.Sem Cert.KernelIdeal Cert.KernelIdeal.Gen

variable {F : FTy → Type} [FloatOps F]
variable (c : Dev nD) (arg1 : Memref sig .tc .vmem S128x128 .fp8e4m3) (harg1 : arg1.IsWhole) (arg2 : Memref sig .tc .vmem S1x16x128 .bf16) (harg2 : arg2.IsWhole)
  (arg3 : Memref sig .tc .vmem S1x16x128 .bf16) (harg3 : arg3.IsWhole) (arg4 : Memref sig .tc .vmem S1x64x256 .bf16) (harg4 : arg4.IsWhole)
  (arg5 : Memref sig .tc .vmem S1x1x64 .f32) (harg5 : arg5.IsWhole) (arg6 : Memref sig .tc .vmem S1x1x64 .f32) (harg6 : arg6.IsWhole)
  (arg7 : Memref sig .tc .vmem S1x64x256x128 .fp8e4m3) (harg7 : arg7.IsWhole) (arg8 : Memref sig .tc .vmem S1x64x256 .f32) (harg8 : arg8.IsWhole)
  (arg12 : Memref sig .tc .vmem S16x128x128 .f32) (arg13 : Memref sig .tc .vmem S16x128 .f32)
  (arg14 : Memref sig .tc .vmem S16x128 .f32) (arg15 : Memref sig .tc .vmem S64x256 .f32)
  (x0 : Vec F S128x128 .fp8e4m3) (x1 : Vec F S1x16x128 .bf16) (x2 : Vec F S1x16x128 .bf16) (x3 : Vec F S1x64x256 .bf16)
  (x4 : Vec F S1x1x64 .f32) (x5 : Vec F S1x1x64 .f32) (x6 : Vec F S1x64x256x128 .fp8e4m3) (x7 : Vec F S1x64x256 .f32)

/-- The store of the updates in units of the old codes, as the run leaves it. -/
theorem d_raw_4 :
    kernelRun0_A.sl.HS3_9 (F := F) c arg1 harg1 arg2 harg2 arg3 harg3 arg4 harg4 arg5 harg5 arg6 harg6 arg7 harg7 arg8 harg8 arg12 arg13 arg14 arg15 x0 x1 x2 x3 x4 x5 x6 x7
      = ⟨Rect.unit ![32, 0] S8x256.size inb_S64x256_S8x256_32_0, inCodes (decayed (View.readAt (Elt F) arg8.view (Rect.unit (s := S1x64x256) ![0, 32, 0] S1x8x256.size inb_S1x64x256_S1x8x256_0_32_0).toLoadRect (harg8.unread x7)) (extractStridedSlice S8x1 ![32, 0] (kernelRun0_A.sl.r_2 (F := F) c arg5 harg5 x4) slices_S64x1_o32_0_S8x1)) (dk (rows (kernelRun0_A.sl.v203 : IVec S8x128 32) (arg13.view.readCov (kernelRun0_A.sl.HS1_1 (F := F) c arg3 harg3 x2) (Rect.unit (s := S16x128) ![8, 0] S1x128.size inb_S16x128_S1x128_8_0).toLoadRect) (arg13.view.readCov (kernelRun0_A.sl.HS1_1 (F := F) c arg3 harg3 x2) (Rect.unit (s := S16x128) ![9, 0] S1x128.size inb_S16x128_S1x128_9_0).toLoadRect)) (delta (proj (kernelRun0_A.sl.v203 : IVec S8x128 32) (arg13.view.readCov (kernelRun0_A.sl.HS1_1 (F := F) c arg3 harg3 x2) (Rect.unit (s := S16x128) ![8, 0] S1x128.size inb_S16x128_S1x128_8_0).toLoadRect) (arg13.view.readCov (kernelRun0_A.sl.HS1_1 (F := F) c arg3 harg3 x2) (Rect.unit (s := S16x128) ![9, 0] S1x128.size inb_S16x128_S1x128_9_0).toLoadRect) (arg14.view.readCov (kernelRun0_A.sl.HS2_1 (F := F) c arg2 harg2 x1) (Rect.unit (s := S16x128) ![8, 0] S1x128.size inb_S16x128_S1x128_8_0).toLoadRect) (arg14.view.readCov (kernelRun0_A.sl.HS2_1 (F := F) c arg2 harg2 x1) (Rect.unit (s := S16x128) ![9, 0] S1x128.size inb_S16x128_S1x128_9_0).toLoadRect) (View.readAt (Elt F) arg7.view (Rect.unit (s := S1x64x256x128) ![0, 32, 0, 0] S1x1x256x128.size inb_S1x64x256x128_S1x1x256x128_0_32_0_0).toLoadRect (harg7.unread x6)) (View.readAt (Elt F) arg7.view (Rect.unit (s := S1x64x256x128) ![0, 33, 0, 0] S1x1x256x128.size inb_S1x64x256x128_S1x1x256x128_0_33_0_0).toLoadRect (harg7.unread x6)) (View.readAt (Elt F) arg7.view (Rect.unit (s := S1x64x256x128) ![0, 34, 0, 0] S1x1x256x128.size inb_S1x64x256x128_S1x1x256x128_0_34_0_0).toLoadRect (harg7.unread x6)) (View.readAt (Elt F) arg7.view (Rect.unit (s := S1x64x256x128) ![0, 35, 0, 0] S1x1x256x128.size inb_S1x64x256x128_S1x1x256x128_0_35_0_0).toLoadRect (harg7.unread x6)) (View.readAt (Elt F) arg7.view (Rect.unit (s := S1x64x256x128) ![0, 36, 0, 0] S1x1x256x128.size inb_S1x64x256x128_S1x1x256x128_0_36_0_0).toLoadRect (harg7.unread x6)) (View.readAt (Elt F) arg7.view (Rect.unit (s := S1x64x256x128) ![0, 37, 0, 0] S1x1x256x128.size inb_S1x64x256x128_S1x1x256x128_0_37_0_0).toLoadRect (harg7.unread x6)) (View.readAt (Elt F) arg7.view (Rect.unit (s := S1x64x256x128) ![0, 38, 0, 0] S1x1x256x128.size inb_S1x64x256x128_S1x1x256x128_0_38_0_0).toLoadRect (harg7.unread x6)) (View.readAt (Elt F) arg7.view (Rect.unit (s := S1x64x256x128) ![0, 39, 0, 0] S1x1x256x128.size inb_S1x64x256x128_S1x1x256x128_0_39_0_0).toLoadRect (harg7.unread x6))) (View.readAt (Elt F) arg8.view (Rect.unit (s := S1x64x256) ![0, 32, 0] S1x8x256.size inb_S1x64x256_S1x8x256_0_32_0).toLoadRect (harg8.unread x7)) (View.readAt (Elt F) arg4.view (Rect.unit (s := S1x64x256) ![0, 32, 0] S1x8x256.size inb_S1x64x256_S1x8x256_0_32_0).toLoadRect (harg4.unread x3)) (extractStridedSlice S8x1 ![32, 0] (kernelRun0_A.sl.r_2 (F := F) c arg5 harg5 x4) slices_S64x1_o32_0_S8x1) (extractStridedSlice S8x1 ![32, 0] (kernelRun0_A.sl.r_3 (F := F) c arg6 harg6 x5) slices_S64x1_o32_0_S8x1)))⟩ :: kernelRun0_A.sl.HS3_8 (F := F) c arg1 harg1 arg2 harg2 arg3 harg3 arg4 harg4 arg5 harg5 arg6 harg6 arg7 harg7 arg8 harg8 arg12 arg13 arg14 arg15 x0 x1 x2 x3 x4 x5 x6 x7 := rfl

/-- The same as a function of the input blocks. -/
theorem d_blk_4 :
    kernelRun0_A.sl.HS3_9 (F := F) c arg1 harg1 arg2 harg2 arg3 harg3 arg4 harg4 arg5 harg5 arg6 harg6 arg7 harg7 arg8 harg8 arg12 arg13 arg14 arg15 x0 x1 x2 x3 x4 x5 x6 x7
      = ⟨Rect.unit ![32, 0] S8x256.size inb_S64x256_S8x256_32_0, icB x1 x2 x3 x4 x5 x6 x7 32 (by decide) 8 (by decide)⟩ :: kernelRun0_A.sl.HS3_8 (F := F) c arg1 harg1 arg2 harg2 arg3 harg3 arg4 harg4 arg5 harg5 arg6 harg6 arg7 harg7 arg8 harg8 arg12 arg13 arg14 arg15 x0 x1 x2 x3 x4 x5 x6 x7 := by
  rw [d_raw_4]; simp only [ld_input, k_cov, q_cov, r2_eq, r3_eq, r10_eq, v203_eq, col_cov_8, col_cov_9]; rfl

/-- The store of the multipliers, as the run leaves it. -/
theorem m_raw_4 :
    kernelRun0_A.sl.HS3_10 (F := F) c arg1 harg1 arg2 harg2 arg3 harg3 arg4 harg4 arg5 harg5 arg6 harg6 arg7 harg7 arg8 harg8 arg12 arg13 arg14 arg15 x0 x1 x2 x3 x4 x5 x6 x7
      = ⟨Rect.unit ![32, 0] S8x256.size inb_S64x256_S8x256_32_0, mulRow (amax (newZ (kernelRun0_A.sl.r_10 (F := F) c arg1 harg1 x0) (View.readAt (Elt F) arg7.view (Rect.unit (s := S1x64x256x128) ![0, 32, 0, 0] S1x1x256x128.size inb_S1x64x256x128_S1x1x256x128_0_32_0_0).toLoadRect (harg7.unread x6)) (arg12.view.readCov (kernelRun0_A.sl.HS0_16 (F := F) c arg3 harg3 x2) (Rect.unit (s := S16x128x128) ![8, 0, 0] S1x128x128.size inb_S16x128x128_S1x128x128_8_0_0).toLoadRect) (arg15.view.readCov (kernelRun0_A.sl.HS3_9 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![32, 0] S1x256.size inb_S64x256_S1x256_32_0).toLoadRect)) (newZ (kernelRun0_A.sl.r_10 (F := F) c arg1 harg1 x0) (View.readAt (Elt F) arg7.view (Rect.unit (s := S1x64x256x128) ![0, 33, 0, 0] S1x1x256x128.size inb_S1x64x256x128_S1x1x256x128_0_33_0_0).toLoadRect (harg7.unread x6)) (arg12.view.readCov (kernelRun0_A.sl.HS0_16 (F := F) c arg3 harg3 x2) (Rect.unit (s := S16x128x128) ![8, 0, 0] S1x128x128.size inb_S16x128x128_S1x128x128_8_0_0).toLoadRect) (arg15.view.readCov (kernelRun0_A.sl.HS3_9 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![33, 0] S1x256.size inb_S64x256_S1x256_33_0).toLoadRect)) (newZ (kernelRun0_A.sl.r_10 (F := F) c arg1 harg1 x0) (View.readAt (Elt F) arg7.view (Rect.unit (s := S1x64x256x128) ![0, 34, 0, 0] S1x1x256x128.size inb_S1x64x256x128_S1x1x256x128_0_34_0_0).toLoadRect (harg7.unread x6)) (arg12.view.readCov (kernelRun0_A.sl.HS0_16 (F := F) c arg3 harg3 x2) (Rect.unit (s := S16x128x128) ![8, 0, 0] S1x128x128.size inb_S16x128x128_S1x128x128_8_0_0).toLoadRect) (arg15.view.readCov (kernelRun0_A.sl.HS3_9 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![34, 0] S1x256.size inb_S64x256_S1x256_34_0).toLoadRect)) (newZ (kernelRun0_A.sl.r_10 (F := F) c arg1 harg1 x0) (View.readAt (Elt F) arg7.view (Rect.unit (s := S1x64x256x128) ![0, 35, 0, 0] S1x1x256x128.size inb_S1x64x256x128_S1x1x256x128_0_35_0_0).toLoadRect (harg7.unread x6)) (arg12.view.readCov (kernelRun0_A.sl.HS0_16 (F := F) c arg3 harg3 x2) (Rect.unit (s := S16x128x128) ![8, 0, 0] S1x128x128.size inb_S16x128x128_S1x128x128_8_0_0).toLoadRect) (arg15.view.readCov (kernelRun0_A.sl.HS3_9 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![35, 0] S1x256.size inb_S64x256_S1x256_35_0).toLoadRect)) (newZ (kernelRun0_A.sl.r_10 (F := F) c arg1 harg1 x0) (View.readAt (Elt F) arg7.view (Rect.unit (s := S1x64x256x128) ![0, 36, 0, 0] S1x1x256x128.size inb_S1x64x256x128_S1x1x256x128_0_36_0_0).toLoadRect (harg7.unread x6)) (arg12.view.readCov (kernelRun0_A.sl.HS0_16 (F := F) c arg3 harg3 x2) (Rect.unit (s := S16x128x128) ![9, 0, 0] S1x128x128.size inb_S16x128x128_S1x128x128_9_0_0).toLoadRect) (arg15.view.readCov (kernelRun0_A.sl.HS3_9 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![36, 0] S1x256.size inb_S64x256_S1x256_36_0).toLoadRect)) (newZ (kernelRun0_A.sl.r_10 (F := F) c arg1 harg1 x0) (View.readAt (Elt F) arg7.view (Rect.unit (s := S1x64x256x128) ![0, 37, 0, 0] S1x1x256x128.size inb_S1x64x256x128_S1x1x256x128_0_37_0_0).toLoadRect (harg7.unread x6)) (arg12.view.readCov (kernelRun0_A.sl.HS0_16 (F := F) c arg3 harg3 x2) (Rect.unit (s := S16x128x128) ![9, 0, 0] S1x128x128.size inb_S16x128x128_S1x128x128_9_0_0).toLoadRect) (arg15.view.readCov (kernelRun0_A.sl.HS3_9 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![37, 0] S1x256.size inb_S64x256_S1x256_37_0).toLoadRect)) (newZ (kernelRun0_A.sl.r_10 (F := F) c arg1 harg1 x0) (View.readAt (Elt F) arg7.view (Rect.unit (s := S1x64x256x128) ![0, 38, 0, 0] S1x1x256x128.size inb_S1x64x256x128_S1x1x256x128_0_38_0_0).toLoadRect (harg7.unread x6)) (arg12.view.readCov (kernelRun0_A.sl.HS0_16 (F := F) c arg3 harg3 x2) (Rect.unit (s := S16x128x128) ![9, 0, 0] S1x128x128.size inb_S16x128x128_S1x128x128_9_0_0).toLoadRect) (arg15.view.readCov (kernelRun0_A.sl.HS3_9 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![38, 0] S1x256.size inb_S64x256_S1x256_38_0).toLoadRect)) (newZ (kernelRun0_A.sl.r_10 (F := F) c arg1 harg1 x0) (View.readAt (Elt F) arg7.view (Rect.unit (s := S1x64x256x128) ![0, 39, 0, 0] S1x1x256x128.size inb_S1x64x256x128_S1x1x256x128_0_39_0_0).toLoadRect (harg7.unread x6)) (arg12.view.readCov (kernelRun0_A.sl.HS0_16 (F := F) c arg3 harg3 x2) (Rect.unit (s := S16x128x128) ![9, 0, 0] S1x128x128.size inb_S16x128x128_S1x128x128_9_0_0).toLoadRect) (arg15.view.readCov (kernelRun0_A.sl.HS3_9 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![39, 0] S1x256.size inb_S64x256_S1x256_39_0).toLoadRect)) (decayed (View.readAt (Elt F) arg8.view (Rect.unit (s := S1x64x256) ![0, 32, 0] S1x8x256.size inb_S1x64x256_S1x8x256_0_32_0).toLoadRect (harg8.unread x7)) (extractStridedSlice S8x1 ![32, 0] (kernelRun0_A.sl.r_2 (F := F) c arg5 harg5 x4) slices_S64x1_o32_0_S8x1)) (dk (rows (kernelRun0_A.sl.v203 : IVec S8x128 32) (arg13.view.readCov (kernelRun0_A.sl.HS1_1 (F := F) c arg3 harg3 x2) (Rect.unit (s := S16x128) ![8, 0] S1x128.size inb_S16x128_S1x128_8_0).toLoadRect) (arg13.view.readCov (kernelRun0_A.sl.HS1_1 (F := F) c arg3 harg3 x2) (Rect.unit (s := S16x128) ![9, 0] S1x128.size inb_S16x128_S1x128_9_0).toLoadRect)) (delta (proj (kernelRun0_A.sl.v203 : IVec S8x128 32) (arg13.view.readCov (kernelRun0_A.sl.HS1_1 (F := F) c arg3 harg3 x2) (Rect.unit (s := S16x128) ![8, 0] S1x128.size inb_S16x128_S1x128_8_0).toLoadRect) (arg13.view.readCov (kernelRun0_A.sl.HS1_1 (F := F) c arg3 harg3 x2) (Rect.unit (s := S16x128) ![9, 0] S1x128.size inb_S16x128_S1x128_9_0).toLoadRect) (arg14.view.readCov (kernelRun0_A.sl.HS2_1 (F := F) c arg2 harg2 x1) (Rect.unit (s := S16x128) ![8, 0] S1x128.size inb_S16x128_S1x128_8_0).toLoadRect) (arg14.view.readCov (kernelRun0_A.sl.HS2_1 (F := F) c arg2 harg2 x1) (Rect.unit (s := S16x128) ![9, 0] S1x128.size inb_S16x128_S1x128_9_0).toLoadRect) (View.readAt (Elt F) arg7.view (Rect.unit (s := S1x64x256x128) ![0, 32, 0, 0] S1x1x256x128.size inb_S1x64x256x128_S1x1x256x128_0_32_0_0).toLoadRect (harg7.unread x6)) (View.readAt (Elt F) arg7.view (Rect.unit (s := S1x64x256x128) ![0, 33, 0, 0] S1x1x256x128.size inb_S1x64x256x128_S1x1x256x128_0_33_0_0).toLoadRect (harg7.unread x6)) (View.readAt (Elt F) arg7.view (Rect.unit (s := S1x64x256x128) ![0, 34, 0, 0] S1x1x256x128.size inb_S1x64x256x128_S1x1x256x128_0_34_0_0).toLoadRect (harg7.unread x6)) (View.readAt (Elt F) arg7.view (Rect.unit (s := S1x64x256x128) ![0, 35, 0, 0] S1x1x256x128.size inb_S1x64x256x128_S1x1x256x128_0_35_0_0).toLoadRect (harg7.unread x6)) (View.readAt (Elt F) arg7.view (Rect.unit (s := S1x64x256x128) ![0, 36, 0, 0] S1x1x256x128.size inb_S1x64x256x128_S1x1x256x128_0_36_0_0).toLoadRect (harg7.unread x6)) (View.readAt (Elt F) arg7.view (Rect.unit (s := S1x64x256x128) ![0, 37, 0, 0] S1x1x256x128.size inb_S1x64x256x128_S1x1x256x128_0_37_0_0).toLoadRect (harg7.unread x6)) (View.readAt (Elt F) arg7.view (Rect.unit (s := S1x64x256x128) ![0, 38, 0, 0] S1x1x256x128.size inb_S1x64x256x128_S1x1x256x128_0_38_0_0).toLoadRect (harg7.unread x6)) (View.readAt (Elt F) arg7.view (Rect.unit (s := S1x64x256x128) ![0, 39, 0, 0] S1x1x256x128.size inb_S1x64x256x128_S1x1x256x128_0_39_0_0).toLoadRect (harg7.unread x6))) (View.readAt (Elt F) arg8.view (Rect.unit (s := S1x64x256) ![0, 32, 0] S1x8x256.size inb_S1x64x256_S1x8x256_0_32_0).toLoadRect (harg8.unread x7)) (View.readAt (Elt F) arg4.view (Rect.unit (s := S1x64x256) ![0, 32, 0] S1x8x256.size inb_S1x64x256_S1x8x256_0_32_0).toLoadRect (harg4.unread x3)) (extractStridedSlice S8x1 ![32, 0] (kernelRun0_A.sl.r_2 (F := F) c arg5 harg5 x4) slices_S64x1_o32_0_S8x1) (extractStridedSlice S8x1 ![32, 0] (kernelRun0_A.sl.r_3 (F := F) c arg6 harg6 x5) slices_S64x1_o32_0_S8x1)))) (decayed (View.readAt (Elt F) arg8.view (Rect.unit (s := S1x64x256) ![0, 32, 0] S1x8x256.size inb_S1x64x256_S1x8x256_0_32_0).toLoadRect (harg8.unread x7)) (extractStridedSlice S8x1 ![32, 0] (kernelRun0_A.sl.r_2 (F := F) c arg5 harg5 x4) slices_S64x1_o32_0_S8x1)) (dk (rows (kernelRun0_A.sl.v203 : IVec S8x128 32) (arg13.view.readCov (kernelRun0_A.sl.HS1_1 (F := F) c arg3 harg3 x2) (Rect.unit (s := S16x128) ![8, 0] S1x128.size inb_S16x128_S1x128_8_0).toLoadRect) (arg13.view.readCov (kernelRun0_A.sl.HS1_1 (F := F) c arg3 harg3 x2) (Rect.unit (s := S16x128) ![9, 0] S1x128.size inb_S16x128_S1x128_9_0).toLoadRect)) (delta (proj (kernelRun0_A.sl.v203 : IVec S8x128 32) (arg13.view.readCov (kernelRun0_A.sl.HS1_1 (F := F) c arg3 harg3 x2) (Rect.unit (s := S16x128) ![8, 0] S1x128.size inb_S16x128_S1x128_8_0).toLoadRect) (arg13.view.readCov (kernelRun0_A.sl.HS1_1 (F := F) c arg3 harg3 x2) (Rect.unit (s := S16x128) ![9, 0] S1x128.size inb_S16x128_S1x128_9_0).toLoadRect) (arg14.view.readCov (kernelRun0_A.sl.HS2_1 (F := F) c arg2 harg2 x1) (Rect.unit (s := S16x128) ![8, 0] S1x128.size inb_S16x128_S1x128_8_0).toLoadRect) (arg14.view.readCov (kernelRun0_A.sl.HS2_1 (F := F) c arg2 harg2 x1) (Rect.unit (s := S16x128) ![9, 0] S1x128.size inb_S16x128_S1x128_9_0).toLoadRect) (View.readAt (Elt F) arg7.view (Rect.unit (s := S1x64x256x128) ![0, 32, 0, 0] S1x1x256x128.size inb_S1x64x256x128_S1x1x256x128_0_32_0_0).toLoadRect (harg7.unread x6)) (View.readAt (Elt F) arg7.view (Rect.unit (s := S1x64x256x128) ![0, 33, 0, 0] S1x1x256x128.size inb_S1x64x256x128_S1x1x256x128_0_33_0_0).toLoadRect (harg7.unread x6)) (View.readAt (Elt F) arg7.view (Rect.unit (s := S1x64x256x128) ![0, 34, 0, 0] S1x1x256x128.size inb_S1x64x256x128_S1x1x256x128_0_34_0_0).toLoadRect (harg7.unread x6)) (View.readAt (Elt F) arg7.view (Rect.unit (s := S1x64x256x128) ![0, 35, 0, 0] S1x1x256x128.size inb_S1x64x256x128_S1x1x256x128_0_35_0_0).toLoadRect (harg7.unread x6)) (View.readAt (Elt F) arg7.view (Rect.unit (s := S1x64x256x128) ![0, 36, 0, 0] S1x1x256x128.size inb_S1x64x256x128_S1x1x256x128_0_36_0_0).toLoadRect (harg7.unread x6)) (View.readAt (Elt F) arg7.view (Rect.unit (s := S1x64x256x128) ![0, 37, 0, 0] S1x1x256x128.size inb_S1x64x256x128_S1x1x256x128_0_37_0_0).toLoadRect (harg7.unread x6)) (View.readAt (Elt F) arg7.view (Rect.unit (s := S1x64x256x128) ![0, 38, 0, 0] S1x1x256x128.size inb_S1x64x256x128_S1x1x256x128_0_38_0_0).toLoadRect (harg7.unread x6)) (View.readAt (Elt F) arg7.view (Rect.unit (s := S1x64x256x128) ![0, 39, 0, 0] S1x1x256x128.size inb_S1x64x256x128_S1x1x256x128_0_39_0_0).toLoadRect (harg7.unread x6))) (View.readAt (Elt F) arg8.view (Rect.unit (s := S1x64x256) ![0, 32, 0] S1x8x256.size inb_S1x64x256_S1x8x256_0_32_0).toLoadRect (harg8.unread x7)) (View.readAt (Elt F) arg4.view (Rect.unit (s := S1x64x256) ![0, 32, 0] S1x8x256.size inb_S1x64x256_S1x8x256_0_32_0).toLoadRect (harg4.unread x3)) (extractStridedSlice S8x1 ![32, 0] (kernelRun0_A.sl.r_2 (F := F) c arg5 harg5 x4) slices_S64x1_o32_0_S8x1) (extractStridedSlice S8x1 ![32, 0] (kernelRun0_A.sl.r_3 (F := F) c arg6 harg6 x5) slices_S64x1_o32_0_S8x1)))⟩ :: kernelRun0_A.sl.HS3_9 (F := F) c arg1 harg1 arg2 harg2 arg3 harg3 arg4 harg4 arg5 harg5 arg6 harg6 arg7 harg7 arg8 harg8 arg12 arg13 arg14 arg15 x0 x1 x2 x3 x4 x5 x6 x7 := rfl

/-- The same as a function of the input blocks. -/
theorem m_blk_4 :
    kernelRun0_A.sl.HS3_10 (F := F) c arg1 harg1 arg2 harg2 arg3 harg3 arg4 harg4 arg5 harg5 arg6 harg6 arg7 harg7 arg8 harg8 arg12 arg13 arg14 arg15 x0 x1 x2 x3 x4 x5 x6 x7
      = ⟨Rect.unit ![32, 0] S8x256.size inb_S64x256_S8x256_32_0, mB x0 x1 x2 x3 x4 x5 x6 x7 32 (by decide) 8 (by decide)⟩ :: kernelRun0_A.sl.HS3_9 (F := F) c arg1 harg1 arg2 harg2 arg3 harg3 arg4 harg4 arg5 harg5 arg6 harg6 arg7 harg7 arg8 harg8 arg12 arg13 arg14 arg15 x0 x1 x2 x3 x4 x5 x6 x7 := by
  rw [m_raw_4]; simp only [d_blk_4, ld_input, k_cov, q_cov, r2_eq, r3_eq, r10_eq, v203_eq, col_cov_8, col_cov_9, cov_row _ 32 32 0 (by decide) rfl, cov_row _ 32 33 1 (by decide) rfl, cov_row _ 32 34 2 (by decide) rfl, cov_row _ 32 35 3 (by decide) rfl, cov_row _ 32 36 4 (by decide) rfl, cov_row _ 32 37 5 (by decide) rfl, cov_row _ 32 38 6 (by decide) rfl, cov_row _ 32 39 7 (by decide) rfl]; rfl

/-- The stores of the new states, as the run leaves them. -/
theorem z_raw_4 :
    kernelRun0_A.sl.HS4_40 (F := F) c arg1 harg1 arg2 harg2 arg3 harg3 arg4 harg4 arg5 harg5 arg6 harg6 arg7 harg7 arg8 harg8 arg12 arg13 arg14 arg15 x0 x1 x2 x3 x4 x5 x6 x7
      = states (newZ (kernelRun0_A.sl.r_10 (F := F) c arg1 harg1 x0) (View.readAt (Elt F) arg7.view (Rect.unit (s := S1x64x256x128) ![0, 32, 0, 0] S1x1x256x128.size inb_S1x64x256x128_S1x1x256x128_0_32_0_0).toLoadRect (harg7.unread x6)) (arg12.view.readCov (kernelRun0_A.sl.HS0_16 (F := F) c arg3 harg3 x2) (Rect.unit (s := S16x128x128) ![8, 0, 0] S1x128x128.size inb_S16x128x128_S1x128x128_8_0_0).toLoadRect) (arg15.view.readCov (kernelRun0_A.sl.HS3_9 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![32, 0] S1x256.size inb_S64x256_S1x256_32_0).toLoadRect)) (newZ (kernelRun0_A.sl.r_10 (F := F) c arg1 harg1 x0) (View.readAt (Elt F) arg7.view (Rect.unit (s := S1x64x256x128) ![0, 33, 0, 0] S1x1x256x128.size inb_S1x64x256x128_S1x1x256x128_0_33_0_0).toLoadRect (harg7.unread x6)) (arg12.view.readCov (kernelRun0_A.sl.HS0_16 (F := F) c arg3 harg3 x2) (Rect.unit (s := S16x128x128) ![8, 0, 0] S1x128x128.size inb_S16x128x128_S1x128x128_8_0_0).toLoadRect) (arg15.view.readCov (kernelRun0_A.sl.HS3_9 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![33, 0] S1x256.size inb_S64x256_S1x256_33_0).toLoadRect)) (newZ (kernelRun0_A.sl.r_10 (F := F) c arg1 harg1 x0) (View.readAt (Elt F) arg7.view (Rect.unit (s := S1x64x256x128) ![0, 34, 0, 0] S1x1x256x128.size inb_S1x64x256x128_S1x1x256x128_0_34_0_0).toLoadRect (harg7.unread x6)) (arg12.view.readCov (kernelRun0_A.sl.HS0_16 (F := F) c arg3 harg3 x2) (Rect.unit (s := S16x128x128) ![8, 0, 0] S1x128x128.size inb_S16x128x128_S1x128x128_8_0_0).toLoadRect) (arg15.view.readCov (kernelRun0_A.sl.HS3_9 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![34, 0] S1x256.size inb_S64x256_S1x256_34_0).toLoadRect)) (newZ (kernelRun0_A.sl.r_10 (F := F) c arg1 harg1 x0) (View.readAt (Elt F) arg7.view (Rect.unit (s := S1x64x256x128) ![0, 35, 0, 0] S1x1x256x128.size inb_S1x64x256x128_S1x1x256x128_0_35_0_0).toLoadRect (harg7.unread x6)) (arg12.view.readCov (kernelRun0_A.sl.HS0_16 (F := F) c arg3 harg3 x2) (Rect.unit (s := S16x128x128) ![8, 0, 0] S1x128x128.size inb_S16x128x128_S1x128x128_8_0_0).toLoadRect) (arg15.view.readCov (kernelRun0_A.sl.HS3_9 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![35, 0] S1x256.size inb_S64x256_S1x256_35_0).toLoadRect)) (newZ (kernelRun0_A.sl.r_10 (F := F) c arg1 harg1 x0) (View.readAt (Elt F) arg7.view (Rect.unit (s := S1x64x256x128) ![0, 36, 0, 0] S1x1x256x128.size inb_S1x64x256x128_S1x1x256x128_0_36_0_0).toLoadRect (harg7.unread x6)) (arg12.view.readCov (kernelRun0_A.sl.HS0_16 (F := F) c arg3 harg3 x2) (Rect.unit (s := S16x128x128) ![9, 0, 0] S1x128x128.size inb_S16x128x128_S1x128x128_9_0_0).toLoadRect) (arg15.view.readCov (kernelRun0_A.sl.HS3_9 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![36, 0] S1x256.size inb_S64x256_S1x256_36_0).toLoadRect)) (newZ (kernelRun0_A.sl.r_10 (F := F) c arg1 harg1 x0) (View.readAt (Elt F) arg7.view (Rect.unit (s := S1x64x256x128) ![0, 37, 0, 0] S1x1x256x128.size inb_S1x64x256x128_S1x1x256x128_0_37_0_0).toLoadRect (harg7.unread x6)) (arg12.view.readCov (kernelRun0_A.sl.HS0_16 (F := F) c arg3 harg3 x2) (Rect.unit (s := S16x128x128) ![9, 0, 0] S1x128x128.size inb_S16x128x128_S1x128x128_9_0_0).toLoadRect) (arg15.view.readCov (kernelRun0_A.sl.HS3_9 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![37, 0] S1x256.size inb_S64x256_S1x256_37_0).toLoadRect)) (newZ (kernelRun0_A.sl.r_10 (F := F) c arg1 harg1 x0) (View.readAt (Elt F) arg7.view (Rect.unit (s := S1x64x256x128) ![0, 38, 0, 0] S1x1x256x128.size inb_S1x64x256x128_S1x1x256x128_0_38_0_0).toLoadRect (harg7.unread x6)) (arg12.view.readCov (kernelRun0_A.sl.HS0_16 (F := F) c arg3 harg3 x2) (Rect.unit (s := S16x128x128) ![9, 0, 0] S1x128x128.size inb_S16x128x128_S1x128x128_9_0_0).toLoadRect) (arg15.view.readCov (kernelRun0_A.sl.HS3_9 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![38, 0] S1x256.size inb_S64x256_S1x256_38_0).toLoadRect)) (newZ (kernelRun0_A.sl.r_10 (F := F) c arg1 harg1 x0) (View.readAt (Elt F) arg7.view (Rect.unit (s := S1x64x256x128) ![0, 39, 0, 0] S1x1x256x128.size inb_S1x64x256x128_S1x1x256x128_0_39_0_0).toLoadRect (harg7.unread x6)) (arg12.view.readCov (kernelRun0_A.sl.HS0_16 (F := F) c arg3 harg3 x2) (Rect.unit (s := S16x128x128) ![9, 0, 0] S1x128x128.size inb_S16x128x128_S1x128x128_9_0_0).toLoadRect) (arg15.view.readCov (kernelRun0_A.sl.HS3_9 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![39, 0] S1x256.size inb_S64x256_S1x256_39_0).toLoadRect)) (kernelRun0_A.sl.HS4_32 (F := F) c arg1 harg1 arg2 harg2 arg3 harg3 arg4 harg4 arg5 harg5 arg6 harg6 arg7 harg7 arg8 harg8 arg12 arg13 arg14 arg15 x0 x1 x2 x3 x4 x5 x6 x7) := rfl

/-- The same as functions of the input blocks. -/
theorem z_blk_4 :
    kernelRun0_A.sl.HS4_40 (F := F) c arg1 harg1 arg2 harg2 arg3 harg3 arg4 harg4 arg5 harg5 arg6 harg6 arg7 harg7 arg8 harg8 arg12 arg13 arg14 arg15 x0 x1 x2 x3 x4 x5 x6 x7
      = states (zB x0 x1 x2 x3 x4 x5 x6 x7 32 (by decide) 8 (by decide) 0 (by decide) 8 (by decide)) (zB x0 x1 x2 x3 x4 x5 x6 x7 32 (by decide) 8 (by decide) 1 (by decide) 8 (by decide)) (zB x0 x1 x2 x3 x4 x5 x6 x7 32 (by decide) 8 (by decide) 2 (by decide) 8 (by decide)) (zB x0 x1 x2 x3 x4 x5 x6 x7 32 (by decide) 8 (by decide) 3 (by decide) 8 (by decide)) (zB x0 x1 x2 x3 x4 x5 x6 x7 32 (by decide) 8 (by decide) 4 (by decide) 9 (by decide)) (zB x0 x1 x2 x3 x4 x5 x6 x7 32 (by decide) 8 (by decide) 5 (by decide) 9 (by decide)) (zB x0 x1 x2 x3 x4 x5 x6 x7 32 (by decide) 8 (by decide) 6 (by decide) 9 (by decide)) (zB x0 x1 x2 x3 x4 x5 x6 x7 32 (by decide) 8 (by decide) 7 (by decide) 9 (by decide)) (kernelRun0_A.sl.HS4_32 (F := F) c arg1 harg1 arg2 harg2 arg3 harg3 arg4 harg4 arg5 harg5 arg6 harg6 arg7 harg7 arg8 harg8 arg12 arg13 arg14 arg15 x0 x1 x2 x3 x4 x5 x6 x7) := by
  rw [z_raw_4]; simp only [d_blk_4, ld_input, k_cov, q_cov, r2_eq, r3_eq, r10_eq, v203_eq, col_cov_8, col_cov_9, cov_row _ 32 32 0 (by decide) rfl, cov_row _ 32 33 1 (by decide) rfl, cov_row _ 32 34 2 (by decide) rfl, cov_row _ 32 35 3 (by decide) rfl, cov_row _ 32 36 4 (by decide) rfl, cov_row _ 32 37 5 (by decide) rfl, cov_row _ 32 38 6 (by decide) rfl, cov_row _ 32 39 7 (by decide) rfl]; rfl

end Cert.Delta

end
-- ==== Proof.Chunk5.lean ====
/- Block of heads 40 to 47: what its stores hold, from the point's input blocks. -/
module

public import proofs.«01_k».proof.Proof.Loads

@[expose] public section

set_option maxRecDepth 16384
set_option maxHeartbeats 4000000

noncomputable section

namespace Cert.Delta

open Idealize.ShloMosaic Idealize.SL.Sem Cert.KernelIdeal Cert.KernelIdeal.Gen

variable {F : FTy → Type} [FloatOps F]
variable (c : Dev nD) (arg1 : Memref sig .tc .vmem S128x128 .fp8e4m3) (harg1 : arg1.IsWhole) (arg2 : Memref sig .tc .vmem S1x16x128 .bf16) (harg2 : arg2.IsWhole)
  (arg3 : Memref sig .tc .vmem S1x16x128 .bf16) (harg3 : arg3.IsWhole) (arg4 : Memref sig .tc .vmem S1x64x256 .bf16) (harg4 : arg4.IsWhole)
  (arg5 : Memref sig .tc .vmem S1x1x64 .f32) (harg5 : arg5.IsWhole) (arg6 : Memref sig .tc .vmem S1x1x64 .f32) (harg6 : arg6.IsWhole)
  (arg7 : Memref sig .tc .vmem S1x64x256x128 .fp8e4m3) (harg7 : arg7.IsWhole) (arg8 : Memref sig .tc .vmem S1x64x256 .f32) (harg8 : arg8.IsWhole)
  (arg12 : Memref sig .tc .vmem S16x128x128 .f32) (arg13 : Memref sig .tc .vmem S16x128 .f32)
  (arg14 : Memref sig .tc .vmem S16x128 .f32) (arg15 : Memref sig .tc .vmem S64x256 .f32)
  (x0 : Vec F S128x128 .fp8e4m3) (x1 : Vec F S1x16x128 .bf16) (x2 : Vec F S1x16x128 .bf16) (x3 : Vec F S1x64x256 .bf16)
  (x4 : Vec F S1x1x64 .f32) (x5 : Vec F S1x1x64 .f32) (x6 : Vec F S1x64x256x128 .fp8e4m3) (x7 : Vec F S1x64x256 .f32)

/-- The store of the updates in units of the old codes, as the run leaves it. -/
theorem d_raw_5 :
    kernelRun0_A.sl.HS3_11 (F := F) c arg1 harg1 arg2 harg2 arg3 harg3 arg4 harg4 arg5 harg5 arg6 harg6 arg7 harg7 arg8 harg8 arg12 arg13 arg14 arg15 x0 x1 x2 x3 x4 x5 x6 x7
      = ⟨Rect.unit ![40, 0] S8x256.size inb_S64x256_S8x256_40_0, inCodes (decayed (View.readAt (Elt F) arg8.view (Rect.unit (s := S1x64x256) ![0, 40, 0] S1x8x256.size inb_S1x64x256_S1x8x256_0_40_0).toLoadRect (harg8.unread x7)) (extractStridedSlice S8x1 ![40, 0] (kernelRun0_A.sl.r_2 (F := F) c arg5 harg5 x4) slices_S64x1_o40_0_S8x1)) (dk (rows (kernelRun0_A.sl.v203 : IVec S8x128 32) (arg13.view.readCov (kernelRun0_A.sl.HS1_1 (F := F) c arg3 harg3 x2) (Rect.unit (s := S16x128) ![10, 0] S1x128.size inb_S16x128_S1x128_10_0).toLoadRect) (arg13.view.readCov (kernelRun0_A.sl.HS1_1 (F := F) c arg3 harg3 x2) (Rect.unit (s := S16x128) ![11, 0] S1x128.size inb_S16x128_S1x128_11_0).toLoadRect)) (delta (proj (kernelRun0_A.sl.v203 : IVec S8x128 32) (arg13.view.readCov (kernelRun0_A.sl.HS1_1 (F := F) c arg3 harg3 x2) (Rect.unit (s := S16x128) ![10, 0] S1x128.size inb_S16x128_S1x128_10_0).toLoadRect) (arg13.view.readCov (kernelRun0_A.sl.HS1_1 (F := F) c arg3 harg3 x2) (Rect.unit (s := S16x128) ![11, 0] S1x128.size inb_S16x128_S1x128_11_0).toLoadRect) (arg14.view.readCov (kernelRun0_A.sl.HS2_1 (F := F) c arg2 harg2 x1) (Rect.unit (s := S16x128) ![10, 0] S1x128.size inb_S16x128_S1x128_10_0).toLoadRect) (arg14.view.readCov (kernelRun0_A.sl.HS2_1 (F := F) c arg2 harg2 x1) (Rect.unit (s := S16x128) ![11, 0] S1x128.size inb_S16x128_S1x128_11_0).toLoadRect) (View.readAt (Elt F) arg7.view (Rect.unit (s := S1x64x256x128) ![0, 40, 0, 0] S1x1x256x128.size inb_S1x64x256x128_S1x1x256x128_0_40_0_0).toLoadRect (harg7.unread x6)) (View.readAt (Elt F) arg7.view (Rect.unit (s := S1x64x256x128) ![0, 41, 0, 0] S1x1x256x128.size inb_S1x64x256x128_S1x1x256x128_0_41_0_0).toLoadRect (harg7.unread x6)) (View.readAt (Elt F) arg7.view (Rect.unit (s := S1x64x256x128) ![0, 42, 0, 0] S1x1x256x128.size inb_S1x64x256x128_S1x1x256x128_0_42_0_0).toLoadRect (harg7.unread x6)) (View.readAt (Elt F) arg7.view (Rect.unit (s := S1x64x256x128) ![0, 43, 0, 0] S1x1x256x128.size inb_S1x64x256x128_S1x1x256x128_0_43_0_0).toLoadRect (harg7.unread x6)) (View.readAt (Elt F) arg7.view (Rect.unit (s := S1x64x256x128) ![0, 44, 0, 0] S1x1x256x128.size inb_S1x64x256x128_S1x1x256x128_0_44_0_0).toLoadRect (harg7.unread x6)) (View.readAt (Elt F) arg7.view (Rect.unit (s := S1x64x256x128) ![0, 45, 0, 0] S1x1x256x128.size inb_S1x64x256x128_S1x1x256x128_0_45_0_0).toLoadRect (harg7.unread x6)) (View.readAt (Elt F) arg7.view (Rect.unit (s := S1x64x256x128) ![0, 46, 0, 0] S1x1x256x128.size inb_S1x64x256x128_S1x1x256x128_0_46_0_0).toLoadRect (harg7.unread x6)) (View.readAt (Elt F) arg7.view (Rect.unit (s := S1x64x256x128) ![0, 47, 0, 0] S1x1x256x128.size inb_S1x64x256x128_S1x1x256x128_0_47_0_0).toLoadRect (harg7.unread x6))) (View.readAt (Elt F) arg8.view (Rect.unit (s := S1x64x256) ![0, 40, 0] S1x8x256.size inb_S1x64x256_S1x8x256_0_40_0).toLoadRect (harg8.unread x7)) (View.readAt (Elt F) arg4.view (Rect.unit (s := S1x64x256) ![0, 40, 0] S1x8x256.size inb_S1x64x256_S1x8x256_0_40_0).toLoadRect (harg4.unread x3)) (extractStridedSlice S8x1 ![40, 0] (kernelRun0_A.sl.r_2 (F := F) c arg5 harg5 x4) slices_S64x1_o40_0_S8x1) (extractStridedSlice S8x1 ![40, 0] (kernelRun0_A.sl.r_3 (F := F) c arg6 harg6 x5) slices_S64x1_o40_0_S8x1)))⟩ :: kernelRun0_A.sl.HS3_10 (F := F) c arg1 harg1 arg2 harg2 arg3 harg3 arg4 harg4 arg5 harg5 arg6 harg6 arg7 harg7 arg8 harg8 arg12 arg13 arg14 arg15 x0 x1 x2 x3 x4 x5 x6 x7 := rfl

/-- The same as a function of the input blocks. -/
theorem d_blk_5 :
    kernelRun0_A.sl.HS3_11 (F := F) c arg1 harg1 arg2 harg2 arg3 harg3 arg4 harg4 arg5 harg5 arg6 harg6 arg7 harg7 arg8 harg8 arg12 arg13 arg14 arg15 x0 x1 x2 x3 x4 x5 x6 x7
      = ⟨Rect.unit ![40, 0] S8x256.size inb_S64x256_S8x256_40_0, icB x1 x2 x3 x4 x5 x6 x7 40 (by decide) 10 (by decide)⟩ :: kernelRun0_A.sl.HS3_10 (F := F) c arg1 harg1 arg2 harg2 arg3 harg3 arg4 harg4 arg5 harg5 arg6 harg6 arg7 harg7 arg8 harg8 arg12 arg13 arg14 arg15 x0 x1 x2 x3 x4 x5 x6 x7 := by
  rw [d_raw_5]; simp only [ld_input, k_cov, q_cov, r2_eq, r3_eq, r10_eq, v203_eq, col_cov_10, col_cov_11]; rfl

/-- The store of the multipliers, as the run leaves it. -/
theorem m_raw_5 :
    kernelRun0_A.sl.HS3_12 (F := F) c arg1 harg1 arg2 harg2 arg3 harg3 arg4 harg4 arg5 harg5 arg6 harg6 arg7 harg7 arg8 harg8 arg12 arg13 arg14 arg15 x0 x1 x2 x3 x4 x5 x6 x7
      = ⟨Rect.unit ![40, 0] S8x256.size inb_S64x256_S8x256_40_0, mulRow (amax (newZ (kernelRun0_A.sl.r_10 (F := F) c arg1 harg1 x0) (View.readAt (Elt F) arg7.view (Rect.unit (s := S1x64x256x128) ![0, 40, 0, 0] S1x1x256x128.size inb_S1x64x256x128_S1x1x256x128_0_40_0_0).toLoadRect (harg7.unread x6)) (arg12.view.readCov (kernelRun0_A.sl.HS0_16 (F := F) c arg3 harg3 x2) (Rect.unit (s := S16x128x128) ![10, 0, 0] S1x128x128.size inb_S16x128x128_S1x128x128_10_0_0).toLoadRect) (arg15.view.readCov (kernelRun0_A.sl.HS3_11 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![40, 0] S1x256.size inb_S64x256_S1x256_40_0).toLoadRect)) (newZ (kernelRun0_A.sl.r_10 (F := F) c arg1 harg1 x0) (View.readAt (Elt F) arg7.view (Rect.unit (s := S1x64x256x128) ![0, 41, 0, 0] S1x1x256x128.size inb_S1x64x256x128_S1x1x256x128_0_41_0_0).toLoadRect (harg7.unread x6)) (arg12.view.readCov (kernelRun0_A.sl.HS0_16 (F := F) c arg3 harg3 x2) (Rect.unit (s := S16x128x128) ![10, 0, 0] S1x128x128.size inb_S16x128x128_S1x128x128_10_0_0).toLoadRect) (arg15.view.readCov (kernelRun0_A.sl.HS3_11 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![41, 0] S1x256.size inb_S64x256_S1x256_41_0).toLoadRect)) (newZ (kernelRun0_A.sl.r_10 (F := F) c arg1 harg1 x0) (View.readAt (Elt F) arg7.view (Rect.unit (s := S1x64x256x128) ![0, 42, 0, 0] S1x1x256x128.size inb_S1x64x256x128_S1x1x256x128_0_42_0_0).toLoadRect (harg7.unread x6)) (arg12.view.readCov (kernelRun0_A.sl.HS0_16 (F := F) c arg3 harg3 x2) (Rect.unit (s := S16x128x128) ![10, 0, 0] S1x128x128.size inb_S16x128x128_S1x128x128_10_0_0).toLoadRect) (arg15.view.readCov (kernelRun0_A.sl.HS3_11 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![42, 0] S1x256.size inb_S64x256_S1x256_42_0).toLoadRect)) (newZ (kernelRun0_A.sl.r_10 (F := F) c arg1 harg1 x0) (View.readAt (Elt F) arg7.view (Rect.unit (s := S1x64x256x128) ![0, 43, 0, 0] S1x1x256x128.size inb_S1x64x256x128_S1x1x256x128_0_43_0_0).toLoadRect (harg7.unread x6)) (arg12.view.readCov (kernelRun0_A.sl.HS0_16 (F := F) c arg3 harg3 x2) (Rect.unit (s := S16x128x128) ![10, 0, 0] S1x128x128.size inb_S16x128x128_S1x128x128_10_0_0).toLoadRect) (arg15.view.readCov (kernelRun0_A.sl.HS3_11 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![43, 0] S1x256.size inb_S64x256_S1x256_43_0).toLoadRect)) (newZ (kernelRun0_A.sl.r_10 (F := F) c arg1 harg1 x0) (View.readAt (Elt F) arg7.view (Rect.unit (s := S1x64x256x128) ![0, 44, 0, 0] S1x1x256x128.size inb_S1x64x256x128_S1x1x256x128_0_44_0_0).toLoadRect (harg7.unread x6)) (arg12.view.readCov (kernelRun0_A.sl.HS0_16 (F := F) c arg3 harg3 x2) (Rect.unit (s := S16x128x128) ![11, 0, 0] S1x128x128.size inb_S16x128x128_S1x128x128_11_0_0).toLoadRect) (arg15.view.readCov (kernelRun0_A.sl.HS3_11 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![44, 0] S1x256.size inb_S64x256_S1x256_44_0).toLoadRect)) (newZ (kernelRun0_A.sl.r_10 (F := F) c arg1 harg1 x0) (View.readAt (Elt F) arg7.view (Rect.unit (s := S1x64x256x128) ![0, 45, 0, 0] S1x1x256x128.size inb_S1x64x256x128_S1x1x256x128_0_45_0_0).toLoadRect (harg7.unread x6)) (arg12.view.readCov (kernelRun0_A.sl.HS0_16 (F := F) c arg3 harg3 x2) (Rect.unit (s := S16x128x128) ![11, 0, 0] S1x128x128.size inb_S16x128x128_S1x128x128_11_0_0).toLoadRect) (arg15.view.readCov (kernelRun0_A.sl.HS3_11 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![45, 0] S1x256.size inb_S64x256_S1x256_45_0).toLoadRect)) (newZ (kernelRun0_A.sl.r_10 (F := F) c arg1 harg1 x0) (View.readAt (Elt F) arg7.view (Rect.unit (s := S1x64x256x128) ![0, 46, 0, 0] S1x1x256x128.size inb_S1x64x256x128_S1x1x256x128_0_46_0_0).toLoadRect (harg7.unread x6)) (arg12.view.readCov (kernelRun0_A.sl.HS0_16 (F := F) c arg3 harg3 x2) (Rect.unit (s := S16x128x128) ![11, 0, 0] S1x128x128.size inb_S16x128x128_S1x128x128_11_0_0).toLoadRect) (arg15.view.readCov (kernelRun0_A.sl.HS3_11 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![46, 0] S1x256.size inb_S64x256_S1x256_46_0).toLoadRect)) (newZ (kernelRun0_A.sl.r_10 (F := F) c arg1 harg1 x0) (View.readAt (Elt F) arg7.view (Rect.unit (s := S1x64x256x128) ![0, 47, 0, 0] S1x1x256x128.size inb_S1x64x256x128_S1x1x256x128_0_47_0_0).toLoadRect (harg7.unread x6)) (arg12.view.readCov (kernelRun0_A.sl.HS0_16 (F := F) c arg3 harg3 x2) (Rect.unit (s := S16x128x128) ![11, 0, 0] S1x128x128.size inb_S16x128x128_S1x128x128_11_0_0).toLoadRect) (arg15.view.readCov (kernelRun0_A.sl.HS3_11 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![47, 0] S1x256.size inb_S64x256_S1x256_47_0).toLoadRect)) (decayed (View.readAt (Elt F) arg8.view (Rect.unit (s := S1x64x256) ![0, 40, 0] S1x8x256.size inb_S1x64x256_S1x8x256_0_40_0).toLoadRect (harg8.unread x7)) (extractStridedSlice S8x1 ![40, 0] (kernelRun0_A.sl.r_2 (F := F) c arg5 harg5 x4) slices_S64x1_o40_0_S8x1)) (dk (rows (kernelRun0_A.sl.v203 : IVec S8x128 32) (arg13.view.readCov (kernelRun0_A.sl.HS1_1 (F := F) c arg3 harg3 x2) (Rect.unit (s := S16x128) ![10, 0] S1x128.size inb_S16x128_S1x128_10_0).toLoadRect) (arg13.view.readCov (kernelRun0_A.sl.HS1_1 (F := F) c arg3 harg3 x2) (Rect.unit (s := S16x128) ![11, 0] S1x128.size inb_S16x128_S1x128_11_0).toLoadRect)) (delta (proj (kernelRun0_A.sl.v203 : IVec S8x128 32) (arg13.view.readCov (kernelRun0_A.sl.HS1_1 (F := F) c arg3 harg3 x2) (Rect.unit (s := S16x128) ![10, 0] S1x128.size inb_S16x128_S1x128_10_0).toLoadRect) (arg13.view.readCov (kernelRun0_A.sl.HS1_1 (F := F) c arg3 harg3 x2) (Rect.unit (s := S16x128) ![11, 0] S1x128.size inb_S16x128_S1x128_11_0).toLoadRect) (arg14.view.readCov (kernelRun0_A.sl.HS2_1 (F := F) c arg2 harg2 x1) (Rect.unit (s := S16x128) ![10, 0] S1x128.size inb_S16x128_S1x128_10_0).toLoadRect) (arg14.view.readCov (kernelRun0_A.sl.HS2_1 (F := F) c arg2 harg2 x1) (Rect.unit (s := S16x128) ![11, 0] S1x128.size inb_S16x128_S1x128_11_0).toLoadRect) (View.readAt (Elt F) arg7.view (Rect.unit (s := S1x64x256x128) ![0, 40, 0, 0] S1x1x256x128.size inb_S1x64x256x128_S1x1x256x128_0_40_0_0).toLoadRect (harg7.unread x6)) (View.readAt (Elt F) arg7.view (Rect.unit (s := S1x64x256x128) ![0, 41, 0, 0] S1x1x256x128.size inb_S1x64x256x128_S1x1x256x128_0_41_0_0).toLoadRect (harg7.unread x6)) (View.readAt (Elt F) arg7.view (Rect.unit (s := S1x64x256x128) ![0, 42, 0, 0] S1x1x256x128.size inb_S1x64x256x128_S1x1x256x128_0_42_0_0).toLoadRect (harg7.unread x6)) (View.readAt (Elt F) arg7.view (Rect.unit (s := S1x64x256x128) ![0, 43, 0, 0] S1x1x256x128.size inb_S1x64x256x128_S1x1x256x128_0_43_0_0).toLoadRect (harg7.unread x6)) (View.readAt (Elt F) arg7.view (Rect.unit (s := S1x64x256x128) ![0, 44, 0, 0] S1x1x256x128.size inb_S1x64x256x128_S1x1x256x128_0_44_0_0).toLoadRect (harg7.unread x6)) (View.readAt (Elt F) arg7.view (Rect.unit (s := S1x64x256x128) ![0, 45, 0, 0] S1x1x256x128.size inb_S1x64x256x128_S1x1x256x128_0_45_0_0).toLoadRect (harg7.unread x6)) (View.readAt (Elt F) arg7.view (Rect.unit (s := S1x64x256x128) ![0, 46, 0, 0] S1x1x256x128.size inb_S1x64x256x128_S1x1x256x128_0_46_0_0).toLoadRect (harg7.unread x6)) (View.readAt (Elt F) arg7.view (Rect.unit (s := S1x64x256x128) ![0, 47, 0, 0] S1x1x256x128.size inb_S1x64x256x128_S1x1x256x128_0_47_0_0).toLoadRect (harg7.unread x6))) (View.readAt (Elt F) arg8.view (Rect.unit (s := S1x64x256) ![0, 40, 0] S1x8x256.size inb_S1x64x256_S1x8x256_0_40_0).toLoadRect (harg8.unread x7)) (View.readAt (Elt F) arg4.view (Rect.unit (s := S1x64x256) ![0, 40, 0] S1x8x256.size inb_S1x64x256_S1x8x256_0_40_0).toLoadRect (harg4.unread x3)) (extractStridedSlice S8x1 ![40, 0] (kernelRun0_A.sl.r_2 (F := F) c arg5 harg5 x4) slices_S64x1_o40_0_S8x1) (extractStridedSlice S8x1 ![40, 0] (kernelRun0_A.sl.r_3 (F := F) c arg6 harg6 x5) slices_S64x1_o40_0_S8x1)))) (decayed (View.readAt (Elt F) arg8.view (Rect.unit (s := S1x64x256) ![0, 40, 0] S1x8x256.size inb_S1x64x256_S1x8x256_0_40_0).toLoadRect (harg8.unread x7)) (extractStridedSlice S8x1 ![40, 0] (kernelRun0_A.sl.r_2 (F := F) c arg5 harg5 x4) slices_S64x1_o40_0_S8x1)) (dk (rows (kernelRun0_A.sl.v203 : IVec S8x128 32) (arg13.view.readCov (kernelRun0_A.sl.HS1_1 (F := F) c arg3 harg3 x2) (Rect.unit (s := S16x128) ![10, 0] S1x128.size inb_S16x128_S1x128_10_0).toLoadRect) (arg13.view.readCov (kernelRun0_A.sl.HS1_1 (F := F) c arg3 harg3 x2) (Rect.unit (s := S16x128) ![11, 0] S1x128.size inb_S16x128_S1x128_11_0).toLoadRect)) (delta (proj (kernelRun0_A.sl.v203 : IVec S8x128 32) (arg13.view.readCov (kernelRun0_A.sl.HS1_1 (F := F) c arg3 harg3 x2) (Rect.unit (s := S16x128) ![10, 0] S1x128.size inb_S16x128_S1x128_10_0).toLoadRect) (arg13.view.readCov (kernelRun0_A.sl.HS1_1 (F := F) c arg3 harg3 x2) (Rect.unit (s := S16x128) ![11, 0] S1x128.size inb_S16x128_S1x128_11_0).toLoadRect) (arg14.view.readCov (kernelRun0_A.sl.HS2_1 (F := F) c arg2 harg2 x1) (Rect.unit (s := S16x128) ![10, 0] S1x128.size inb_S16x128_S1x128_10_0).toLoadRect) (arg14.view.readCov (kernelRun0_A.sl.HS2_1 (F := F) c arg2 harg2 x1) (Rect.unit (s := S16x128) ![11, 0] S1x128.size inb_S16x128_S1x128_11_0).toLoadRect) (View.readAt (Elt F) arg7.view (Rect.unit (s := S1x64x256x128) ![0, 40, 0, 0] S1x1x256x128.size inb_S1x64x256x128_S1x1x256x128_0_40_0_0).toLoadRect (harg7.unread x6)) (View.readAt (Elt F) arg7.view (Rect.unit (s := S1x64x256x128) ![0, 41, 0, 0] S1x1x256x128.size inb_S1x64x256x128_S1x1x256x128_0_41_0_0).toLoadRect (harg7.unread x6)) (View.readAt (Elt F) arg7.view (Rect.unit (s := S1x64x256x128) ![0, 42, 0, 0] S1x1x256x128.size inb_S1x64x256x128_S1x1x256x128_0_42_0_0).toLoadRect (harg7.unread x6)) (View.readAt (Elt F) arg7.view (Rect.unit (s := S1x64x256x128) ![0, 43, 0, 0] S1x1x256x128.size inb_S1x64x256x128_S1x1x256x128_0_43_0_0).toLoadRect (harg7.unread x6)) (View.readAt (Elt F) arg7.view (Rect.unit (s := S1x64x256x128) ![0, 44, 0, 0] S1x1x256x128.size inb_S1x64x256x128_S1x1x256x128_0_44_0_0).toLoadRect (harg7.unread x6)) (View.readAt (Elt F) arg7.view (Rect.unit (s := S1x64x256x128) ![0, 45, 0, 0] S1x1x256x128.size inb_S1x64x256x128_S1x1x256x128_0_45_0_0).toLoadRect (harg7.unread x6)) (View.readAt (Elt F) arg7.view (Rect.unit (s := S1x64x256x128) ![0, 46, 0, 0] S1x1x256x128.size inb_S1x64x256x128_S1x1x256x128_0_46_0_0).toLoadRect (harg7.unread x6)) (View.readAt (Elt F) arg7.view (Rect.unit (s := S1x64x256x128) ![0, 47, 0, 0] S1x1x256x128.size inb_S1x64x256x128_S1x1x256x128_0_47_0_0).toLoadRect (harg7.unread x6))) (View.readAt (Elt F) arg8.view (Rect.unit (s := S1x64x256) ![0, 40, 0] S1x8x256.size inb_S1x64x256_S1x8x256_0_40_0).toLoadRect (harg8.unread x7)) (View.readAt (Elt F) arg4.view (Rect.unit (s := S1x64x256) ![0, 40, 0] S1x8x256.size inb_S1x64x256_S1x8x256_0_40_0).toLoadRect (harg4.unread x3)) (extractStridedSlice S8x1 ![40, 0] (kernelRun0_A.sl.r_2 (F := F) c arg5 harg5 x4) slices_S64x1_o40_0_S8x1) (extractStridedSlice S8x1 ![40, 0] (kernelRun0_A.sl.r_3 (F := F) c arg6 harg6 x5) slices_S64x1_o40_0_S8x1)))⟩ :: kernelRun0_A.sl.HS3_11 (F := F) c arg1 harg1 arg2 harg2 arg3 harg3 arg4 harg4 arg5 harg5 arg6 harg6 arg7 harg7 arg8 harg8 arg12 arg13 arg14 arg15 x0 x1 x2 x3 x4 x5 x6 x7 := rfl

/-- The same as a function of the input blocks. -/
theorem m_blk_5 :
    kernelRun0_A.sl.HS3_12 (F := F) c arg1 harg1 arg2 harg2 arg3 harg3 arg4 harg4 arg5 harg5 arg6 harg6 arg7 harg7 arg8 harg8 arg12 arg13 arg14 arg15 x0 x1 x2 x3 x4 x5 x6 x7
      = ⟨Rect.unit ![40, 0] S8x256.size inb_S64x256_S8x256_40_0, mB x0 x1 x2 x3 x4 x5 x6 x7 40 (by decide) 10 (by decide)⟩ :: kernelRun0_A.sl.HS3_11 (F := F) c arg1 harg1 arg2 harg2 arg3 harg3 arg4 harg4 arg5 harg5 arg6 harg6 arg7 harg7 arg8 harg8 arg12 arg13 arg14 arg15 x0 x1 x2 x3 x4 x5 x6 x7 := by
  rw [m_raw_5]; simp only [d_blk_5, ld_input, k_cov, q_cov, r2_eq, r3_eq, r10_eq, v203_eq, col_cov_10, col_cov_11, cov_row _ 40 40 0 (by decide) rfl, cov_row _ 40 41 1 (by decide) rfl, cov_row _ 40 42 2 (by decide) rfl, cov_row _ 40 43 3 (by decide) rfl, cov_row _ 40 44 4 (by decide) rfl, cov_row _ 40 45 5 (by decide) rfl, cov_row _ 40 46 6 (by decide) rfl, cov_row _ 40 47 7 (by decide) rfl]; rfl

/-- The stores of the new states, as the run leaves them. -/
theorem z_raw_5 :
    kernelRun0_A.sl.HS4_48 (F := F) c arg1 harg1 arg2 harg2 arg3 harg3 arg4 harg4 arg5 harg5 arg6 harg6 arg7 harg7 arg8 harg8 arg12 arg13 arg14 arg15 x0 x1 x2 x3 x4 x5 x6 x7
      = states (newZ (kernelRun0_A.sl.r_10 (F := F) c arg1 harg1 x0) (View.readAt (Elt F) arg7.view (Rect.unit (s := S1x64x256x128) ![0, 40, 0, 0] S1x1x256x128.size inb_S1x64x256x128_S1x1x256x128_0_40_0_0).toLoadRect (harg7.unread x6)) (arg12.view.readCov (kernelRun0_A.sl.HS0_16 (F := F) c arg3 harg3 x2) (Rect.unit (s := S16x128x128) ![10, 0, 0] S1x128x128.size inb_S16x128x128_S1x128x128_10_0_0).toLoadRect) (arg15.view.readCov (kernelRun0_A.sl.HS3_11 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![40, 0] S1x256.size inb_S64x256_S1x256_40_0).toLoadRect)) (newZ (kernelRun0_A.sl.r_10 (F := F) c arg1 harg1 x0) (View.readAt (Elt F) arg7.view (Rect.unit (s := S1x64x256x128) ![0, 41, 0, 0] S1x1x256x128.size inb_S1x64x256x128_S1x1x256x128_0_41_0_0).toLoadRect (harg7.unread x6)) (arg12.view.readCov (kernelRun0_A.sl.HS0_16 (F := F) c arg3 harg3 x2) (Rect.unit (s := S16x128x128) ![10, 0, 0] S1x128x128.size inb_S16x128x128_S1x128x128_10_0_0).toLoadRect) (arg15.view.readCov (kernelRun0_A.sl.HS3_11 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![41, 0] S1x256.size inb_S64x256_S1x256_41_0).toLoadRect)) (newZ (kernelRun0_A.sl.r_10 (F := F) c arg1 harg1 x0) (View.readAt (Elt F) arg7.view (Rect.unit (s := S1x64x256x128) ![0, 42, 0, 0] S1x1x256x128.size inb_S1x64x256x128_S1x1x256x128_0_42_0_0).toLoadRect (harg7.unread x6)) (arg12.view.readCov (kernelRun0_A.sl.HS0_16 (F := F) c arg3 harg3 x2) (Rect.unit (s := S16x128x128) ![10, 0, 0] S1x128x128.size inb_S16x128x128_S1x128x128_10_0_0).toLoadRect) (arg15.view.readCov (kernelRun0_A.sl.HS3_11 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![42, 0] S1x256.size inb_S64x256_S1x256_42_0).toLoadRect)) (newZ (kernelRun0_A.sl.r_10 (F := F) c arg1 harg1 x0) (View.readAt (Elt F) arg7.view (Rect.unit (s := S1x64x256x128) ![0, 43, 0, 0] S1x1x256x128.size inb_S1x64x256x128_S1x1x256x128_0_43_0_0).toLoadRect (harg7.unread x6)) (arg12.view.readCov (kernelRun0_A.sl.HS0_16 (F := F) c arg3 harg3 x2) (Rect.unit (s := S16x128x128) ![10, 0, 0] S1x128x128.size inb_S16x128x128_S1x128x128_10_0_0).toLoadRect) (arg15.view.readCov (kernelRun0_A.sl.HS3_11 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![43, 0] S1x256.size inb_S64x256_S1x256_43_0).toLoadRect)) (newZ (kernelRun0_A.sl.r_10 (F := F) c arg1 harg1 x0) (View.readAt (Elt F) arg7.view (Rect.unit (s := S1x64x256x128) ![0, 44, 0, 0] S1x1x256x128.size inb_S1x64x256x128_S1x1x256x128_0_44_0_0).toLoadRect (harg7.unread x6)) (arg12.view.readCov (kernelRun0_A.sl.HS0_16 (F := F) c arg3 harg3 x2) (Rect.unit (s := S16x128x128) ![11, 0, 0] S1x128x128.size inb_S16x128x128_S1x128x128_11_0_0).toLoadRect) (arg15.view.readCov (kernelRun0_A.sl.HS3_11 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![44, 0] S1x256.size inb_S64x256_S1x256_44_0).toLoadRect)) (newZ (kernelRun0_A.sl.r_10 (F := F) c arg1 harg1 x0) (View.readAt (Elt F) arg7.view (Rect.unit (s := S1x64x256x128) ![0, 45, 0, 0] S1x1x256x128.size inb_S1x64x256x128_S1x1x256x128_0_45_0_0).toLoadRect (harg7.unread x6)) (arg12.view.readCov (kernelRun0_A.sl.HS0_16 (F := F) c arg3 harg3 x2) (Rect.unit (s := S16x128x128) ![11, 0, 0] S1x128x128.size inb_S16x128x128_S1x128x128_11_0_0).toLoadRect) (arg15.view.readCov (kernelRun0_A.sl.HS3_11 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![45, 0] S1x256.size inb_S64x256_S1x256_45_0).toLoadRect)) (newZ (kernelRun0_A.sl.r_10 (F := F) c arg1 harg1 x0) (View.readAt (Elt F) arg7.view (Rect.unit (s := S1x64x256x128) ![0, 46, 0, 0] S1x1x256x128.size inb_S1x64x256x128_S1x1x256x128_0_46_0_0).toLoadRect (harg7.unread x6)) (arg12.view.readCov (kernelRun0_A.sl.HS0_16 (F := F) c arg3 harg3 x2) (Rect.unit (s := S16x128x128) ![11, 0, 0] S1x128x128.size inb_S16x128x128_S1x128x128_11_0_0).toLoadRect) (arg15.view.readCov (kernelRun0_A.sl.HS3_11 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![46, 0] S1x256.size inb_S64x256_S1x256_46_0).toLoadRect)) (newZ (kernelRun0_A.sl.r_10 (F := F) c arg1 harg1 x0) (View.readAt (Elt F) arg7.view (Rect.unit (s := S1x64x256x128) ![0, 47, 0, 0] S1x1x256x128.size inb_S1x64x256x128_S1x1x256x128_0_47_0_0).toLoadRect (harg7.unread x6)) (arg12.view.readCov (kernelRun0_A.sl.HS0_16 (F := F) c arg3 harg3 x2) (Rect.unit (s := S16x128x128) ![11, 0, 0] S1x128x128.size inb_S16x128x128_S1x128x128_11_0_0).toLoadRect) (arg15.view.readCov (kernelRun0_A.sl.HS3_11 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![47, 0] S1x256.size inb_S64x256_S1x256_47_0).toLoadRect)) (kernelRun0_A.sl.HS4_40 (F := F) c arg1 harg1 arg2 harg2 arg3 harg3 arg4 harg4 arg5 harg5 arg6 harg6 arg7 harg7 arg8 harg8 arg12 arg13 arg14 arg15 x0 x1 x2 x3 x4 x5 x6 x7) := rfl

/-- The same as functions of the input blocks. -/
theorem z_blk_5 :
    kernelRun0_A.sl.HS4_48 (F := F) c arg1 harg1 arg2 harg2 arg3 harg3 arg4 harg4 arg5 harg5 arg6 harg6 arg7 harg7 arg8 harg8 arg12 arg13 arg14 arg15 x0 x1 x2 x3 x4 x5 x6 x7
      = states (zB x0 x1 x2 x3 x4 x5 x6 x7 40 (by decide) 10 (by decide) 0 (by decide) 10 (by decide)) (zB x0 x1 x2 x3 x4 x5 x6 x7 40 (by decide) 10 (by decide) 1 (by decide) 10 (by decide)) (zB x0 x1 x2 x3 x4 x5 x6 x7 40 (by decide) 10 (by decide) 2 (by decide) 10 (by decide)) (zB x0 x1 x2 x3 x4 x5 x6 x7 40 (by decide) 10 (by decide) 3 (by decide) 10 (by decide)) (zB x0 x1 x2 x3 x4 x5 x6 x7 40 (by decide) 10 (by decide) 4 (by decide) 11 (by decide)) (zB x0 x1 x2 x3 x4 x5 x6 x7 40 (by decide) 10 (by decide) 5 (by decide) 11 (by decide)) (zB x0 x1 x2 x3 x4 x5 x6 x7 40 (by decide) 10 (by decide) 6 (by decide) 11 (by decide)) (zB x0 x1 x2 x3 x4 x5 x6 x7 40 (by decide) 10 (by decide) 7 (by decide) 11 (by decide)) (kernelRun0_A.sl.HS4_40 (F := F) c arg1 harg1 arg2 harg2 arg3 harg3 arg4 harg4 arg5 harg5 arg6 harg6 arg7 harg7 arg8 harg8 arg12 arg13 arg14 arg15 x0 x1 x2 x3 x4 x5 x6 x7) := by
  rw [z_raw_5]; simp only [d_blk_5, ld_input, k_cov, q_cov, r2_eq, r3_eq, r10_eq, v203_eq, col_cov_10, col_cov_11, cov_row _ 40 40 0 (by decide) rfl, cov_row _ 40 41 1 (by decide) rfl, cov_row _ 40 42 2 (by decide) rfl, cov_row _ 40 43 3 (by decide) rfl, cov_row _ 40 44 4 (by decide) rfl, cov_row _ 40 45 5 (by decide) rfl, cov_row _ 40 46 6 (by decide) rfl, cov_row _ 40 47 7 (by decide) rfl]; rfl

end Cert.Delta

end
-- ==== Proof.Chunk6.lean ====
/- Block of heads 48 to 55: what its stores hold, from the point's input blocks. -/
module

public import proofs.«01_k».proof.Proof.Loads

@[expose] public section

set_option maxRecDepth 16384
set_option maxHeartbeats 4000000

noncomputable section

namespace Cert.Delta

open Idealize.ShloMosaic Idealize.SL.Sem Cert.KernelIdeal Cert.KernelIdeal.Gen

variable {F : FTy → Type} [FloatOps F]
variable (c : Dev nD) (arg1 : Memref sig .tc .vmem S128x128 .fp8e4m3) (harg1 : arg1.IsWhole) (arg2 : Memref sig .tc .vmem S1x16x128 .bf16) (harg2 : arg2.IsWhole)
  (arg3 : Memref sig .tc .vmem S1x16x128 .bf16) (harg3 : arg3.IsWhole) (arg4 : Memref sig .tc .vmem S1x64x256 .bf16) (harg4 : arg4.IsWhole)
  (arg5 : Memref sig .tc .vmem S1x1x64 .f32) (harg5 : arg5.IsWhole) (arg6 : Memref sig .tc .vmem S1x1x64 .f32) (harg6 : arg6.IsWhole)
  (arg7 : Memref sig .tc .vmem S1x64x256x128 .fp8e4m3) (harg7 : arg7.IsWhole) (arg8 : Memref sig .tc .vmem S1x64x256 .f32) (harg8 : arg8.IsWhole)
  (arg12 : Memref sig .tc .vmem S16x128x128 .f32) (arg13 : Memref sig .tc .vmem S16x128 .f32)
  (arg14 : Memref sig .tc .vmem S16x128 .f32) (arg15 : Memref sig .tc .vmem S64x256 .f32)
  (x0 : Vec F S128x128 .fp8e4m3) (x1 : Vec F S1x16x128 .bf16) (x2 : Vec F S1x16x128 .bf16) (x3 : Vec F S1x64x256 .bf16)
  (x4 : Vec F S1x1x64 .f32) (x5 : Vec F S1x1x64 .f32) (x6 : Vec F S1x64x256x128 .fp8e4m3) (x7 : Vec F S1x64x256 .f32)

/-- The store of the updates in units of the old codes, as the run leaves it. -/
theorem d_raw_6 :
    kernelRun0_A.sl.HS3_13 (F := F) c arg1 harg1 arg2 harg2 arg3 harg3 arg4 harg4 arg5 harg5 arg6 harg6 arg7 harg7 arg8 harg8 arg12 arg13 arg14 arg15 x0 x1 x2 x3 x4 x5 x6 x7
      = ⟨Rect.unit ![48, 0] S8x256.size inb_S64x256_S8x256_48_0, inCodes (decayed (View.readAt (Elt F) arg8.view (Rect.unit (s := S1x64x256) ![0, 48, 0] S1x8x256.size inb_S1x64x256_S1x8x256_0_48_0).toLoadRect (harg8.unread x7)) (extractStridedSlice S8x1 ![48, 0] (kernelRun0_A.sl.r_2 (F := F) c arg5 harg5 x4) slices_S64x1_o48_0_S8x1)) (dk (rows (kernelRun0_A.sl.v203 : IVec S8x128 32) (arg13.view.readCov (kernelRun0_A.sl.HS1_1 (F := F) c arg3 harg3 x2) (Rect.unit (s := S16x128) ![12, 0] S1x128.size inb_S16x128_S1x128_12_0).toLoadRect) (arg13.view.readCov (kernelRun0_A.sl.HS1_1 (F := F) c arg3 harg3 x2) (Rect.unit (s := S16x128) ![13, 0] S1x128.size inb_S16x128_S1x128_13_0).toLoadRect)) (delta (proj (kernelRun0_A.sl.v203 : IVec S8x128 32) (arg13.view.readCov (kernelRun0_A.sl.HS1_1 (F := F) c arg3 harg3 x2) (Rect.unit (s := S16x128) ![12, 0] S1x128.size inb_S16x128_S1x128_12_0).toLoadRect) (arg13.view.readCov (kernelRun0_A.sl.HS1_1 (F := F) c arg3 harg3 x2) (Rect.unit (s := S16x128) ![13, 0] S1x128.size inb_S16x128_S1x128_13_0).toLoadRect) (arg14.view.readCov (kernelRun0_A.sl.HS2_1 (F := F) c arg2 harg2 x1) (Rect.unit (s := S16x128) ![12, 0] S1x128.size inb_S16x128_S1x128_12_0).toLoadRect) (arg14.view.readCov (kernelRun0_A.sl.HS2_1 (F := F) c arg2 harg2 x1) (Rect.unit (s := S16x128) ![13, 0] S1x128.size inb_S16x128_S1x128_13_0).toLoadRect) (View.readAt (Elt F) arg7.view (Rect.unit (s := S1x64x256x128) ![0, 48, 0, 0] S1x1x256x128.size inb_S1x64x256x128_S1x1x256x128_0_48_0_0).toLoadRect (harg7.unread x6)) (View.readAt (Elt F) arg7.view (Rect.unit (s := S1x64x256x128) ![0, 49, 0, 0] S1x1x256x128.size inb_S1x64x256x128_S1x1x256x128_0_49_0_0).toLoadRect (harg7.unread x6)) (View.readAt (Elt F) arg7.view (Rect.unit (s := S1x64x256x128) ![0, 50, 0, 0] S1x1x256x128.size inb_S1x64x256x128_S1x1x256x128_0_50_0_0).toLoadRect (harg7.unread x6)) (View.readAt (Elt F) arg7.view (Rect.unit (s := S1x64x256x128) ![0, 51, 0, 0] S1x1x256x128.size inb_S1x64x256x128_S1x1x256x128_0_51_0_0).toLoadRect (harg7.unread x6)) (View.readAt (Elt F) arg7.view (Rect.unit (s := S1x64x256x128) ![0, 52, 0, 0] S1x1x256x128.size inb_S1x64x256x128_S1x1x256x128_0_52_0_0).toLoadRect (harg7.unread x6)) (View.readAt (Elt F) arg7.view (Rect.unit (s := S1x64x256x128) ![0, 53, 0, 0] S1x1x256x128.size inb_S1x64x256x128_S1x1x256x128_0_53_0_0).toLoadRect (harg7.unread x6)) (View.readAt (Elt F) arg7.view (Rect.unit (s := S1x64x256x128) ![0, 54, 0, 0] S1x1x256x128.size inb_S1x64x256x128_S1x1x256x128_0_54_0_0).toLoadRect (harg7.unread x6)) (View.readAt (Elt F) arg7.view (Rect.unit (s := S1x64x256x128) ![0, 55, 0, 0] S1x1x256x128.size inb_S1x64x256x128_S1x1x256x128_0_55_0_0).toLoadRect (harg7.unread x6))) (View.readAt (Elt F) arg8.view (Rect.unit (s := S1x64x256) ![0, 48, 0] S1x8x256.size inb_S1x64x256_S1x8x256_0_48_0).toLoadRect (harg8.unread x7)) (View.readAt (Elt F) arg4.view (Rect.unit (s := S1x64x256) ![0, 48, 0] S1x8x256.size inb_S1x64x256_S1x8x256_0_48_0).toLoadRect (harg4.unread x3)) (extractStridedSlice S8x1 ![48, 0] (kernelRun0_A.sl.r_2 (F := F) c arg5 harg5 x4) slices_S64x1_o48_0_S8x1) (extractStridedSlice S8x1 ![48, 0] (kernelRun0_A.sl.r_3 (F := F) c arg6 harg6 x5) slices_S64x1_o48_0_S8x1)))⟩ :: kernelRun0_A.sl.HS3_12 (F := F) c arg1 harg1 arg2 harg2 arg3 harg3 arg4 harg4 arg5 harg5 arg6 harg6 arg7 harg7 arg8 harg8 arg12 arg13 arg14 arg15 x0 x1 x2 x3 x4 x5 x6 x7 := rfl

/-- The same as a function of the input blocks. -/
theorem d_blk_6 :
    kernelRun0_A.sl.HS3_13 (F := F) c arg1 harg1 arg2 harg2 arg3 harg3 arg4 harg4 arg5 harg5 arg6 harg6 arg7 harg7 arg8 harg8 arg12 arg13 arg14 arg15 x0 x1 x2 x3 x4 x5 x6 x7
      = ⟨Rect.unit ![48, 0] S8x256.size inb_S64x256_S8x256_48_0, icB x1 x2 x3 x4 x5 x6 x7 48 (by decide) 12 (by decide)⟩ :: kernelRun0_A.sl.HS3_12 (F := F) c arg1 harg1 arg2 harg2 arg3 harg3 arg4 harg4 arg5 harg5 arg6 harg6 arg7 harg7 arg8 harg8 arg12 arg13 arg14 arg15 x0 x1 x2 x3 x4 x5 x6 x7 := by
  rw [d_raw_6]; simp only [ld_input, k_cov, q_cov, r2_eq, r3_eq, r10_eq, v203_eq, col_cov_12, col_cov_13]; rfl

/-- The store of the multipliers, as the run leaves it. -/
theorem m_raw_6 :
    kernelRun0_A.sl.HS3_14 (F := F) c arg1 harg1 arg2 harg2 arg3 harg3 arg4 harg4 arg5 harg5 arg6 harg6 arg7 harg7 arg8 harg8 arg12 arg13 arg14 arg15 x0 x1 x2 x3 x4 x5 x6 x7
      = ⟨Rect.unit ![48, 0] S8x256.size inb_S64x256_S8x256_48_0, mulRow (amax (newZ (kernelRun0_A.sl.r_10 (F := F) c arg1 harg1 x0) (View.readAt (Elt F) arg7.view (Rect.unit (s := S1x64x256x128) ![0, 48, 0, 0] S1x1x256x128.size inb_S1x64x256x128_S1x1x256x128_0_48_0_0).toLoadRect (harg7.unread x6)) (arg12.view.readCov (kernelRun0_A.sl.HS0_16 (F := F) c arg3 harg3 x2) (Rect.unit (s := S16x128x128) ![12, 0, 0] S1x128x128.size inb_S16x128x128_S1x128x128_12_0_0).toLoadRect) (arg15.view.readCov (kernelRun0_A.sl.HS3_13 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![48, 0] S1x256.size inb_S64x256_S1x256_48_0).toLoadRect)) (newZ (kernelRun0_A.sl.r_10 (F := F) c arg1 harg1 x0) (View.readAt (Elt F) arg7.view (Rect.unit (s := S1x64x256x128) ![0, 49, 0, 0] S1x1x256x128.size inb_S1x64x256x128_S1x1x256x128_0_49_0_0).toLoadRect (harg7.unread x6)) (arg12.view.readCov (kernelRun0_A.sl.HS0_16 (F := F) c arg3 harg3 x2) (Rect.unit (s := S16x128x128) ![12, 0, 0] S1x128x128.size inb_S16x128x128_S1x128x128_12_0_0).toLoadRect) (arg15.view.readCov (kernelRun0_A.sl.HS3_13 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![49, 0] S1x256.size inb_S64x256_S1x256_49_0).toLoadRect)) (newZ (kernelRun0_A.sl.r_10 (F := F) c arg1 harg1 x0) (View.readAt (Elt F) arg7.view (Rect.unit (s := S1x64x256x128) ![0, 50, 0, 0] S1x1x256x128.size inb_S1x64x256x128_S1x1x256x128_0_50_0_0).toLoadRect (harg7.unread x6)) (arg12.view.readCov (kernelRun0_A.sl.HS0_16 (F := F) c arg3 harg3 x2) (Rect.unit (s := S16x128x128) ![12, 0, 0] S1x128x128.size inb_S16x128x128_S1x128x128_12_0_0).toLoadRect) (arg15.view.readCov (kernelRun0_A.sl.HS3_13 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![50, 0] S1x256.size inb_S64x256_S1x256_50_0).toLoadRect)) (newZ (kernelRun0_A.sl.r_10 (F := F) c arg1 harg1 x0) (View.readAt (Elt F) arg7.view (Rect.unit (s := S1x64x256x128) ![0, 51, 0, 0] S1x1x256x128.size inb_S1x64x256x128_S1x1x256x128_0_51_0_0).toLoadRect (harg7.unread x6)) (arg12.view.readCov (kernelRun0_A.sl.HS0_16 (F := F) c arg3 harg3 x2) (Rect.unit (s := S16x128x128) ![12, 0, 0] S1x128x128.size inb_S16x128x128_S1x128x128_12_0_0).toLoadRect) (arg15.view.readCov (kernelRun0_A.sl.HS3_13 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![51, 0] S1x256.size inb_S64x256_S1x256_51_0).toLoadRect)) (newZ (kernelRun0_A.sl.r_10 (F := F) c arg1 harg1 x0) (View.readAt (Elt F) arg7.view (Rect.unit (s := S1x64x256x128) ![0, 52, 0, 0] S1x1x256x128.size inb_S1x64x256x128_S1x1x256x128_0_52_0_0).toLoadRect (harg7.unread x6)) (arg12.view.readCov (kernelRun0_A.sl.HS0_16 (F := F) c arg3 harg3 x2) (Rect.unit (s := S16x128x128) ![13, 0, 0] S1x128x128.size inb_S16x128x128_S1x128x128_13_0_0).toLoadRect) (arg15.view.readCov (kernelRun0_A.sl.HS3_13 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![52, 0] S1x256.size inb_S64x256_S1x256_52_0).toLoadRect)) (newZ (kernelRun0_A.sl.r_10 (F := F) c arg1 harg1 x0) (View.readAt (Elt F) arg7.view (Rect.unit (s := S1x64x256x128) ![0, 53, 0, 0] S1x1x256x128.size inb_S1x64x256x128_S1x1x256x128_0_53_0_0).toLoadRect (harg7.unread x6)) (arg12.view.readCov (kernelRun0_A.sl.HS0_16 (F := F) c arg3 harg3 x2) (Rect.unit (s := S16x128x128) ![13, 0, 0] S1x128x128.size inb_S16x128x128_S1x128x128_13_0_0).toLoadRect) (arg15.view.readCov (kernelRun0_A.sl.HS3_13 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![53, 0] S1x256.size inb_S64x256_S1x256_53_0).toLoadRect)) (newZ (kernelRun0_A.sl.r_10 (F := F) c arg1 harg1 x0) (View.readAt (Elt F) arg7.view (Rect.unit (s := S1x64x256x128) ![0, 54, 0, 0] S1x1x256x128.size inb_S1x64x256x128_S1x1x256x128_0_54_0_0).toLoadRect (harg7.unread x6)) (arg12.view.readCov (kernelRun0_A.sl.HS0_16 (F := F) c arg3 harg3 x2) (Rect.unit (s := S16x128x128) ![13, 0, 0] S1x128x128.size inb_S16x128x128_S1x128x128_13_0_0).toLoadRect) (arg15.view.readCov (kernelRun0_A.sl.HS3_13 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![54, 0] S1x256.size inb_S64x256_S1x256_54_0).toLoadRect)) (newZ (kernelRun0_A.sl.r_10 (F := F) c arg1 harg1 x0) (View.readAt (Elt F) arg7.view (Rect.unit (s := S1x64x256x128) ![0, 55, 0, 0] S1x1x256x128.size inb_S1x64x256x128_S1x1x256x128_0_55_0_0).toLoadRect (harg7.unread x6)) (arg12.view.readCov (kernelRun0_A.sl.HS0_16 (F := F) c arg3 harg3 x2) (Rect.unit (s := S16x128x128) ![13, 0, 0] S1x128x128.size inb_S16x128x128_S1x128x128_13_0_0).toLoadRect) (arg15.view.readCov (kernelRun0_A.sl.HS3_13 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![55, 0] S1x256.size inb_S64x256_S1x256_55_0).toLoadRect)) (decayed (View.readAt (Elt F) arg8.view (Rect.unit (s := S1x64x256) ![0, 48, 0] S1x8x256.size inb_S1x64x256_S1x8x256_0_48_0).toLoadRect (harg8.unread x7)) (extractStridedSlice S8x1 ![48, 0] (kernelRun0_A.sl.r_2 (F := F) c arg5 harg5 x4) slices_S64x1_o48_0_S8x1)) (dk (rows (kernelRun0_A.sl.v203 : IVec S8x128 32) (arg13.view.readCov (kernelRun0_A.sl.HS1_1 (F := F) c arg3 harg3 x2) (Rect.unit (s := S16x128) ![12, 0] S1x128.size inb_S16x128_S1x128_12_0).toLoadRect) (arg13.view.readCov (kernelRun0_A.sl.HS1_1 (F := F) c arg3 harg3 x2) (Rect.unit (s := S16x128) ![13, 0] S1x128.size inb_S16x128_S1x128_13_0).toLoadRect)) (delta (proj (kernelRun0_A.sl.v203 : IVec S8x128 32) (arg13.view.readCov (kernelRun0_A.sl.HS1_1 (F := F) c arg3 harg3 x2) (Rect.unit (s := S16x128) ![12, 0] S1x128.size inb_S16x128_S1x128_12_0).toLoadRect) (arg13.view.readCov (kernelRun0_A.sl.HS1_1 (F := F) c arg3 harg3 x2) (Rect.unit (s := S16x128) ![13, 0] S1x128.size inb_S16x128_S1x128_13_0).toLoadRect) (arg14.view.readCov (kernelRun0_A.sl.HS2_1 (F := F) c arg2 harg2 x1) (Rect.unit (s := S16x128) ![12, 0] S1x128.size inb_S16x128_S1x128_12_0).toLoadRect) (arg14.view.readCov (kernelRun0_A.sl.HS2_1 (F := F) c arg2 harg2 x1) (Rect.unit (s := S16x128) ![13, 0] S1x128.size inb_S16x128_S1x128_13_0).toLoadRect) (View.readAt (Elt F) arg7.view (Rect.unit (s := S1x64x256x128) ![0, 48, 0, 0] S1x1x256x128.size inb_S1x64x256x128_S1x1x256x128_0_48_0_0).toLoadRect (harg7.unread x6)) (View.readAt (Elt F) arg7.view (Rect.unit (s := S1x64x256x128) ![0, 49, 0, 0] S1x1x256x128.size inb_S1x64x256x128_S1x1x256x128_0_49_0_0).toLoadRect (harg7.unread x6)) (View.readAt (Elt F) arg7.view (Rect.unit (s := S1x64x256x128) ![0, 50, 0, 0] S1x1x256x128.size inb_S1x64x256x128_S1x1x256x128_0_50_0_0).toLoadRect (harg7.unread x6)) (View.readAt (Elt F) arg7.view (Rect.unit (s := S1x64x256x128) ![0, 51, 0, 0] S1x1x256x128.size inb_S1x64x256x128_S1x1x256x128_0_51_0_0).toLoadRect (harg7.unread x6)) (View.readAt (Elt F) arg7.view (Rect.unit (s := S1x64x256x128) ![0, 52, 0, 0] S1x1x256x128.size inb_S1x64x256x128_S1x1x256x128_0_52_0_0).toLoadRect (harg7.unread x6)) (View.readAt (Elt F) arg7.view (Rect.unit (s := S1x64x256x128) ![0, 53, 0, 0] S1x1x256x128.size inb_S1x64x256x128_S1x1x256x128_0_53_0_0).toLoadRect (harg7.unread x6)) (View.readAt (Elt F) arg7.view (Rect.unit (s := S1x64x256x128) ![0, 54, 0, 0] S1x1x256x128.size inb_S1x64x256x128_S1x1x256x128_0_54_0_0).toLoadRect (harg7.unread x6)) (View.readAt (Elt F) arg7.view (Rect.unit (s := S1x64x256x128) ![0, 55, 0, 0] S1x1x256x128.size inb_S1x64x256x128_S1x1x256x128_0_55_0_0).toLoadRect (harg7.unread x6))) (View.readAt (Elt F) arg8.view (Rect.unit (s := S1x64x256) ![0, 48, 0] S1x8x256.size inb_S1x64x256_S1x8x256_0_48_0).toLoadRect (harg8.unread x7)) (View.readAt (Elt F) arg4.view (Rect.unit (s := S1x64x256) ![0, 48, 0] S1x8x256.size inb_S1x64x256_S1x8x256_0_48_0).toLoadRect (harg4.unread x3)) (extractStridedSlice S8x1 ![48, 0] (kernelRun0_A.sl.r_2 (F := F) c arg5 harg5 x4) slices_S64x1_o48_0_S8x1) (extractStridedSlice S8x1 ![48, 0] (kernelRun0_A.sl.r_3 (F := F) c arg6 harg6 x5) slices_S64x1_o48_0_S8x1)))) (decayed (View.readAt (Elt F) arg8.view (Rect.unit (s := S1x64x256) ![0, 48, 0] S1x8x256.size inb_S1x64x256_S1x8x256_0_48_0).toLoadRect (harg8.unread x7)) (extractStridedSlice S8x1 ![48, 0] (kernelRun0_A.sl.r_2 (F := F) c arg5 harg5 x4) slices_S64x1_o48_0_S8x1)) (dk (rows (kernelRun0_A.sl.v203 : IVec S8x128 32) (arg13.view.readCov (kernelRun0_A.sl.HS1_1 (F := F) c arg3 harg3 x2) (Rect.unit (s := S16x128) ![12, 0] S1x128.size inb_S16x128_S1x128_12_0).toLoadRect) (arg13.view.readCov (kernelRun0_A.sl.HS1_1 (F := F) c arg3 harg3 x2) (Rect.unit (s := S16x128) ![13, 0] S1x128.size inb_S16x128_S1x128_13_0).toLoadRect)) (delta (proj (kernelRun0_A.sl.v203 : IVec S8x128 32) (arg13.view.readCov (kernelRun0_A.sl.HS1_1 (F := F) c arg3 harg3 x2) (Rect.unit (s := S16x128) ![12, 0] S1x128.size inb_S16x128_S1x128_12_0).toLoadRect) (arg13.view.readCov (kernelRun0_A.sl.HS1_1 (F := F) c arg3 harg3 x2) (Rect.unit (s := S16x128) ![13, 0] S1x128.size inb_S16x128_S1x128_13_0).toLoadRect) (arg14.view.readCov (kernelRun0_A.sl.HS2_1 (F := F) c arg2 harg2 x1) (Rect.unit (s := S16x128) ![12, 0] S1x128.size inb_S16x128_S1x128_12_0).toLoadRect) (arg14.view.readCov (kernelRun0_A.sl.HS2_1 (F := F) c arg2 harg2 x1) (Rect.unit (s := S16x128) ![13, 0] S1x128.size inb_S16x128_S1x128_13_0).toLoadRect) (View.readAt (Elt F) arg7.view (Rect.unit (s := S1x64x256x128) ![0, 48, 0, 0] S1x1x256x128.size inb_S1x64x256x128_S1x1x256x128_0_48_0_0).toLoadRect (harg7.unread x6)) (View.readAt (Elt F) arg7.view (Rect.unit (s := S1x64x256x128) ![0, 49, 0, 0] S1x1x256x128.size inb_S1x64x256x128_S1x1x256x128_0_49_0_0).toLoadRect (harg7.unread x6)) (View.readAt (Elt F) arg7.view (Rect.unit (s := S1x64x256x128) ![0, 50, 0, 0] S1x1x256x128.size inb_S1x64x256x128_S1x1x256x128_0_50_0_0).toLoadRect (harg7.unread x6)) (View.readAt (Elt F) arg7.view (Rect.unit (s := S1x64x256x128) ![0, 51, 0, 0] S1x1x256x128.size inb_S1x64x256x128_S1x1x256x128_0_51_0_0).toLoadRect (harg7.unread x6)) (View.readAt (Elt F) arg7.view (Rect.unit (s := S1x64x256x128) ![0, 52, 0, 0] S1x1x256x128.size inb_S1x64x256x128_S1x1x256x128_0_52_0_0).toLoadRect (harg7.unread x6)) (View.readAt (Elt F) arg7.view (Rect.unit (s := S1x64x256x128) ![0, 53, 0, 0] S1x1x256x128.size inb_S1x64x256x128_S1x1x256x128_0_53_0_0).toLoadRect (harg7.unread x6)) (View.readAt (Elt F) arg7.view (Rect.unit (s := S1x64x256x128) ![0, 54, 0, 0] S1x1x256x128.size inb_S1x64x256x128_S1x1x256x128_0_54_0_0).toLoadRect (harg7.unread x6)) (View.readAt (Elt F) arg7.view (Rect.unit (s := S1x64x256x128) ![0, 55, 0, 0] S1x1x256x128.size inb_S1x64x256x128_S1x1x256x128_0_55_0_0).toLoadRect (harg7.unread x6))) (View.readAt (Elt F) arg8.view (Rect.unit (s := S1x64x256) ![0, 48, 0] S1x8x256.size inb_S1x64x256_S1x8x256_0_48_0).toLoadRect (harg8.unread x7)) (View.readAt (Elt F) arg4.view (Rect.unit (s := S1x64x256) ![0, 48, 0] S1x8x256.size inb_S1x64x256_S1x8x256_0_48_0).toLoadRect (harg4.unread x3)) (extractStridedSlice S8x1 ![48, 0] (kernelRun0_A.sl.r_2 (F := F) c arg5 harg5 x4) slices_S64x1_o48_0_S8x1) (extractStridedSlice S8x1 ![48, 0] (kernelRun0_A.sl.r_3 (F := F) c arg6 harg6 x5) slices_S64x1_o48_0_S8x1)))⟩ :: kernelRun0_A.sl.HS3_13 (F := F) c arg1 harg1 arg2 harg2 arg3 harg3 arg4 harg4 arg5 harg5 arg6 harg6 arg7 harg7 arg8 harg8 arg12 arg13 arg14 arg15 x0 x1 x2 x3 x4 x5 x6 x7 := rfl

/-- The same as a function of the input blocks. -/
theorem m_blk_6 :
    kernelRun0_A.sl.HS3_14 (F := F) c arg1 harg1 arg2 harg2 arg3 harg3 arg4 harg4 arg5 harg5 arg6 harg6 arg7 harg7 arg8 harg8 arg12 arg13 arg14 arg15 x0 x1 x2 x3 x4 x5 x6 x7
      = ⟨Rect.unit ![48, 0] S8x256.size inb_S64x256_S8x256_48_0, mB x0 x1 x2 x3 x4 x5 x6 x7 48 (by decide) 12 (by decide)⟩ :: kernelRun0_A.sl.HS3_13 (F := F) c arg1 harg1 arg2 harg2 arg3 harg3 arg4 harg4 arg5 harg5 arg6 harg6 arg7 harg7 arg8 harg8 arg12 arg13 arg14 arg15 x0 x1 x2 x3 x4 x5 x6 x7 := by
  rw [m_raw_6]; simp only [d_blk_6, ld_input, k_cov, q_cov, r2_eq, r3_eq, r10_eq, v203_eq, col_cov_12, col_cov_13, cov_row _ 48 48 0 (by decide) rfl, cov_row _ 48 49 1 (by decide) rfl, cov_row _ 48 50 2 (by decide) rfl, cov_row _ 48 51 3 (by decide) rfl, cov_row _ 48 52 4 (by decide) rfl, cov_row _ 48 53 5 (by decide) rfl, cov_row _ 48 54 6 (by decide) rfl, cov_row _ 48 55 7 (by decide) rfl]; rfl

/-- The stores of the new states, as the run leaves them. -/
theorem z_raw_6 :
    kernelRun0_A.sl.HS4_56 (F := F) c arg1 harg1 arg2 harg2 arg3 harg3 arg4 harg4 arg5 harg5 arg6 harg6 arg7 harg7 arg8 harg8 arg12 arg13 arg14 arg15 x0 x1 x2 x3 x4 x5 x6 x7
      = states (newZ (kernelRun0_A.sl.r_10 (F := F) c arg1 harg1 x0) (View.readAt (Elt F) arg7.view (Rect.unit (s := S1x64x256x128) ![0, 48, 0, 0] S1x1x256x128.size inb_S1x64x256x128_S1x1x256x128_0_48_0_0).toLoadRect (harg7.unread x6)) (arg12.view.readCov (kernelRun0_A.sl.HS0_16 (F := F) c arg3 harg3 x2) (Rect.unit (s := S16x128x128) ![12, 0, 0] S1x128x128.size inb_S16x128x128_S1x128x128_12_0_0).toLoadRect) (arg15.view.readCov (kernelRun0_A.sl.HS3_13 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![48, 0] S1x256.size inb_S64x256_S1x256_48_0).toLoadRect)) (newZ (kernelRun0_A.sl.r_10 (F := F) c arg1 harg1 x0) (View.readAt (Elt F) arg7.view (Rect.unit (s := S1x64x256x128) ![0, 49, 0, 0] S1x1x256x128.size inb_S1x64x256x128_S1x1x256x128_0_49_0_0).toLoadRect (harg7.unread x6)) (arg12.view.readCov (kernelRun0_A.sl.HS0_16 (F := F) c arg3 harg3 x2) (Rect.unit (s := S16x128x128) ![12, 0, 0] S1x128x128.size inb_S16x128x128_S1x128x128_12_0_0).toLoadRect) (arg15.view.readCov (kernelRun0_A.sl.HS3_13 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![49, 0] S1x256.size inb_S64x256_S1x256_49_0).toLoadRect)) (newZ (kernelRun0_A.sl.r_10 (F := F) c arg1 harg1 x0) (View.readAt (Elt F) arg7.view (Rect.unit (s := S1x64x256x128) ![0, 50, 0, 0] S1x1x256x128.size inb_S1x64x256x128_S1x1x256x128_0_50_0_0).toLoadRect (harg7.unread x6)) (arg12.view.readCov (kernelRun0_A.sl.HS0_16 (F := F) c arg3 harg3 x2) (Rect.unit (s := S16x128x128) ![12, 0, 0] S1x128x128.size inb_S16x128x128_S1x128x128_12_0_0).toLoadRect) (arg15.view.readCov (kernelRun0_A.sl.HS3_13 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![50, 0] S1x256.size inb_S64x256_S1x256_50_0).toLoadRect)) (newZ (kernelRun0_A.sl.r_10 (F := F) c arg1 harg1 x0) (View.readAt (Elt F) arg7.view (Rect.unit (s := S1x64x256x128) ![0, 51, 0, 0] S1x1x256x128.size inb_S1x64x256x128_S1x1x256x128_0_51_0_0).toLoadRect (harg7.unread x6)) (arg12.view.readCov (kernelRun0_A.sl.HS0_16 (F := F) c arg3 harg3 x2) (Rect.unit (s := S16x128x128) ![12, 0, 0] S1x128x128.size inb_S16x128x128_S1x128x128_12_0_0).toLoadRect) (arg15.view.readCov (kernelRun0_A.sl.HS3_13 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![51, 0] S1x256.size inb_S64x256_S1x256_51_0).toLoadRect)) (newZ (kernelRun0_A.sl.r_10 (F := F) c arg1 harg1 x0) (View.readAt (Elt F) arg7.view (Rect.unit (s := S1x64x256x128) ![0, 52, 0, 0] S1x1x256x128.size inb_S1x64x256x128_S1x1x256x128_0_52_0_0).toLoadRect (harg7.unread x6)) (arg12.view.readCov (kernelRun0_A.sl.HS0_16 (F := F) c arg3 harg3 x2) (Rect.unit (s := S16x128x128) ![13, 0, 0] S1x128x128.size inb_S16x128x128_S1x128x128_13_0_0).toLoadRect) (arg15.view.readCov (kernelRun0_A.sl.HS3_13 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![52, 0] S1x256.size inb_S64x256_S1x256_52_0).toLoadRect)) (newZ (kernelRun0_A.sl.r_10 (F := F) c arg1 harg1 x0) (View.readAt (Elt F) arg7.view (Rect.unit (s := S1x64x256x128) ![0, 53, 0, 0] S1x1x256x128.size inb_S1x64x256x128_S1x1x256x128_0_53_0_0).toLoadRect (harg7.unread x6)) (arg12.view.readCov (kernelRun0_A.sl.HS0_16 (F := F) c arg3 harg3 x2) (Rect.unit (s := S16x128x128) ![13, 0, 0] S1x128x128.size inb_S16x128x128_S1x128x128_13_0_0).toLoadRect) (arg15.view.readCov (kernelRun0_A.sl.HS3_13 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![53, 0] S1x256.size inb_S64x256_S1x256_53_0).toLoadRect)) (newZ (kernelRun0_A.sl.r_10 (F := F) c arg1 harg1 x0) (View.readAt (Elt F) arg7.view (Rect.unit (s := S1x64x256x128) ![0, 54, 0, 0] S1x1x256x128.size inb_S1x64x256x128_S1x1x256x128_0_54_0_0).toLoadRect (harg7.unread x6)) (arg12.view.readCov (kernelRun0_A.sl.HS0_16 (F := F) c arg3 harg3 x2) (Rect.unit (s := S16x128x128) ![13, 0, 0] S1x128x128.size inb_S16x128x128_S1x128x128_13_0_0).toLoadRect) (arg15.view.readCov (kernelRun0_A.sl.HS3_13 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![54, 0] S1x256.size inb_S64x256_S1x256_54_0).toLoadRect)) (newZ (kernelRun0_A.sl.r_10 (F := F) c arg1 harg1 x0) (View.readAt (Elt F) arg7.view (Rect.unit (s := S1x64x256x128) ![0, 55, 0, 0] S1x1x256x128.size inb_S1x64x256x128_S1x1x256x128_0_55_0_0).toLoadRect (harg7.unread x6)) (arg12.view.readCov (kernelRun0_A.sl.HS0_16 (F := F) c arg3 harg3 x2) (Rect.unit (s := S16x128x128) ![13, 0, 0] S1x128x128.size inb_S16x128x128_S1x128x128_13_0_0).toLoadRect) (arg15.view.readCov (kernelRun0_A.sl.HS3_13 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![55, 0] S1x256.size inb_S64x256_S1x256_55_0).toLoadRect)) (kernelRun0_A.sl.HS4_48 (F := F) c arg1 harg1 arg2 harg2 arg3 harg3 arg4 harg4 arg5 harg5 arg6 harg6 arg7 harg7 arg8 harg8 arg12 arg13 arg14 arg15 x0 x1 x2 x3 x4 x5 x6 x7) := rfl

/-- The same as functions of the input blocks. -/
theorem z_blk_6 :
    kernelRun0_A.sl.HS4_56 (F := F) c arg1 harg1 arg2 harg2 arg3 harg3 arg4 harg4 arg5 harg5 arg6 harg6 arg7 harg7 arg8 harg8 arg12 arg13 arg14 arg15 x0 x1 x2 x3 x4 x5 x6 x7
      = states (zB x0 x1 x2 x3 x4 x5 x6 x7 48 (by decide) 12 (by decide) 0 (by decide) 12 (by decide)) (zB x0 x1 x2 x3 x4 x5 x6 x7 48 (by decide) 12 (by decide) 1 (by decide) 12 (by decide)) (zB x0 x1 x2 x3 x4 x5 x6 x7 48 (by decide) 12 (by decide) 2 (by decide) 12 (by decide)) (zB x0 x1 x2 x3 x4 x5 x6 x7 48 (by decide) 12 (by decide) 3 (by decide) 12 (by decide)) (zB x0 x1 x2 x3 x4 x5 x6 x7 48 (by decide) 12 (by decide) 4 (by decide) 13 (by decide)) (zB x0 x1 x2 x3 x4 x5 x6 x7 48 (by decide) 12 (by decide) 5 (by decide) 13 (by decide)) (zB x0 x1 x2 x3 x4 x5 x6 x7 48 (by decide) 12 (by decide) 6 (by decide) 13 (by decide)) (zB x0 x1 x2 x3 x4 x5 x6 x7 48 (by decide) 12 (by decide) 7 (by decide) 13 (by decide)) (kernelRun0_A.sl.HS4_48 (F := F) c arg1 harg1 arg2 harg2 arg3 harg3 arg4 harg4 arg5 harg5 arg6 harg6 arg7 harg7 arg8 harg8 arg12 arg13 arg14 arg15 x0 x1 x2 x3 x4 x5 x6 x7) := by
  rw [z_raw_6]; simp only [d_blk_6, ld_input, k_cov, q_cov, r2_eq, r3_eq, r10_eq, v203_eq, col_cov_12, col_cov_13, cov_row _ 48 48 0 (by decide) rfl, cov_row _ 48 49 1 (by decide) rfl, cov_row _ 48 50 2 (by decide) rfl, cov_row _ 48 51 3 (by decide) rfl, cov_row _ 48 52 4 (by decide) rfl, cov_row _ 48 53 5 (by decide) rfl, cov_row _ 48 54 6 (by decide) rfl, cov_row _ 48 55 7 (by decide) rfl]; rfl

end Cert.Delta

end
-- ==== Proof.Chunk7.lean ====
/- Block of heads 56 to 63: what its stores hold, from the point's input blocks. -/
module

public import proofs.«01_k».proof.Proof.Loads

@[expose] public section

set_option maxRecDepth 16384
set_option maxHeartbeats 4000000

noncomputable section

namespace Cert.Delta

open Idealize.ShloMosaic Idealize.SL.Sem Cert.KernelIdeal Cert.KernelIdeal.Gen

variable {F : FTy → Type} [FloatOps F]
variable (c : Dev nD) (arg1 : Memref sig .tc .vmem S128x128 .fp8e4m3) (harg1 : arg1.IsWhole) (arg2 : Memref sig .tc .vmem S1x16x128 .bf16) (harg2 : arg2.IsWhole)
  (arg3 : Memref sig .tc .vmem S1x16x128 .bf16) (harg3 : arg3.IsWhole) (arg4 : Memref sig .tc .vmem S1x64x256 .bf16) (harg4 : arg4.IsWhole)
  (arg5 : Memref sig .tc .vmem S1x1x64 .f32) (harg5 : arg5.IsWhole) (arg6 : Memref sig .tc .vmem S1x1x64 .f32) (harg6 : arg6.IsWhole)
  (arg7 : Memref sig .tc .vmem S1x64x256x128 .fp8e4m3) (harg7 : arg7.IsWhole) (arg8 : Memref sig .tc .vmem S1x64x256 .f32) (harg8 : arg8.IsWhole)
  (arg12 : Memref sig .tc .vmem S16x128x128 .f32) (arg13 : Memref sig .tc .vmem S16x128 .f32)
  (arg14 : Memref sig .tc .vmem S16x128 .f32) (arg15 : Memref sig .tc .vmem S64x256 .f32)
  (x0 : Vec F S128x128 .fp8e4m3) (x1 : Vec F S1x16x128 .bf16) (x2 : Vec F S1x16x128 .bf16) (x3 : Vec F S1x64x256 .bf16)
  (x4 : Vec F S1x1x64 .f32) (x5 : Vec F S1x1x64 .f32) (x6 : Vec F S1x64x256x128 .fp8e4m3) (x7 : Vec F S1x64x256 .f32)

/-- The store of the updates in units of the old codes, as the run leaves it. -/
theorem d_raw_7 :
    kernelRun0_A.sl.HS3_15 (F := F) c arg1 harg1 arg2 harg2 arg3 harg3 arg4 harg4 arg5 harg5 arg6 harg6 arg7 harg7 arg8 harg8 arg12 arg13 arg14 arg15 x0 x1 x2 x3 x4 x5 x6 x7
      = ⟨Rect.unit ![56, 0] S8x256.size inb_S64x256_S8x256_56_0, inCodes (decayed (View.readAt (Elt F) arg8.view (Rect.unit (s := S1x64x256) ![0, 56, 0] S1x8x256.size inb_S1x64x256_S1x8x256_0_56_0).toLoadRect (harg8.unread x7)) (extractStridedSlice S8x1 ![56, 0] (kernelRun0_A.sl.r_2 (F := F) c arg5 harg5 x4) slices_S64x1_o56_0_S8x1)) (dk (rows (kernelRun0_A.sl.v203 : IVec S8x128 32) (arg13.view.readCov (kernelRun0_A.sl.HS1_1 (F := F) c arg3 harg3 x2) (Rect.unit (s := S16x128) ![14, 0] S1x128.size inb_S16x128_S1x128_14_0).toLoadRect) (arg13.view.readCov (kernelRun0_A.sl.HS1_1 (F := F) c arg3 harg3 x2) (Rect.unit (s := S16x128) ![15, 0] S1x128.size inb_S16x128_S1x128_15_0).toLoadRect)) (delta (proj (kernelRun0_A.sl.v203 : IVec S8x128 32) (arg13.view.readCov (kernelRun0_A.sl.HS1_1 (F := F) c arg3 harg3 x2) (Rect.unit (s := S16x128) ![14, 0] S1x128.size inb_S16x128_S1x128_14_0).toLoadRect) (arg13.view.readCov (kernelRun0_A.sl.HS1_1 (F := F) c arg3 harg3 x2) (Rect.unit (s := S16x128) ![15, 0] S1x128.size inb_S16x128_S1x128_15_0).toLoadRect) (arg14.view.readCov (kernelRun0_A.sl.HS2_1 (F := F) c arg2 harg2 x1) (Rect.unit (s := S16x128) ![14, 0] S1x128.size inb_S16x128_S1x128_14_0).toLoadRect) (arg14.view.readCov (kernelRun0_A.sl.HS2_1 (F := F) c arg2 harg2 x1) (Rect.unit (s := S16x128) ![15, 0] S1x128.size inb_S16x128_S1x128_15_0).toLoadRect) (View.readAt (Elt F) arg7.view (Rect.unit (s := S1x64x256x128) ![0, 56, 0, 0] S1x1x256x128.size inb_S1x64x256x128_S1x1x256x128_0_56_0_0).toLoadRect (harg7.unread x6)) (View.readAt (Elt F) arg7.view (Rect.unit (s := S1x64x256x128) ![0, 57, 0, 0] S1x1x256x128.size inb_S1x64x256x128_S1x1x256x128_0_57_0_0).toLoadRect (harg7.unread x6)) (View.readAt (Elt F) arg7.view (Rect.unit (s := S1x64x256x128) ![0, 58, 0, 0] S1x1x256x128.size inb_S1x64x256x128_S1x1x256x128_0_58_0_0).toLoadRect (harg7.unread x6)) (View.readAt (Elt F) arg7.view (Rect.unit (s := S1x64x256x128) ![0, 59, 0, 0] S1x1x256x128.size inb_S1x64x256x128_S1x1x256x128_0_59_0_0).toLoadRect (harg7.unread x6)) (View.readAt (Elt F) arg7.view (Rect.unit (s := S1x64x256x128) ![0, 60, 0, 0] S1x1x256x128.size inb_S1x64x256x128_S1x1x256x128_0_60_0_0).toLoadRect (harg7.unread x6)) (View.readAt (Elt F) arg7.view (Rect.unit (s := S1x64x256x128) ![0, 61, 0, 0] S1x1x256x128.size inb_S1x64x256x128_S1x1x256x128_0_61_0_0).toLoadRect (harg7.unread x6)) (View.readAt (Elt F) arg7.view (Rect.unit (s := S1x64x256x128) ![0, 62, 0, 0] S1x1x256x128.size inb_S1x64x256x128_S1x1x256x128_0_62_0_0).toLoadRect (harg7.unread x6)) (View.readAt (Elt F) arg7.view (Rect.unit (s := S1x64x256x128) ![0, 63, 0, 0] S1x1x256x128.size inb_S1x64x256x128_S1x1x256x128_0_63_0_0).toLoadRect (harg7.unread x6))) (View.readAt (Elt F) arg8.view (Rect.unit (s := S1x64x256) ![0, 56, 0] S1x8x256.size inb_S1x64x256_S1x8x256_0_56_0).toLoadRect (harg8.unread x7)) (View.readAt (Elt F) arg4.view (Rect.unit (s := S1x64x256) ![0, 56, 0] S1x8x256.size inb_S1x64x256_S1x8x256_0_56_0).toLoadRect (harg4.unread x3)) (extractStridedSlice S8x1 ![56, 0] (kernelRun0_A.sl.r_2 (F := F) c arg5 harg5 x4) slices_S64x1_o56_0_S8x1) (extractStridedSlice S8x1 ![56, 0] (kernelRun0_A.sl.r_3 (F := F) c arg6 harg6 x5) slices_S64x1_o56_0_S8x1)))⟩ :: kernelRun0_A.sl.HS3_14 (F := F) c arg1 harg1 arg2 harg2 arg3 harg3 arg4 harg4 arg5 harg5 arg6 harg6 arg7 harg7 arg8 harg8 arg12 arg13 arg14 arg15 x0 x1 x2 x3 x4 x5 x6 x7 := rfl

/-- The same as a function of the input blocks. -/
theorem d_blk_7 :
    kernelRun0_A.sl.HS3_15 (F := F) c arg1 harg1 arg2 harg2 arg3 harg3 arg4 harg4 arg5 harg5 arg6 harg6 arg7 harg7 arg8 harg8 arg12 arg13 arg14 arg15 x0 x1 x2 x3 x4 x5 x6 x7
      = ⟨Rect.unit ![56, 0] S8x256.size inb_S64x256_S8x256_56_0, icB x1 x2 x3 x4 x5 x6 x7 56 (by decide) 14 (by decide)⟩ :: kernelRun0_A.sl.HS3_14 (F := F) c arg1 harg1 arg2 harg2 arg3 harg3 arg4 harg4 arg5 harg5 arg6 harg6 arg7 harg7 arg8 harg8 arg12 arg13 arg14 arg15 x0 x1 x2 x3 x4 x5 x6 x7 := by
  rw [d_raw_7]; simp only [ld_input, k_cov, q_cov, r2_eq, r3_eq, r10_eq, v203_eq, col_cov_14, col_cov_15]; rfl

/-- The store of the multipliers, as the run leaves it. -/
theorem m_raw_7 :
    kernelRun0_A.sl.HS3_16 (F := F) c arg1 harg1 arg2 harg2 arg3 harg3 arg4 harg4 arg5 harg5 arg6 harg6 arg7 harg7 arg8 harg8 arg12 arg13 arg14 arg15 x0 x1 x2 x3 x4 x5 x6 x7
      = ⟨Rect.unit ![56, 0] S8x256.size inb_S64x256_S8x256_56_0, mulRow (amax (newZ (kernelRun0_A.sl.r_10 (F := F) c arg1 harg1 x0) (View.readAt (Elt F) arg7.view (Rect.unit (s := S1x64x256x128) ![0, 56, 0, 0] S1x1x256x128.size inb_S1x64x256x128_S1x1x256x128_0_56_0_0).toLoadRect (harg7.unread x6)) (arg12.view.readCov (kernelRun0_A.sl.HS0_16 (F := F) c arg3 harg3 x2) (Rect.unit (s := S16x128x128) ![14, 0, 0] S1x128x128.size inb_S16x128x128_S1x128x128_14_0_0).toLoadRect) (arg15.view.readCov (kernelRun0_A.sl.HS3_15 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![56, 0] S1x256.size inb_S64x256_S1x256_56_0).toLoadRect)) (newZ (kernelRun0_A.sl.r_10 (F := F) c arg1 harg1 x0) (View.readAt (Elt F) arg7.view (Rect.unit (s := S1x64x256x128) ![0, 57, 0, 0] S1x1x256x128.size inb_S1x64x256x128_S1x1x256x128_0_57_0_0).toLoadRect (harg7.unread x6)) (arg12.view.readCov (kernelRun0_A.sl.HS0_16 (F := F) c arg3 harg3 x2) (Rect.unit (s := S16x128x128) ![14, 0, 0] S1x128x128.size inb_S16x128x128_S1x128x128_14_0_0).toLoadRect) (arg15.view.readCov (kernelRun0_A.sl.HS3_15 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![57, 0] S1x256.size inb_S64x256_S1x256_57_0).toLoadRect)) (newZ (kernelRun0_A.sl.r_10 (F := F) c arg1 harg1 x0) (View.readAt (Elt F) arg7.view (Rect.unit (s := S1x64x256x128) ![0, 58, 0, 0] S1x1x256x128.size inb_S1x64x256x128_S1x1x256x128_0_58_0_0).toLoadRect (harg7.unread x6)) (arg12.view.readCov (kernelRun0_A.sl.HS0_16 (F := F) c arg3 harg3 x2) (Rect.unit (s := S16x128x128) ![14, 0, 0] S1x128x128.size inb_S16x128x128_S1x128x128_14_0_0).toLoadRect) (arg15.view.readCov (kernelRun0_A.sl.HS3_15 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![58, 0] S1x256.size inb_S64x256_S1x256_58_0).toLoadRect)) (newZ (kernelRun0_A.sl.r_10 (F := F) c arg1 harg1 x0) (View.readAt (Elt F) arg7.view (Rect.unit (s := S1x64x256x128) ![0, 59, 0, 0] S1x1x256x128.size inb_S1x64x256x128_S1x1x256x128_0_59_0_0).toLoadRect (harg7.unread x6)) (arg12.view.readCov (kernelRun0_A.sl.HS0_16 (F := F) c arg3 harg3 x2) (Rect.unit (s := S16x128x128) ![14, 0, 0] S1x128x128.size inb_S16x128x128_S1x128x128_14_0_0).toLoadRect) (arg15.view.readCov (kernelRun0_A.sl.HS3_15 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![59, 0] S1x256.size inb_S64x256_S1x256_59_0).toLoadRect)) (newZ (kernelRun0_A.sl.r_10 (F := F) c arg1 harg1 x0) (View.readAt (Elt F) arg7.view (Rect.unit (s := S1x64x256x128) ![0, 60, 0, 0] S1x1x256x128.size inb_S1x64x256x128_S1x1x256x128_0_60_0_0).toLoadRect (harg7.unread x6)) (arg12.view.readCov (kernelRun0_A.sl.HS0_16 (F := F) c arg3 harg3 x2) (Rect.unit (s := S16x128x128) ![15, 0, 0] S1x128x128.size inb_S16x128x128_S1x128x128_15_0_0).toLoadRect) (arg15.view.readCov (kernelRun0_A.sl.HS3_15 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![60, 0] S1x256.size inb_S64x256_S1x256_60_0).toLoadRect)) (newZ (kernelRun0_A.sl.r_10 (F := F) c arg1 harg1 x0) (View.readAt (Elt F) arg7.view (Rect.unit (s := S1x64x256x128) ![0, 61, 0, 0] S1x1x256x128.size inb_S1x64x256x128_S1x1x256x128_0_61_0_0).toLoadRect (harg7.unread x6)) (arg12.view.readCov (kernelRun0_A.sl.HS0_16 (F := F) c arg3 harg3 x2) (Rect.unit (s := S16x128x128) ![15, 0, 0] S1x128x128.size inb_S16x128x128_S1x128x128_15_0_0).toLoadRect) (arg15.view.readCov (kernelRun0_A.sl.HS3_15 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![61, 0] S1x256.size inb_S64x256_S1x256_61_0).toLoadRect)) (newZ (kernelRun0_A.sl.r_10 (F := F) c arg1 harg1 x0) (View.readAt (Elt F) arg7.view (Rect.unit (s := S1x64x256x128) ![0, 62, 0, 0] S1x1x256x128.size inb_S1x64x256x128_S1x1x256x128_0_62_0_0).toLoadRect (harg7.unread x6)) (arg12.view.readCov (kernelRun0_A.sl.HS0_16 (F := F) c arg3 harg3 x2) (Rect.unit (s := S16x128x128) ![15, 0, 0] S1x128x128.size inb_S16x128x128_S1x128x128_15_0_0).toLoadRect) (arg15.view.readCov (kernelRun0_A.sl.HS3_15 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![62, 0] S1x256.size inb_S64x256_S1x256_62_0).toLoadRect)) (newZ (kernelRun0_A.sl.r_10 (F := F) c arg1 harg1 x0) (View.readAt (Elt F) arg7.view (Rect.unit (s := S1x64x256x128) ![0, 63, 0, 0] S1x1x256x128.size inb_S1x64x256x128_S1x1x256x128_0_63_0_0).toLoadRect (harg7.unread x6)) (arg12.view.readCov (kernelRun0_A.sl.HS0_16 (F := F) c arg3 harg3 x2) (Rect.unit (s := S16x128x128) ![15, 0, 0] S1x128x128.size inb_S16x128x128_S1x128x128_15_0_0).toLoadRect) (arg15.view.readCov (kernelRun0_A.sl.HS3_15 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![63, 0] S1x256.size inb_S64x256_S1x256_63_0).toLoadRect)) (decayed (View.readAt (Elt F) arg8.view (Rect.unit (s := S1x64x256) ![0, 56, 0] S1x8x256.size inb_S1x64x256_S1x8x256_0_56_0).toLoadRect (harg8.unread x7)) (extractStridedSlice S8x1 ![56, 0] (kernelRun0_A.sl.r_2 (F := F) c arg5 harg5 x4) slices_S64x1_o56_0_S8x1)) (dk (rows (kernelRun0_A.sl.v203 : IVec S8x128 32) (arg13.view.readCov (kernelRun0_A.sl.HS1_1 (F := F) c arg3 harg3 x2) (Rect.unit (s := S16x128) ![14, 0] S1x128.size inb_S16x128_S1x128_14_0).toLoadRect) (arg13.view.readCov (kernelRun0_A.sl.HS1_1 (F := F) c arg3 harg3 x2) (Rect.unit (s := S16x128) ![15, 0] S1x128.size inb_S16x128_S1x128_15_0).toLoadRect)) (delta (proj (kernelRun0_A.sl.v203 : IVec S8x128 32) (arg13.view.readCov (kernelRun0_A.sl.HS1_1 (F := F) c arg3 harg3 x2) (Rect.unit (s := S16x128) ![14, 0] S1x128.size inb_S16x128_S1x128_14_0).toLoadRect) (arg13.view.readCov (kernelRun0_A.sl.HS1_1 (F := F) c arg3 harg3 x2) (Rect.unit (s := S16x128) ![15, 0] S1x128.size inb_S16x128_S1x128_15_0).toLoadRect) (arg14.view.readCov (kernelRun0_A.sl.HS2_1 (F := F) c arg2 harg2 x1) (Rect.unit (s := S16x128) ![14, 0] S1x128.size inb_S16x128_S1x128_14_0).toLoadRect) (arg14.view.readCov (kernelRun0_A.sl.HS2_1 (F := F) c arg2 harg2 x1) (Rect.unit (s := S16x128) ![15, 0] S1x128.size inb_S16x128_S1x128_15_0).toLoadRect) (View.readAt (Elt F) arg7.view (Rect.unit (s := S1x64x256x128) ![0, 56, 0, 0] S1x1x256x128.size inb_S1x64x256x128_S1x1x256x128_0_56_0_0).toLoadRect (harg7.unread x6)) (View.readAt (Elt F) arg7.view (Rect.unit (s := S1x64x256x128) ![0, 57, 0, 0] S1x1x256x128.size inb_S1x64x256x128_S1x1x256x128_0_57_0_0).toLoadRect (harg7.unread x6)) (View.readAt (Elt F) arg7.view (Rect.unit (s := S1x64x256x128) ![0, 58, 0, 0] S1x1x256x128.size inb_S1x64x256x128_S1x1x256x128_0_58_0_0).toLoadRect (harg7.unread x6)) (View.readAt (Elt F) arg7.view (Rect.unit (s := S1x64x256x128) ![0, 59, 0, 0] S1x1x256x128.size inb_S1x64x256x128_S1x1x256x128_0_59_0_0).toLoadRect (harg7.unread x6)) (View.readAt (Elt F) arg7.view (Rect.unit (s := S1x64x256x128) ![0, 60, 0, 0] S1x1x256x128.size inb_S1x64x256x128_S1x1x256x128_0_60_0_0).toLoadRect (harg7.unread x6)) (View.readAt (Elt F) arg7.view (Rect.unit (s := S1x64x256x128) ![0, 61, 0, 0] S1x1x256x128.size inb_S1x64x256x128_S1x1x256x128_0_61_0_0).toLoadRect (harg7.unread x6)) (View.readAt (Elt F) arg7.view (Rect.unit (s := S1x64x256x128) ![0, 62, 0, 0] S1x1x256x128.size inb_S1x64x256x128_S1x1x256x128_0_62_0_0).toLoadRect (harg7.unread x6)) (View.readAt (Elt F) arg7.view (Rect.unit (s := S1x64x256x128) ![0, 63, 0, 0] S1x1x256x128.size inb_S1x64x256x128_S1x1x256x128_0_63_0_0).toLoadRect (harg7.unread x6))) (View.readAt (Elt F) arg8.view (Rect.unit (s := S1x64x256) ![0, 56, 0] S1x8x256.size inb_S1x64x256_S1x8x256_0_56_0).toLoadRect (harg8.unread x7)) (View.readAt (Elt F) arg4.view (Rect.unit (s := S1x64x256) ![0, 56, 0] S1x8x256.size inb_S1x64x256_S1x8x256_0_56_0).toLoadRect (harg4.unread x3)) (extractStridedSlice S8x1 ![56, 0] (kernelRun0_A.sl.r_2 (F := F) c arg5 harg5 x4) slices_S64x1_o56_0_S8x1) (extractStridedSlice S8x1 ![56, 0] (kernelRun0_A.sl.r_3 (F := F) c arg6 harg6 x5) slices_S64x1_o56_0_S8x1)))) (decayed (View.readAt (Elt F) arg8.view (Rect.unit (s := S1x64x256) ![0, 56, 0] S1x8x256.size inb_S1x64x256_S1x8x256_0_56_0).toLoadRect (harg8.unread x7)) (extractStridedSlice S8x1 ![56, 0] (kernelRun0_A.sl.r_2 (F := F) c arg5 harg5 x4) slices_S64x1_o56_0_S8x1)) (dk (rows (kernelRun0_A.sl.v203 : IVec S8x128 32) (arg13.view.readCov (kernelRun0_A.sl.HS1_1 (F := F) c arg3 harg3 x2) (Rect.unit (s := S16x128) ![14, 0] S1x128.size inb_S16x128_S1x128_14_0).toLoadRect) (arg13.view.readCov (kernelRun0_A.sl.HS1_1 (F := F) c arg3 harg3 x2) (Rect.unit (s := S16x128) ![15, 0] S1x128.size inb_S16x128_S1x128_15_0).toLoadRect)) (delta (proj (kernelRun0_A.sl.v203 : IVec S8x128 32) (arg13.view.readCov (kernelRun0_A.sl.HS1_1 (F := F) c arg3 harg3 x2) (Rect.unit (s := S16x128) ![14, 0] S1x128.size inb_S16x128_S1x128_14_0).toLoadRect) (arg13.view.readCov (kernelRun0_A.sl.HS1_1 (F := F) c arg3 harg3 x2) (Rect.unit (s := S16x128) ![15, 0] S1x128.size inb_S16x128_S1x128_15_0).toLoadRect) (arg14.view.readCov (kernelRun0_A.sl.HS2_1 (F := F) c arg2 harg2 x1) (Rect.unit (s := S16x128) ![14, 0] S1x128.size inb_S16x128_S1x128_14_0).toLoadRect) (arg14.view.readCov (kernelRun0_A.sl.HS2_1 (F := F) c arg2 harg2 x1) (Rect.unit (s := S16x128) ![15, 0] S1x128.size inb_S16x128_S1x128_15_0).toLoadRect) (View.readAt (Elt F) arg7.view (Rect.unit (s := S1x64x256x128) ![0, 56, 0, 0] S1x1x256x128.size inb_S1x64x256x128_S1x1x256x128_0_56_0_0).toLoadRect (harg7.unread x6)) (View.readAt (Elt F) arg7.view (Rect.unit (s := S1x64x256x128) ![0, 57, 0, 0] S1x1x256x128.size inb_S1x64x256x128_S1x1x256x128_0_57_0_0).toLoadRect (harg7.unread x6)) (View.readAt (Elt F) arg7.view (Rect.unit (s := S1x64x256x128) ![0, 58, 0, 0] S1x1x256x128.size inb_S1x64x256x128_S1x1x256x128_0_58_0_0).toLoadRect (harg7.unread x6)) (View.readAt (Elt F) arg7.view (Rect.unit (s := S1x64x256x128) ![0, 59, 0, 0] S1x1x256x128.size inb_S1x64x256x128_S1x1x256x128_0_59_0_0).toLoadRect (harg7.unread x6)) (View.readAt (Elt F) arg7.view (Rect.unit (s := S1x64x256x128) ![0, 60, 0, 0] S1x1x256x128.size inb_S1x64x256x128_S1x1x256x128_0_60_0_0).toLoadRect (harg7.unread x6)) (View.readAt (Elt F) arg7.view (Rect.unit (s := S1x64x256x128) ![0, 61, 0, 0] S1x1x256x128.size inb_S1x64x256x128_S1x1x256x128_0_61_0_0).toLoadRect (harg7.unread x6)) (View.readAt (Elt F) arg7.view (Rect.unit (s := S1x64x256x128) ![0, 62, 0, 0] S1x1x256x128.size inb_S1x64x256x128_S1x1x256x128_0_62_0_0).toLoadRect (harg7.unread x6)) (View.readAt (Elt F) arg7.view (Rect.unit (s := S1x64x256x128) ![0, 63, 0, 0] S1x1x256x128.size inb_S1x64x256x128_S1x1x256x128_0_63_0_0).toLoadRect (harg7.unread x6))) (View.readAt (Elt F) arg8.view (Rect.unit (s := S1x64x256) ![0, 56, 0] S1x8x256.size inb_S1x64x256_S1x8x256_0_56_0).toLoadRect (harg8.unread x7)) (View.readAt (Elt F) arg4.view (Rect.unit (s := S1x64x256) ![0, 56, 0] S1x8x256.size inb_S1x64x256_S1x8x256_0_56_0).toLoadRect (harg4.unread x3)) (extractStridedSlice S8x1 ![56, 0] (kernelRun0_A.sl.r_2 (F := F) c arg5 harg5 x4) slices_S64x1_o56_0_S8x1) (extractStridedSlice S8x1 ![56, 0] (kernelRun0_A.sl.r_3 (F := F) c arg6 harg6 x5) slices_S64x1_o56_0_S8x1)))⟩ :: kernelRun0_A.sl.HS3_15 (F := F) c arg1 harg1 arg2 harg2 arg3 harg3 arg4 harg4 arg5 harg5 arg6 harg6 arg7 harg7 arg8 harg8 arg12 arg13 arg14 arg15 x0 x1 x2 x3 x4 x5 x6 x7 := rfl

/-- The same as a function of the input blocks. -/
theorem m_blk_7 :
    kernelRun0_A.sl.HS3_16 (F := F) c arg1 harg1 arg2 harg2 arg3 harg3 arg4 harg4 arg5 harg5 arg6 harg6 arg7 harg7 arg8 harg8 arg12 arg13 arg14 arg15 x0 x1 x2 x3 x4 x5 x6 x7
      = ⟨Rect.unit ![56, 0] S8x256.size inb_S64x256_S8x256_56_0, mB x0 x1 x2 x3 x4 x5 x6 x7 56 (by decide) 14 (by decide)⟩ :: kernelRun0_A.sl.HS3_15 (F := F) c arg1 harg1 arg2 harg2 arg3 harg3 arg4 harg4 arg5 harg5 arg6 harg6 arg7 harg7 arg8 harg8 arg12 arg13 arg14 arg15 x0 x1 x2 x3 x4 x5 x6 x7 := by
  rw [m_raw_7]; simp only [d_blk_7, ld_input, k_cov, q_cov, r2_eq, r3_eq, r10_eq, v203_eq, col_cov_14, col_cov_15, cov_row _ 56 56 0 (by decide) rfl, cov_row _ 56 57 1 (by decide) rfl, cov_row _ 56 58 2 (by decide) rfl, cov_row _ 56 59 3 (by decide) rfl, cov_row _ 56 60 4 (by decide) rfl, cov_row _ 56 61 5 (by decide) rfl, cov_row _ 56 62 6 (by decide) rfl, cov_row _ 56 63 7 (by decide) rfl]; rfl

/-- The stores of the new states, as the run leaves them. -/
theorem z_raw_7 :
    kernelRun0_A.sl.HS4_64 (F := F) c arg1 harg1 arg2 harg2 arg3 harg3 arg4 harg4 arg5 harg5 arg6 harg6 arg7 harg7 arg8 harg8 arg12 arg13 arg14 arg15 x0 x1 x2 x3 x4 x5 x6 x7
      = states (newZ (kernelRun0_A.sl.r_10 (F := F) c arg1 harg1 x0) (View.readAt (Elt F) arg7.view (Rect.unit (s := S1x64x256x128) ![0, 56, 0, 0] S1x1x256x128.size inb_S1x64x256x128_S1x1x256x128_0_56_0_0).toLoadRect (harg7.unread x6)) (arg12.view.readCov (kernelRun0_A.sl.HS0_16 (F := F) c arg3 harg3 x2) (Rect.unit (s := S16x128x128) ![14, 0, 0] S1x128x128.size inb_S16x128x128_S1x128x128_14_0_0).toLoadRect) (arg15.view.readCov (kernelRun0_A.sl.HS3_15 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![56, 0] S1x256.size inb_S64x256_S1x256_56_0).toLoadRect)) (newZ (kernelRun0_A.sl.r_10 (F := F) c arg1 harg1 x0) (View.readAt (Elt F) arg7.view (Rect.unit (s := S1x64x256x128) ![0, 57, 0, 0] S1x1x256x128.size inb_S1x64x256x128_S1x1x256x128_0_57_0_0).toLoadRect (harg7.unread x6)) (arg12.view.readCov (kernelRun0_A.sl.HS0_16 (F := F) c arg3 harg3 x2) (Rect.unit (s := S16x128x128) ![14, 0, 0] S1x128x128.size inb_S16x128x128_S1x128x128_14_0_0).toLoadRect) (arg15.view.readCov (kernelRun0_A.sl.HS3_15 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![57, 0] S1x256.size inb_S64x256_S1x256_57_0).toLoadRect)) (newZ (kernelRun0_A.sl.r_10 (F := F) c arg1 harg1 x0) (View.readAt (Elt F) arg7.view (Rect.unit (s := S1x64x256x128) ![0, 58, 0, 0] S1x1x256x128.size inb_S1x64x256x128_S1x1x256x128_0_58_0_0).toLoadRect (harg7.unread x6)) (arg12.view.readCov (kernelRun0_A.sl.HS0_16 (F := F) c arg3 harg3 x2) (Rect.unit (s := S16x128x128) ![14, 0, 0] S1x128x128.size inb_S16x128x128_S1x128x128_14_0_0).toLoadRect) (arg15.view.readCov (kernelRun0_A.sl.HS3_15 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![58, 0] S1x256.size inb_S64x256_S1x256_58_0).toLoadRect)) (newZ (kernelRun0_A.sl.r_10 (F := F) c arg1 harg1 x0) (View.readAt (Elt F) arg7.view (Rect.unit (s := S1x64x256x128) ![0, 59, 0, 0] S1x1x256x128.size inb_S1x64x256x128_S1x1x256x128_0_59_0_0).toLoadRect (harg7.unread x6)) (arg12.view.readCov (kernelRun0_A.sl.HS0_16 (F := F) c arg3 harg3 x2) (Rect.unit (s := S16x128x128) ![14, 0, 0] S1x128x128.size inb_S16x128x128_S1x128x128_14_0_0).toLoadRect) (arg15.view.readCov (kernelRun0_A.sl.HS3_15 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![59, 0] S1x256.size inb_S64x256_S1x256_59_0).toLoadRect)) (newZ (kernelRun0_A.sl.r_10 (F := F) c arg1 harg1 x0) (View.readAt (Elt F) arg7.view (Rect.unit (s := S1x64x256x128) ![0, 60, 0, 0] S1x1x256x128.size inb_S1x64x256x128_S1x1x256x128_0_60_0_0).toLoadRect (harg7.unread x6)) (arg12.view.readCov (kernelRun0_A.sl.HS0_16 (F := F) c arg3 harg3 x2) (Rect.unit (s := S16x128x128) ![15, 0, 0] S1x128x128.size inb_S16x128x128_S1x128x128_15_0_0).toLoadRect) (arg15.view.readCov (kernelRun0_A.sl.HS3_15 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![60, 0] S1x256.size inb_S64x256_S1x256_60_0).toLoadRect)) (newZ (kernelRun0_A.sl.r_10 (F := F) c arg1 harg1 x0) (View.readAt (Elt F) arg7.view (Rect.unit (s := S1x64x256x128) ![0, 61, 0, 0] S1x1x256x128.size inb_S1x64x256x128_S1x1x256x128_0_61_0_0).toLoadRect (harg7.unread x6)) (arg12.view.readCov (kernelRun0_A.sl.HS0_16 (F := F) c arg3 harg3 x2) (Rect.unit (s := S16x128x128) ![15, 0, 0] S1x128x128.size inb_S16x128x128_S1x128x128_15_0_0).toLoadRect) (arg15.view.readCov (kernelRun0_A.sl.HS3_15 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![61, 0] S1x256.size inb_S64x256_S1x256_61_0).toLoadRect)) (newZ (kernelRun0_A.sl.r_10 (F := F) c arg1 harg1 x0) (View.readAt (Elt F) arg7.view (Rect.unit (s := S1x64x256x128) ![0, 62, 0, 0] S1x1x256x128.size inb_S1x64x256x128_S1x1x256x128_0_62_0_0).toLoadRect (harg7.unread x6)) (arg12.view.readCov (kernelRun0_A.sl.HS0_16 (F := F) c arg3 harg3 x2) (Rect.unit (s := S16x128x128) ![15, 0, 0] S1x128x128.size inb_S16x128x128_S1x128x128_15_0_0).toLoadRect) (arg15.view.readCov (kernelRun0_A.sl.HS3_15 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![62, 0] S1x256.size inb_S64x256_S1x256_62_0).toLoadRect)) (newZ (kernelRun0_A.sl.r_10 (F := F) c arg1 harg1 x0) (View.readAt (Elt F) arg7.view (Rect.unit (s := S1x64x256x128) ![0, 63, 0, 0] S1x1x256x128.size inb_S1x64x256x128_S1x1x256x128_0_63_0_0).toLoadRect (harg7.unread x6)) (arg12.view.readCov (kernelRun0_A.sl.HS0_16 (F := F) c arg3 harg3 x2) (Rect.unit (s := S16x128x128) ![15, 0, 0] S1x128x128.size inb_S16x128x128_S1x128x128_15_0_0).toLoadRect) (arg15.view.readCov (kernelRun0_A.sl.HS3_15 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![63, 0] S1x256.size inb_S64x256_S1x256_63_0).toLoadRect)) (kernelRun0_A.sl.HS4_56 (F := F) c arg1 harg1 arg2 harg2 arg3 harg3 arg4 harg4 arg5 harg5 arg6 harg6 arg7 harg7 arg8 harg8 arg12 arg13 arg14 arg15 x0 x1 x2 x3 x4 x5 x6 x7) := rfl

/-- The same as functions of the input blocks. -/
theorem z_blk_7 :
    kernelRun0_A.sl.HS4_64 (F := F) c arg1 harg1 arg2 harg2 arg3 harg3 arg4 harg4 arg5 harg5 arg6 harg6 arg7 harg7 arg8 harg8 arg12 arg13 arg14 arg15 x0 x1 x2 x3 x4 x5 x6 x7
      = states (zB x0 x1 x2 x3 x4 x5 x6 x7 56 (by decide) 14 (by decide) 0 (by decide) 14 (by decide)) (zB x0 x1 x2 x3 x4 x5 x6 x7 56 (by decide) 14 (by decide) 1 (by decide) 14 (by decide)) (zB x0 x1 x2 x3 x4 x5 x6 x7 56 (by decide) 14 (by decide) 2 (by decide) 14 (by decide)) (zB x0 x1 x2 x3 x4 x5 x6 x7 56 (by decide) 14 (by decide) 3 (by decide) 14 (by decide)) (zB x0 x1 x2 x3 x4 x5 x6 x7 56 (by decide) 14 (by decide) 4 (by decide) 15 (by decide)) (zB x0 x1 x2 x3 x4 x5 x6 x7 56 (by decide) 14 (by decide) 5 (by decide) 15 (by decide)) (zB x0 x1 x2 x3 x4 x5 x6 x7 56 (by decide) 14 (by decide) 6 (by decide) 15 (by decide)) (zB x0 x1 x2 x3 x4 x5 x6 x7 56 (by decide) 14 (by decide) 7 (by decide) 15 (by decide)) (kernelRun0_A.sl.HS4_56 (F := F) c arg1 harg1 arg2 harg2 arg3 harg3 arg4 harg4 arg5 harg5 arg6 harg6 arg7 harg7 arg8 harg8 arg12 arg13 arg14 arg15 x0 x1 x2 x3 x4 x5 x6 x7) := by
  rw [z_raw_7]; simp only [d_blk_7, ld_input, k_cov, q_cov, r2_eq, r3_eq, r10_eq, v203_eq, col_cov_14, col_cov_15, cov_row _ 56 56 0 (by decide) rfl, cov_row _ 56 57 1 (by decide) rfl, cov_row _ 56 58 2 (by decide) rfl, cov_row _ 56 59 3 (by decide) rfl, cov_row _ 56 60 4 (by decide) rfl, cov_row _ 56 61 5 (by decide) rfl, cov_row _ 56 62 6 (by decide) rfl, cov_row _ 56 63 7 (by decide) rfl]; rfl

end Cert.Delta

end
-- ==== Proof.Out9.lean ====
/- The stores of the new codes, from the point's input blocks. -/
module

public import proofs.«01_k».proof.Proof.Chunk0
public import proofs.«01_k».proof.Proof.Chunk1
public import proofs.«01_k».proof.Proof.Chunk2
public import proofs.«01_k».proof.Proof.Chunk3
public import proofs.«01_k».proof.Proof.Chunk4
public import proofs.«01_k».proof.Proof.Chunk5
public import proofs.«01_k».proof.Proof.Chunk6
public import proofs.«01_k».proof.Proof.Chunk7

@[expose] public section

set_option maxRecDepth 16384
set_option maxHeartbeats 4000000

noncomputable section

namespace Cert.Delta

open Idealize.ShloMosaic Idealize.SL.Sem Cert.KernelIdeal Cert.KernelIdeal.Gen

variable {F : FTy → Type} [FloatOps F]

/-- The stores of the new codes, as the run leaves them. -/
theorem out9_raw (c : Dev nD) (i : grid0.Coords) (arg1 : Memref sig .tc .vmem S128x128 .fp8e4m3) (harg1 : arg1.IsWhole) (arg2 : Memref sig .tc .vmem S1x16x128 .bf16) (harg2 : arg2.IsWhole) (arg3 : Memref sig .tc .vmem S1x16x128 .bf16) (harg3 : arg3.IsWhole) (arg4 : Memref sig .tc .vmem S1x64x256 .bf16) (harg4 : arg4.IsWhole) (arg5 : Memref sig .tc .vmem S1x1x64 .f32) (harg5 : arg5.IsWhole) (arg6 : Memref sig .tc .vmem S1x1x64 .f32) (harg6 : arg6.IsWhole) (arg7 : Memref sig .tc .vmem S1x64x256x128 .fp8e4m3) (harg7 : arg7.IsWhole) (arg8 : Memref sig .tc .vmem S1x64x256 .f32) (harg8 : arg8.IsWhole) (arg9 : Memref sig .tc .vmem S1x64x256 .bf16) (harg9 : arg9.IsWhole) (arg10 : Memref sig .tc .vmem S1x64x256x128 .fp8e4m3) (harg10 : arg10.IsWhole) (arg11 : Memref sig .tc .vmem S1x64x256 .f32) (harg11 : arg11.IsWhole) (arg12 : Memref sig .tc .vmem S16x128x128 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S64x256 .f32) (harg15 : arg15.IsWhole) (arg16 : Memref sig .tc .vmem S8x128x256 .f32) (harg16 : arg16.IsWhole) (x0 : Vec F S128x128 .fp8e4m3) (x1 : Vec F S1x16x128 .bf16) (x2 : Vec F S1x16x128 .bf16) (x3 : Vec F S1x64x256 .bf16) (x4 : Vec F S1x1x64 .f32) (x5 : Vec F S1x1x64 .f32) (x6 : Vec F S1x64x256x128 .fp8e4m3) (x7 : Vec F S1x64x256 .f32) :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).2.1 = [⟨Rect.unit (s := S1x64x256x128) ![0, 63, 0, 0] S1x1x256x128.size inb_S1x64x256x128_S1x1x256x128_0_63_0_0, k0_pay2 (arg16.view.readCov (kernelRun0_A.sl.HS4_64 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![7, 0, 0] S1x128x256.size inb_S8x128x256_S1x128x256_7_0_0).toLoadRect) (arg15.view.readCov (kernelRun0_A.sl.HS3_16 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![63, 0] S1x256.size inb_S64x256_S1x256_63_0).toLoadRect)⟩,
      ⟨Rect.unit (s := S1x64x256x128) ![0, 62, 0, 0] S1x1x256x128.size inb_S1x64x256x128_S1x1x256x128_0_62_0_0, k0_pay2 (arg16.view.readCov (kernelRun0_A.sl.HS4_64 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![6, 0, 0] S1x128x256.size inb_S8x128x256_S1x128x256_6_0_0).toLoadRect) (arg15.view.readCov (kernelRun0_A.sl.HS3_16 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![62, 0] S1x256.size inb_S64x256_S1x256_62_0).toLoadRect)⟩,
      ⟨Rect.unit (s := S1x64x256x128) ![0, 61, 0, 0] S1x1x256x128.size inb_S1x64x256x128_S1x1x256x128_0_61_0_0, k0_pay2 (arg16.view.readCov (kernelRun0_A.sl.HS4_64 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![5, 0, 0] S1x128x256.size inb_S8x128x256_S1x128x256_5_0_0).toLoadRect) (arg15.view.readCov (kernelRun0_A.sl.HS3_16 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![61, 0] S1x256.size inb_S64x256_S1x256_61_0).toLoadRect)⟩,
      ⟨Rect.unit (s := S1x64x256x128) ![0, 60, 0, 0] S1x1x256x128.size inb_S1x64x256x128_S1x1x256x128_0_60_0_0, k0_pay2 (arg16.view.readCov (kernelRun0_A.sl.HS4_64 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![4, 0, 0] S1x128x256.size inb_S8x128x256_S1x128x256_4_0_0).toLoadRect) (arg15.view.readCov (kernelRun0_A.sl.HS3_16 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![60, 0] S1x256.size inb_S64x256_S1x256_60_0).toLoadRect)⟩,
      ⟨Rect.unit (s := S1x64x256x128) ![0, 59, 0, 0] S1x1x256x128.size inb_S1x64x256x128_S1x1x256x128_0_59_0_0, k0_pay2 (arg16.view.readCov (kernelRun0_A.sl.HS4_64 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![3, 0, 0] S1x128x256.size inb_S8x128x256_S1x128x256_3_0_0).toLoadRect) (arg15.view.readCov (kernelRun0_A.sl.HS3_16 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![59, 0] S1x256.size inb_S64x256_S1x256_59_0).toLoadRect)⟩,
      ⟨Rect.unit (s := S1x64x256x128) ![0, 58, 0, 0] S1x1x256x128.size inb_S1x64x256x128_S1x1x256x128_0_58_0_0, k0_pay2 (arg16.view.readCov (kernelRun0_A.sl.HS4_64 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![2, 0, 0] S1x128x256.size inb_S8x128x256_S1x128x256_2_0_0).toLoadRect) (arg15.view.readCov (kernelRun0_A.sl.HS3_16 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![58, 0] S1x256.size inb_S64x256_S1x256_58_0).toLoadRect)⟩,
      ⟨Rect.unit (s := S1x64x256x128) ![0, 57, 0, 0] S1x1x256x128.size inb_S1x64x256x128_S1x1x256x128_0_57_0_0, k0_pay2 (arg16.view.readCov (kernelRun0_A.sl.HS4_64 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![1, 0, 0] S1x128x256.size inb_S8x128x256_S1x128x256_1_0_0).toLoadRect) (arg15.view.readCov (kernelRun0_A.sl.HS3_16 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![57, 0] S1x256.size inb_S64x256_S1x256_57_0).toLoadRect)⟩,
      ⟨Rect.unit (s := S1x64x256x128) ![0, 56, 0, 0] S1x1x256x128.size inb_S1x64x256x128_S1x1x256x128_0_56_0_0, k0_pay2 (arg16.view.readCov (kernelRun0_A.sl.HS4_64 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![0, 0, 0] S1x128x256.size inb_S8x128x256_S1x128x256_0_0_0).toLoadRect) (arg15.view.readCov (kernelRun0_A.sl.HS3_16 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![56, 0] S1x256.size inb_S64x256_S1x256_56_0).toLoadRect)⟩,
      ⟨Rect.unit (s := S1x64x256x128) ![0, 55, 0, 0] S1x1x256x128.size inb_S1x64x256x128_S1x1x256x128_0_55_0_0, k0_pay2 (arg16.view.readCov (kernelRun0_A.sl.HS4_56 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![7, 0, 0] S1x128x256.size inb_S8x128x256_S1x128x256_7_0_0).toLoadRect) (arg15.view.readCov (kernelRun0_A.sl.HS3_14 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![55, 0] S1x256.size inb_S64x256_S1x256_55_0).toLoadRect)⟩,
      ⟨Rect.unit (s := S1x64x256x128) ![0, 54, 0, 0] S1x1x256x128.size inb_S1x64x256x128_S1x1x256x128_0_54_0_0, k0_pay2 (arg16.view.readCov (kernelRun0_A.sl.HS4_56 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![6, 0, 0] S1x128x256.size inb_S8x128x256_S1x128x256_6_0_0).toLoadRect) (arg15.view.readCov (kernelRun0_A.sl.HS3_14 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![54, 0] S1x256.size inb_S64x256_S1x256_54_0).toLoadRect)⟩,
      ⟨Rect.unit (s := S1x64x256x128) ![0, 53, 0, 0] S1x1x256x128.size inb_S1x64x256x128_S1x1x256x128_0_53_0_0, k0_pay2 (arg16.view.readCov (kernelRun0_A.sl.HS4_56 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![5, 0, 0] S1x128x256.size inb_S8x128x256_S1x128x256_5_0_0).toLoadRect) (arg15.view.readCov (kernelRun0_A.sl.HS3_14 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![53, 0] S1x256.size inb_S64x256_S1x256_53_0).toLoadRect)⟩,
      ⟨Rect.unit (s := S1x64x256x128) ![0, 52, 0, 0] S1x1x256x128.size inb_S1x64x256x128_S1x1x256x128_0_52_0_0, k0_pay2 (arg16.view.readCov (kernelRun0_A.sl.HS4_56 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![4, 0, 0] S1x128x256.size inb_S8x128x256_S1x128x256_4_0_0).toLoadRect) (arg15.view.readCov (kernelRun0_A.sl.HS3_14 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![52, 0] S1x256.size inb_S64x256_S1x256_52_0).toLoadRect)⟩,
      ⟨Rect.unit (s := S1x64x256x128) ![0, 51, 0, 0] S1x1x256x128.size inb_S1x64x256x128_S1x1x256x128_0_51_0_0, k0_pay2 (arg16.view.readCov (kernelRun0_A.sl.HS4_56 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![3, 0, 0] S1x128x256.size inb_S8x128x256_S1x128x256_3_0_0).toLoadRect) (arg15.view.readCov (kernelRun0_A.sl.HS3_14 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![51, 0] S1x256.size inb_S64x256_S1x256_51_0).toLoadRect)⟩,
      ⟨Rect.unit (s := S1x64x256x128) ![0, 50, 0, 0] S1x1x256x128.size inb_S1x64x256x128_S1x1x256x128_0_50_0_0, k0_pay2 (arg16.view.readCov (kernelRun0_A.sl.HS4_56 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![2, 0, 0] S1x128x256.size inb_S8x128x256_S1x128x256_2_0_0).toLoadRect) (arg15.view.readCov (kernelRun0_A.sl.HS3_14 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![50, 0] S1x256.size inb_S64x256_S1x256_50_0).toLoadRect)⟩,
      ⟨Rect.unit (s := S1x64x256x128) ![0, 49, 0, 0] S1x1x256x128.size inb_S1x64x256x128_S1x1x256x128_0_49_0_0, k0_pay2 (arg16.view.readCov (kernelRun0_A.sl.HS4_56 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![1, 0, 0] S1x128x256.size inb_S8x128x256_S1x128x256_1_0_0).toLoadRect) (arg15.view.readCov (kernelRun0_A.sl.HS3_14 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![49, 0] S1x256.size inb_S64x256_S1x256_49_0).toLoadRect)⟩,
      ⟨Rect.unit (s := S1x64x256x128) ![0, 48, 0, 0] S1x1x256x128.size inb_S1x64x256x128_S1x1x256x128_0_48_0_0, k0_pay2 (arg16.view.readCov (kernelRun0_A.sl.HS4_56 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![0, 0, 0] S1x128x256.size inb_S8x128x256_S1x128x256_0_0_0).toLoadRect) (arg15.view.readCov (kernelRun0_A.sl.HS3_14 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![48, 0] S1x256.size inb_S64x256_S1x256_48_0).toLoadRect)⟩,
      ⟨Rect.unit (s := S1x64x256x128) ![0, 47, 0, 0] S1x1x256x128.size inb_S1x64x256x128_S1x1x256x128_0_47_0_0, k0_pay2 (arg16.view.readCov (kernelRun0_A.sl.HS4_48 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![7, 0, 0] S1x128x256.size inb_S8x128x256_S1x128x256_7_0_0).toLoadRect) (arg15.view.readCov (kernelRun0_A.sl.HS3_12 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![47, 0] S1x256.size inb_S64x256_S1x256_47_0).toLoadRect)⟩,
      ⟨Rect.unit (s := S1x64x256x128) ![0, 46, 0, 0] S1x1x256x128.size inb_S1x64x256x128_S1x1x256x128_0_46_0_0, k0_pay2 (arg16.view.readCov (kernelRun0_A.sl.HS4_48 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![6, 0, 0] S1x128x256.size inb_S8x128x256_S1x128x256_6_0_0).toLoadRect) (arg15.view.readCov (kernelRun0_A.sl.HS3_12 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![46, 0] S1x256.size inb_S64x256_S1x256_46_0).toLoadRect)⟩,
      ⟨Rect.unit (s := S1x64x256x128) ![0, 45, 0, 0] S1x1x256x128.size inb_S1x64x256x128_S1x1x256x128_0_45_0_0, k0_pay2 (arg16.view.readCov (kernelRun0_A.sl.HS4_48 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![5, 0, 0] S1x128x256.size inb_S8x128x256_S1x128x256_5_0_0).toLoadRect) (arg15.view.readCov (kernelRun0_A.sl.HS3_12 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![45, 0] S1x256.size inb_S64x256_S1x256_45_0).toLoadRect)⟩,
      ⟨Rect.unit (s := S1x64x256x128) ![0, 44, 0, 0] S1x1x256x128.size inb_S1x64x256x128_S1x1x256x128_0_44_0_0, k0_pay2 (arg16.view.readCov (kernelRun0_A.sl.HS4_48 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![4, 0, 0] S1x128x256.size inb_S8x128x256_S1x128x256_4_0_0).toLoadRect) (arg15.view.readCov (kernelRun0_A.sl.HS3_12 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![44, 0] S1x256.size inb_S64x256_S1x256_44_0).toLoadRect)⟩,
      ⟨Rect.unit (s := S1x64x256x128) ![0, 43, 0, 0] S1x1x256x128.size inb_S1x64x256x128_S1x1x256x128_0_43_0_0, k0_pay2 (arg16.view.readCov (kernelRun0_A.sl.HS4_48 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![3, 0, 0] S1x128x256.size inb_S8x128x256_S1x128x256_3_0_0).toLoadRect) (arg15.view.readCov (kernelRun0_A.sl.HS3_12 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![43, 0] S1x256.size inb_S64x256_S1x256_43_0).toLoadRect)⟩,
      ⟨Rect.unit (s := S1x64x256x128) ![0, 42, 0, 0] S1x1x256x128.size inb_S1x64x256x128_S1x1x256x128_0_42_0_0, k0_pay2 (arg16.view.readCov (kernelRun0_A.sl.HS4_48 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![2, 0, 0] S1x128x256.size inb_S8x128x256_S1x128x256_2_0_0).toLoadRect) (arg15.view.readCov (kernelRun0_A.sl.HS3_12 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![42, 0] S1x256.size inb_S64x256_S1x256_42_0).toLoadRect)⟩,
      ⟨Rect.unit (s := S1x64x256x128) ![0, 41, 0, 0] S1x1x256x128.size inb_S1x64x256x128_S1x1x256x128_0_41_0_0, k0_pay2 (arg16.view.readCov (kernelRun0_A.sl.HS4_48 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![1, 0, 0] S1x128x256.size inb_S8x128x256_S1x128x256_1_0_0).toLoadRect) (arg15.view.readCov (kernelRun0_A.sl.HS3_12 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![41, 0] S1x256.size inb_S64x256_S1x256_41_0).toLoadRect)⟩,
      ⟨Rect.unit (s := S1x64x256x128) ![0, 40, 0, 0] S1x1x256x128.size inb_S1x64x256x128_S1x1x256x128_0_40_0_0, k0_pay2 (arg16.view.readCov (kernelRun0_A.sl.HS4_48 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![0, 0, 0] S1x128x256.size inb_S8x128x256_S1x128x256_0_0_0).toLoadRect) (arg15.view.readCov (kernelRun0_A.sl.HS3_12 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![40, 0] S1x256.size inb_S64x256_S1x256_40_0).toLoadRect)⟩,
      ⟨Rect.unit (s := S1x64x256x128) ![0, 39, 0, 0] S1x1x256x128.size inb_S1x64x256x128_S1x1x256x128_0_39_0_0, k0_pay2 (arg16.view.readCov (kernelRun0_A.sl.HS4_40 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![7, 0, 0] S1x128x256.size inb_S8x128x256_S1x128x256_7_0_0).toLoadRect) (arg15.view.readCov (kernelRun0_A.sl.HS3_10 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![39, 0] S1x256.size inb_S64x256_S1x256_39_0).toLoadRect)⟩,
      ⟨Rect.unit (s := S1x64x256x128) ![0, 38, 0, 0] S1x1x256x128.size inb_S1x64x256x128_S1x1x256x128_0_38_0_0, k0_pay2 (arg16.view.readCov (kernelRun0_A.sl.HS4_40 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![6, 0, 0] S1x128x256.size inb_S8x128x256_S1x128x256_6_0_0).toLoadRect) (arg15.view.readCov (kernelRun0_A.sl.HS3_10 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![38, 0] S1x256.size inb_S64x256_S1x256_38_0).toLoadRect)⟩,
      ⟨Rect.unit (s := S1x64x256x128) ![0, 37, 0, 0] S1x1x256x128.size inb_S1x64x256x128_S1x1x256x128_0_37_0_0, k0_pay2 (arg16.view.readCov (kernelRun0_A.sl.HS4_40 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![5, 0, 0] S1x128x256.size inb_S8x128x256_S1x128x256_5_0_0).toLoadRect) (arg15.view.readCov (kernelRun0_A.sl.HS3_10 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![37, 0] S1x256.size inb_S64x256_S1x256_37_0).toLoadRect)⟩,
      ⟨Rect.unit (s := S1x64x256x128) ![0, 36, 0, 0] S1x1x256x128.size inb_S1x64x256x128_S1x1x256x128_0_36_0_0, k0_pay2 (arg16.view.readCov (kernelRun0_A.sl.HS4_40 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![4, 0, 0] S1x128x256.size inb_S8x128x256_S1x128x256_4_0_0).toLoadRect) (arg15.view.readCov (kernelRun0_A.sl.HS3_10 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![36, 0] S1x256.size inb_S64x256_S1x256_36_0).toLoadRect)⟩,
      ⟨Rect.unit (s := S1x64x256x128) ![0, 35, 0, 0] S1x1x256x128.size inb_S1x64x256x128_S1x1x256x128_0_35_0_0, k0_pay2 (arg16.view.readCov (kernelRun0_A.sl.HS4_40 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![3, 0, 0] S1x128x256.size inb_S8x128x256_S1x128x256_3_0_0).toLoadRect) (arg15.view.readCov (kernelRun0_A.sl.HS3_10 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![35, 0] S1x256.size inb_S64x256_S1x256_35_0).toLoadRect)⟩,
      ⟨Rect.unit (s := S1x64x256x128) ![0, 34, 0, 0] S1x1x256x128.size inb_S1x64x256x128_S1x1x256x128_0_34_0_0, k0_pay2 (arg16.view.readCov (kernelRun0_A.sl.HS4_40 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![2, 0, 0] S1x128x256.size inb_S8x128x256_S1x128x256_2_0_0).toLoadRect) (arg15.view.readCov (kernelRun0_A.sl.HS3_10 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![34, 0] S1x256.size inb_S64x256_S1x256_34_0).toLoadRect)⟩,
      ⟨Rect.unit (s := S1x64x256x128) ![0, 33, 0, 0] S1x1x256x128.size inb_S1x64x256x128_S1x1x256x128_0_33_0_0, k0_pay2 (arg16.view.readCov (kernelRun0_A.sl.HS4_40 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![1, 0, 0] S1x128x256.size inb_S8x128x256_S1x128x256_1_0_0).toLoadRect) (arg15.view.readCov (kernelRun0_A.sl.HS3_10 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![33, 0] S1x256.size inb_S64x256_S1x256_33_0).toLoadRect)⟩,
      ⟨Rect.unit (s := S1x64x256x128) ![0, 32, 0, 0] S1x1x256x128.size inb_S1x64x256x128_S1x1x256x128_0_32_0_0, k0_pay2 (arg16.view.readCov (kernelRun0_A.sl.HS4_40 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![0, 0, 0] S1x128x256.size inb_S8x128x256_S1x128x256_0_0_0).toLoadRect) (arg15.view.readCov (kernelRun0_A.sl.HS3_10 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![32, 0] S1x256.size inb_S64x256_S1x256_32_0).toLoadRect)⟩,
      ⟨Rect.unit (s := S1x64x256x128) ![0, 31, 0, 0] S1x1x256x128.size inb_S1x64x256x128_S1x1x256x128_0_31_0_0, k0_pay2 (arg16.view.readCov (kernelRun0_A.sl.HS4_32 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![7, 0, 0] S1x128x256.size inb_S8x128x256_S1x128x256_7_0_0).toLoadRect) (arg15.view.readCov (kernelRun0_A.sl.HS3_8 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![31, 0] S1x256.size inb_S64x256_S1x256_31_0).toLoadRect)⟩,
      ⟨Rect.unit (s := S1x64x256x128) ![0, 30, 0, 0] S1x1x256x128.size inb_S1x64x256x128_S1x1x256x128_0_30_0_0, k0_pay2 (arg16.view.readCov (kernelRun0_A.sl.HS4_32 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![6, 0, 0] S1x128x256.size inb_S8x128x256_S1x128x256_6_0_0).toLoadRect) (arg15.view.readCov (kernelRun0_A.sl.HS3_8 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![30, 0] S1x256.size inb_S64x256_S1x256_30_0).toLoadRect)⟩,
      ⟨Rect.unit (s := S1x64x256x128) ![0, 29, 0, 0] S1x1x256x128.size inb_S1x64x256x128_S1x1x256x128_0_29_0_0, k0_pay2 (arg16.view.readCov (kernelRun0_A.sl.HS4_32 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![5, 0, 0] S1x128x256.size inb_S8x128x256_S1x128x256_5_0_0).toLoadRect) (arg15.view.readCov (kernelRun0_A.sl.HS3_8 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![29, 0] S1x256.size inb_S64x256_S1x256_29_0).toLoadRect)⟩,
      ⟨Rect.unit (s := S1x64x256x128) ![0, 28, 0, 0] S1x1x256x128.size inb_S1x64x256x128_S1x1x256x128_0_28_0_0, k0_pay2 (arg16.view.readCov (kernelRun0_A.sl.HS4_32 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![4, 0, 0] S1x128x256.size inb_S8x128x256_S1x128x256_4_0_0).toLoadRect) (arg15.view.readCov (kernelRun0_A.sl.HS3_8 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![28, 0] S1x256.size inb_S64x256_S1x256_28_0).toLoadRect)⟩,
      ⟨Rect.unit (s := S1x64x256x128) ![0, 27, 0, 0] S1x1x256x128.size inb_S1x64x256x128_S1x1x256x128_0_27_0_0, k0_pay2 (arg16.view.readCov (kernelRun0_A.sl.HS4_32 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![3, 0, 0] S1x128x256.size inb_S8x128x256_S1x128x256_3_0_0).toLoadRect) (arg15.view.readCov (kernelRun0_A.sl.HS3_8 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![27, 0] S1x256.size inb_S64x256_S1x256_27_0).toLoadRect)⟩,
      ⟨Rect.unit (s := S1x64x256x128) ![0, 26, 0, 0] S1x1x256x128.size inb_S1x64x256x128_S1x1x256x128_0_26_0_0, k0_pay2 (arg16.view.readCov (kernelRun0_A.sl.HS4_32 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![2, 0, 0] S1x128x256.size inb_S8x128x256_S1x128x256_2_0_0).toLoadRect) (arg15.view.readCov (kernelRun0_A.sl.HS3_8 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![26, 0] S1x256.size inb_S64x256_S1x256_26_0).toLoadRect)⟩,
      ⟨Rect.unit (s := S1x64x256x128) ![0, 25, 0, 0] S1x1x256x128.size inb_S1x64x256x128_S1x1x256x128_0_25_0_0, k0_pay2 (arg16.view.readCov (kernelRun0_A.sl.HS4_32 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![1, 0, 0] S1x128x256.size inb_S8x128x256_S1x128x256_1_0_0).toLoadRect) (arg15.view.readCov (kernelRun0_A.sl.HS3_8 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![25, 0] S1x256.size inb_S64x256_S1x256_25_0).toLoadRect)⟩,
      ⟨Rect.unit (s := S1x64x256x128) ![0, 24, 0, 0] S1x1x256x128.size inb_S1x64x256x128_S1x1x256x128_0_24_0_0, k0_pay2 (arg16.view.readCov (kernelRun0_A.sl.HS4_32 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![0, 0, 0] S1x128x256.size inb_S8x128x256_S1x128x256_0_0_0).toLoadRect) (arg15.view.readCov (kernelRun0_A.sl.HS3_8 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![24, 0] S1x256.size inb_S64x256_S1x256_24_0).toLoadRect)⟩,
      ⟨Rect.unit (s := S1x64x256x128) ![0, 23, 0, 0] S1x1x256x128.size inb_S1x64x256x128_S1x1x256x128_0_23_0_0, k0_pay2 (arg16.view.readCov (kernelRun0_A.sl.HS4_24 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![7, 0, 0] S1x128x256.size inb_S8x128x256_S1x128x256_7_0_0).toLoadRect) (arg15.view.readCov (kernelRun0_A.sl.HS3_6 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![23, 0] S1x256.size inb_S64x256_S1x256_23_0).toLoadRect)⟩,
      ⟨Rect.unit (s := S1x64x256x128) ![0, 22, 0, 0] S1x1x256x128.size inb_S1x64x256x128_S1x1x256x128_0_22_0_0, k0_pay2 (arg16.view.readCov (kernelRun0_A.sl.HS4_24 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![6, 0, 0] S1x128x256.size inb_S8x128x256_S1x128x256_6_0_0).toLoadRect) (arg15.view.readCov (kernelRun0_A.sl.HS3_6 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![22, 0] S1x256.size inb_S64x256_S1x256_22_0).toLoadRect)⟩,
      ⟨Rect.unit (s := S1x64x256x128) ![0, 21, 0, 0] S1x1x256x128.size inb_S1x64x256x128_S1x1x256x128_0_21_0_0, k0_pay2 (arg16.view.readCov (kernelRun0_A.sl.HS4_24 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![5, 0, 0] S1x128x256.size inb_S8x128x256_S1x128x256_5_0_0).toLoadRect) (arg15.view.readCov (kernelRun0_A.sl.HS3_6 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![21, 0] S1x256.size inb_S64x256_S1x256_21_0).toLoadRect)⟩,
      ⟨Rect.unit (s := S1x64x256x128) ![0, 20, 0, 0] S1x1x256x128.size inb_S1x64x256x128_S1x1x256x128_0_20_0_0, k0_pay2 (arg16.view.readCov (kernelRun0_A.sl.HS4_24 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![4, 0, 0] S1x128x256.size inb_S8x128x256_S1x128x256_4_0_0).toLoadRect) (arg15.view.readCov (kernelRun0_A.sl.HS3_6 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![20, 0] S1x256.size inb_S64x256_S1x256_20_0).toLoadRect)⟩,
      ⟨Rect.unit (s := S1x64x256x128) ![0, 19, 0, 0] S1x1x256x128.size inb_S1x64x256x128_S1x1x256x128_0_19_0_0, k0_pay2 (arg16.view.readCov (kernelRun0_A.sl.HS4_24 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![3, 0, 0] S1x128x256.size inb_S8x128x256_S1x128x256_3_0_0).toLoadRect) (arg15.view.readCov (kernelRun0_A.sl.HS3_6 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![19, 0] S1x256.size inb_S64x256_S1x256_19_0).toLoadRect)⟩,
      ⟨Rect.unit (s := S1x64x256x128) ![0, 18, 0, 0] S1x1x256x128.size inb_S1x64x256x128_S1x1x256x128_0_18_0_0, k0_pay2 (arg16.view.readCov (kernelRun0_A.sl.HS4_24 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![2, 0, 0] S1x128x256.size inb_S8x128x256_S1x128x256_2_0_0).toLoadRect) (arg15.view.readCov (kernelRun0_A.sl.HS3_6 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![18, 0] S1x256.size inb_S64x256_S1x256_18_0).toLoadRect)⟩,
      ⟨Rect.unit (s := S1x64x256x128) ![0, 17, 0, 0] S1x1x256x128.size inb_S1x64x256x128_S1x1x256x128_0_17_0_0, k0_pay2 (arg16.view.readCov (kernelRun0_A.sl.HS4_24 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![1, 0, 0] S1x128x256.size inb_S8x128x256_S1x128x256_1_0_0).toLoadRect) (arg15.view.readCov (kernelRun0_A.sl.HS3_6 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![17, 0] S1x256.size inb_S64x256_S1x256_17_0).toLoadRect)⟩,
      ⟨Rect.unit (s := S1x64x256x128) ![0, 16, 0, 0] S1x1x256x128.size inb_S1x64x256x128_S1x1x256x128_0_16_0_0, k0_pay2 (arg16.view.readCov (kernelRun0_A.sl.HS4_24 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![0, 0, 0] S1x128x256.size inb_S8x128x256_S1x128x256_0_0_0).toLoadRect) (arg15.view.readCov (kernelRun0_A.sl.HS3_6 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![16, 0] S1x256.size inb_S64x256_S1x256_16_0).toLoadRect)⟩,
      ⟨Rect.unit (s := S1x64x256x128) ![0, 15, 0, 0] S1x1x256x128.size inb_S1x64x256x128_S1x1x256x128_0_15_0_0, k0_pay2 (arg16.view.readCov (kernelRun0_A.sl.HS4_16 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![7, 0, 0] S1x128x256.size inb_S8x128x256_S1x128x256_7_0_0).toLoadRect) (arg15.view.readCov (kernelRun0_A.sl.HS3_4 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![15, 0] S1x256.size inb_S64x256_S1x256_15_0).toLoadRect)⟩,
      ⟨Rect.unit (s := S1x64x256x128) ![0, 14, 0, 0] S1x1x256x128.size inb_S1x64x256x128_S1x1x256x128_0_14_0_0, k0_pay2 (arg16.view.readCov (kernelRun0_A.sl.HS4_16 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![6, 0, 0] S1x128x256.size inb_S8x128x256_S1x128x256_6_0_0).toLoadRect) (arg15.view.readCov (kernelRun0_A.sl.HS3_4 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![14, 0] S1x256.size inb_S64x256_S1x256_14_0).toLoadRect)⟩,
      ⟨Rect.unit (s := S1x64x256x128) ![0, 13, 0, 0] S1x1x256x128.size inb_S1x64x256x128_S1x1x256x128_0_13_0_0, k0_pay2 (arg16.view.readCov (kernelRun0_A.sl.HS4_16 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![5, 0, 0] S1x128x256.size inb_S8x128x256_S1x128x256_5_0_0).toLoadRect) (arg15.view.readCov (kernelRun0_A.sl.HS3_4 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![13, 0] S1x256.size inb_S64x256_S1x256_13_0).toLoadRect)⟩,
      ⟨Rect.unit (s := S1x64x256x128) ![0, 12, 0, 0] S1x1x256x128.size inb_S1x64x256x128_S1x1x256x128_0_12_0_0, k0_pay2 (arg16.view.readCov (kernelRun0_A.sl.HS4_16 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![4, 0, 0] S1x128x256.size inb_S8x128x256_S1x128x256_4_0_0).toLoadRect) (arg15.view.readCov (kernelRun0_A.sl.HS3_4 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![12, 0] S1x256.size inb_S64x256_S1x256_12_0).toLoadRect)⟩,
      ⟨Rect.unit (s := S1x64x256x128) ![0, 11, 0, 0] S1x1x256x128.size inb_S1x64x256x128_S1x1x256x128_0_11_0_0, k0_pay2 (arg16.view.readCov (kernelRun0_A.sl.HS4_16 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![3, 0, 0] S1x128x256.size inb_S8x128x256_S1x128x256_3_0_0).toLoadRect) (arg15.view.readCov (kernelRun0_A.sl.HS3_4 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![11, 0] S1x256.size inb_S64x256_S1x256_11_0).toLoadRect)⟩,
      ⟨Rect.unit (s := S1x64x256x128) ![0, 10, 0, 0] S1x1x256x128.size inb_S1x64x256x128_S1x1x256x128_0_10_0_0, k0_pay2 (arg16.view.readCov (kernelRun0_A.sl.HS4_16 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![2, 0, 0] S1x128x256.size inb_S8x128x256_S1x128x256_2_0_0).toLoadRect) (arg15.view.readCov (kernelRun0_A.sl.HS3_4 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![10, 0] S1x256.size inb_S64x256_S1x256_10_0).toLoadRect)⟩,
      ⟨Rect.unit (s := S1x64x256x128) ![0, 9, 0, 0] S1x1x256x128.size inb_S1x64x256x128_S1x1x256x128_0_9_0_0, k0_pay2 (arg16.view.readCov (kernelRun0_A.sl.HS4_16 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![1, 0, 0] S1x128x256.size inb_S8x128x256_S1x128x256_1_0_0).toLoadRect) (arg15.view.readCov (kernelRun0_A.sl.HS3_4 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![9, 0] S1x256.size inb_S64x256_S1x256_9_0).toLoadRect)⟩,
      ⟨Rect.unit (s := S1x64x256x128) ![0, 8, 0, 0] S1x1x256x128.size inb_S1x64x256x128_S1x1x256x128_0_8_0_0, k0_pay2 (arg16.view.readCov (kernelRun0_A.sl.HS4_16 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![0, 0, 0] S1x128x256.size inb_S8x128x256_S1x128x256_0_0_0).toLoadRect) (arg15.view.readCov (kernelRun0_A.sl.HS3_4 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![8, 0] S1x256.size inb_S64x256_S1x256_8_0).toLoadRect)⟩,
      ⟨Rect.unit (s := S1x64x256x128) ![0, 7, 0, 0] S1x1x256x128.size inb_S1x64x256x128_S1x1x256x128_0_7_0_0, k0_pay2 (arg16.view.readCov (kernelRun0_A.sl.HS4_8 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![7, 0, 0] S1x128x256.size inb_S8x128x256_S1x128x256_7_0_0).toLoadRect) (arg15.view.readCov (kernelRun0_A.sl.HS3_2 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![7, 0] S1x256.size inb_S64x256_S1x256_7_0).toLoadRect)⟩,
      ⟨Rect.unit (s := S1x64x256x128) ![0, 6, 0, 0] S1x1x256x128.size inb_S1x64x256x128_S1x1x256x128_0_6_0_0, k0_pay2 (arg16.view.readCov (kernelRun0_A.sl.HS4_8 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![6, 0, 0] S1x128x256.size inb_S8x128x256_S1x128x256_6_0_0).toLoadRect) (arg15.view.readCov (kernelRun0_A.sl.HS3_2 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![6, 0] S1x256.size inb_S64x256_S1x256_6_0).toLoadRect)⟩,
      ⟨Rect.unit (s := S1x64x256x128) ![0, 5, 0, 0] S1x1x256x128.size inb_S1x64x256x128_S1x1x256x128_0_5_0_0, k0_pay2 (arg16.view.readCov (kernelRun0_A.sl.HS4_8 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![5, 0, 0] S1x128x256.size inb_S8x128x256_S1x128x256_5_0_0).toLoadRect) (arg15.view.readCov (kernelRun0_A.sl.HS3_2 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![5, 0] S1x256.size inb_S64x256_S1x256_5_0).toLoadRect)⟩,
      ⟨Rect.unit (s := S1x64x256x128) ![0, 4, 0, 0] S1x1x256x128.size inb_S1x64x256x128_S1x1x256x128_0_4_0_0, k0_pay2 (arg16.view.readCov (kernelRun0_A.sl.HS4_8 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![4, 0, 0] S1x128x256.size inb_S8x128x256_S1x128x256_4_0_0).toLoadRect) (arg15.view.readCov (kernelRun0_A.sl.HS3_2 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![4, 0] S1x256.size inb_S64x256_S1x256_4_0).toLoadRect)⟩,
      ⟨Rect.unit (s := S1x64x256x128) ![0, 3, 0, 0] S1x1x256x128.size inb_S1x64x256x128_S1x1x256x128_0_3_0_0, k0_pay2 (arg16.view.readCov (kernelRun0_A.sl.HS4_8 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![3, 0, 0] S1x128x256.size inb_S8x128x256_S1x128x256_3_0_0).toLoadRect) (arg15.view.readCov (kernelRun0_A.sl.HS3_2 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![3, 0] S1x256.size inb_S64x256_S1x256_3_0).toLoadRect)⟩,
      ⟨Rect.unit (s := S1x64x256x128) ![0, 2, 0, 0] S1x1x256x128.size inb_S1x64x256x128_S1x1x256x128_0_2_0_0, k0_pay2 (arg16.view.readCov (kernelRun0_A.sl.HS4_8 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![2, 0, 0] S1x128x256.size inb_S8x128x256_S1x128x256_2_0_0).toLoadRect) (arg15.view.readCov (kernelRun0_A.sl.HS3_2 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![2, 0] S1x256.size inb_S64x256_S1x256_2_0).toLoadRect)⟩,
      ⟨Rect.unit (s := S1x64x256x128) ![0, 1, 0, 0] S1x1x256x128.size inb_S1x64x256x128_S1x1x256x128_0_1_0_0, k0_pay2 (arg16.view.readCov (kernelRun0_A.sl.HS4_8 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![1, 0, 0] S1x128x256.size inb_S8x128x256_S1x128x256_1_0_0).toLoadRect) (arg15.view.readCov (kernelRun0_A.sl.HS3_2 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![1, 0] S1x256.size inb_S64x256_S1x256_1_0).toLoadRect)⟩,
      ⟨Rect.unit (s := S1x64x256x128) ![0, 0, 0, 0] S1x1x256x128.size inb_S1x64x256x128_S1x1x256x128_0_0_0_0, k0_pay2 (arg16.view.readCov (kernelRun0_A.sl.HS4_8 (F := F) c arg1 harg1 arg2 harg2 arg3 harg3 arg4 harg4 arg5 harg5 arg6 harg6 arg7 harg7 arg8 harg8 arg12 arg13 arg14 arg15 x0 x1 x2 x3 x4 x5 x6 x7) (Rect.unit (s := S8x128x256) ![0, 0, 0] S1x128x256.size inb_S8x128x256_S1x128x256_0_0_0).toLoadRect) (arg15.view.readCov (kernelRun0_A.sl.HS3_2 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![0, 0] S1x256.size inb_S64x256_S1x256_0_0).toLoadRect)⟩] := rfl

/-- The same as functions of the input blocks. -/
theorem out9_blk (c : Dev nD) (i : grid0.Coords) (arg1 : Memref sig .tc .vmem S128x128 .fp8e4m3) (harg1 : arg1.IsWhole) (arg2 : Memref sig .tc .vmem S1x16x128 .bf16) (harg2 : arg2.IsWhole) (arg3 : Memref sig .tc .vmem S1x16x128 .bf16) (harg3 : arg3.IsWhole) (arg4 : Memref sig .tc .vmem S1x64x256 .bf16) (harg4 : arg4.IsWhole) (arg5 : Memref sig .tc .vmem S1x1x64 .f32) (harg5 : arg5.IsWhole) (arg6 : Memref sig .tc .vmem S1x1x64 .f32) (harg6 : arg6.IsWhole) (arg7 : Memref sig .tc .vmem S1x64x256x128 .fp8e4m3) (harg7 : arg7.IsWhole) (arg8 : Memref sig .tc .vmem S1x64x256 .f32) (harg8 : arg8.IsWhole) (arg9 : Memref sig .tc .vmem S1x64x256 .bf16) (harg9 : arg9.IsWhole) (arg10 : Memref sig .tc .vmem S1x64x256x128 .fp8e4m3) (harg10 : arg10.IsWhole) (arg11 : Memref sig .tc .vmem S1x64x256 .f32) (harg11 : arg11.IsWhole) (arg12 : Memref sig .tc .vmem S16x128x128 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S64x256 .f32) (harg15 : arg15.IsWhole) (arg16 : Memref sig .tc .vmem S8x128x256 .f32) (harg16 : arg16.IsWhole) (x0 : Vec F S128x128 .fp8e4m3) (x1 : Vec F S1x16x128 .bf16) (x2 : Vec F S1x16x128 .bf16) (x3 : Vec F S1x64x256 .bf16) (x4 : Vec F S1x1x64 .f32) (x5 : Vec F S1x1x64 .f32) (x6 : Vec F S1x64x256x128 .fp8e4m3) (x7 : Vec F S1x64x256 .f32) :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).2.1 = [⟨Rect.unit (s := S1x64x256x128) ![0, 63, 0, 0] S1x1x256x128.size inb_S1x64x256x128_S1x1x256x128_0_63_0_0, ncB x0 x1 x2 x3 x4 x5 x6 x7 56 (by decide) 14 (by decide) 7 (by decide) 15 (by decide)⟩,
      ⟨Rect.unit (s := S1x64x256x128) ![0, 62, 0, 0] S1x1x256x128.size inb_S1x64x256x128_S1x1x256x128_0_62_0_0, ncB x0 x1 x2 x3 x4 x5 x6 x7 56 (by decide) 14 (by decide) 6 (by decide) 15 (by decide)⟩,
      ⟨Rect.unit (s := S1x64x256x128) ![0, 61, 0, 0] S1x1x256x128.size inb_S1x64x256x128_S1x1x256x128_0_61_0_0, ncB x0 x1 x2 x3 x4 x5 x6 x7 56 (by decide) 14 (by decide) 5 (by decide) 15 (by decide)⟩,
      ⟨Rect.unit (s := S1x64x256x128) ![0, 60, 0, 0] S1x1x256x128.size inb_S1x64x256x128_S1x1x256x128_0_60_0_0, ncB x0 x1 x2 x3 x4 x5 x6 x7 56 (by decide) 14 (by decide) 4 (by decide) 15 (by decide)⟩,
      ⟨Rect.unit (s := S1x64x256x128) ![0, 59, 0, 0] S1x1x256x128.size inb_S1x64x256x128_S1x1x256x128_0_59_0_0, ncB x0 x1 x2 x3 x4 x5 x6 x7 56 (by decide) 14 (by decide) 3 (by decide) 14 (by decide)⟩,
      ⟨Rect.unit (s := S1x64x256x128) ![0, 58, 0, 0] S1x1x256x128.size inb_S1x64x256x128_S1x1x256x128_0_58_0_0, ncB x0 x1 x2 x3 x4 x5 x6 x7 56 (by decide) 14 (by decide) 2 (by decide) 14 (by decide)⟩,
      ⟨Rect.unit (s := S1x64x256x128) ![0, 57, 0, 0] S1x1x256x128.size inb_S1x64x256x128_S1x1x256x128_0_57_0_0, ncB x0 x1 x2 x3 x4 x5 x6 x7 56 (by decide) 14 (by decide) 1 (by decide) 14 (by decide)⟩,
      ⟨Rect.unit (s := S1x64x256x128) ![0, 56, 0, 0] S1x1x256x128.size inb_S1x64x256x128_S1x1x256x128_0_56_0_0, ncB x0 x1 x2 x3 x4 x5 x6 x7 56 (by decide) 14 (by decide) 0 (by decide) 14 (by decide)⟩,
      ⟨Rect.unit (s := S1x64x256x128) ![0, 55, 0, 0] S1x1x256x128.size inb_S1x64x256x128_S1x1x256x128_0_55_0_0, ncB x0 x1 x2 x3 x4 x5 x6 x7 48 (by decide) 12 (by decide) 7 (by decide) 13 (by decide)⟩,
      ⟨Rect.unit (s := S1x64x256x128) ![0, 54, 0, 0] S1x1x256x128.size inb_S1x64x256x128_S1x1x256x128_0_54_0_0, ncB x0 x1 x2 x3 x4 x5 x6 x7 48 (by decide) 12 (by decide) 6 (by decide) 13 (by decide)⟩,
      ⟨Rect.unit (s := S1x64x256x128) ![0, 53, 0, 0] S1x1x256x128.size inb_S1x64x256x128_S1x1x256x128_0_53_0_0, ncB x0 x1 x2 x3 x4 x5 x6 x7 48 (by decide) 12 (by decide) 5 (by decide) 13 (by decide)⟩,
      ⟨Rect.unit (s := S1x64x256x128) ![0, 52, 0, 0] S1x1x256x128.size inb_S1x64x256x128_S1x1x256x128_0_52_0_0, ncB x0 x1 x2 x3 x4 x5 x6 x7 48 (by decide) 12 (by decide) 4 (by decide) 13 (by decide)⟩,
      ⟨Rect.unit (s := S1x64x256x128) ![0, 51, 0, 0] S1x1x256x128.size inb_S1x64x256x128_S1x1x256x128_0_51_0_0, ncB x0 x1 x2 x3 x4 x5 x6 x7 48 (by decide) 12 (by decide) 3 (by decide) 12 (by decide)⟩,
      ⟨Rect.unit (s := S1x64x256x128) ![0, 50, 0, 0] S1x1x256x128.size inb_S1x64x256x128_S1x1x256x128_0_50_0_0, ncB x0 x1 x2 x3 x4 x5 x6 x7 48 (by decide) 12 (by decide) 2 (by decide) 12 (by decide)⟩,
      ⟨Rect.unit (s := S1x64x256x128) ![0, 49, 0, 0] S1x1x256x128.size inb_S1x64x256x128_S1x1x256x128_0_49_0_0, ncB x0 x1 x2 x3 x4 x5 x6 x7 48 (by decide) 12 (by decide) 1 (by decide) 12 (by decide)⟩,
      ⟨Rect.unit (s := S1x64x256x128) ![0, 48, 0, 0] S1x1x256x128.size inb_S1x64x256x128_S1x1x256x128_0_48_0_0, ncB x0 x1 x2 x3 x4 x5 x6 x7 48 (by decide) 12 (by decide) 0 (by decide) 12 (by decide)⟩,
      ⟨Rect.unit (s := S1x64x256x128) ![0, 47, 0, 0] S1x1x256x128.size inb_S1x64x256x128_S1x1x256x128_0_47_0_0, ncB x0 x1 x2 x3 x4 x5 x6 x7 40 (by decide) 10 (by decide) 7 (by decide) 11 (by decide)⟩,
      ⟨Rect.unit (s := S1x64x256x128) ![0, 46, 0, 0] S1x1x256x128.size inb_S1x64x256x128_S1x1x256x128_0_46_0_0, ncB x0 x1 x2 x3 x4 x5 x6 x7 40 (by decide) 10 (by decide) 6 (by decide) 11 (by decide)⟩,
      ⟨Rect.unit (s := S1x64x256x128) ![0, 45, 0, 0] S1x1x256x128.size inb_S1x64x256x128_S1x1x256x128_0_45_0_0, ncB x0 x1 x2 x3 x4 x5 x6 x7 40 (by decide) 10 (by decide) 5 (by decide) 11 (by decide)⟩,
      ⟨Rect.unit (s := S1x64x256x128) ![0, 44, 0, 0] S1x1x256x128.size inb_S1x64x256x128_S1x1x256x128_0_44_0_0, ncB x0 x1 x2 x3 x4 x5 x6 x7 40 (by decide) 10 (by decide) 4 (by decide) 11 (by decide)⟩,
      ⟨Rect.unit (s := S1x64x256x128) ![0, 43, 0, 0] S1x1x256x128.size inb_S1x64x256x128_S1x1x256x128_0_43_0_0, ncB x0 x1 x2 x3 x4 x5 x6 x7 40 (by decide) 10 (by decide) 3 (by decide) 10 (by decide)⟩,
      ⟨Rect.unit (s := S1x64x256x128) ![0, 42, 0, 0] S1x1x256x128.size inb_S1x64x256x128_S1x1x256x128_0_42_0_0, ncB x0 x1 x2 x3 x4 x5 x6 x7 40 (by decide) 10 (by decide) 2 (by decide) 10 (by decide)⟩,
      ⟨Rect.unit (s := S1x64x256x128) ![0, 41, 0, 0] S1x1x256x128.size inb_S1x64x256x128_S1x1x256x128_0_41_0_0, ncB x0 x1 x2 x3 x4 x5 x6 x7 40 (by decide) 10 (by decide) 1 (by decide) 10 (by decide)⟩,
      ⟨Rect.unit (s := S1x64x256x128) ![0, 40, 0, 0] S1x1x256x128.size inb_S1x64x256x128_S1x1x256x128_0_40_0_0, ncB x0 x1 x2 x3 x4 x5 x6 x7 40 (by decide) 10 (by decide) 0 (by decide) 10 (by decide)⟩,
      ⟨Rect.unit (s := S1x64x256x128) ![0, 39, 0, 0] S1x1x256x128.size inb_S1x64x256x128_S1x1x256x128_0_39_0_0, ncB x0 x1 x2 x3 x4 x5 x6 x7 32 (by decide) 8 (by decide) 7 (by decide) 9 (by decide)⟩,
      ⟨Rect.unit (s := S1x64x256x128) ![0, 38, 0, 0] S1x1x256x128.size inb_S1x64x256x128_S1x1x256x128_0_38_0_0, ncB x0 x1 x2 x3 x4 x5 x6 x7 32 (by decide) 8 (by decide) 6 (by decide) 9 (by decide)⟩,
      ⟨Rect.unit (s := S1x64x256x128) ![0, 37, 0, 0] S1x1x256x128.size inb_S1x64x256x128_S1x1x256x128_0_37_0_0, ncB x0 x1 x2 x3 x4 x5 x6 x7 32 (by decide) 8 (by decide) 5 (by decide) 9 (by decide)⟩,
      ⟨Rect.unit (s := S1x64x256x128) ![0, 36, 0, 0] S1x1x256x128.size inb_S1x64x256x128_S1x1x256x128_0_36_0_0, ncB x0 x1 x2 x3 x4 x5 x6 x7 32 (by decide) 8 (by decide) 4 (by decide) 9 (by decide)⟩,
      ⟨Rect.unit (s := S1x64x256x128) ![0, 35, 0, 0] S1x1x256x128.size inb_S1x64x256x128_S1x1x256x128_0_35_0_0, ncB x0 x1 x2 x3 x4 x5 x6 x7 32 (by decide) 8 (by decide) 3 (by decide) 8 (by decide)⟩,
      ⟨Rect.unit (s := S1x64x256x128) ![0, 34, 0, 0] S1x1x256x128.size inb_S1x64x256x128_S1x1x256x128_0_34_0_0, ncB x0 x1 x2 x3 x4 x5 x6 x7 32 (by decide) 8 (by decide) 2 (by decide) 8 (by decide)⟩,
      ⟨Rect.unit (s := S1x64x256x128) ![0, 33, 0, 0] S1x1x256x128.size inb_S1x64x256x128_S1x1x256x128_0_33_0_0, ncB x0 x1 x2 x3 x4 x5 x6 x7 32 (by decide) 8 (by decide) 1 (by decide) 8 (by decide)⟩,
      ⟨Rect.unit (s := S1x64x256x128) ![0, 32, 0, 0] S1x1x256x128.size inb_S1x64x256x128_S1x1x256x128_0_32_0_0, ncB x0 x1 x2 x3 x4 x5 x6 x7 32 (by decide) 8 (by decide) 0 (by decide) 8 (by decide)⟩,
      ⟨Rect.unit (s := S1x64x256x128) ![0, 31, 0, 0] S1x1x256x128.size inb_S1x64x256x128_S1x1x256x128_0_31_0_0, ncB x0 x1 x2 x3 x4 x5 x6 x7 24 (by decide) 6 (by decide) 7 (by decide) 7 (by decide)⟩,
      ⟨Rect.unit (s := S1x64x256x128) ![0, 30, 0, 0] S1x1x256x128.size inb_S1x64x256x128_S1x1x256x128_0_30_0_0, ncB x0 x1 x2 x3 x4 x5 x6 x7 24 (by decide) 6 (by decide) 6 (by decide) 7 (by decide)⟩,
      ⟨Rect.unit (s := S1x64x256x128) ![0, 29, 0, 0] S1x1x256x128.size inb_S1x64x256x128_S1x1x256x128_0_29_0_0, ncB x0 x1 x2 x3 x4 x5 x6 x7 24 (by decide) 6 (by decide) 5 (by decide) 7 (by decide)⟩,
      ⟨Rect.unit (s := S1x64x256x128) ![0, 28, 0, 0] S1x1x256x128.size inb_S1x64x256x128_S1x1x256x128_0_28_0_0, ncB x0 x1 x2 x3 x4 x5 x6 x7 24 (by decide) 6 (by decide) 4 (by decide) 7 (by decide)⟩,
      ⟨Rect.unit (s := S1x64x256x128) ![0, 27, 0, 0] S1x1x256x128.size inb_S1x64x256x128_S1x1x256x128_0_27_0_0, ncB x0 x1 x2 x3 x4 x5 x6 x7 24 (by decide) 6 (by decide) 3 (by decide) 6 (by decide)⟩,
      ⟨Rect.unit (s := S1x64x256x128) ![0, 26, 0, 0] S1x1x256x128.size inb_S1x64x256x128_S1x1x256x128_0_26_0_0, ncB x0 x1 x2 x3 x4 x5 x6 x7 24 (by decide) 6 (by decide) 2 (by decide) 6 (by decide)⟩,
      ⟨Rect.unit (s := S1x64x256x128) ![0, 25, 0, 0] S1x1x256x128.size inb_S1x64x256x128_S1x1x256x128_0_25_0_0, ncB x0 x1 x2 x3 x4 x5 x6 x7 24 (by decide) 6 (by decide) 1 (by decide) 6 (by decide)⟩,
      ⟨Rect.unit (s := S1x64x256x128) ![0, 24, 0, 0] S1x1x256x128.size inb_S1x64x256x128_S1x1x256x128_0_24_0_0, ncB x0 x1 x2 x3 x4 x5 x6 x7 24 (by decide) 6 (by decide) 0 (by decide) 6 (by decide)⟩,
      ⟨Rect.unit (s := S1x64x256x128) ![0, 23, 0, 0] S1x1x256x128.size inb_S1x64x256x128_S1x1x256x128_0_23_0_0, ncB x0 x1 x2 x3 x4 x5 x6 x7 16 (by decide) 4 (by decide) 7 (by decide) 5 (by decide)⟩,
      ⟨Rect.unit (s := S1x64x256x128) ![0, 22, 0, 0] S1x1x256x128.size inb_S1x64x256x128_S1x1x256x128_0_22_0_0, ncB x0 x1 x2 x3 x4 x5 x6 x7 16 (by decide) 4 (by decide) 6 (by decide) 5 (by decide)⟩,
      ⟨Rect.unit (s := S1x64x256x128) ![0, 21, 0, 0] S1x1x256x128.size inb_S1x64x256x128_S1x1x256x128_0_21_0_0, ncB x0 x1 x2 x3 x4 x5 x6 x7 16 (by decide) 4 (by decide) 5 (by decide) 5 (by decide)⟩,
      ⟨Rect.unit (s := S1x64x256x128) ![0, 20, 0, 0] S1x1x256x128.size inb_S1x64x256x128_S1x1x256x128_0_20_0_0, ncB x0 x1 x2 x3 x4 x5 x6 x7 16 (by decide) 4 (by decide) 4 (by decide) 5 (by decide)⟩,
      ⟨Rect.unit (s := S1x64x256x128) ![0, 19, 0, 0] S1x1x256x128.size inb_S1x64x256x128_S1x1x256x128_0_19_0_0, ncB x0 x1 x2 x3 x4 x5 x6 x7 16 (by decide) 4 (by decide) 3 (by decide) 4 (by decide)⟩,
      ⟨Rect.unit (s := S1x64x256x128) ![0, 18, 0, 0] S1x1x256x128.size inb_S1x64x256x128_S1x1x256x128_0_18_0_0, ncB x0 x1 x2 x3 x4 x5 x6 x7 16 (by decide) 4 (by decide) 2 (by decide) 4 (by decide)⟩,
      ⟨Rect.unit (s := S1x64x256x128) ![0, 17, 0, 0] S1x1x256x128.size inb_S1x64x256x128_S1x1x256x128_0_17_0_0, ncB x0 x1 x2 x3 x4 x5 x6 x7 16 (by decide) 4 (by decide) 1 (by decide) 4 (by decide)⟩,
      ⟨Rect.unit (s := S1x64x256x128) ![0, 16, 0, 0] S1x1x256x128.size inb_S1x64x256x128_S1x1x256x128_0_16_0_0, ncB x0 x1 x2 x3 x4 x5 x6 x7 16 (by decide) 4 (by decide) 0 (by decide) 4 (by decide)⟩,
      ⟨Rect.unit (s := S1x64x256x128) ![0, 15, 0, 0] S1x1x256x128.size inb_S1x64x256x128_S1x1x256x128_0_15_0_0, ncB x0 x1 x2 x3 x4 x5 x6 x7 8 (by decide) 2 (by decide) 7 (by decide) 3 (by decide)⟩,
      ⟨Rect.unit (s := S1x64x256x128) ![0, 14, 0, 0] S1x1x256x128.size inb_S1x64x256x128_S1x1x256x128_0_14_0_0, ncB x0 x1 x2 x3 x4 x5 x6 x7 8 (by decide) 2 (by decide) 6 (by decide) 3 (by decide)⟩,
      ⟨Rect.unit (s := S1x64x256x128) ![0, 13, 0, 0] S1x1x256x128.size inb_S1x64x256x128_S1x1x256x128_0_13_0_0, ncB x0 x1 x2 x3 x4 x5 x6 x7 8 (by decide) 2 (by decide) 5 (by decide) 3 (by decide)⟩,
      ⟨Rect.unit (s := S1x64x256x128) ![0, 12, 0, 0] S1x1x256x128.size inb_S1x64x256x128_S1x1x256x128_0_12_0_0, ncB x0 x1 x2 x3 x4 x5 x6 x7 8 (by decide) 2 (by decide) 4 (by decide) 3 (by decide)⟩,
      ⟨Rect.unit (s := S1x64x256x128) ![0, 11, 0, 0] S1x1x256x128.size inb_S1x64x256x128_S1x1x256x128_0_11_0_0, ncB x0 x1 x2 x3 x4 x5 x6 x7 8 (by decide) 2 (by decide) 3 (by decide) 2 (by decide)⟩,
      ⟨Rect.unit (s := S1x64x256x128) ![0, 10, 0, 0] S1x1x256x128.size inb_S1x64x256x128_S1x1x256x128_0_10_0_0, ncB x0 x1 x2 x3 x4 x5 x6 x7 8 (by decide) 2 (by decide) 2 (by decide) 2 (by decide)⟩,
      ⟨Rect.unit (s := S1x64x256x128) ![0, 9, 0, 0] S1x1x256x128.size inb_S1x64x256x128_S1x1x256x128_0_9_0_0, ncB x0 x1 x2 x3 x4 x5 x6 x7 8 (by decide) 2 (by decide) 1 (by decide) 2 (by decide)⟩,
      ⟨Rect.unit (s := S1x64x256x128) ![0, 8, 0, 0] S1x1x256x128.size inb_S1x64x256x128_S1x1x256x128_0_8_0_0, ncB x0 x1 x2 x3 x4 x5 x6 x7 8 (by decide) 2 (by decide) 0 (by decide) 2 (by decide)⟩,
      ⟨Rect.unit (s := S1x64x256x128) ![0, 7, 0, 0] S1x1x256x128.size inb_S1x64x256x128_S1x1x256x128_0_7_0_0, ncB x0 x1 x2 x3 x4 x5 x6 x7 0 (by decide) 0 (by decide) 7 (by decide) 1 (by decide)⟩,
      ⟨Rect.unit (s := S1x64x256x128) ![0, 6, 0, 0] S1x1x256x128.size inb_S1x64x256x128_S1x1x256x128_0_6_0_0, ncB x0 x1 x2 x3 x4 x5 x6 x7 0 (by decide) 0 (by decide) 6 (by decide) 1 (by decide)⟩,
      ⟨Rect.unit (s := S1x64x256x128) ![0, 5, 0, 0] S1x1x256x128.size inb_S1x64x256x128_S1x1x256x128_0_5_0_0, ncB x0 x1 x2 x3 x4 x5 x6 x7 0 (by decide) 0 (by decide) 5 (by decide) 1 (by decide)⟩,
      ⟨Rect.unit (s := S1x64x256x128) ![0, 4, 0, 0] S1x1x256x128.size inb_S1x64x256x128_S1x1x256x128_0_4_0_0, ncB x0 x1 x2 x3 x4 x5 x6 x7 0 (by decide) 0 (by decide) 4 (by decide) 1 (by decide)⟩,
      ⟨Rect.unit (s := S1x64x256x128) ![0, 3, 0, 0] S1x1x256x128.size inb_S1x64x256x128_S1x1x256x128_0_3_0_0, ncB x0 x1 x2 x3 x4 x5 x6 x7 0 (by decide) 0 (by decide) 3 (by decide) 0 (by decide)⟩,
      ⟨Rect.unit (s := S1x64x256x128) ![0, 2, 0, 0] S1x1x256x128.size inb_S1x64x256x128_S1x1x256x128_0_2_0_0, ncB x0 x1 x2 x3 x4 x5 x6 x7 0 (by decide) 0 (by decide) 2 (by decide) 0 (by decide)⟩,
      ⟨Rect.unit (s := S1x64x256x128) ![0, 1, 0, 0] S1x1x256x128.size inb_S1x64x256x128_S1x1x256x128_0_1_0_0, ncB x0 x1 x2 x3 x4 x5 x6 x7 0 (by decide) 0 (by decide) 1 (by decide) 0 (by decide)⟩,
      ⟨Rect.unit (s := S1x64x256x128) ![0, 0, 0, 0] S1x1x256x128.size inb_S1x64x256x128_S1x1x256x128_0_0_0_0, ncB x0 x1 x2 x3 x4 x5 x6 x7 0 (by decide) 0 (by decide) 0 (by decide) 0 (by decide)⟩] := by
  rw [out9_raw]; simp only [m_blk_0, m_blk_1, m_blk_2, m_blk_3, m_blk_4, m_blk_5, m_blk_6, m_blk_7, z_blk_0, z_blk_1, z_blk_2, z_blk_3, z_blk_4, z_blk_5, z_blk_6, z_blk_7, states_cov_0, states_cov_1, states_cov_2, states_cov_3, states_cov_4, states_cov_5, states_cov_6, states_cov_7,
    cov_row _ 0 0 0 (by decide) rfl, cov_row _ 0 1 1 (by decide) rfl, cov_row _ 0 2 2 (by decide) rfl, cov_row _ 0 3 3 (by decide) rfl, cov_row _ 0 4 4 (by decide) rfl, cov_row _ 0 5 5 (by decide) rfl, cov_row _ 0 6 6 (by decide) rfl, cov_row _ 0 7 7 (by decide) rfl, cov_row _ 8 8 0 (by decide) rfl, cov_row _ 8 9 1 (by decide) rfl, cov_row _ 8 10 2 (by decide) rfl, cov_row _ 8 11 3 (by decide) rfl, cov_row _ 8 12 4 (by decide) rfl, cov_row _ 8 13 5 (by decide) rfl, cov_row _ 8 14 6 (by decide) rfl, cov_row _ 8 15 7 (by decide) rfl, cov_row _ 16 16 0 (by decide) rfl, cov_row _ 16 17 1 (by decide) rfl, cov_row _ 16 18 2 (by decide) rfl, cov_row _ 16 19 3 (by decide) rfl, cov_row _ 16 20 4 (by decide) rfl, cov_row _ 16 21 5 (by decide) rfl, cov_row _ 16 22 6 (by decide) rfl, cov_row _ 16 23 7 (by decide) rfl, cov_row _ 24 24 0 (by decide) rfl, cov_row _ 24 25 1 (by decide) rfl, cov_row _ 24 26 2 (by decide) rfl, cov_row _ 24 27 3 (by decide) rfl, cov_row _ 24 28 4 (by decide) rfl, cov_row _ 24 29 5 (by decide) rfl, cov_row _ 24 30 6 (by decide) rfl, cov_row _ 24 31 7 (by decide) rfl, cov_row _ 32 32 0 (by decide) rfl, cov_row _ 32 33 1 (by decide) rfl, cov_row _ 32 34 2 (by decide) rfl, cov_row _ 32 35 3 (by decide) rfl, cov_row _ 32 36 4 (by decide) rfl, cov_row _ 32 37 5 (by decide) rfl, cov_row _ 32 38 6 (by decide) rfl, cov_row _ 32 39 7 (by decide) rfl, cov_row _ 40 40 0 (by decide) rfl, cov_row _ 40 41 1 (by decide) rfl, cov_row _ 40 42 2 (by decide) rfl, cov_row _ 40 43 3 (by decide) rfl, cov_row _ 40 44 4 (by decide) rfl, cov_row _ 40 45 5 (by decide) rfl, cov_row _ 40 46 6 (by decide) rfl, cov_row _ 40 47 7 (by decide) rfl, cov_row _ 48 48 0 (by decide) rfl, cov_row _ 48 49 1 (by decide) rfl, cov_row _ 48 50 2 (by decide) rfl, cov_row _ 48 51 3 (by decide) rfl, cov_row _ 48 52 4 (by decide) rfl, cov_row _ 48 53 5 (by decide) rfl, cov_row _ 48 54 6 (by decide) rfl, cov_row _ 48 55 7 (by decide) rfl, cov_row _ 56 56 0 (by decide) rfl, cov_row _ 56 57 1 (by decide) rfl, cov_row _ 56 58 2 (by decide) rfl, cov_row _ 56 59 3 (by decide) rfl, cov_row _ 56 60 4 (by decide) rfl, cov_row _ 56 61 5 (by decide) rfl, cov_row _ 56 62 6 (by decide) rfl, cov_row _ 56 63 7 (by decide) rfl]; rfl

end Cert.Delta

end
-- ==== Proof.Out10.lean ====
/- The stores of the new scales, from the point's input blocks. -/
module

public import proofs.«01_k».proof.Proof.Chunk0
public import proofs.«01_k».proof.Proof.Chunk1
public import proofs.«01_k».proof.Proof.Chunk2
public import proofs.«01_k».proof.Proof.Chunk3
public import proofs.«01_k».proof.Proof.Chunk4
public import proofs.«01_k».proof.Proof.Chunk5
public import proofs.«01_k».proof.Proof.Chunk6
public import proofs.«01_k».proof.Proof.Chunk7

@[expose] public section

set_option maxRecDepth 16384
set_option maxHeartbeats 4000000

noncomputable section

namespace Cert.Delta

open Idealize.ShloMosaic Idealize.SL.Sem Cert.KernelIdeal Cert.KernelIdeal.Gen

variable {F : FTy → Type} [FloatOps F]

/-- The stores of the new scales, as the run leaves them. -/
theorem out10_raw (c : Dev nD) (i : grid0.Coords) (arg1 : Memref sig .tc .vmem S128x128 .fp8e4m3) (harg1 : arg1.IsWhole) (arg2 : Memref sig .tc .vmem S1x16x128 .bf16) (harg2 : arg2.IsWhole) (arg3 : Memref sig .tc .vmem S1x16x128 .bf16) (harg3 : arg3.IsWhole) (arg4 : Memref sig .tc .vmem S1x64x256 .bf16) (harg4 : arg4.IsWhole) (arg5 : Memref sig .tc .vmem S1x1x64 .f32) (harg5 : arg5.IsWhole) (arg6 : Memref sig .tc .vmem S1x1x64 .f32) (harg6 : arg6.IsWhole) (arg7 : Memref sig .tc .vmem S1x64x256x128 .fp8e4m3) (harg7 : arg7.IsWhole) (arg8 : Memref sig .tc .vmem S1x64x256 .f32) (harg8 : arg8.IsWhole) (arg9 : Memref sig .tc .vmem S1x64x256 .bf16) (harg9 : arg9.IsWhole) (arg10 : Memref sig .tc .vmem S1x64x256x128 .fp8e4m3) (harg10 : arg10.IsWhole) (arg11 : Memref sig .tc .vmem S1x64x256 .f32) (harg11 : arg11.IsWhole) (arg12 : Memref sig .tc .vmem S16x128x128 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S64x256 .f32) (harg15 : arg15.IsWhole) (arg16 : Memref sig .tc .vmem S8x128x256 .f32) (harg16 : arg16.IsWhole) (x0 : Vec F S128x128 .fp8e4m3) (x1 : Vec F S1x16x128 .bf16) (x2 : Vec F S1x16x128 .bf16) (x3 : Vec F S1x64x256 .bf16) (x4 : Vec F S1x1x64 .f32) (x5 : Vec F S1x1x64 .f32) (x6 : Vec F S1x64x256x128 .fp8e4m3) (x7 : Vec F S1x64x256 .f32) :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).2.2.1 = [⟨Rect.unit (s := S1x64x256) ![0, 56, 0] S1x8x256.size inb_S1x64x256_S1x8x256_0_56_0, newScale (amax (newZ (kernelRun0_A.sl.r_10 (F := F) c arg1 harg1 x0) (View.readAt (Elt F) arg7.view (Rect.unit (s := S1x64x256x128) ![0, 56, 0, 0] S1x1x256x128.size inb_S1x64x256x128_S1x1x256x128_0_56_0_0).toLoadRect (harg7.unread x6)) (arg12.view.readCov (kernelRun0_A.sl.HS0_16 (F := F) c arg3 harg3 x2) (Rect.unit (s := S16x128x128) ![14, 0, 0] S1x128x128.size inb_S16x128x128_S1x128x128_14_0_0).toLoadRect) (arg15.view.readCov (kernelRun0_A.sl.HS3_15 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![56, 0] S1x256.size inb_S64x256_S1x256_56_0).toLoadRect)) (newZ (kernelRun0_A.sl.r_10 (F := F) c arg1 harg1 x0) (View.readAt (Elt F) arg7.view (Rect.unit (s := S1x64x256x128) ![0, 57, 0, 0] S1x1x256x128.size inb_S1x64x256x128_S1x1x256x128_0_57_0_0).toLoadRect (harg7.unread x6)) (arg12.view.readCov (kernelRun0_A.sl.HS0_16 (F := F) c arg3 harg3 x2) (Rect.unit (s := S16x128x128) ![14, 0, 0] S1x128x128.size inb_S16x128x128_S1x128x128_14_0_0).toLoadRect) (arg15.view.readCov (kernelRun0_A.sl.HS3_15 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![57, 0] S1x256.size inb_S64x256_S1x256_57_0).toLoadRect)) (newZ (kernelRun0_A.sl.r_10 (F := F) c arg1 harg1 x0) (View.readAt (Elt F) arg7.view (Rect.unit (s := S1x64x256x128) ![0, 58, 0, 0] S1x1x256x128.size inb_S1x64x256x128_S1x1x256x128_0_58_0_0).toLoadRect (harg7.unread x6)) (arg12.view.readCov (kernelRun0_A.sl.HS0_16 (F := F) c arg3 harg3 x2) (Rect.unit (s := S16x128x128) ![14, 0, 0] S1x128x128.size inb_S16x128x128_S1x128x128_14_0_0).toLoadRect) (arg15.view.readCov (kernelRun0_A.sl.HS3_15 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![58, 0] S1x256.size inb_S64x256_S1x256_58_0).toLoadRect)) (newZ (kernelRun0_A.sl.r_10 (F := F) c arg1 harg1 x0) (View.readAt (Elt F) arg7.view (Rect.unit (s := S1x64x256x128) ![0, 59, 0, 0] S1x1x256x128.size inb_S1x64x256x128_S1x1x256x128_0_59_0_0).toLoadRect (harg7.unread x6)) (arg12.view.readCov (kernelRun0_A.sl.HS0_16 (F := F) c arg3 harg3 x2) (Rect.unit (s := S16x128x128) ![14, 0, 0] S1x128x128.size inb_S16x128x128_S1x128x128_14_0_0).toLoadRect) (arg15.view.readCov (kernelRun0_A.sl.HS3_15 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![59, 0] S1x256.size inb_S64x256_S1x256_59_0).toLoadRect)) (newZ (kernelRun0_A.sl.r_10 (F := F) c arg1 harg1 x0) (View.readAt (Elt F) arg7.view (Rect.unit (s := S1x64x256x128) ![0, 60, 0, 0] S1x1x256x128.size inb_S1x64x256x128_S1x1x256x128_0_60_0_0).toLoadRect (harg7.unread x6)) (arg12.view.readCov (kernelRun0_A.sl.HS0_16 (F := F) c arg3 harg3 x2) (Rect.unit (s := S16x128x128) ![15, 0, 0] S1x128x128.size inb_S16x128x128_S1x128x128_15_0_0).toLoadRect) (arg15.view.readCov (kernelRun0_A.sl.HS3_15 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![60, 0] S1x256.size inb_S64x256_S1x256_60_0).toLoadRect)) (newZ (kernelRun0_A.sl.r_10 (F := F) c arg1 harg1 x0) (View.readAt (Elt F) arg7.view (Rect.unit (s := S1x64x256x128) ![0, 61, 0, 0] S1x1x256x128.size inb_S1x64x256x128_S1x1x256x128_0_61_0_0).toLoadRect (harg7.unread x6)) (arg12.view.readCov (kernelRun0_A.sl.HS0_16 (F := F) c arg3 harg3 x2) (Rect.unit (s := S16x128x128) ![15, 0, 0] S1x128x128.size inb_S16x128x128_S1x128x128_15_0_0).toLoadRect) (arg15.view.readCov (kernelRun0_A.sl.HS3_15 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![61, 0] S1x256.size inb_S64x256_S1x256_61_0).toLoadRect)) (newZ (kernelRun0_A.sl.r_10 (F := F) c arg1 harg1 x0) (View.readAt (Elt F) arg7.view (Rect.unit (s := S1x64x256x128) ![0, 62, 0, 0] S1x1x256x128.size inb_S1x64x256x128_S1x1x256x128_0_62_0_0).toLoadRect (harg7.unread x6)) (arg12.view.readCov (kernelRun0_A.sl.HS0_16 (F := F) c arg3 harg3 x2) (Rect.unit (s := S16x128x128) ![15, 0, 0] S1x128x128.size inb_S16x128x128_S1x128x128_15_0_0).toLoadRect) (arg15.view.readCov (kernelRun0_A.sl.HS3_15 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![62, 0] S1x256.size inb_S64x256_S1x256_62_0).toLoadRect)) (newZ (kernelRun0_A.sl.r_10 (F := F) c arg1 harg1 x0) (View.readAt (Elt F) arg7.view (Rect.unit (s := S1x64x256x128) ![0, 63, 0, 0] S1x1x256x128.size inb_S1x64x256x128_S1x1x256x128_0_63_0_0).toLoadRect (harg7.unread x6)) (arg12.view.readCov (kernelRun0_A.sl.HS0_16 (F := F) c arg3 harg3 x2) (Rect.unit (s := S16x128x128) ![15, 0, 0] S1x128x128.size inb_S16x128x128_S1x128x128_15_0_0).toLoadRect) (arg15.view.readCov (kernelRun0_A.sl.HS3_15 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![63, 0] S1x256.size inb_S64x256_S1x256_63_0).toLoadRect)) (decayed (View.readAt (Elt F) arg8.view (Rect.unit (s := S1x64x256) ![0, 56, 0] S1x8x256.size inb_S1x64x256_S1x8x256_0_56_0).toLoadRect (harg8.unread x7)) (extractStridedSlice S8x1 ![56, 0] (kernelRun0_A.sl.r_2 (F := F) c arg5 harg5 x4) slices_S64x1_o56_0_S8x1)) (dk (rows (kernelRun0_A.sl.v203 : IVec S8x128 32) (arg13.view.readCov (kernelRun0_A.sl.HS1_1 (F := F) c arg3 harg3 x2) (Rect.unit (s := S16x128) ![14, 0] S1x128.size inb_S16x128_S1x128_14_0).toLoadRect) (arg13.view.readCov (kernelRun0_A.sl.HS1_1 (F := F) c arg3 harg3 x2) (Rect.unit (s := S16x128) ![15, 0] S1x128.size inb_S16x128_S1x128_15_0).toLoadRect)) (delta (proj (kernelRun0_A.sl.v203 : IVec S8x128 32) (arg13.view.readCov (kernelRun0_A.sl.HS1_1 (F := F) c arg3 harg3 x2) (Rect.unit (s := S16x128) ![14, 0] S1x128.size inb_S16x128_S1x128_14_0).toLoadRect) (arg13.view.readCov (kernelRun0_A.sl.HS1_1 (F := F) c arg3 harg3 x2) (Rect.unit (s := S16x128) ![15, 0] S1x128.size inb_S16x128_S1x128_15_0).toLoadRect) (arg14.view.readCov (kernelRun0_A.sl.HS2_1 (F := F) c arg2 harg2 x1) (Rect.unit (s := S16x128) ![14, 0] S1x128.size inb_S16x128_S1x128_14_0).toLoadRect) (arg14.view.readCov (kernelRun0_A.sl.HS2_1 (F := F) c arg2 harg2 x1) (Rect.unit (s := S16x128) ![15, 0] S1x128.size inb_S16x128_S1x128_15_0).toLoadRect) (View.readAt (Elt F) arg7.view (Rect.unit (s := S1x64x256x128) ![0, 56, 0, 0] S1x1x256x128.size inb_S1x64x256x128_S1x1x256x128_0_56_0_0).toLoadRect (harg7.unread x6)) (View.readAt (Elt F) arg7.view (Rect.unit (s := S1x64x256x128) ![0, 57, 0, 0] S1x1x256x128.size inb_S1x64x256x128_S1x1x256x128_0_57_0_0).toLoadRect (harg7.unread x6)) (View.readAt (Elt F) arg7.view (Rect.unit (s := S1x64x256x128) ![0, 58, 0, 0] S1x1x256x128.size inb_S1x64x256x128_S1x1x256x128_0_58_0_0).toLoadRect (harg7.unread x6)) (View.readAt (Elt F) arg7.view (Rect.unit (s := S1x64x256x128) ![0, 59, 0, 0] S1x1x256x128.size inb_S1x64x256x128_S1x1x256x128_0_59_0_0).toLoadRect (harg7.unread x6)) (View.readAt (Elt F) arg7.view (Rect.unit (s := S1x64x256x128) ![0, 60, 0, 0] S1x1x256x128.size inb_S1x64x256x128_S1x1x256x128_0_60_0_0).toLoadRect (harg7.unread x6)) (View.readAt (Elt F) arg7.view (Rect.unit (s := S1x64x256x128) ![0, 61, 0, 0] S1x1x256x128.size inb_S1x64x256x128_S1x1x256x128_0_61_0_0).toLoadRect (harg7.unread x6)) (View.readAt (Elt F) arg7.view (Rect.unit (s := S1x64x256x128) ![0, 62, 0, 0] S1x1x256x128.size inb_S1x64x256x128_S1x1x256x128_0_62_0_0).toLoadRect (harg7.unread x6)) (View.readAt (Elt F) arg7.view (Rect.unit (s := S1x64x256x128) ![0, 63, 0, 0] S1x1x256x128.size inb_S1x64x256x128_S1x1x256x128_0_63_0_0).toLoadRect (harg7.unread x6))) (View.readAt (Elt F) arg8.view (Rect.unit (s := S1x64x256) ![0, 56, 0] S1x8x256.size inb_S1x64x256_S1x8x256_0_56_0).toLoadRect (harg8.unread x7)) (View.readAt (Elt F) arg4.view (Rect.unit (s := S1x64x256) ![0, 56, 0] S1x8x256.size inb_S1x64x256_S1x8x256_0_56_0).toLoadRect (harg4.unread x3)) (extractStridedSlice S8x1 ![56, 0] (kernelRun0_A.sl.r_2 (F := F) c arg5 harg5 x4) slices_S64x1_o56_0_S8x1) (extractStridedSlice S8x1 ![56, 0] (kernelRun0_A.sl.r_3 (F := F) c arg6 harg6 x5) slices_S64x1_o56_0_S8x1))))⟩,
      ⟨Rect.unit (s := S1x64x256) ![0, 48, 0] S1x8x256.size inb_S1x64x256_S1x8x256_0_48_0, newScale (amax (newZ (kernelRun0_A.sl.r_10 (F := F) c arg1 harg1 x0) (View.readAt (Elt F) arg7.view (Rect.unit (s := S1x64x256x128) ![0, 48, 0, 0] S1x1x256x128.size inb_S1x64x256x128_S1x1x256x128_0_48_0_0).toLoadRect (harg7.unread x6)) (arg12.view.readCov (kernelRun0_A.sl.HS0_16 (F := F) c arg3 harg3 x2) (Rect.unit (s := S16x128x128) ![12, 0, 0] S1x128x128.size inb_S16x128x128_S1x128x128_12_0_0).toLoadRect) (arg15.view.readCov (kernelRun0_A.sl.HS3_13 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![48, 0] S1x256.size inb_S64x256_S1x256_48_0).toLoadRect)) (newZ (kernelRun0_A.sl.r_10 (F := F) c arg1 harg1 x0) (View.readAt (Elt F) arg7.view (Rect.unit (s := S1x64x256x128) ![0, 49, 0, 0] S1x1x256x128.size inb_S1x64x256x128_S1x1x256x128_0_49_0_0).toLoadRect (harg7.unread x6)) (arg12.view.readCov (kernelRun0_A.sl.HS0_16 (F := F) c arg3 harg3 x2) (Rect.unit (s := S16x128x128) ![12, 0, 0] S1x128x128.size inb_S16x128x128_S1x128x128_12_0_0).toLoadRect) (arg15.view.readCov (kernelRun0_A.sl.HS3_13 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![49, 0] S1x256.size inb_S64x256_S1x256_49_0).toLoadRect)) (newZ (kernelRun0_A.sl.r_10 (F := F) c arg1 harg1 x0) (View.readAt (Elt F) arg7.view (Rect.unit (s := S1x64x256x128) ![0, 50, 0, 0] S1x1x256x128.size inb_S1x64x256x128_S1x1x256x128_0_50_0_0).toLoadRect (harg7.unread x6)) (arg12.view.readCov (kernelRun0_A.sl.HS0_16 (F := F) c arg3 harg3 x2) (Rect.unit (s := S16x128x128) ![12, 0, 0] S1x128x128.size inb_S16x128x128_S1x128x128_12_0_0).toLoadRect) (arg15.view.readCov (kernelRun0_A.sl.HS3_13 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![50, 0] S1x256.size inb_S64x256_S1x256_50_0).toLoadRect)) (newZ (kernelRun0_A.sl.r_10 (F := F) c arg1 harg1 x0) (View.readAt (Elt F) arg7.view (Rect.unit (s := S1x64x256x128) ![0, 51, 0, 0] S1x1x256x128.size inb_S1x64x256x128_S1x1x256x128_0_51_0_0).toLoadRect (harg7.unread x6)) (arg12.view.readCov (kernelRun0_A.sl.HS0_16 (F := F) c arg3 harg3 x2) (Rect.unit (s := S16x128x128) ![12, 0, 0] S1x128x128.size inb_S16x128x128_S1x128x128_12_0_0).toLoadRect) (arg15.view.readCov (kernelRun0_A.sl.HS3_13 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![51, 0] S1x256.size inb_S64x256_S1x256_51_0).toLoadRect)) (newZ (kernelRun0_A.sl.r_10 (F := F) c arg1 harg1 x0) (View.readAt (Elt F) arg7.view (Rect.unit (s := S1x64x256x128) ![0, 52, 0, 0] S1x1x256x128.size inb_S1x64x256x128_S1x1x256x128_0_52_0_0).toLoadRect (harg7.unread x6)) (arg12.view.readCov (kernelRun0_A.sl.HS0_16 (F := F) c arg3 harg3 x2) (Rect.unit (s := S16x128x128) ![13, 0, 0] S1x128x128.size inb_S16x128x128_S1x128x128_13_0_0).toLoadRect) (arg15.view.readCov (kernelRun0_A.sl.HS3_13 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![52, 0] S1x256.size inb_S64x256_S1x256_52_0).toLoadRect)) (newZ (kernelRun0_A.sl.r_10 (F := F) c arg1 harg1 x0) (View.readAt (Elt F) arg7.view (Rect.unit (s := S1x64x256x128) ![0, 53, 0, 0] S1x1x256x128.size inb_S1x64x256x128_S1x1x256x128_0_53_0_0).toLoadRect (harg7.unread x6)) (arg12.view.readCov (kernelRun0_A.sl.HS0_16 (F := F) c arg3 harg3 x2) (Rect.unit (s := S16x128x128) ![13, 0, 0] S1x128x128.size inb_S16x128x128_S1x128x128_13_0_0).toLoadRect) (arg15.view.readCov (kernelRun0_A.sl.HS3_13 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![53, 0] S1x256.size inb_S64x256_S1x256_53_0).toLoadRect)) (newZ (kernelRun0_A.sl.r_10 (F := F) c arg1 harg1 x0) (View.readAt (Elt F) arg7.view (Rect.unit (s := S1x64x256x128) ![0, 54, 0, 0] S1x1x256x128.size inb_S1x64x256x128_S1x1x256x128_0_54_0_0).toLoadRect (harg7.unread x6)) (arg12.view.readCov (kernelRun0_A.sl.HS0_16 (F := F) c arg3 harg3 x2) (Rect.unit (s := S16x128x128) ![13, 0, 0] S1x128x128.size inb_S16x128x128_S1x128x128_13_0_0).toLoadRect) (arg15.view.readCov (kernelRun0_A.sl.HS3_13 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![54, 0] S1x256.size inb_S64x256_S1x256_54_0).toLoadRect)) (newZ (kernelRun0_A.sl.r_10 (F := F) c arg1 harg1 x0) (View.readAt (Elt F) arg7.view (Rect.unit (s := S1x64x256x128) ![0, 55, 0, 0] S1x1x256x128.size inb_S1x64x256x128_S1x1x256x128_0_55_0_0).toLoadRect (harg7.unread x6)) (arg12.view.readCov (kernelRun0_A.sl.HS0_16 (F := F) c arg3 harg3 x2) (Rect.unit (s := S16x128x128) ![13, 0, 0] S1x128x128.size inb_S16x128x128_S1x128x128_13_0_0).toLoadRect) (arg15.view.readCov (kernelRun0_A.sl.HS3_13 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![55, 0] S1x256.size inb_S64x256_S1x256_55_0).toLoadRect)) (decayed (View.readAt (Elt F) arg8.view (Rect.unit (s := S1x64x256) ![0, 48, 0] S1x8x256.size inb_S1x64x256_S1x8x256_0_48_0).toLoadRect (harg8.unread x7)) (extractStridedSlice S8x1 ![48, 0] (kernelRun0_A.sl.r_2 (F := F) c arg5 harg5 x4) slices_S64x1_o48_0_S8x1)) (dk (rows (kernelRun0_A.sl.v203 : IVec S8x128 32) (arg13.view.readCov (kernelRun0_A.sl.HS1_1 (F := F) c arg3 harg3 x2) (Rect.unit (s := S16x128) ![12, 0] S1x128.size inb_S16x128_S1x128_12_0).toLoadRect) (arg13.view.readCov (kernelRun0_A.sl.HS1_1 (F := F) c arg3 harg3 x2) (Rect.unit (s := S16x128) ![13, 0] S1x128.size inb_S16x128_S1x128_13_0).toLoadRect)) (delta (proj (kernelRun0_A.sl.v203 : IVec S8x128 32) (arg13.view.readCov (kernelRun0_A.sl.HS1_1 (F := F) c arg3 harg3 x2) (Rect.unit (s := S16x128) ![12, 0] S1x128.size inb_S16x128_S1x128_12_0).toLoadRect) (arg13.view.readCov (kernelRun0_A.sl.HS1_1 (F := F) c arg3 harg3 x2) (Rect.unit (s := S16x128) ![13, 0] S1x128.size inb_S16x128_S1x128_13_0).toLoadRect) (arg14.view.readCov (kernelRun0_A.sl.HS2_1 (F := F) c arg2 harg2 x1) (Rect.unit (s := S16x128) ![12, 0] S1x128.size inb_S16x128_S1x128_12_0).toLoadRect) (arg14.view.readCov (kernelRun0_A.sl.HS2_1 (F := F) c arg2 harg2 x1) (Rect.unit (s := S16x128) ![13, 0] S1x128.size inb_S16x128_S1x128_13_0).toLoadRect) (View.readAt (Elt F) arg7.view (Rect.unit (s := S1x64x256x128) ![0, 48, 0, 0] S1x1x256x128.size inb_S1x64x256x128_S1x1x256x128_0_48_0_0).toLoadRect (harg7.unread x6)) (View.readAt (Elt F) arg7.view (Rect.unit (s := S1x64x256x128) ![0, 49, 0, 0] S1x1x256x128.size inb_S1x64x256x128_S1x1x256x128_0_49_0_0).toLoadRect (harg7.unread x6)) (View.readAt (Elt F) arg7.view (Rect.unit (s := S1x64x256x128) ![0, 50, 0, 0] S1x1x256x128.size inb_S1x64x256x128_S1x1x256x128_0_50_0_0).toLoadRect (harg7.unread x6)) (View.readAt (Elt F) arg7.view (Rect.unit (s := S1x64x256x128) ![0, 51, 0, 0] S1x1x256x128.size inb_S1x64x256x128_S1x1x256x128_0_51_0_0).toLoadRect (harg7.unread x6)) (View.readAt (Elt F) arg7.view (Rect.unit (s := S1x64x256x128) ![0, 52, 0, 0] S1x1x256x128.size inb_S1x64x256x128_S1x1x256x128_0_52_0_0).toLoadRect (harg7.unread x6)) (View.readAt (Elt F) arg7.view (Rect.unit (s := S1x64x256x128) ![0, 53, 0, 0] S1x1x256x128.size inb_S1x64x256x128_S1x1x256x128_0_53_0_0).toLoadRect (harg7.unread x6)) (View.readAt (Elt F) arg7.view (Rect.unit (s := S1x64x256x128) ![0, 54, 0, 0] S1x1x256x128.size inb_S1x64x256x128_S1x1x256x128_0_54_0_0).toLoadRect (harg7.unread x6)) (View.readAt (Elt F) arg7.view (Rect.unit (s := S1x64x256x128) ![0, 55, 0, 0] S1x1x256x128.size inb_S1x64x256x128_S1x1x256x128_0_55_0_0).toLoadRect (harg7.unread x6))) (View.readAt (Elt F) arg8.view (Rect.unit (s := S1x64x256) ![0, 48, 0] S1x8x256.size inb_S1x64x256_S1x8x256_0_48_0).toLoadRect (harg8.unread x7)) (View.readAt (Elt F) arg4.view (Rect.unit (s := S1x64x256) ![0, 48, 0] S1x8x256.size inb_S1x64x256_S1x8x256_0_48_0).toLoadRect (harg4.unread x3)) (extractStridedSlice S8x1 ![48, 0] (kernelRun0_A.sl.r_2 (F := F) c arg5 harg5 x4) slices_S64x1_o48_0_S8x1) (extractStridedSlice S8x1 ![48, 0] (kernelRun0_A.sl.r_3 (F := F) c arg6 harg6 x5) slices_S64x1_o48_0_S8x1))))⟩,
      ⟨Rect.unit (s := S1x64x256) ![0, 40, 0] S1x8x256.size inb_S1x64x256_S1x8x256_0_40_0, newScale (amax (newZ (kernelRun0_A.sl.r_10 (F := F) c arg1 harg1 x0) (View.readAt (Elt F) arg7.view (Rect.unit (s := S1x64x256x128) ![0, 40, 0, 0] S1x1x256x128.size inb_S1x64x256x128_S1x1x256x128_0_40_0_0).toLoadRect (harg7.unread x6)) (arg12.view.readCov (kernelRun0_A.sl.HS0_16 (F := F) c arg3 harg3 x2) (Rect.unit (s := S16x128x128) ![10, 0, 0] S1x128x128.size inb_S16x128x128_S1x128x128_10_0_0).toLoadRect) (arg15.view.readCov (kernelRun0_A.sl.HS3_11 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![40, 0] S1x256.size inb_S64x256_S1x256_40_0).toLoadRect)) (newZ (kernelRun0_A.sl.r_10 (F := F) c arg1 harg1 x0) (View.readAt (Elt F) arg7.view (Rect.unit (s := S1x64x256x128) ![0, 41, 0, 0] S1x1x256x128.size inb_S1x64x256x128_S1x1x256x128_0_41_0_0).toLoadRect (harg7.unread x6)) (arg12.view.readCov (kernelRun0_A.sl.HS0_16 (F := F) c arg3 harg3 x2) (Rect.unit (s := S16x128x128) ![10, 0, 0] S1x128x128.size inb_S16x128x128_S1x128x128_10_0_0).toLoadRect) (arg15.view.readCov (kernelRun0_A.sl.HS3_11 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![41, 0] S1x256.size inb_S64x256_S1x256_41_0).toLoadRect)) (newZ (kernelRun0_A.sl.r_10 (F := F) c arg1 harg1 x0) (View.readAt (Elt F) arg7.view (Rect.unit (s := S1x64x256x128) ![0, 42, 0, 0] S1x1x256x128.size inb_S1x64x256x128_S1x1x256x128_0_42_0_0).toLoadRect (harg7.unread x6)) (arg12.view.readCov (kernelRun0_A.sl.HS0_16 (F := F) c arg3 harg3 x2) (Rect.unit (s := S16x128x128) ![10, 0, 0] S1x128x128.size inb_S16x128x128_S1x128x128_10_0_0).toLoadRect) (arg15.view.readCov (kernelRun0_A.sl.HS3_11 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![42, 0] S1x256.size inb_S64x256_S1x256_42_0).toLoadRect)) (newZ (kernelRun0_A.sl.r_10 (F := F) c arg1 harg1 x0) (View.readAt (Elt F) arg7.view (Rect.unit (s := S1x64x256x128) ![0, 43, 0, 0] S1x1x256x128.size inb_S1x64x256x128_S1x1x256x128_0_43_0_0).toLoadRect (harg7.unread x6)) (arg12.view.readCov (kernelRun0_A.sl.HS0_16 (F := F) c arg3 harg3 x2) (Rect.unit (s := S16x128x128) ![10, 0, 0] S1x128x128.size inb_S16x128x128_S1x128x128_10_0_0).toLoadRect) (arg15.view.readCov (kernelRun0_A.sl.HS3_11 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![43, 0] S1x256.size inb_S64x256_S1x256_43_0).toLoadRect)) (newZ (kernelRun0_A.sl.r_10 (F := F) c arg1 harg1 x0) (View.readAt (Elt F) arg7.view (Rect.unit (s := S1x64x256x128) ![0, 44, 0, 0] S1x1x256x128.size inb_S1x64x256x128_S1x1x256x128_0_44_0_0).toLoadRect (harg7.unread x6)) (arg12.view.readCov (kernelRun0_A.sl.HS0_16 (F := F) c arg3 harg3 x2) (Rect.unit (s := S16x128x128) ![11, 0, 0] S1x128x128.size inb_S16x128x128_S1x128x128_11_0_0).toLoadRect) (arg15.view.readCov (kernelRun0_A.sl.HS3_11 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![44, 0] S1x256.size inb_S64x256_S1x256_44_0).toLoadRect)) (newZ (kernelRun0_A.sl.r_10 (F := F) c arg1 harg1 x0) (View.readAt (Elt F) arg7.view (Rect.unit (s := S1x64x256x128) ![0, 45, 0, 0] S1x1x256x128.size inb_S1x64x256x128_S1x1x256x128_0_45_0_0).toLoadRect (harg7.unread x6)) (arg12.view.readCov (kernelRun0_A.sl.HS0_16 (F := F) c arg3 harg3 x2) (Rect.unit (s := S16x128x128) ![11, 0, 0] S1x128x128.size inb_S16x128x128_S1x128x128_11_0_0).toLoadRect) (arg15.view.readCov (kernelRun0_A.sl.HS3_11 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![45, 0] S1x256.size inb_S64x256_S1x256_45_0).toLoadRect)) (newZ (kernelRun0_A.sl.r_10 (F := F) c arg1 harg1 x0) (View.readAt (Elt F) arg7.view (Rect.unit (s := S1x64x256x128) ![0, 46, 0, 0] S1x1x256x128.size inb_S1x64x256x128_S1x1x256x128_0_46_0_0).toLoadRect (harg7.unread x6)) (arg12.view.readCov (kernelRun0_A.sl.HS0_16 (F := F) c arg3 harg3 x2) (Rect.unit (s := S16x128x128) ![11, 0, 0] S1x128x128.size inb_S16x128x128_S1x128x128_11_0_0).toLoadRect) (arg15.view.readCov (kernelRun0_A.sl.HS3_11 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![46, 0] S1x256.size inb_S64x256_S1x256_46_0).toLoadRect)) (newZ (kernelRun0_A.sl.r_10 (F := F) c arg1 harg1 x0) (View.readAt (Elt F) arg7.view (Rect.unit (s := S1x64x256x128) ![0, 47, 0, 0] S1x1x256x128.size inb_S1x64x256x128_S1x1x256x128_0_47_0_0).toLoadRect (harg7.unread x6)) (arg12.view.readCov (kernelRun0_A.sl.HS0_16 (F := F) c arg3 harg3 x2) (Rect.unit (s := S16x128x128) ![11, 0, 0] S1x128x128.size inb_S16x128x128_S1x128x128_11_0_0).toLoadRect) (arg15.view.readCov (kernelRun0_A.sl.HS3_11 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![47, 0] S1x256.size inb_S64x256_S1x256_47_0).toLoadRect)) (decayed (View.readAt (Elt F) arg8.view (Rect.unit (s := S1x64x256) ![0, 40, 0] S1x8x256.size inb_S1x64x256_S1x8x256_0_40_0).toLoadRect (harg8.unread x7)) (extractStridedSlice S8x1 ![40, 0] (kernelRun0_A.sl.r_2 (F := F) c arg5 harg5 x4) slices_S64x1_o40_0_S8x1)) (dk (rows (kernelRun0_A.sl.v203 : IVec S8x128 32) (arg13.view.readCov (kernelRun0_A.sl.HS1_1 (F := F) c arg3 harg3 x2) (Rect.unit (s := S16x128) ![10, 0] S1x128.size inb_S16x128_S1x128_10_0).toLoadRect) (arg13.view.readCov (kernelRun0_A.sl.HS1_1 (F := F) c arg3 harg3 x2) (Rect.unit (s := S16x128) ![11, 0] S1x128.size inb_S16x128_S1x128_11_0).toLoadRect)) (delta (proj (kernelRun0_A.sl.v203 : IVec S8x128 32) (arg13.view.readCov (kernelRun0_A.sl.HS1_1 (F := F) c arg3 harg3 x2) (Rect.unit (s := S16x128) ![10, 0] S1x128.size inb_S16x128_S1x128_10_0).toLoadRect) (arg13.view.readCov (kernelRun0_A.sl.HS1_1 (F := F) c arg3 harg3 x2) (Rect.unit (s := S16x128) ![11, 0] S1x128.size inb_S16x128_S1x128_11_0).toLoadRect) (arg14.view.readCov (kernelRun0_A.sl.HS2_1 (F := F) c arg2 harg2 x1) (Rect.unit (s := S16x128) ![10, 0] S1x128.size inb_S16x128_S1x128_10_0).toLoadRect) (arg14.view.readCov (kernelRun0_A.sl.HS2_1 (F := F) c arg2 harg2 x1) (Rect.unit (s := S16x128) ![11, 0] S1x128.size inb_S16x128_S1x128_11_0).toLoadRect) (View.readAt (Elt F) arg7.view (Rect.unit (s := S1x64x256x128) ![0, 40, 0, 0] S1x1x256x128.size inb_S1x64x256x128_S1x1x256x128_0_40_0_0).toLoadRect (harg7.unread x6)) (View.readAt (Elt F) arg7.view (Rect.unit (s := S1x64x256x128) ![0, 41, 0, 0] S1x1x256x128.size inb_S1x64x256x128_S1x1x256x128_0_41_0_0).toLoadRect (harg7.unread x6)) (View.readAt (Elt F) arg7.view (Rect.unit (s := S1x64x256x128) ![0, 42, 0, 0] S1x1x256x128.size inb_S1x64x256x128_S1x1x256x128_0_42_0_0).toLoadRect (harg7.unread x6)) (View.readAt (Elt F) arg7.view (Rect.unit (s := S1x64x256x128) ![0, 43, 0, 0] S1x1x256x128.size inb_S1x64x256x128_S1x1x256x128_0_43_0_0).toLoadRect (harg7.unread x6)) (View.readAt (Elt F) arg7.view (Rect.unit (s := S1x64x256x128) ![0, 44, 0, 0] S1x1x256x128.size inb_S1x64x256x128_S1x1x256x128_0_44_0_0).toLoadRect (harg7.unread x6)) (View.readAt (Elt F) arg7.view (Rect.unit (s := S1x64x256x128) ![0, 45, 0, 0] S1x1x256x128.size inb_S1x64x256x128_S1x1x256x128_0_45_0_0).toLoadRect (harg7.unread x6)) (View.readAt (Elt F) arg7.view (Rect.unit (s := S1x64x256x128) ![0, 46, 0, 0] S1x1x256x128.size inb_S1x64x256x128_S1x1x256x128_0_46_0_0).toLoadRect (harg7.unread x6)) (View.readAt (Elt F) arg7.view (Rect.unit (s := S1x64x256x128) ![0, 47, 0, 0] S1x1x256x128.size inb_S1x64x256x128_S1x1x256x128_0_47_0_0).toLoadRect (harg7.unread x6))) (View.readAt (Elt F) arg8.view (Rect.unit (s := S1x64x256) ![0, 40, 0] S1x8x256.size inb_S1x64x256_S1x8x256_0_40_0).toLoadRect (harg8.unread x7)) (View.readAt (Elt F) arg4.view (Rect.unit (s := S1x64x256) ![0, 40, 0] S1x8x256.size inb_S1x64x256_S1x8x256_0_40_0).toLoadRect (harg4.unread x3)) (extractStridedSlice S8x1 ![40, 0] (kernelRun0_A.sl.r_2 (F := F) c arg5 harg5 x4) slices_S64x1_o40_0_S8x1) (extractStridedSlice S8x1 ![40, 0] (kernelRun0_A.sl.r_3 (F := F) c arg6 harg6 x5) slices_S64x1_o40_0_S8x1))))⟩,
      ⟨Rect.unit (s := S1x64x256) ![0, 32, 0] S1x8x256.size inb_S1x64x256_S1x8x256_0_32_0, newScale (amax (newZ (kernelRun0_A.sl.r_10 (F := F) c arg1 harg1 x0) (View.readAt (Elt F) arg7.view (Rect.unit (s := S1x64x256x128) ![0, 32, 0, 0] S1x1x256x128.size inb_S1x64x256x128_S1x1x256x128_0_32_0_0).toLoadRect (harg7.unread x6)) (arg12.view.readCov (kernelRun0_A.sl.HS0_16 (F := F) c arg3 harg3 x2) (Rect.unit (s := S16x128x128) ![8, 0, 0] S1x128x128.size inb_S16x128x128_S1x128x128_8_0_0).toLoadRect) (arg15.view.readCov (kernelRun0_A.sl.HS3_9 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![32, 0] S1x256.size inb_S64x256_S1x256_32_0).toLoadRect)) (newZ (kernelRun0_A.sl.r_10 (F := F) c arg1 harg1 x0) (View.readAt (Elt F) arg7.view (Rect.unit (s := S1x64x256x128) ![0, 33, 0, 0] S1x1x256x128.size inb_S1x64x256x128_S1x1x256x128_0_33_0_0).toLoadRect (harg7.unread x6)) (arg12.view.readCov (kernelRun0_A.sl.HS0_16 (F := F) c arg3 harg3 x2) (Rect.unit (s := S16x128x128) ![8, 0, 0] S1x128x128.size inb_S16x128x128_S1x128x128_8_0_0).toLoadRect) (arg15.view.readCov (kernelRun0_A.sl.HS3_9 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![33, 0] S1x256.size inb_S64x256_S1x256_33_0).toLoadRect)) (newZ (kernelRun0_A.sl.r_10 (F := F) c arg1 harg1 x0) (View.readAt (Elt F) arg7.view (Rect.unit (s := S1x64x256x128) ![0, 34, 0, 0] S1x1x256x128.size inb_S1x64x256x128_S1x1x256x128_0_34_0_0).toLoadRect (harg7.unread x6)) (arg12.view.readCov (kernelRun0_A.sl.HS0_16 (F := F) c arg3 harg3 x2) (Rect.unit (s := S16x128x128) ![8, 0, 0] S1x128x128.size inb_S16x128x128_S1x128x128_8_0_0).toLoadRect) (arg15.view.readCov (kernelRun0_A.sl.HS3_9 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![34, 0] S1x256.size inb_S64x256_S1x256_34_0).toLoadRect)) (newZ (kernelRun0_A.sl.r_10 (F := F) c arg1 harg1 x0) (View.readAt (Elt F) arg7.view (Rect.unit (s := S1x64x256x128) ![0, 35, 0, 0] S1x1x256x128.size inb_S1x64x256x128_S1x1x256x128_0_35_0_0).toLoadRect (harg7.unread x6)) (arg12.view.readCov (kernelRun0_A.sl.HS0_16 (F := F) c arg3 harg3 x2) (Rect.unit (s := S16x128x128) ![8, 0, 0] S1x128x128.size inb_S16x128x128_S1x128x128_8_0_0).toLoadRect) (arg15.view.readCov (kernelRun0_A.sl.HS3_9 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![35, 0] S1x256.size inb_S64x256_S1x256_35_0).toLoadRect)) (newZ (kernelRun0_A.sl.r_10 (F := F) c arg1 harg1 x0) (View.readAt (Elt F) arg7.view (Rect.unit (s := S1x64x256x128) ![0, 36, 0, 0] S1x1x256x128.size inb_S1x64x256x128_S1x1x256x128_0_36_0_0).toLoadRect (harg7.unread x6)) (arg12.view.readCov (kernelRun0_A.sl.HS0_16 (F := F) c arg3 harg3 x2) (Rect.unit (s := S16x128x128) ![9, 0, 0] S1x128x128.size inb_S16x128x128_S1x128x128_9_0_0).toLoadRect) (arg15.view.readCov (kernelRun0_A.sl.HS3_9 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![36, 0] S1x256.size inb_S64x256_S1x256_36_0).toLoadRect)) (newZ (kernelRun0_A.sl.r_10 (F := F) c arg1 harg1 x0) (View.readAt (Elt F) arg7.view (Rect.unit (s := S1x64x256x128) ![0, 37, 0, 0] S1x1x256x128.size inb_S1x64x256x128_S1x1x256x128_0_37_0_0).toLoadRect (harg7.unread x6)) (arg12.view.readCov (kernelRun0_A.sl.HS0_16 (F := F) c arg3 harg3 x2) (Rect.unit (s := S16x128x128) ![9, 0, 0] S1x128x128.size inb_S16x128x128_S1x128x128_9_0_0).toLoadRect) (arg15.view.readCov (kernelRun0_A.sl.HS3_9 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![37, 0] S1x256.size inb_S64x256_S1x256_37_0).toLoadRect)) (newZ (kernelRun0_A.sl.r_10 (F := F) c arg1 harg1 x0) (View.readAt (Elt F) arg7.view (Rect.unit (s := S1x64x256x128) ![0, 38, 0, 0] S1x1x256x128.size inb_S1x64x256x128_S1x1x256x128_0_38_0_0).toLoadRect (harg7.unread x6)) (arg12.view.readCov (kernelRun0_A.sl.HS0_16 (F := F) c arg3 harg3 x2) (Rect.unit (s := S16x128x128) ![9, 0, 0] S1x128x128.size inb_S16x128x128_S1x128x128_9_0_0).toLoadRect) (arg15.view.readCov (kernelRun0_A.sl.HS3_9 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![38, 0] S1x256.size inb_S64x256_S1x256_38_0).toLoadRect)) (newZ (kernelRun0_A.sl.r_10 (F := F) c arg1 harg1 x0) (View.readAt (Elt F) arg7.view (Rect.unit (s := S1x64x256x128) ![0, 39, 0, 0] S1x1x256x128.size inb_S1x64x256x128_S1x1x256x128_0_39_0_0).toLoadRect (harg7.unread x6)) (arg12.view.readCov (kernelRun0_A.sl.HS0_16 (F := F) c arg3 harg3 x2) (Rect.unit (s := S16x128x128) ![9, 0, 0] S1x128x128.size inb_S16x128x128_S1x128x128_9_0_0).toLoadRect) (arg15.view.readCov (kernelRun0_A.sl.HS3_9 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![39, 0] S1x256.size inb_S64x256_S1x256_39_0).toLoadRect)) (decayed (View.readAt (Elt F) arg8.view (Rect.unit (s := S1x64x256) ![0, 32, 0] S1x8x256.size inb_S1x64x256_S1x8x256_0_32_0).toLoadRect (harg8.unread x7)) (extractStridedSlice S8x1 ![32, 0] (kernelRun0_A.sl.r_2 (F := F) c arg5 harg5 x4) slices_S64x1_o32_0_S8x1)) (dk (rows (kernelRun0_A.sl.v203 : IVec S8x128 32) (arg13.view.readCov (kernelRun0_A.sl.HS1_1 (F := F) c arg3 harg3 x2) (Rect.unit (s := S16x128) ![8, 0] S1x128.size inb_S16x128_S1x128_8_0).toLoadRect) (arg13.view.readCov (kernelRun0_A.sl.HS1_1 (F := F) c arg3 harg3 x2) (Rect.unit (s := S16x128) ![9, 0] S1x128.size inb_S16x128_S1x128_9_0).toLoadRect)) (delta (proj (kernelRun0_A.sl.v203 : IVec S8x128 32) (arg13.view.readCov (kernelRun0_A.sl.HS1_1 (F := F) c arg3 harg3 x2) (Rect.unit (s := S16x128) ![8, 0] S1x128.size inb_S16x128_S1x128_8_0).toLoadRect) (arg13.view.readCov (kernelRun0_A.sl.HS1_1 (F := F) c arg3 harg3 x2) (Rect.unit (s := S16x128) ![9, 0] S1x128.size inb_S16x128_S1x128_9_0).toLoadRect) (arg14.view.readCov (kernelRun0_A.sl.HS2_1 (F := F) c arg2 harg2 x1) (Rect.unit (s := S16x128) ![8, 0] S1x128.size inb_S16x128_S1x128_8_0).toLoadRect) (arg14.view.readCov (kernelRun0_A.sl.HS2_1 (F := F) c arg2 harg2 x1) (Rect.unit (s := S16x128) ![9, 0] S1x128.size inb_S16x128_S1x128_9_0).toLoadRect) (View.readAt (Elt F) arg7.view (Rect.unit (s := S1x64x256x128) ![0, 32, 0, 0] S1x1x256x128.size inb_S1x64x256x128_S1x1x256x128_0_32_0_0).toLoadRect (harg7.unread x6)) (View.readAt (Elt F) arg7.view (Rect.unit (s := S1x64x256x128) ![0, 33, 0, 0] S1x1x256x128.size inb_S1x64x256x128_S1x1x256x128_0_33_0_0).toLoadRect (harg7.unread x6)) (View.readAt (Elt F) arg7.view (Rect.unit (s := S1x64x256x128) ![0, 34, 0, 0] S1x1x256x128.size inb_S1x64x256x128_S1x1x256x128_0_34_0_0).toLoadRect (harg7.unread x6)) (View.readAt (Elt F) arg7.view (Rect.unit (s := S1x64x256x128) ![0, 35, 0, 0] S1x1x256x128.size inb_S1x64x256x128_S1x1x256x128_0_35_0_0).toLoadRect (harg7.unread x6)) (View.readAt (Elt F) arg7.view (Rect.unit (s := S1x64x256x128) ![0, 36, 0, 0] S1x1x256x128.size inb_S1x64x256x128_S1x1x256x128_0_36_0_0).toLoadRect (harg7.unread x6)) (View.readAt (Elt F) arg7.view (Rect.unit (s := S1x64x256x128) ![0, 37, 0, 0] S1x1x256x128.size inb_S1x64x256x128_S1x1x256x128_0_37_0_0).toLoadRect (harg7.unread x6)) (View.readAt (Elt F) arg7.view (Rect.unit (s := S1x64x256x128) ![0, 38, 0, 0] S1x1x256x128.size inb_S1x64x256x128_S1x1x256x128_0_38_0_0).toLoadRect (harg7.unread x6)) (View.readAt (Elt F) arg7.view (Rect.unit (s := S1x64x256x128) ![0, 39, 0, 0] S1x1x256x128.size inb_S1x64x256x128_S1x1x256x128_0_39_0_0).toLoadRect (harg7.unread x6))) (View.readAt (Elt F) arg8.view (Rect.unit (s := S1x64x256) ![0, 32, 0] S1x8x256.size inb_S1x64x256_S1x8x256_0_32_0).toLoadRect (harg8.unread x7)) (View.readAt (Elt F) arg4.view (Rect.unit (s := S1x64x256) ![0, 32, 0] S1x8x256.size inb_S1x64x256_S1x8x256_0_32_0).toLoadRect (harg4.unread x3)) (extractStridedSlice S8x1 ![32, 0] (kernelRun0_A.sl.r_2 (F := F) c arg5 harg5 x4) slices_S64x1_o32_0_S8x1) (extractStridedSlice S8x1 ![32, 0] (kernelRun0_A.sl.r_3 (F := F) c arg6 harg6 x5) slices_S64x1_o32_0_S8x1))))⟩,
      ⟨Rect.unit (s := S1x64x256) ![0, 24, 0] S1x8x256.size inb_S1x64x256_S1x8x256_0_24_0, newScale (amax (newZ (kernelRun0_A.sl.r_10 (F := F) c arg1 harg1 x0) (View.readAt (Elt F) arg7.view (Rect.unit (s := S1x64x256x128) ![0, 24, 0, 0] S1x1x256x128.size inb_S1x64x256x128_S1x1x256x128_0_24_0_0).toLoadRect (harg7.unread x6)) (arg12.view.readCov (kernelRun0_A.sl.HS0_16 (F := F) c arg3 harg3 x2) (Rect.unit (s := S16x128x128) ![6, 0, 0] S1x128x128.size inb_S16x128x128_S1x128x128_6_0_0).toLoadRect) (arg15.view.readCov (kernelRun0_A.sl.HS3_7 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![24, 0] S1x256.size inb_S64x256_S1x256_24_0).toLoadRect)) (newZ (kernelRun0_A.sl.r_10 (F := F) c arg1 harg1 x0) (View.readAt (Elt F) arg7.view (Rect.unit (s := S1x64x256x128) ![0, 25, 0, 0] S1x1x256x128.size inb_S1x64x256x128_S1x1x256x128_0_25_0_0).toLoadRect (harg7.unread x6)) (arg12.view.readCov (kernelRun0_A.sl.HS0_16 (F := F) c arg3 harg3 x2) (Rect.unit (s := S16x128x128) ![6, 0, 0] S1x128x128.size inb_S16x128x128_S1x128x128_6_0_0).toLoadRect) (arg15.view.readCov (kernelRun0_A.sl.HS3_7 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![25, 0] S1x256.size inb_S64x256_S1x256_25_0).toLoadRect)) (newZ (kernelRun0_A.sl.r_10 (F := F) c arg1 harg1 x0) (View.readAt (Elt F) arg7.view (Rect.unit (s := S1x64x256x128) ![0, 26, 0, 0] S1x1x256x128.size inb_S1x64x256x128_S1x1x256x128_0_26_0_0).toLoadRect (harg7.unread x6)) (arg12.view.readCov (kernelRun0_A.sl.HS0_16 (F := F) c arg3 harg3 x2) (Rect.unit (s := S16x128x128) ![6, 0, 0] S1x128x128.size inb_S16x128x128_S1x128x128_6_0_0).toLoadRect) (arg15.view.readCov (kernelRun0_A.sl.HS3_7 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![26, 0] S1x256.size inb_S64x256_S1x256_26_0).toLoadRect)) (newZ (kernelRun0_A.sl.r_10 (F := F) c arg1 harg1 x0) (View.readAt (Elt F) arg7.view (Rect.unit (s := S1x64x256x128) ![0, 27, 0, 0] S1x1x256x128.size inb_S1x64x256x128_S1x1x256x128_0_27_0_0).toLoadRect (harg7.unread x6)) (arg12.view.readCov (kernelRun0_A.sl.HS0_16 (F := F) c arg3 harg3 x2) (Rect.unit (s := S16x128x128) ![6, 0, 0] S1x128x128.size inb_S16x128x128_S1x128x128_6_0_0).toLoadRect) (arg15.view.readCov (kernelRun0_A.sl.HS3_7 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![27, 0] S1x256.size inb_S64x256_S1x256_27_0).toLoadRect)) (newZ (kernelRun0_A.sl.r_10 (F := F) c arg1 harg1 x0) (View.readAt (Elt F) arg7.view (Rect.unit (s := S1x64x256x128) ![0, 28, 0, 0] S1x1x256x128.size inb_S1x64x256x128_S1x1x256x128_0_28_0_0).toLoadRect (harg7.unread x6)) (arg12.view.readCov (kernelRun0_A.sl.HS0_16 (F := F) c arg3 harg3 x2) (Rect.unit (s := S16x128x128) ![7, 0, 0] S1x128x128.size inb_S16x128x128_S1x128x128_7_0_0).toLoadRect) (arg15.view.readCov (kernelRun0_A.sl.HS3_7 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![28, 0] S1x256.size inb_S64x256_S1x256_28_0).toLoadRect)) (newZ (kernelRun0_A.sl.r_10 (F := F) c arg1 harg1 x0) (View.readAt (Elt F) arg7.view (Rect.unit (s := S1x64x256x128) ![0, 29, 0, 0] S1x1x256x128.size inb_S1x64x256x128_S1x1x256x128_0_29_0_0).toLoadRect (harg7.unread x6)) (arg12.view.readCov (kernelRun0_A.sl.HS0_16 (F := F) c arg3 harg3 x2) (Rect.unit (s := S16x128x128) ![7, 0, 0] S1x128x128.size inb_S16x128x128_S1x128x128_7_0_0).toLoadRect) (arg15.view.readCov (kernelRun0_A.sl.HS3_7 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![29, 0] S1x256.size inb_S64x256_S1x256_29_0).toLoadRect)) (newZ (kernelRun0_A.sl.r_10 (F := F) c arg1 harg1 x0) (View.readAt (Elt F) arg7.view (Rect.unit (s := S1x64x256x128) ![0, 30, 0, 0] S1x1x256x128.size inb_S1x64x256x128_S1x1x256x128_0_30_0_0).toLoadRect (harg7.unread x6)) (arg12.view.readCov (kernelRun0_A.sl.HS0_16 (F := F) c arg3 harg3 x2) (Rect.unit (s := S16x128x128) ![7, 0, 0] S1x128x128.size inb_S16x128x128_S1x128x128_7_0_0).toLoadRect) (arg15.view.readCov (kernelRun0_A.sl.HS3_7 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![30, 0] S1x256.size inb_S64x256_S1x256_30_0).toLoadRect)) (newZ (kernelRun0_A.sl.r_10 (F := F) c arg1 harg1 x0) (View.readAt (Elt F) arg7.view (Rect.unit (s := S1x64x256x128) ![0, 31, 0, 0] S1x1x256x128.size inb_S1x64x256x128_S1x1x256x128_0_31_0_0).toLoadRect (harg7.unread x6)) (arg12.view.readCov (kernelRun0_A.sl.HS0_16 (F := F) c arg3 harg3 x2) (Rect.unit (s := S16x128x128) ![7, 0, 0] S1x128x128.size inb_S16x128x128_S1x128x128_7_0_0).toLoadRect) (arg15.view.readCov (kernelRun0_A.sl.HS3_7 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![31, 0] S1x256.size inb_S64x256_S1x256_31_0).toLoadRect)) (decayed (View.readAt (Elt F) arg8.view (Rect.unit (s := S1x64x256) ![0, 24, 0] S1x8x256.size inb_S1x64x256_S1x8x256_0_24_0).toLoadRect (harg8.unread x7)) (extractStridedSlice S8x1 ![24, 0] (kernelRun0_A.sl.r_2 (F := F) c arg5 harg5 x4) slices_S64x1_o24_0_S8x1)) (dk (rows (kernelRun0_A.sl.v203 : IVec S8x128 32) (arg13.view.readCov (kernelRun0_A.sl.HS1_1 (F := F) c arg3 harg3 x2) (Rect.unit (s := S16x128) ![6, 0] S1x128.size inb_S16x128_S1x128_6_0).toLoadRect) (arg13.view.readCov (kernelRun0_A.sl.HS1_1 (F := F) c arg3 harg3 x2) (Rect.unit (s := S16x128) ![7, 0] S1x128.size inb_S16x128_S1x128_7_0).toLoadRect)) (delta (proj (kernelRun0_A.sl.v203 : IVec S8x128 32) (arg13.view.readCov (kernelRun0_A.sl.HS1_1 (F := F) c arg3 harg3 x2) (Rect.unit (s := S16x128) ![6, 0] S1x128.size inb_S16x128_S1x128_6_0).toLoadRect) (arg13.view.readCov (kernelRun0_A.sl.HS1_1 (F := F) c arg3 harg3 x2) (Rect.unit (s := S16x128) ![7, 0] S1x128.size inb_S16x128_S1x128_7_0).toLoadRect) (arg14.view.readCov (kernelRun0_A.sl.HS2_1 (F := F) c arg2 harg2 x1) (Rect.unit (s := S16x128) ![6, 0] S1x128.size inb_S16x128_S1x128_6_0).toLoadRect) (arg14.view.readCov (kernelRun0_A.sl.HS2_1 (F := F) c arg2 harg2 x1) (Rect.unit (s := S16x128) ![7, 0] S1x128.size inb_S16x128_S1x128_7_0).toLoadRect) (View.readAt (Elt F) arg7.view (Rect.unit (s := S1x64x256x128) ![0, 24, 0, 0] S1x1x256x128.size inb_S1x64x256x128_S1x1x256x128_0_24_0_0).toLoadRect (harg7.unread x6)) (View.readAt (Elt F) arg7.view (Rect.unit (s := S1x64x256x128) ![0, 25, 0, 0] S1x1x256x128.size inb_S1x64x256x128_S1x1x256x128_0_25_0_0).toLoadRect (harg7.unread x6)) (View.readAt (Elt F) arg7.view (Rect.unit (s := S1x64x256x128) ![0, 26, 0, 0] S1x1x256x128.size inb_S1x64x256x128_S1x1x256x128_0_26_0_0).toLoadRect (harg7.unread x6)) (View.readAt (Elt F) arg7.view (Rect.unit (s := S1x64x256x128) ![0, 27, 0, 0] S1x1x256x128.size inb_S1x64x256x128_S1x1x256x128_0_27_0_0).toLoadRect (harg7.unread x6)) (View.readAt (Elt F) arg7.view (Rect.unit (s := S1x64x256x128) ![0, 28, 0, 0] S1x1x256x128.size inb_S1x64x256x128_S1x1x256x128_0_28_0_0).toLoadRect (harg7.unread x6)) (View.readAt (Elt F) arg7.view (Rect.unit (s := S1x64x256x128) ![0, 29, 0, 0] S1x1x256x128.size inb_S1x64x256x128_S1x1x256x128_0_29_0_0).toLoadRect (harg7.unread x6)) (View.readAt (Elt F) arg7.view (Rect.unit (s := S1x64x256x128) ![0, 30, 0, 0] S1x1x256x128.size inb_S1x64x256x128_S1x1x256x128_0_30_0_0).toLoadRect (harg7.unread x6)) (View.readAt (Elt F) arg7.view (Rect.unit (s := S1x64x256x128) ![0, 31, 0, 0] S1x1x256x128.size inb_S1x64x256x128_S1x1x256x128_0_31_0_0).toLoadRect (harg7.unread x6))) (View.readAt (Elt F) arg8.view (Rect.unit (s := S1x64x256) ![0, 24, 0] S1x8x256.size inb_S1x64x256_S1x8x256_0_24_0).toLoadRect (harg8.unread x7)) (View.readAt (Elt F) arg4.view (Rect.unit (s := S1x64x256) ![0, 24, 0] S1x8x256.size inb_S1x64x256_S1x8x256_0_24_0).toLoadRect (harg4.unread x3)) (extractStridedSlice S8x1 ![24, 0] (kernelRun0_A.sl.r_2 (F := F) c arg5 harg5 x4) slices_S64x1_o24_0_S8x1) (extractStridedSlice S8x1 ![24, 0] (kernelRun0_A.sl.r_3 (F := F) c arg6 harg6 x5) slices_S64x1_o24_0_S8x1))))⟩,
      ⟨Rect.unit (s := S1x64x256) ![0, 16, 0] S1x8x256.size inb_S1x64x256_S1x8x256_0_16_0, newScale (amax (newZ (kernelRun0_A.sl.r_10 (F := F) c arg1 harg1 x0) (View.readAt (Elt F) arg7.view (Rect.unit (s := S1x64x256x128) ![0, 16, 0, 0] S1x1x256x128.size inb_S1x64x256x128_S1x1x256x128_0_16_0_0).toLoadRect (harg7.unread x6)) (arg12.view.readCov (kernelRun0_A.sl.HS0_16 (F := F) c arg3 harg3 x2) (Rect.unit (s := S16x128x128) ![4, 0, 0] S1x128x128.size inb_S16x128x128_S1x128x128_4_0_0).toLoadRect) (arg15.view.readCov (kernelRun0_A.sl.HS3_5 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![16, 0] S1x256.size inb_S64x256_S1x256_16_0).toLoadRect)) (newZ (kernelRun0_A.sl.r_10 (F := F) c arg1 harg1 x0) (View.readAt (Elt F) arg7.view (Rect.unit (s := S1x64x256x128) ![0, 17, 0, 0] S1x1x256x128.size inb_S1x64x256x128_S1x1x256x128_0_17_0_0).toLoadRect (harg7.unread x6)) (arg12.view.readCov (kernelRun0_A.sl.HS0_16 (F := F) c arg3 harg3 x2) (Rect.unit (s := S16x128x128) ![4, 0, 0] S1x128x128.size inb_S16x128x128_S1x128x128_4_0_0).toLoadRect) (arg15.view.readCov (kernelRun0_A.sl.HS3_5 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![17, 0] S1x256.size inb_S64x256_S1x256_17_0).toLoadRect)) (newZ (kernelRun0_A.sl.r_10 (F := F) c arg1 harg1 x0) (View.readAt (Elt F) arg7.view (Rect.unit (s := S1x64x256x128) ![0, 18, 0, 0] S1x1x256x128.size inb_S1x64x256x128_S1x1x256x128_0_18_0_0).toLoadRect (harg7.unread x6)) (arg12.view.readCov (kernelRun0_A.sl.HS0_16 (F := F) c arg3 harg3 x2) (Rect.unit (s := S16x128x128) ![4, 0, 0] S1x128x128.size inb_S16x128x128_S1x128x128_4_0_0).toLoadRect) (arg15.view.readCov (kernelRun0_A.sl.HS3_5 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![18, 0] S1x256.size inb_S64x256_S1x256_18_0).toLoadRect)) (newZ (kernelRun0_A.sl.r_10 (F := F) c arg1 harg1 x0) (View.readAt (Elt F) arg7.view (Rect.unit (s := S1x64x256x128) ![0, 19, 0, 0] S1x1x256x128.size inb_S1x64x256x128_S1x1x256x128_0_19_0_0).toLoadRect (harg7.unread x6)) (arg12.view.readCov (kernelRun0_A.sl.HS0_16 (F := F) c arg3 harg3 x2) (Rect.unit (s := S16x128x128) ![4, 0, 0] S1x128x128.size inb_S16x128x128_S1x128x128_4_0_0).toLoadRect) (arg15.view.readCov (kernelRun0_A.sl.HS3_5 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![19, 0] S1x256.size inb_S64x256_S1x256_19_0).toLoadRect)) (newZ (kernelRun0_A.sl.r_10 (F := F) c arg1 harg1 x0) (View.readAt (Elt F) arg7.view (Rect.unit (s := S1x64x256x128) ![0, 20, 0, 0] S1x1x256x128.size inb_S1x64x256x128_S1x1x256x128_0_20_0_0).toLoadRect (harg7.unread x6)) (arg12.view.readCov (kernelRun0_A.sl.HS0_16 (F := F) c arg3 harg3 x2) (Rect.unit (s := S16x128x128) ![5, 0, 0] S1x128x128.size inb_S16x128x128_S1x128x128_5_0_0).toLoadRect) (arg15.view.readCov (kernelRun0_A.sl.HS3_5 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![20, 0] S1x256.size inb_S64x256_S1x256_20_0).toLoadRect)) (newZ (kernelRun0_A.sl.r_10 (F := F) c arg1 harg1 x0) (View.readAt (Elt F) arg7.view (Rect.unit (s := S1x64x256x128) ![0, 21, 0, 0] S1x1x256x128.size inb_S1x64x256x128_S1x1x256x128_0_21_0_0).toLoadRect (harg7.unread x6)) (arg12.view.readCov (kernelRun0_A.sl.HS0_16 (F := F) c arg3 harg3 x2) (Rect.unit (s := S16x128x128) ![5, 0, 0] S1x128x128.size inb_S16x128x128_S1x128x128_5_0_0).toLoadRect) (arg15.view.readCov (kernelRun0_A.sl.HS3_5 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![21, 0] S1x256.size inb_S64x256_S1x256_21_0).toLoadRect)) (newZ (kernelRun0_A.sl.r_10 (F := F) c arg1 harg1 x0) (View.readAt (Elt F) arg7.view (Rect.unit (s := S1x64x256x128) ![0, 22, 0, 0] S1x1x256x128.size inb_S1x64x256x128_S1x1x256x128_0_22_0_0).toLoadRect (harg7.unread x6)) (arg12.view.readCov (kernelRun0_A.sl.HS0_16 (F := F) c arg3 harg3 x2) (Rect.unit (s := S16x128x128) ![5, 0, 0] S1x128x128.size inb_S16x128x128_S1x128x128_5_0_0).toLoadRect) (arg15.view.readCov (kernelRun0_A.sl.HS3_5 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![22, 0] S1x256.size inb_S64x256_S1x256_22_0).toLoadRect)) (newZ (kernelRun0_A.sl.r_10 (F := F) c arg1 harg1 x0) (View.readAt (Elt F) arg7.view (Rect.unit (s := S1x64x256x128) ![0, 23, 0, 0] S1x1x256x128.size inb_S1x64x256x128_S1x1x256x128_0_23_0_0).toLoadRect (harg7.unread x6)) (arg12.view.readCov (kernelRun0_A.sl.HS0_16 (F := F) c arg3 harg3 x2) (Rect.unit (s := S16x128x128) ![5, 0, 0] S1x128x128.size inb_S16x128x128_S1x128x128_5_0_0).toLoadRect) (arg15.view.readCov (kernelRun0_A.sl.HS3_5 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![23, 0] S1x256.size inb_S64x256_S1x256_23_0).toLoadRect)) (decayed (View.readAt (Elt F) arg8.view (Rect.unit (s := S1x64x256) ![0, 16, 0] S1x8x256.size inb_S1x64x256_S1x8x256_0_16_0).toLoadRect (harg8.unread x7)) (extractStridedSlice S8x1 ![16, 0] (kernelRun0_A.sl.r_2 (F := F) c arg5 harg5 x4) slices_S64x1_o16_0_S8x1)) (dk (rows (kernelRun0_A.sl.v203 : IVec S8x128 32) (arg13.view.readCov (kernelRun0_A.sl.HS1_1 (F := F) c arg3 harg3 x2) (Rect.unit (s := S16x128) ![4, 0] S1x128.size inb_S16x128_S1x128_4_0).toLoadRect) (arg13.view.readCov (kernelRun0_A.sl.HS1_1 (F := F) c arg3 harg3 x2) (Rect.unit (s := S16x128) ![5, 0] S1x128.size inb_S16x128_S1x128_5_0).toLoadRect)) (delta (proj (kernelRun0_A.sl.v203 : IVec S8x128 32) (arg13.view.readCov (kernelRun0_A.sl.HS1_1 (F := F) c arg3 harg3 x2) (Rect.unit (s := S16x128) ![4, 0] S1x128.size inb_S16x128_S1x128_4_0).toLoadRect) (arg13.view.readCov (kernelRun0_A.sl.HS1_1 (F := F) c arg3 harg3 x2) (Rect.unit (s := S16x128) ![5, 0] S1x128.size inb_S16x128_S1x128_5_0).toLoadRect) (arg14.view.readCov (kernelRun0_A.sl.HS2_1 (F := F) c arg2 harg2 x1) (Rect.unit (s := S16x128) ![4, 0] S1x128.size inb_S16x128_S1x128_4_0).toLoadRect) (arg14.view.readCov (kernelRun0_A.sl.HS2_1 (F := F) c arg2 harg2 x1) (Rect.unit (s := S16x128) ![5, 0] S1x128.size inb_S16x128_S1x128_5_0).toLoadRect) (View.readAt (Elt F) arg7.view (Rect.unit (s := S1x64x256x128) ![0, 16, 0, 0] S1x1x256x128.size inb_S1x64x256x128_S1x1x256x128_0_16_0_0).toLoadRect (harg7.unread x6)) (View.readAt (Elt F) arg7.view (Rect.unit (s := S1x64x256x128) ![0, 17, 0, 0] S1x1x256x128.size inb_S1x64x256x128_S1x1x256x128_0_17_0_0).toLoadRect (harg7.unread x6)) (View.readAt (Elt F) arg7.view (Rect.unit (s := S1x64x256x128) ![0, 18, 0, 0] S1x1x256x128.size inb_S1x64x256x128_S1x1x256x128_0_18_0_0).toLoadRect (harg7.unread x6)) (View.readAt (Elt F) arg7.view (Rect.unit (s := S1x64x256x128) ![0, 19, 0, 0] S1x1x256x128.size inb_S1x64x256x128_S1x1x256x128_0_19_0_0).toLoadRect (harg7.unread x6)) (View.readAt (Elt F) arg7.view (Rect.unit (s := S1x64x256x128) ![0, 20, 0, 0] S1x1x256x128.size inb_S1x64x256x128_S1x1x256x128_0_20_0_0).toLoadRect (harg7.unread x6)) (View.readAt (Elt F) arg7.view (Rect.unit (s := S1x64x256x128) ![0, 21, 0, 0] S1x1x256x128.size inb_S1x64x256x128_S1x1x256x128_0_21_0_0).toLoadRect (harg7.unread x6)) (View.readAt (Elt F) arg7.view (Rect.unit (s := S1x64x256x128) ![0, 22, 0, 0] S1x1x256x128.size inb_S1x64x256x128_S1x1x256x128_0_22_0_0).toLoadRect (harg7.unread x6)) (View.readAt (Elt F) arg7.view (Rect.unit (s := S1x64x256x128) ![0, 23, 0, 0] S1x1x256x128.size inb_S1x64x256x128_S1x1x256x128_0_23_0_0).toLoadRect (harg7.unread x6))) (View.readAt (Elt F) arg8.view (Rect.unit (s := S1x64x256) ![0, 16, 0] S1x8x256.size inb_S1x64x256_S1x8x256_0_16_0).toLoadRect (harg8.unread x7)) (View.readAt (Elt F) arg4.view (Rect.unit (s := S1x64x256) ![0, 16, 0] S1x8x256.size inb_S1x64x256_S1x8x256_0_16_0).toLoadRect (harg4.unread x3)) (extractStridedSlice S8x1 ![16, 0] (kernelRun0_A.sl.r_2 (F := F) c arg5 harg5 x4) slices_S64x1_o16_0_S8x1) (extractStridedSlice S8x1 ![16, 0] (kernelRun0_A.sl.r_3 (F := F) c arg6 harg6 x5) slices_S64x1_o16_0_S8x1))))⟩,
      ⟨Rect.unit (s := S1x64x256) ![0, 8, 0] S1x8x256.size inb_S1x64x256_S1x8x256_0_8_0, newScale (amax (newZ (kernelRun0_A.sl.r_10 (F := F) c arg1 harg1 x0) (View.readAt (Elt F) arg7.view (Rect.unit (s := S1x64x256x128) ![0, 8, 0, 0] S1x1x256x128.size inb_S1x64x256x128_S1x1x256x128_0_8_0_0).toLoadRect (harg7.unread x6)) (arg12.view.readCov (kernelRun0_A.sl.HS0_16 (F := F) c arg3 harg3 x2) (Rect.unit (s := S16x128x128) ![2, 0, 0] S1x128x128.size inb_S16x128x128_S1x128x128_2_0_0).toLoadRect) (arg15.view.readCov (kernelRun0_A.sl.HS3_3 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![8, 0] S1x256.size inb_S64x256_S1x256_8_0).toLoadRect)) (newZ (kernelRun0_A.sl.r_10 (F := F) c arg1 harg1 x0) (View.readAt (Elt F) arg7.view (Rect.unit (s := S1x64x256x128) ![0, 9, 0, 0] S1x1x256x128.size inb_S1x64x256x128_S1x1x256x128_0_9_0_0).toLoadRect (harg7.unread x6)) (arg12.view.readCov (kernelRun0_A.sl.HS0_16 (F := F) c arg3 harg3 x2) (Rect.unit (s := S16x128x128) ![2, 0, 0] S1x128x128.size inb_S16x128x128_S1x128x128_2_0_0).toLoadRect) (arg15.view.readCov (kernelRun0_A.sl.HS3_3 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![9, 0] S1x256.size inb_S64x256_S1x256_9_0).toLoadRect)) (newZ (kernelRun0_A.sl.r_10 (F := F) c arg1 harg1 x0) (View.readAt (Elt F) arg7.view (Rect.unit (s := S1x64x256x128) ![0, 10, 0, 0] S1x1x256x128.size inb_S1x64x256x128_S1x1x256x128_0_10_0_0).toLoadRect (harg7.unread x6)) (arg12.view.readCov (kernelRun0_A.sl.HS0_16 (F := F) c arg3 harg3 x2) (Rect.unit (s := S16x128x128) ![2, 0, 0] S1x128x128.size inb_S16x128x128_S1x128x128_2_0_0).toLoadRect) (arg15.view.readCov (kernelRun0_A.sl.HS3_3 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![10, 0] S1x256.size inb_S64x256_S1x256_10_0).toLoadRect)) (newZ (kernelRun0_A.sl.r_10 (F := F) c arg1 harg1 x0) (View.readAt (Elt F) arg7.view (Rect.unit (s := S1x64x256x128) ![0, 11, 0, 0] S1x1x256x128.size inb_S1x64x256x128_S1x1x256x128_0_11_0_0).toLoadRect (harg7.unread x6)) (arg12.view.readCov (kernelRun0_A.sl.HS0_16 (F := F) c arg3 harg3 x2) (Rect.unit (s := S16x128x128) ![2, 0, 0] S1x128x128.size inb_S16x128x128_S1x128x128_2_0_0).toLoadRect) (arg15.view.readCov (kernelRun0_A.sl.HS3_3 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![11, 0] S1x256.size inb_S64x256_S1x256_11_0).toLoadRect)) (newZ (kernelRun0_A.sl.r_10 (F := F) c arg1 harg1 x0) (View.readAt (Elt F) arg7.view (Rect.unit (s := S1x64x256x128) ![0, 12, 0, 0] S1x1x256x128.size inb_S1x64x256x128_S1x1x256x128_0_12_0_0).toLoadRect (harg7.unread x6)) (arg12.view.readCov (kernelRun0_A.sl.HS0_16 (F := F) c arg3 harg3 x2) (Rect.unit (s := S16x128x128) ![3, 0, 0] S1x128x128.size inb_S16x128x128_S1x128x128_3_0_0).toLoadRect) (arg15.view.readCov (kernelRun0_A.sl.HS3_3 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![12, 0] S1x256.size inb_S64x256_S1x256_12_0).toLoadRect)) (newZ (kernelRun0_A.sl.r_10 (F := F) c arg1 harg1 x0) (View.readAt (Elt F) arg7.view (Rect.unit (s := S1x64x256x128) ![0, 13, 0, 0] S1x1x256x128.size inb_S1x64x256x128_S1x1x256x128_0_13_0_0).toLoadRect (harg7.unread x6)) (arg12.view.readCov (kernelRun0_A.sl.HS0_16 (F := F) c arg3 harg3 x2) (Rect.unit (s := S16x128x128) ![3, 0, 0] S1x128x128.size inb_S16x128x128_S1x128x128_3_0_0).toLoadRect) (arg15.view.readCov (kernelRun0_A.sl.HS3_3 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![13, 0] S1x256.size inb_S64x256_S1x256_13_0).toLoadRect)) (newZ (kernelRun0_A.sl.r_10 (F := F) c arg1 harg1 x0) (View.readAt (Elt F) arg7.view (Rect.unit (s := S1x64x256x128) ![0, 14, 0, 0] S1x1x256x128.size inb_S1x64x256x128_S1x1x256x128_0_14_0_0).toLoadRect (harg7.unread x6)) (arg12.view.readCov (kernelRun0_A.sl.HS0_16 (F := F) c arg3 harg3 x2) (Rect.unit (s := S16x128x128) ![3, 0, 0] S1x128x128.size inb_S16x128x128_S1x128x128_3_0_0).toLoadRect) (arg15.view.readCov (kernelRun0_A.sl.HS3_3 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![14, 0] S1x256.size inb_S64x256_S1x256_14_0).toLoadRect)) (newZ (kernelRun0_A.sl.r_10 (F := F) c arg1 harg1 x0) (View.readAt (Elt F) arg7.view (Rect.unit (s := S1x64x256x128) ![0, 15, 0, 0] S1x1x256x128.size inb_S1x64x256x128_S1x1x256x128_0_15_0_0).toLoadRect (harg7.unread x6)) (arg12.view.readCov (kernelRun0_A.sl.HS0_16 (F := F) c arg3 harg3 x2) (Rect.unit (s := S16x128x128) ![3, 0, 0] S1x128x128.size inb_S16x128x128_S1x128x128_3_0_0).toLoadRect) (arg15.view.readCov (kernelRun0_A.sl.HS3_3 (F := F) c arg1 harg1 arg2 harg2 arg3 harg3 arg4 harg4 arg5 harg5 arg6 harg6 arg7 harg7 arg8 harg8 arg12 arg13 arg14 arg15 x0 x1 x2 x3 x4 x5 x6 x7) (Rect.unit (s := S64x256) ![15, 0] S1x256.size inb_S64x256_S1x256_15_0).toLoadRect)) (decayed (View.readAt (Elt F) arg8.view (Rect.unit (s := S1x64x256) ![0, 8, 0] S1x8x256.size inb_S1x64x256_S1x8x256_0_8_0).toLoadRect (harg8.unread x7)) (extractStridedSlice S8x1 ![8, 0] (kernelRun0_A.sl.r_2 (F := F) c arg5 harg5 x4) slices_S64x1_o8_0_S8x1)) (dk (rows (kernelRun0_A.sl.v203 : IVec S8x128 32) (arg13.view.readCov (kernelRun0_A.sl.HS1_1 (F := F) c arg3 harg3 x2) (Rect.unit (s := S16x128) ![2, 0] S1x128.size inb_S16x128_S1x128_2_0).toLoadRect) (arg13.view.readCov (kernelRun0_A.sl.HS1_1 (F := F) c arg3 harg3 x2) (Rect.unit (s := S16x128) ![3, 0] S1x128.size inb_S16x128_S1x128_3_0).toLoadRect)) (delta (proj (kernelRun0_A.sl.v203 : IVec S8x128 32) (arg13.view.readCov (kernelRun0_A.sl.HS1_1 (F := F) c arg3 harg3 x2) (Rect.unit (s := S16x128) ![2, 0] S1x128.size inb_S16x128_S1x128_2_0).toLoadRect) (arg13.view.readCov (kernelRun0_A.sl.HS1_1 (F := F) c arg3 harg3 x2) (Rect.unit (s := S16x128) ![3, 0] S1x128.size inb_S16x128_S1x128_3_0).toLoadRect) (arg14.view.readCov (kernelRun0_A.sl.HS2_1 (F := F) c arg2 harg2 x1) (Rect.unit (s := S16x128) ![2, 0] S1x128.size inb_S16x128_S1x128_2_0).toLoadRect) (arg14.view.readCov (kernelRun0_A.sl.HS2_1 (F := F) c arg2 harg2 x1) (Rect.unit (s := S16x128) ![3, 0] S1x128.size inb_S16x128_S1x128_3_0).toLoadRect) (View.readAt (Elt F) arg7.view (Rect.unit (s := S1x64x256x128) ![0, 8, 0, 0] S1x1x256x128.size inb_S1x64x256x128_S1x1x256x128_0_8_0_0).toLoadRect (harg7.unread x6)) (View.readAt (Elt F) arg7.view (Rect.unit (s := S1x64x256x128) ![0, 9, 0, 0] S1x1x256x128.size inb_S1x64x256x128_S1x1x256x128_0_9_0_0).toLoadRect (harg7.unread x6)) (View.readAt (Elt F) arg7.view (Rect.unit (s := S1x64x256x128) ![0, 10, 0, 0] S1x1x256x128.size inb_S1x64x256x128_S1x1x256x128_0_10_0_0).toLoadRect (harg7.unread x6)) (View.readAt (Elt F) arg7.view (Rect.unit (s := S1x64x256x128) ![0, 11, 0, 0] S1x1x256x128.size inb_S1x64x256x128_S1x1x256x128_0_11_0_0).toLoadRect (harg7.unread x6)) (View.readAt (Elt F) arg7.view (Rect.unit (s := S1x64x256x128) ![0, 12, 0, 0] S1x1x256x128.size inb_S1x64x256x128_S1x1x256x128_0_12_0_0).toLoadRect (harg7.unread x6)) (View.readAt (Elt F) arg7.view (Rect.unit (s := S1x64x256x128) ![0, 13, 0, 0] S1x1x256x128.size inb_S1x64x256x128_S1x1x256x128_0_13_0_0).toLoadRect (harg7.unread x6)) (View.readAt (Elt F) arg7.view (Rect.unit (s := S1x64x256x128) ![0, 14, 0, 0] S1x1x256x128.size inb_S1x64x256x128_S1x1x256x128_0_14_0_0).toLoadRect (harg7.unread x6)) (View.readAt (Elt F) arg7.view (Rect.unit (s := S1x64x256x128) ![0, 15, 0, 0] S1x1x256x128.size inb_S1x64x256x128_S1x1x256x128_0_15_0_0).toLoadRect (harg7.unread x6))) (View.readAt (Elt F) arg8.view (Rect.unit (s := S1x64x256) ![0, 8, 0] S1x8x256.size inb_S1x64x256_S1x8x256_0_8_0).toLoadRect (harg8.unread x7)) (View.readAt (Elt F) arg4.view (Rect.unit (s := S1x64x256) ![0, 8, 0] S1x8x256.size inb_S1x64x256_S1x8x256_0_8_0).toLoadRect (harg4.unread x3)) (extractStridedSlice S8x1 ![8, 0] (kernelRun0_A.sl.r_2 (F := F) c arg5 harg5 x4) slices_S64x1_o8_0_S8x1) (extractStridedSlice S8x1 ![8, 0] (kernelRun0_A.sl.r_3 (F := F) c arg6 harg6 x5) slices_S64x1_o8_0_S8x1))))⟩,
      ⟨Rect.unit (s := S1x64x256) ![0, 0, 0] S1x8x256.size inb_S1x64x256_S1x8x256_0_0_0, newScale (amax (newZ (kernelRun0_A.sl.r_10 (F := F) c arg1 harg1 x0) (View.readAt (Elt F) arg7.view (Rect.unit (s := S1x64x256x128) ![0, 0, 0, 0] S1x1x256x128.size inb_S1x64x256x128_S1x1x256x128_0_0_0_0).toLoadRect (harg7.unread x6)) (arg12.view.readCov (kernelRun0_A.sl.HS0_16 (F := F) c arg3 harg3 x2) (Rect.unit (s := S16x128x128) ![0, 0, 0] S1x128x128.size inb_S16x128x128_S1x128x128_0_0_0).toLoadRect) (arg15.view.readCov (kernelRun0_A.sl.HS3_1 (F := F) c arg2 harg2 arg3 harg3 arg4 harg4 arg5 harg5 arg6 harg6 arg7 harg7 arg8 harg8 arg13 arg14 x1 x2 x3 x4 x5 x6 x7) (Rect.unit (s := S64x256) ![0, 0] S1x256.size inb_S64x256_S1x256_0_0).toLoadRect)) (newZ (kernelRun0_A.sl.r_10 (F := F) c arg1 harg1 x0) (View.readAt (Elt F) arg7.view (Rect.unit (s := S1x64x256x128) ![0, 1, 0, 0] S1x1x256x128.size inb_S1x64x256x128_S1x1x256x128_0_1_0_0).toLoadRect (harg7.unread x6)) (arg12.view.readCov (kernelRun0_A.sl.HS0_16 (F := F) c arg3 harg3 x2) (Rect.unit (s := S16x128x128) ![0, 0, 0] S1x128x128.size inb_S16x128x128_S1x128x128_0_0_0).toLoadRect) (arg15.view.readCov (kernelRun0_A.sl.HS3_1 (F := F) c arg2 harg2 arg3 harg3 arg4 harg4 arg5 harg5 arg6 harg6 arg7 harg7 arg8 harg8 arg13 arg14 x1 x2 x3 x4 x5 x6 x7) (Rect.unit (s := S64x256) ![1, 0] S1x256.size inb_S64x256_S1x256_1_0).toLoadRect)) (newZ (kernelRun0_A.sl.r_10 (F := F) c arg1 harg1 x0) (View.readAt (Elt F) arg7.view (Rect.unit (s := S1x64x256x128) ![0, 2, 0, 0] S1x1x256x128.size inb_S1x64x256x128_S1x1x256x128_0_2_0_0).toLoadRect (harg7.unread x6)) (arg12.view.readCov (kernelRun0_A.sl.HS0_16 (F := F) c arg3 harg3 x2) (Rect.unit (s := S16x128x128) ![0, 0, 0] S1x128x128.size inb_S16x128x128_S1x128x128_0_0_0).toLoadRect) (arg15.view.readCov (kernelRun0_A.sl.HS3_1 (F := F) c arg2 harg2 arg3 harg3 arg4 harg4 arg5 harg5 arg6 harg6 arg7 harg7 arg8 harg8 arg13 arg14 x1 x2 x3 x4 x5 x6 x7) (Rect.unit (s := S64x256) ![2, 0] S1x256.size inb_S64x256_S1x256_2_0).toLoadRect)) (newZ (kernelRun0_A.sl.r_10 (F := F) c arg1 harg1 x0) (View.readAt (Elt F) arg7.view (Rect.unit (s := S1x64x256x128) ![0, 3, 0, 0] S1x1x256x128.size inb_S1x64x256x128_S1x1x256x128_0_3_0_0).toLoadRect (harg7.unread x6)) (arg12.view.readCov (kernelRun0_A.sl.HS0_16 (F := F) c arg3 harg3 x2) (Rect.unit (s := S16x128x128) ![0, 0, 0] S1x128x128.size inb_S16x128x128_S1x128x128_0_0_0).toLoadRect) (arg15.view.readCov (kernelRun0_A.sl.HS3_1 (F := F) c arg2 harg2 arg3 harg3 arg4 harg4 arg5 harg5 arg6 harg6 arg7 harg7 arg8 harg8 arg13 arg14 x1 x2 x3 x4 x5 x6 x7) (Rect.unit (s := S64x256) ![3, 0] S1x256.size inb_S64x256_S1x256_3_0).toLoadRect)) (newZ (kernelRun0_A.sl.r_10 (F := F) c arg1 harg1 x0) (View.readAt (Elt F) arg7.view (Rect.unit (s := S1x64x256x128) ![0, 4, 0, 0] S1x1x256x128.size inb_S1x64x256x128_S1x1x256x128_0_4_0_0).toLoadRect (harg7.unread x6)) (arg12.view.readCov (kernelRun0_A.sl.HS0_16 (F := F) c arg3 harg3 x2) (Rect.unit (s := S16x128x128) ![1, 0, 0] S1x128x128.size inb_S16x128x128_S1x128x128_1_0_0).toLoadRect) (arg15.view.readCov (kernelRun0_A.sl.HS3_1 (F := F) c arg2 harg2 arg3 harg3 arg4 harg4 arg5 harg5 arg6 harg6 arg7 harg7 arg8 harg8 arg13 arg14 x1 x2 x3 x4 x5 x6 x7) (Rect.unit (s := S64x256) ![4, 0] S1x256.size inb_S64x256_S1x256_4_0).toLoadRect)) (newZ (kernelRun0_A.sl.r_10 (F := F) c arg1 harg1 x0) (View.readAt (Elt F) arg7.view (Rect.unit (s := S1x64x256x128) ![0, 5, 0, 0] S1x1x256x128.size inb_S1x64x256x128_S1x1x256x128_0_5_0_0).toLoadRect (harg7.unread x6)) (arg12.view.readCov (kernelRun0_A.sl.HS0_16 (F := F) c arg3 harg3 x2) (Rect.unit (s := S16x128x128) ![1, 0, 0] S1x128x128.size inb_S16x128x128_S1x128x128_1_0_0).toLoadRect) (arg15.view.readCov (kernelRun0_A.sl.HS3_1 (F := F) c arg2 harg2 arg3 harg3 arg4 harg4 arg5 harg5 arg6 harg6 arg7 harg7 arg8 harg8 arg13 arg14 x1 x2 x3 x4 x5 x6 x7) (Rect.unit (s := S64x256) ![5, 0] S1x256.size inb_S64x256_S1x256_5_0).toLoadRect)) (newZ (kernelRun0_A.sl.r_10 (F := F) c arg1 harg1 x0) (View.readAt (Elt F) arg7.view (Rect.unit (s := S1x64x256x128) ![0, 6, 0, 0] S1x1x256x128.size inb_S1x64x256x128_S1x1x256x128_0_6_0_0).toLoadRect (harg7.unread x6)) (arg12.view.readCov (kernelRun0_A.sl.HS0_16 (F := F) c arg3 harg3 x2) (Rect.unit (s := S16x128x128) ![1, 0, 0] S1x128x128.size inb_S16x128x128_S1x128x128_1_0_0).toLoadRect) (arg15.view.readCov (kernelRun0_A.sl.HS3_1 (F := F) c arg2 harg2 arg3 harg3 arg4 harg4 arg5 harg5 arg6 harg6 arg7 harg7 arg8 harg8 arg13 arg14 x1 x2 x3 x4 x5 x6 x7) (Rect.unit (s := S64x256) ![6, 0] S1x256.size inb_S64x256_S1x256_6_0).toLoadRect)) (newZ (kernelRun0_A.sl.r_10 (F := F) c arg1 harg1 x0) (View.readAt (Elt F) arg7.view (Rect.unit (s := S1x64x256x128) ![0, 7, 0, 0] S1x1x256x128.size inb_S1x64x256x128_S1x1x256x128_0_7_0_0).toLoadRect (harg7.unread x6)) (arg12.view.readCov (kernelRun0_A.sl.HS0_16 (F := F) c arg3 harg3 x2) (Rect.unit (s := S16x128x128) ![1, 0, 0] S1x128x128.size inb_S16x128x128_S1x128x128_1_0_0).toLoadRect) (arg15.view.readCov (kernelRun0_A.sl.HS3_1 (F := F) c arg2 harg2 arg3 harg3 arg4 harg4 arg5 harg5 arg6 harg6 arg7 harg7 arg8 harg8 arg13 arg14 x1 x2 x3 x4 x5 x6 x7) (Rect.unit (s := S64x256) ![7, 0] S1x256.size inb_S64x256_S1x256_7_0).toLoadRect)) (decayed (View.readAt (Elt F) arg8.view (Rect.unit (s := S1x64x256) ![0, 0, 0] S1x8x256.size inb_S1x64x256_S1x8x256_0_0_0).toLoadRect (harg8.unread x7)) (extractStridedSlice S8x1 ![0, 0] (kernelRun0_A.sl.r_2 (F := F) c arg5 harg5 x4) slices_S64x1_o0_0_S8x1)) (dk (rows (kernelRun0_A.sl.v203 : IVec S8x128 32) (arg13.view.readCov (kernelRun0_A.sl.HS1_1 (F := F) c arg3 harg3 x2) (Rect.unit (s := S16x128) ![0, 0] S1x128.size inb_S16x128_S1x128_0_0).toLoadRect) (arg13.view.readCov (kernelRun0_A.sl.HS1_1 (F := F) c arg3 harg3 x2) (Rect.unit (s := S16x128) ![1, 0] S1x128.size inb_S16x128_S1x128_1_0).toLoadRect)) (delta (proj (kernelRun0_A.sl.v203 : IVec S8x128 32) (arg13.view.readCov (kernelRun0_A.sl.HS1_1 (F := F) c arg3 harg3 x2) (Rect.unit (s := S16x128) ![0, 0] S1x128.size inb_S16x128_S1x128_0_0).toLoadRect) (arg13.view.readCov (kernelRun0_A.sl.HS1_1 (F := F) c arg3 harg3 x2) (Rect.unit (s := S16x128) ![1, 0] S1x128.size inb_S16x128_S1x128_1_0).toLoadRect) (arg14.view.readCov (kernelRun0_A.sl.HS2_1 (F := F) c arg2 harg2 x1) (Rect.unit (s := S16x128) ![0, 0] S1x128.size inb_S16x128_S1x128_0_0).toLoadRect) (arg14.view.readCov (kernelRun0_A.sl.HS2_1 (F := F) c arg2 harg2 x1) (Rect.unit (s := S16x128) ![1, 0] S1x128.size inb_S16x128_S1x128_1_0).toLoadRect) (View.readAt (Elt F) arg7.view (Rect.unit (s := S1x64x256x128) ![0, 0, 0, 0] S1x1x256x128.size inb_S1x64x256x128_S1x1x256x128_0_0_0_0).toLoadRect (harg7.unread x6)) (View.readAt (Elt F) arg7.view (Rect.unit (s := S1x64x256x128) ![0, 1, 0, 0] S1x1x256x128.size inb_S1x64x256x128_S1x1x256x128_0_1_0_0).toLoadRect (harg7.unread x6)) (View.readAt (Elt F) arg7.view (Rect.unit (s := S1x64x256x128) ![0, 2, 0, 0] S1x1x256x128.size inb_S1x64x256x128_S1x1x256x128_0_2_0_0).toLoadRect (harg7.unread x6)) (View.readAt (Elt F) arg7.view (Rect.unit (s := S1x64x256x128) ![0, 3, 0, 0] S1x1x256x128.size inb_S1x64x256x128_S1x1x256x128_0_3_0_0).toLoadRect (harg7.unread x6)) (View.readAt (Elt F) arg7.view (Rect.unit (s := S1x64x256x128) ![0, 4, 0, 0] S1x1x256x128.size inb_S1x64x256x128_S1x1x256x128_0_4_0_0).toLoadRect (harg7.unread x6)) (View.readAt (Elt F) arg7.view (Rect.unit (s := S1x64x256x128) ![0, 5, 0, 0] S1x1x256x128.size inb_S1x64x256x128_S1x1x256x128_0_5_0_0).toLoadRect (harg7.unread x6)) (View.readAt (Elt F) arg7.view (Rect.unit (s := S1x64x256x128) ![0, 6, 0, 0] S1x1x256x128.size inb_S1x64x256x128_S1x1x256x128_0_6_0_0).toLoadRect (harg7.unread x6)) (View.readAt (Elt F) arg7.view (Rect.unit (s := S1x64x256x128) ![0, 7, 0, 0] S1x1x256x128.size inb_S1x64x256x128_S1x1x256x128_0_7_0_0).toLoadRect (harg7.unread x6))) (View.readAt (Elt F) arg8.view (Rect.unit (s := S1x64x256) ![0, 0, 0] S1x8x256.size inb_S1x64x256_S1x8x256_0_0_0).toLoadRect (harg8.unread x7)) (View.readAt (Elt F) arg4.view (Rect.unit (s := S1x64x256) ![0, 0, 0] S1x8x256.size inb_S1x64x256_S1x8x256_0_0_0).toLoadRect (harg4.unread x3)) (extractStridedSlice S8x1 ![0, 0] (kernelRun0_A.sl.r_2 (F := F) c arg5 harg5 x4) slices_S64x1_o0_0_S8x1) (extractStridedSlice S8x1 ![0, 0] (kernelRun0_A.sl.r_3 (F := F) c arg6 harg6 x5) slices_S64x1_o0_0_S8x1))))⟩] := rfl

/-- The same as functions of the input blocks. -/
theorem out10_blk (c : Dev nD) (i : grid0.Coords) (arg1 : Memref sig .tc .vmem S128x128 .fp8e4m3) (harg1 : arg1.IsWhole) (arg2 : Memref sig .tc .vmem S1x16x128 .bf16) (harg2 : arg2.IsWhole) (arg3 : Memref sig .tc .vmem S1x16x128 .bf16) (harg3 : arg3.IsWhole) (arg4 : Memref sig .tc .vmem S1x64x256 .bf16) (harg4 : arg4.IsWhole) (arg5 : Memref sig .tc .vmem S1x1x64 .f32) (harg5 : arg5.IsWhole) (arg6 : Memref sig .tc .vmem S1x1x64 .f32) (harg6 : arg6.IsWhole) (arg7 : Memref sig .tc .vmem S1x64x256x128 .fp8e4m3) (harg7 : arg7.IsWhole) (arg8 : Memref sig .tc .vmem S1x64x256 .f32) (harg8 : arg8.IsWhole) (arg9 : Memref sig .tc .vmem S1x64x256 .bf16) (harg9 : arg9.IsWhole) (arg10 : Memref sig .tc .vmem S1x64x256x128 .fp8e4m3) (harg10 : arg10.IsWhole) (arg11 : Memref sig .tc .vmem S1x64x256 .f32) (harg11 : arg11.IsWhole) (arg12 : Memref sig .tc .vmem S16x128x128 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S64x256 .f32) (harg15 : arg15.IsWhole) (arg16 : Memref sig .tc .vmem S8x128x256 .f32) (harg16 : arg16.IsWhole) (x0 : Vec F S128x128 .fp8e4m3) (x1 : Vec F S1x16x128 .bf16) (x2 : Vec F S1x16x128 .bf16) (x3 : Vec F S1x64x256 .bf16) (x4 : Vec F S1x1x64 .f32) (x5 : Vec F S1x1x64 .f32) (x6 : Vec F S1x64x256x128 .fp8e4m3) (x7 : Vec F S1x64x256 .f32) :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).2.2.1 = [⟨Rect.unit (s := S1x64x256) ![0, 56, 0] S1x8x256.size inb_S1x64x256_S1x8x256_0_56_0, nsB x0 x1 x2 x3 x4 x5 x6 x7 56 (by decide) 14 (by decide)⟩,
      ⟨Rect.unit (s := S1x64x256) ![0, 48, 0] S1x8x256.size inb_S1x64x256_S1x8x256_0_48_0, nsB x0 x1 x2 x3 x4 x5 x6 x7 48 (by decide) 12 (by decide)⟩,
      ⟨Rect.unit (s := S1x64x256) ![0, 40, 0] S1x8x256.size inb_S1x64x256_S1x8x256_0_40_0, nsB x0 x1 x2 x3 x4 x5 x6 x7 40 (by decide) 10 (by decide)⟩,
      ⟨Rect.unit (s := S1x64x256) ![0, 32, 0] S1x8x256.size inb_S1x64x256_S1x8x256_0_32_0, nsB x0 x1 x2 x3 x4 x5 x6 x7 32 (by decide) 8 (by decide)⟩,
      ⟨Rect.unit (s := S1x64x256) ![0, 24, 0] S1x8x256.size inb_S1x64x256_S1x8x256_0_24_0, nsB x0 x1 x2 x3 x4 x5 x6 x7 24 (by decide) 6 (by decide)⟩,
      ⟨Rect.unit (s := S1x64x256) ![0, 16, 0] S1x8x256.size inb_S1x64x256_S1x8x256_0_16_0, nsB x0 x1 x2 x3 x4 x5 x6 x7 16 (by decide) 4 (by decide)⟩,
      ⟨Rect.unit (s := S1x64x256) ![0, 8, 0] S1x8x256.size inb_S1x64x256_S1x8x256_0_8_0, nsB x0 x1 x2 x3 x4 x5 x6 x7 8 (by decide) 2 (by decide)⟩,
      ⟨Rect.unit (s := S1x64x256) ![0, 0, 0] S1x8x256.size inb_S1x64x256_S1x8x256_0_0_0, nsB x0 x1 x2 x3 x4 x5 x6 x7 0 (by decide) 0 (by decide)⟩] := by
  rw [out10_raw]; simp only [ld_input, k_cov, q_cov, r2_eq, r3_eq, r10_eq, v203_eq, col_cov_0, col_cov_1, col_cov_2, col_cov_3, col_cov_4, col_cov_5, col_cov_6, col_cov_7, col_cov_8, col_cov_9, col_cov_10, col_cov_11, col_cov_12, col_cov_13, col_cov_14, col_cov_15, d_blk_0, d_blk_1, d_blk_2, d_blk_3, d_blk_4, d_blk_5, d_blk_6, d_blk_7,
    cov_row _ 0 0 0 (by decide) rfl, cov_row _ 0 1 1 (by decide) rfl, cov_row _ 0 2 2 (by decide) rfl, cov_row _ 0 3 3 (by decide) rfl, cov_row _ 0 4 4 (by decide) rfl, cov_row _ 0 5 5 (by decide) rfl, cov_row _ 0 6 6 (by decide) rfl, cov_row _ 0 7 7 (by decide) rfl, cov_row _ 8 8 0 (by decide) rfl, cov_row _ 8 9 1 (by decide) rfl, cov_row _ 8 10 2 (by decide) rfl, cov_row _ 8 11 3 (by decide) rfl, cov_row _ 8 12 4 (by decide) rfl, cov_row _ 8 13 5 (by decide) rfl, cov_row _ 8 14 6 (by decide) rfl, cov_row _ 8 15 7 (by decide) rfl, cov_row _ 16 16 0 (by decide) rfl, cov_row _ 16 17 1 (by decide) rfl, cov_row _ 16 18 2 (by decide) rfl, cov_row _ 16 19 3 (by decide) rfl, cov_row _ 16 20 4 (by decide) rfl, cov_row _ 16 21 5 (by decide) rfl, cov_row _ 16 22 6 (by decide) rfl, cov_row _ 16 23 7 (by decide) rfl, cov_row _ 24 24 0 (by decide) rfl, cov_row _ 24 25 1 (by decide) rfl, cov_row _ 24 26 2 (by decide) rfl, cov_row _ 24 27 3 (by decide) rfl, cov_row _ 24 28 4 (by decide) rfl, cov_row _ 24 29 5 (by decide) rfl, cov_row _ 24 30 6 (by decide) rfl, cov_row _ 24 31 7 (by decide) rfl, cov_row _ 32 32 0 (by decide) rfl, cov_row _ 32 33 1 (by decide) rfl, cov_row _ 32 34 2 (by decide) rfl, cov_row _ 32 35 3 (by decide) rfl, cov_row _ 32 36 4 (by decide) rfl, cov_row _ 32 37 5 (by decide) rfl, cov_row _ 32 38 6 (by decide) rfl, cov_row _ 32 39 7 (by decide) rfl, cov_row _ 40 40 0 (by decide) rfl, cov_row _ 40 41 1 (by decide) rfl, cov_row _ 40 42 2 (by decide) rfl, cov_row _ 40 43 3 (by decide) rfl, cov_row _ 40 44 4 (by decide) rfl, cov_row _ 40 45 5 (by decide) rfl, cov_row _ 40 46 6 (by decide) rfl, cov_row _ 40 47 7 (by decide) rfl, cov_row _ 48 48 0 (by decide) rfl, cov_row _ 48 49 1 (by decide) rfl, cov_row _ 48 50 2 (by decide) rfl, cov_row _ 48 51 3 (by decide) rfl, cov_row _ 48 52 4 (by decide) rfl, cov_row _ 48 53 5 (by decide) rfl, cov_row _ 48 54 6 (by decide) rfl, cov_row _ 48 55 7 (by decide) rfl, cov_row _ 56 56 0 (by decide) rfl, cov_row _ 56 57 1 (by decide) rfl, cov_row _ 56 58 2 (by decide) rfl, cov_row _ 56 59 3 (by decide) rfl, cov_row _ 56 60 4 (by decide) rfl, cov_row _ 56 61 5 (by decide) rfl, cov_row _ 56 62 6 (by decide) rfl, cov_row _ 56 63 7 (by decide) rfl]; rfl

end Cert.Delta

end
-- ==== Proof.StageA.lean ====
/- The stages of a block read at an index, over the extended reals: the contraction, the update and the output. -/
module

public import proofs.«01_k».proof.Proof.Block

@[expose] public section

set_option maxRecDepth 16384

noncomputable section

namespace Cert.Delta

open Idealize.ShloMosaic Idealize.SL.Sem Cert.KernelIdeal Cert.KernelIdeal.Gen

/-- A row over the root of its sum of squares. -/
def l2 (x : Fin 128 → EReal) (e : Fin 128) : EReal :=
  x e * Ideal.rsqrt (∑ x', x x' * x x' + Ideal.ofBits FTy.f32 897988541#32)

/-- Choosing by whether two small numbers are equal. -/
theorem sel_eq {α : Type} (a b : ℕ) (ha : a < 2 ^ 32) (hb : b < 2 ^ 32) (x y : α) :
    Scalar.select (IntOp.cmpi CmpIPredicate.eq (BitVec.ofNat 32 a) (BitVec.ofNat 32 b)) x y = if a = b then x else y := by
  have h : (BitVec.ofNat 32 a = BitVec.ofNat 32 b) ↔ a = b := by
    constructor
    · intro h
      have := congrArg BitVec.toNat h
      rwa [BitVec.toNat_ofNat, BitVec.toNat_ofNat, Nat.mod_eq_of_lt ha, Nat.mod_eq_of_lt hb] at this
    · rintro rfl; rfl
  unfold Scalar.select IntOp.cmpi
  by_cases hab : a = b
  · subst hab; simp
  · have : (BitVec.ofNat 32 a == BitVec.ofNat 32 b) = false := beq_eq_false_iff_ne.2 (fun h' => hab (h.1 h'))
    simp [this, hab]

theorem k3_apply (x2 : Vec Ideal S1x16x128 .bf16) (j : Fin 16) (e : Fin 128) :
    k0_pay3 (View.ld x2 (Rect.unit ![0, 0, 0] S1x16x128.size inb_S1x16x128_S1x16x128_0_0_0)) (ix2 j e) = l2 (fun e => x2 (ix3 0 j e)) e := by
  pointwise [k0_pay3]; rfl

theorem KN_apply (x2 : Vec Ideal S1x16x128 .bf16) (j : Fin 16) (e : Fin 128) : KN x2 (ix2 j e) = l2 (fun e => x2 (ix3 0 j e)) e := by
  pointwise [KN, k0_pay5, k0_pay3]; rfl

/-- The scale of the queries. -/
def QS : EReal := Ideal.ofBits FTy.f32 1035273459#32

theorem QN_apply (x1 : Vec Ideal S1x16x128 .bf16) (j : Fin 16) (e : Fin 128) : QN x1 (ix2 j e) = l2 (fun e => x1 (ix3 0 j e)) e * QS := by
  pointwise [QN, k0_pay4]; rfl

theorem Acol_apply (x4 : Vec Ideal S1x1x64 .f32) (j : Fin 64) : Acol x4 (ix2 j 0) = Ideal.exp (x4 (ix3 0 0 j)) := by
  pointwise [Acol, k0_pay6, k0_pay7, k0_pay8]
  congr 1
  rw [Finset.sum_eq_single j]
  · rw [sel_eq _ _ (by omega) (by omega)]; simp
  · intro b _ hb
    rw [sel_eq _ _ (by omega) (by omega), if_neg (fun h => hb (Fin.ext h.symm))]
  · intro h; exact absurd (Finset.mem_univ _) h

theorem Bcol_apply (x5 : Vec Ideal S1x1x64 .f32) (j : Fin 64) : Bcol x5 (ix2 j 0) = x5 (ix3 0 0 j) := by
  pointwise [Bcol, k0_pay9]
  rw [Finset.sum_eq_single j]
  · rw [sel_eq _ _ (by omega) (by omega)]; simp
  · intro b _ hb
    rw [sel_eq _ _ (by omega) (by omega), if_neg (fun h => hb (Fin.ext h.symm))]
  · intro h; exact absurd (Finset.mem_univ _) h

theorem rows_apply (r0 r1 : FVec Ideal S1x128 .f32) (i : Fin 8) (e : Fin 128) :
    rows sub r0 r1 (ix2 i e) = if i.val < 4 then r0 (ix2 0 e) else r1 (ix2 0 e) := by
  pointwise [rows, sub, placed]
  fin_cases i <;> simp [Scalar.select, IntOp.cmpi]

/-- A sum over eight blocks of 128. -/
theorem sum_blocks8 (f : Fin 1024 → EReal) : ∑ x, f x = ∑ m : Fin 8, ∑ e : Fin 128, f ⟨128 * m.val + e.val, by omega⟩ := by
  rw [← Finset.sum_product', Finset.univ_product_univ]
  refine (Fintype.sum_equiv (finProdFinEquiv (m := 8) (n := 128)) _ _ ?_).symm
  rintro ⟨m, e⟩
  congr 1
  apply Fin.ext
  show 128 * m.val + e.val = e.val + 128 * m.val
  omega

theorem blk0 (e : Fin 128) (h : 128 * ((0 : Fin 8) : Fin 8).val + e.val < 128) :
    (⟨128 * ((0 : Fin 8) : Fin 8).val + e.val, h⟩ : Fin 128) = e := by
  apply Fin.ext; show 128 * 0 + e.val = e.val; omega

theorem blk1 (e : Fin 128) (h : 128 * ((1 : Fin 8) : Fin 8).val + e.val - 128 < 128) :
    (⟨128 * ((1 : Fin 8) : Fin 8).val + e.val - 128, h⟩ : Fin 128) = e := by
  apply Fin.ext; show 128 * 1 + e.val - 128 = e.val; omega

theorem blk2 (e : Fin 128) (h : 128 * ((2 : Fin 8) : Fin 8).val + e.val - 128 - 128 < 128) :
    (⟨128 * ((2 : Fin 8) : Fin 8).val + e.val - 128 - 128, h⟩ : Fin 128) = e := by
  apply Fin.ext; show 128 * 2 + e.val - 128 - 128 = e.val; omega

theorem blk3 (e : Fin 128) (h : 128 * ((3 : Fin 8) : Fin 8).val + e.val - 128 - 128 - 128 < 128) :
    (⟨128 * ((3 : Fin 8) : Fin 8).val + e.val - 128 - 128 - 128, h⟩ : Fin 128) = e := by
  apply Fin.ext; show 128 * 3 + e.val - 128 - 128 - 128 = e.val; omega

theorem blk4 (e : Fin 128) (h : 128 * ((4 : Fin 8) : Fin 8).val + e.val - 128 - 128 - 128 - 128 < 128) :
    (⟨128 * ((4 : Fin 8) : Fin 8).val + e.val - 128 - 128 - 128 - 128, h⟩ : Fin 128) = e := by
  apply Fin.ext; show 128 * 4 + e.val - 128 - 128 - 128 - 128 = e.val; omega

theorem blk5 (e : Fin 128) (h : 128 * ((5 : Fin 8) : Fin 8).val + e.val - 128 - 128 - 128 - 128 - 128 < 128) :
    (⟨128 * ((5 : Fin 8) : Fin 8).val + e.val - 128 - 128 - 128 - 128 - 128, h⟩ : Fin 128) = e := by
  apply Fin.ext; show 128 * 5 + e.val - 128 - 128 - 128 - 128 - 128 = e.val; omega

theorem blk6 (e : Fin 128) (h : 128 * ((6 : Fin 8) : Fin 8).val + e.val - 128 - 128 - 128 - 128 - 128 - 128 < 128) :
    (⟨128 * ((6 : Fin 8) : Fin 8).val + e.val - 128 - 128 - 128 - 128 - 128 - 128, h⟩ : Fin 128) = e := by
  apply Fin.ext; show 128 * 6 + e.val - 128 - 128 - 128 - 128 - 128 - 128 = e.val; omega

theorem blk7 (e : Fin 128) (h : 128 * ((7 : Fin 8) : Fin 8).val + e.val - 128 - 128 - 128 - 128 - 128 - 128 - 128 < 128) :
    (⟨128 * ((7 : Fin 8) : Fin 8).val + e.val - 128 - 128 - 128 - 128 - 128 - 128 - 128, h⟩ : Fin 128) = e := by
  apply Fin.ext; show 128 * 7 + e.val - 128 - 128 - 128 - 128 - 128 - 128 - 128 = e.val; omega

set_option maxHeartbeats 4000000 in
/-- The contraction's row of head `i`: the key row times the head's codes. -/
theorem proj_apply_k (k0 k1 q0 q1 : FVec Ideal S1x128 .f32) (c0 c1 c2 c3 c4 c5 c6 c7 : FVec Ideal S1x1x256x128 .fp8e4m3) (i : Fin 8) (j : Fin 16)
    (hj : j.val = i.val) (n : Fin 256) :
    proj sub k0 k1 q0 q1 c0 c1 c2 c3 c4 c5 c6 c7 (ix2 j n)
      = ∑ e, (if i.val < 4 then k0 (ix2 0 e) else k1 (ix2 0 e)) * (![c0, c1, c2, c3, c4, c5, c6, c7] i) (ix4 0 0 n e) := by
  pointwise [proj, pair, sub, placed]
  have h8 : j.val < 8 := by omega
  simp only [h8, dite_true]
  rw [sum_blocks8, Fin.sum_univ_eight]
  simp (disch := omega) only [dif_pos, dif_neg]
  simp only [blk0, blk1, blk2, blk3, blk4, blk5, blk6, blk7]
  rw [hj]
  simp (disch := omega) only [sel_eq]
  fin_cases i <;> simp

set_option maxHeartbeats 4000000 in
/-- The contraction's second row of head `i`: the query row times the head's codes. -/
theorem proj_apply_q (k0 k1 q0 q1 : FVec Ideal S1x128 .f32) (c0 c1 c2 c3 c4 c5 c6 c7 : FVec Ideal S1x1x256x128 .fp8e4m3) (i : Fin 8) (j : Fin 16)
    (hj : j.val = 8 + i.val) (n : Fin 256) :
    proj sub k0 k1 q0 q1 c0 c1 c2 c3 c4 c5 c6 c7 (ix2 j n)
      = ∑ e, (if i.val < 4 then q0 (ix2 0 e) else q1 (ix2 0 e)) * (![c0, c1, c2, c3, c4, c5, c6, c7] i) (ix4 0 0 n e) := by
  pointwise [proj, pair, sub, placed]
  have h8 : ¬ j.val < 8 := by omega
  simp only [h8, dite_false]
  rw [sum_blocks8, Fin.sum_univ_eight]
  simp (disch := omega) only [dif_pos, dif_neg]
  simp only [blk0, blk1, blk2, blk3, blk4, blk5, blk6, blk7]
  rw [show j.val - 8 = i.val by omega]
  simp (disch := omega) only [sel_eq]
  fin_cases i <;> simp

end Cert.Delta

end
-- ==== Proof.StageB.lean ====
/- The stages of a block read at an index, over the extended reals: the new state, its scales and its codes. -/
module

public import proofs.«01_k».proof.Proof.StageA

@[expose] public section

set_option maxRecDepth 16384

noncomputable section

namespace Cert.Delta

open Idealize.ShloMosaic Idealize.SL.Sem Cert.KernelIdeal Cert.KernelIdeal.Gen

/-- The exponent field of one number. -/
def ebits (x : EReal) : BitVec 32 :=
  have e : BitVec 32 := IntOp.shli .vector (IntOp.addi (FloatOps.fptosi (F := Ideal) (φ := .f32) 32 (min (Ideal.ofBits .f32 1123942400#32) (max (Ideal.ofBits .f32 3271294976#32)
    (Ideal.liftRound Int.floor (Ideal.div (Ideal.log x) (Ideal.log (Ideal.ofBits .f32 1073741824#32))))))) 127#32) 23#32
  have p : EReal := Ideal.ofBits .f32 e
  if x < p then IntOp.subi e 8388608#32 else if x < Ideal.ofBits .f32 1073741824#32 * p then e else IntOp.addi e 8388608#32

/-- The power of two at or below one number. -/
def pUp (x : EReal) : EReal := Ideal.ofBits .f32 (ebits x)

/-- Its reciprocal, by the bits. -/
def pDn (x : EReal) : EReal := Ideal.ofBits .f32 (IntOp.subi 2130706432#32 (ebits x))

/-- The absolute value of one number. -/
def ab (x : EReal) : EReal := max x (-x)

/-- The largest absolute value of a row. -/
def topR {n : ℕ} (f : Fin n → EReal) : EReal := Finset.univ.fold max (Ideal.ofBits .f32 4286578688#32) (fun e => ab (f e))

/-- The kernel's rescaled decayed scale. -/
def rcS (r d : EReal) : EReal := max (r * pDn (max r (ab d))) (ab (d * pDn (max r (ab d))) * Ideal.ofBits .f32 562036736#32)

/-- The kernel's update in units of the codes. -/
def icS (r d : EReal) : EReal := Ideal.div (d * pDn (max r (ab d))) (max (rcS r d) (Ideal.ofBits .f32 226492416#32))

/-- The bits of the new scale of one row. -/
def sbits (am : EReal) : BitVec 32 :=
  have m : BitVec 32 := ebits (am * Ideal.ofBits .f32 991054117#32)
  if m = 0#32 then 1065353216#32 else IntOp.addi m 8388608#32

/-- The new scale of one row, and its reciprocal. -/
def nsS (am : EReal) : EReal := Ideal.ofBits .f32 (sbits am)
def invS (am : EReal) : EReal := Ideal.ofBits .f32 (IntOp.subi 2130706432#32 (sbits am))

theorem absf_eq (x : EReal) : FloatOps.absf (F := Ideal) (φ := .f32) x = ab x := rfl

theorem expBits_apply (s : Shape) (x : FVec Ideal s .f32) (i : s.Idx) : expBits s x i = ebits (x i) := by
  pointwise [expBits]; rfl

theorem powUp_apply (s : Shape) (x : FVec Ideal s .f32) (i : s.Idx) : powUp s x i = pUp (x i) := by
  unfold powUp pUp; rw [← expBits_apply]; rfl

theorem powDown_apply (s : Shape) (x : FVec Ideal s .f32) (i : s.Idx) : powDown s x i = pDn (x i) := by
  unfold powDown pDn; rw [← expBits_apply]; rfl

theorem rc_apply (r d : FVec Ideal S8x256 .f32) (i : Fin 8) (n : Fin 256) : rc r d (ix2 i n) = rcS (r (ix2 i n)) (d (ix2 i n)) := by
  have h : powDown S8x256 (top r d) (ix2 i n) = pDn (max (r (ix2 i n)) (ab (d (ix2 i n)))) := by rw [powDown_apply]; rfl
  exact congrArg₂ max (congrArg (r (ix2 i n) * ·) h) (congrArg (· * Ideal.ofBits .f32 562036736#32) (congrArg ab (congrArg (d (ix2 i n) * ·) h)))

theorem inCodes_apply (r d : FVec Ideal S8x256 .f32) (i : Fin 8) (n : Fin 256) : inCodes r d (ix2 i n) = icS (r (ix2 i n)) (d (ix2 i n)) := by
  pointwise [inCodes, rc, dk1, top]
  simp only [powDown_apply]; rfl

theorem newZ_apply (eye : FVec Ideal S128x128 .fp8e4m3) (c : FVec Ideal S1x1x256x128 .fp8e4m3) (col : FVec Ideal S1x128x128 .f32)
    (d : FVec Ideal S1x256 .f32) (kc : Fin 128 → EReal) (hk : ∀ i n, col (ix3 0 i n) = kc i) (i : Fin 128) (n : Fin 256) :
    newZ eye c col d (ix2 i n) = ∑ x, eye (ix2 i x) * c (ix4 0 0 n x) + kc i * d (ix2 0 n) := by
  pointwise [newZ]
  simp only [hk, dite_eq_ite, ite_self]

theorem newTop_apply (z : FVec Ideal S128x256 .f32) (n : Fin 256) : newTop z (ix2 0 n) = topR (fun e => z (ix2 e n)) := by
  pointwise [newTop]; rfl

theorem topK_apply (kr : FVec Ideal S8x128 .f32) (i : Fin 8) (n : Fin 256) :
    broadcastTo S8x256 (shapeCast S8x1 (shapeCast S8x1 (multiReduction .maximumf [1] S8 (absf kr) 0xFF800000#32
      reduces_S8x128_S8 (.inl rfl) rfl) shapeCasts_S8_S8x1) shapeCasts_S8x1_S8x1) broadcasts_S8x1_S8x256 (ix2 i n) = topR (fun e => kr (ix2 i e)) := by
  pointwise []; rfl

theorem topKn_apply (kn : FVec Ideal S16x128 .f32) (i : Fin 16) (n : Fin 128) :
    broadcastTo S16x128 (shapeCast S16x1 (shapeCast S16x1 (multiReduction .maximumf [1] S16 (absf kn) 0xFF800000#32
    reduces_S16x128_S16 (.inl rfl) rfl) shapeCasts_S16_S16x1) shapeCasts_S16x1_S16x1) broadcasts_S16x1_S16x128 (ix2 i n) = topR (fun e => kn (ix2 i e)) := by
  pointwise []; rfl

theorem dk_apply (kr : FVec Ideal S8x128 .f32) (d : FVec Ideal S8x256 .f32) (i : Fin 8) (n : Fin 256) :
    dk kr d (ix2 i n) = d (ix2 i n) * pUp (topR (fun e => kr (ix2 i e))) := by
  unfold dk
  refine congrArg (d (ix2 i n) * ·) ?_
  rw [powUp_apply, topK_apply]

theorem knUnit_apply (kn : FVec Ideal S16x128 .f32) (j : Fin 16) (e : Fin 128) :
    knUnit kn (ix2 j e) = kn (ix2 j e) * pDn (topR (fun e => kn (ix2 j e))) := by
  unfold knUnit
  refine congrArg (kn (ix2 j e) * ·) ?_
  rw [powDown_apply, topKn_apply]

theorem kColOf_apply (kn : FVec Ideal S16x128 .f32) (j : ℕ) (hj : j < 16) (e n : Fin 128) :
    kColOf kn j hj (ix3 0 e n) = kn (ix2 ⟨j, hj⟩ e) * pDn (topR (fun e => kn (ix2 ⟨j, hj⟩ e))) := by
  rw [← knUnit_apply]
  pointwise [kColOf]

theorem sel_bit {α : Type} (a b : BitVec 32) (x y : α) : Scalar.select (IntOp.cmpi CmpIPredicate.eq a b) x y = if a = b then x else y := by
  unfold Scalar.select IntOp.cmpi
  by_cases h : a = b
  · subst h; simp
  · have : (a == b) = false := beq_eq_false_iff_ne.2 h
    simp [this, h]

theorem scaleBits_apply (am : FVec Ideal S8x256 .f32) (i : Fin 8) (n : Fin 256) : scaleBits am (ix2 i n) = sbits (am (ix2 i n)) := by
  pointwise [scaleBits]
  simp only [expBits_apply, sel_bit]; rfl

theorem newScale_apply (am : FVec Ideal S8x256 .f32) (i : Fin 8) (n : Fin 256) : newScale am (ix3 0 i n) = nsS (am (ix2 i n)) := by
  pointwise [newScale]
  rw [scaleBits_apply]; rfl

theorem shapeCast_same (x : FVec Ideal S8x256 .f32) (i : S8x256.Idx) : shapeCast S8x256 x shapeCasts_S8x256_S8x256 i = x i :=
  shapeCast_apply x shapeCasts_S8x256_S8x256 i i rfl

theorem invBits_apply (am : FVec Ideal S8x256 .f32) (i : Fin 8) (n : Fin 256) :
    bitcastToFloat (F := Ideal) .f32 (subi (broadcast S8x256 2130706432#32) (scaleBits am)) (ix2 i n) = invS (am (ix2 i n)) :=
  congrArg (fun b => Ideal.ofBits .f32 (IntOp.subi 2130706432#32 b)) (scaleBits_apply am i n)

theorem powTop_apply (r d : FVec Ideal S8x256 .f32) (i : Fin 8) (n : Fin 256) :
    powUp S8x256 (top r d) (ix2 i n) = pUp (max (r (ix2 i n)) (ab (d (ix2 i n)))) := by
  rw [powUp_apply]; rfl

theorem mul3_apply (a b c : FVec Ideal S8x256 .f32) (i : S8x256.Idx) : mulf (mulf a b) c i = a i * b i * c i := rfl

theorem mulRow_apply (am r d : FVec Ideal S8x256 .f32) (i : Fin 8) (n : Fin 256) :
    mulRow am r d (ix2 i n) = (invS (am (ix2 i n)) * pUp (max (r (ix2 i n)) (ab (d (ix2 i n))))) * rcS (r (ix2 i n)) (d (ix2 i n)) := by
  unfold mulRow
  refine (shapeCast_same _ _).trans ?_
  refine (mul3_apply _ _ _ _).trans ?_
  rw [invBits_apply, powTop_apply, rc_apply]

/-- The new codes at an index. -/
theorem pay2_apply (z : FVec Ideal S128x256 .f32) (m : Vec Ideal S1x256 .f32) (e : Fin 128) (n : Fin 256) :
    k0_pay2 (F := Ideal) (shapeCast S1x128x256 z shapeCasts_S128x256_S1x128x256) m (ix4 0 0 n e)
      = min (Ideal.ofBits .f32 0x43E00000#32) (max (Ideal.ofBits .f32 0xC3E00000#32) (z (ix2 e n) * m (ix2 0 n))) := by
  pointwise [k0_pay2]

theorem amax_apply (z0 z1 z2 z3 z4 z5 z6 z7 : FVec Ideal S128x256 .f32) (r d : FVec Ideal S8x256 .f32) (i : Fin 8) (n : Fin 256) :
    amax z0 z1 z2 z3 z4 z5 z6 z7 r d (ix2 i n)
      = (topR (fun e => (![z0, z1, z2, z3, z4, z5, z6, z7] i) (ix2 e n)) * rcS (r (ix2 i n)) (d (ix2 i n)))
        * pUp (max (r (ix2 i n)) (ab (d (ix2 i n)))) := by
  unfold amax
  rw [← rc_apply]
  refine congrArg₂ (· * ·) (congrArg (· * rc r d (ix2 i n)) ?_) ?_
  · fin_cases i <;> (pointwise []; exact newTop_apply _ n)
  · rw [powUp_apply]; rfl

end Cert.Delta

end
-- ==== Proof.StageC.lean ====
/- What one block of heads leaves at an index, over the extended reals, as a function of one head's row of data. -/
module

public import proofs.«01_k».proof.Proof.StageB

@[expose] public section

set_option maxRecDepth 16384

noncomputable section

namespace Cert.Delta

open Idealize.ShloMosaic Idealize.SL.Sem Cert.KernelIdeal Cert.KernelIdeal.Gen

/-! ## One row of one head -/

/-- The update of one row: key `kn`, codes `C`, scale `s`, value `v`, decay `a`, strength `b`. -/
def deltaR (kn C : Fin 128 → EReal) (s v a b : EReal) : EReal := b * (v - a * ((∑ e, kn e * C e) * s))

/-- The output of one row. -/
def oR (qn kn C : Fin 128 → EReal) (s v a b : EReal) : EReal :=
  a * ((∑ e, qn e * C e) * s) + (∑ e, qn e * kn e) * deltaR kn C s v a b

/-- The update of one row, times the power of two at its key's largest entry. -/
def dkR (kn C : Fin 128 → EReal) (s v a b : EReal) : EReal := deltaR kn C s v a b * pUp (topR kn)

/-- The new state of one row in units of its codes; `I` is the matrix the codes are multiplied by. -/
def zR (I : Fin 128 → Fin 128 → EReal) (kn C : Fin 128 → EReal) (s v a b : EReal) (e : Fin 128) : EReal :=
  ∑ x, I e x * C x + kn e * pDn (topR kn) * icS (a * s) (dkR kn C s v a b)

/-- The largest entry of the new row. -/
def amR (I : Fin 128 → Fin 128 → EReal) (kn C : Fin 128 → EReal) (s v a b : EReal) : EReal :=
  (topR (zR I kn C s v a b) * rcS (a * s) (dkR kn C s v a b)) * pUp (max (a * s) (ab (dkR kn C s v a b)))

/-- The new codes of one row. -/
def ncR (I : Fin 128 → Fin 128 → EReal) (kn C : Fin 128 → EReal) (s v a b : EReal) (e : Fin 128) : EReal :=
  min (Ideal.ofBits .f32 0x43E00000#32) (max (Ideal.ofBits .f32 0xC3E00000#32) (zR I kn C s v a b e *
    ((invS (amR I kn C s v a b) * pUp (max (a * s) (ab (dkR kn C s v a b)))) * rcS (a * s) (dkR kn C s v a b))))

/-! ## The block at an index -/

theorem delta_apply (pr : FVec Ideal S16x256 .f32) (sc : FVec Ideal S1x8x256 .f32) (v : FVec Ideal S1x8x256 .bf16) (a b : FVec Ideal S8x1 .f32)
    (i : Fin 8) (n : Fin 256) : delta pr sc v a b (ix2 i n)
      = b (ix2 i 0) * (v (ix3 0 i n) - a (ix2 i 0) * (pr (ix2 ⟨i.val, by omega⟩ n) * sc (ix3 0 i n))) := by
  pointwise [delta, wide]

theorem outO_apply (qr kr : FVec Ideal S8x128 .f32) (pr : FVec Ideal S16x256 .f32) (sc : FVec Ideal S1x8x256 .f32) (v : FVec Ideal S1x8x256 .bf16)
    (a b : FVec Ideal S8x1 .f32) (i : Fin 8) (n : Fin 256) : outO qr kr pr sc v a b (ix3 0 i n)
      = a (ix2 i 0) * (pr (ix2 ⟨8 + i.val, by omega⟩ n) * sc (ix3 0 i n)) + (∑ e, qr (ix2 i e) * kr (ix2 i e)) * delta pr sc v a b (ix2 i n) := by
  pointwise [outO, wide]

theorem decayed_apply (sc : FVec Ideal S1x8x256 .f32) (a : FVec Ideal S8x1 .f32) (i : Fin 8) (n : Fin 256) :
    decayed sc a (ix2 i n) = a (ix2 i 0) * sc (ix3 0 i n) := by
  pointwise [decayed, wide]

section
variable (x0 : Vec Ideal S128x128 .fp8e4m3) (x1 x2 : Vec Ideal S1x16x128 .bf16) (x3 : Vec Ideal S1x64x256 .bf16) (x4 x5 : Vec Ideal S1x1x64 .f32)
  (x6 : Vec Ideal S1x64x256x128 .fp8e4m3) (x7 : Vec Ideal S1x64x256 .f32)

/-- The key row of a head. -/
def knX (J : Fin 16) : Fin 128 → EReal := l2 (fun e => x2 (ix3 0 J e))

/-- The query row of a head. -/
def qnX (J : Fin 16) (e : Fin 128) : EReal := l2 (fun e => x1 (ix3 0 J e)) e * QS

/-- The codes of a row. -/
def cX (H : Fin 64) (n : Fin 256) (e : Fin 128) : EReal := x6 (ix4 0 H n e)

/-- The matrix the codes are multiplied by. -/
def eyeX (e x : Fin 128) : EReal := x0 (ix2 e x)

/-- The head of a block's row. -/
def hd (h : ℕ) (hh : h + 8 ≤ 64) (i : Fin 8) : Fin 64 := ⟨h + i.val, by omega⟩

/-- Its key row. -/
def kd (j : ℕ) (hj : j + 1 < 16) (i : Fin 8) : Fin 16 := ⟨j + i.val / 4, by omega⟩

theorem kRow_apply (j : ℕ) (hj : j < 16) (e : Fin 128) : kRow x2 j hj (ix2 0 e) = knX x2 ⟨j, hj⟩ e := by
  unfold knX; rw [← KN_apply]; pointwise [kRow]

theorem qRow_apply (j : ℕ) (hj : j < 16) (e : Fin 128) : qRow x1 j hj (ix2 0 e) = qnX x1 ⟨j, hj⟩ e := by
  unfold qnX; rw [← QN_apply]; pointwise [qRow]

theorem codes_apply (h : ℕ) (hh : h < 64) (n : Fin 256) (e : Fin 128) : codes x6 h hh (ix4 0 0 n e) = cX x6 ⟨h, hh⟩ n e := by
  unfold cX; pointwise [codes]

theorem kCol_apply (j : ℕ) (hj : j < 16) (e n : Fin 128) :
    kCol x2 j hj (ix3 0 e n) = knX x2 ⟨j, hj⟩ e * pDn (topR (knX x2 ⟨j, hj⟩)) := by
  unfold kCol
  rw [kColOf_apply]
  simp only [k3_apply]; rfl

theorem Eye_apply (e x : Fin 128) : Eye x0 (ix2 e x) = eyeX x0 e x := by
  unfold eyeX; pointwise [Eye, k0_pay36]

theorem krow_pick (j : ℕ) (hj : j + 1 < 16) (i : Fin 8) (e : Fin 128) :
    (if i.val < 4 then kRow x2 j (by omega) (ix2 0 e) else kRow x2 (j + 1) hj (ix2 0 e)) = knX x2 (kd j hj i) e := by
  rw [kRow_apply, kRow_apply]
  split
  · congr 2; show j = j + i.val / 4; omega
  · congr 2; show j + 1 = j + i.val / 4; omega

theorem qrow_pick (j : ℕ) (hj : j + 1 < 16) (i : Fin 8) (e : Fin 128) :
    (if i.val < 4 then qRow x1 j (by omega) (ix2 0 e) else qRow x1 (j + 1) hj (ix2 0 e)) = qnX x1 (kd j hj i) e := by
  rw [qRow_apply, qRow_apply]
  split
  · congr 2; show j = j + i.val / 4; omega
  · congr 2; show j + 1 = j + i.val / 4; omega

theorem krs_apply (j : ℕ) (hj : j + 1 < 16) (i : Fin 8) (e : Fin 128) : krs x2 j hj (ix2 i e) = knX x2 (kd j hj i) e := by
  unfold krs; rw [rows_apply, krow_pick]

theorem qrs_apply (j : ℕ) (hj : j + 1 < 16) (i : Fin 8) (e : Fin 128) : qrs x1 j hj (ix2 i e) = qnX x1 (kd j hj i) e := by
  unfold qrs; rw [rows_apply, qrow_pick]

variable (h : ℕ) (hh : h + 8 ≤ 64)

theorem scs_apply (i : Fin 8) (n : Fin 256) : scs x7 h hh (ix3 0 i n) = x7 (ix3 0 (hd h hh i) n) := by
  unfold hd; pointwise [scs]

theorem vs_apply (i : Fin 8) (n : Fin 256) : vs x3 h hh (ix3 0 i n) = x3 (ix3 0 (hd h hh i) n) := by
  unfold hd; pointwise [vs]

theorem aOf_apply (i : Fin 8) : aOf x4 h hh (ix2 i 0) = Ideal.exp (x4 (ix3 0 0 (hd h hh i))) := by
  rw [← Acol_apply x4]; unfold hd; pointwise [aOf]

theorem bOf_apply (i : Fin 8) : bOf x5 h hh (ix2 i 0) = x5 (ix3 0 0 (hd h hh i)) := by
  rw [← Bcol_apply x5]; unfold hd; pointwise [bOf]

theorem cpick (i : Fin 8) (n : Fin 256) (e : Fin 128) :
    (![codes x6 h (by omega), codes x6 (h + 1) (by omega), codes x6 (h + 2) (by omega), codes x6 (h + 3) (by omega),
      codes x6 (h + 4) (by omega), codes x6 (h + 5) (by omega), codes x6 (h + 6) (by omega), codes x6 (h + 7) (by omega)] i) (ix4 0 0 n e)
      = cX x6 (hd h hh i) n e := by
  fin_cases i <;> exact codes_apply x6 _ _ n e

variable (j : ℕ) (hj : j + 1 < 16)

theorem prj_k (i : Fin 8) (p : Fin 16) (hp : p.val = i.val) (n : Fin 256) :
    prj x1 x2 x6 h hh j hj (ix2 p n) = ∑ e, knX x2 (kd j hj i) e * cX x6 (hd h hh i) n e := by
  unfold prj
  rw [proj_apply_k _ _ _ _ _ _ _ _ _ _ _ _ i p hp n]
  exact Finset.sum_congr rfl fun e _ => congrArg₂ (· * ·) (krow_pick x2 j hj i e) (cpick x6 h hh i n e)

theorem prj_q (i : Fin 8) (p : Fin 16) (hp : p.val = 8 + i.val) (n : Fin 256) :
    prj x1 x2 x6 h hh j hj (ix2 p n) = ∑ e, qnX x1 (kd j hj i) e * cX x6 (hd h hh i) n e := by
  unfold prj
  rw [proj_apply_q _ _ _ _ _ _ _ _ _ _ _ _ i p hp n]
  exact Finset.sum_congr rfl fun e _ => congrArg₂ (· * ·) (qrow_pick x1 j hj i e) (cpick x6 h hh i n e)

theorem dlt_apply (i : Fin 8) (n : Fin 256) : dlt x1 x2 x3 x4 x5 x6 x7 h hh j hj (ix2 i n)
    = deltaR (knX x2 (kd j hj i)) (cX x6 (hd h hh i) n) (x7 (ix3 0 (hd h hh i) n)) (x3 (ix3 0 (hd h hh i) n))
      (Ideal.exp (x4 (ix3 0 0 (hd h hh i)))) (x5 (ix3 0 0 (hd h hh i))) := by
  unfold dlt
  rw [delta_apply, prj_k x1 x2 x6 h hh j hj i _ rfl, scs_apply, vs_apply, aOf_apply, bOf_apply]; rfl

/-- The block's output. -/
theorem OB_apply (i : Fin 8) (n : Fin 256) : OB x1 x2 x3 x4 x5 x6 x7 h hh j hj (ix3 0 i n)
    = oR (qnX x1 (kd j hj i)) (knX x2 (kd j hj i)) (cX x6 (hd h hh i) n) (x7 (ix3 0 (hd h hh i) n)) (x3 (ix3 0 (hd h hh i) n))
      (Ideal.exp (x4 (ix3 0 0 (hd h hh i)))) (x5 (ix3 0 0 (hd h hh i))) := by
  have hd' := dlt_apply x1 x2 x3 x4 x5 x6 x7 h hh j hj i n
  unfold dlt at hd'
  unfold OB
  rw [outO_apply, hd', prj_q x1 x2 x6 h hh j hj i _ rfl, scs_apply, aOf_apply]
  simp only [qrs_apply, krs_apply]; rfl

theorem rB_apply (i : Fin 8) (n : Fin 256) : rB x4 x7 h hh (ix2 i n) = Ideal.exp (x4 (ix3 0 0 (hd h hh i))) * x7 (ix3 0 (hd h hh i) n) := by
  unfold rB; rw [decayed_apply, aOf_apply, scs_apply]

theorem dB_apply (i : Fin 8) (n : Fin 256) : dB x1 x2 x3 x4 x5 x6 x7 h hh j hj (ix2 i n)
    = dkR (knX x2 (kd j hj i)) (cX x6 (hd h hh i) n) (x7 (ix3 0 (hd h hh i) n)) (x3 (ix3 0 (hd h hh i) n))
      (Ideal.exp (x4 (ix3 0 0 (hd h hh i)))) (x5 (ix3 0 0 (hd h hh i))) := by
  unfold dB dkR
  rw [dk_apply, dlt_apply]
  simp only [krs_apply]

theorem icB_apply (i : Fin 8) (n : Fin 256) : icB x1 x2 x3 x4 x5 x6 x7 h hh j hj (ix2 i n)
    = icS (Ideal.exp (x4 (ix3 0 0 (hd h hh i))) * x7 (ix3 0 (hd h hh i) n))
      (dkR (knX x2 (kd j hj i)) (cX x6 (hd h hh i) n) (x7 (ix3 0 (hd h hh i) n)) (x3 (ix3 0 (hd h hh i) n))
      (Ideal.exp (x4 (ix3 0 0 (hd h hh i)))) (x5 (ix3 0 0 (hd h hh i)))) := by
  unfold icB
  rw [inCodes_apply, rB_apply, dB_apply]

/-- The block's new states in units of the codes. -/
theorem zB_apply (i : ℕ) (hi : i < 8) (jj : ℕ) (hjj : jj < 16) (hjd : jj = j + i / 4) (e : Fin 128) (n : Fin 256) :
    zB x0 x1 x2 x3 x4 x5 x6 x7 h hh j hj i hi jj hjj (ix2 e n)
    = zR (eyeX x0) (knX x2 (kd j hj ⟨i, hi⟩)) (cX x6 (hd h hh ⟨i, hi⟩) n) (x7 (ix3 0 (hd h hh ⟨i, hi⟩) n)) (x3 (ix3 0 (hd h hh ⟨i, hi⟩) n))
      (Ideal.exp (x4 (ix3 0 0 (hd h hh ⟨i, hi⟩)))) (x5 (ix3 0 0 (hd h hh ⟨i, hi⟩))) e := by
  subst hjd
  unfold zB
  rw [newZ_apply _ _ _ _ _ (fun i n => kCol_apply x2 _ _ i n)]
  simp only [Eye_apply, codes_apply]
  refine congrArg₂ (· + ·) rfl (congrArg (knX x2 (kd j hj ⟨i, hi⟩) e * pDn (topR (knX x2 (kd j hj ⟨i, hi⟩))) * ·) ?_)
  exact icB_apply x1 x2 x3 x4 x5 x6 x7 h hh j hj ⟨i, hi⟩ n

theorem amB_apply (i : Fin 8) (n : Fin 256) : amB x0 x1 x2 x3 x4 x5 x6 x7 h hh j hj (ix2 i n)
    = amR (eyeX x0) (knX x2 (kd j hj i)) (cX x6 (hd h hh i) n) (x7 (ix3 0 (hd h hh i) n)) (x3 (ix3 0 (hd h hh i) n))
      (Ideal.exp (x4 (ix3 0 0 (hd h hh i)))) (x5 (ix3 0 0 (hd h hh i))) := by
  unfold amB
  rw [amax_apply, rB_apply, dB_apply]
  unfold amR
  refine congrArg₂ (· * ·) (congrArg₂ (· * ·) (congrArg topR ?_) rfl) rfl
  funext e
  fin_cases i <;> exact zB_apply x0 x1 x2 x3 x4 x5 x6 x7 h hh j hj _ _ _ _ (by norm_num) e n

/-- The block's new scales. -/
theorem nsB_apply (i : Fin 8) (n : Fin 256) : nsB x0 x1 x2 x3 x4 x5 x6 x7 h hh j hj (ix3 0 i n)
    = nsS (amR (eyeX x0) (knX x2 (kd j hj i)) (cX x6 (hd h hh i) n) (x7 (ix3 0 (hd h hh i) n)) (x3 (ix3 0 (hd h hh i) n))
      (Ideal.exp (x4 (ix3 0 0 (hd h hh i)))) (x5 (ix3 0 0 (hd h hh i)))) := by
  unfold nsB
  rw [newScale_apply, amB_apply]

/-- The block's new codes. -/
theorem ncB_apply (i : ℕ) (hi : i < 8) (jj : ℕ) (hjj : jj < 16) (hjd : jj = j + i / 4) (e : Fin 128) (n : Fin 256) :
    ncB x0 x1 x2 x3 x4 x5 x6 x7 h hh j hj i hi jj hjj (ix4 0 0 n e)
    = ncR (eyeX x0) (knX x2 (kd j hj ⟨i, hi⟩)) (cX x6 (hd h hh ⟨i, hi⟩) n) (x7 (ix3 0 (hd h hh ⟨i, hi⟩) n)) (x3 (ix3 0 (hd h hh ⟨i, hi⟩) n))
      (Ideal.exp (x4 (ix3 0 0 (hd h hh ⟨i, hi⟩)))) (x5 (ix3 0 0 (hd h hh ⟨i, hi⟩))) e := by
  unfold ncB
  rw [pay2_apply, zB_apply x0 x1 x2 x3 x4 x5 x6 x7 h hh j hj i hi jj hjj hjd]
  have hm : mRow x0 x1 x2 x3 x4 x5 x6 x7 h hh j hj ⟨i, hi⟩ (ix2 0 n) = mB x0 x1 x2 x3 x4 x5 x6 x7 h hh j hj (ix2 ⟨i, hi⟩ n) := rfl
  rw [hm]
  unfold mB
  rw [mulRow_apply, amB_apply, rB_apply, dB_apply]; rfl

end

end Cert.Delta

end
-- ==== Proof.KBlock.lean ====
/- The kernel's three output blocks of one point as functions of an index. -/
module

public import proofs.«01_k».proof.Proof.Out8
public import proofs.«01_k».proof.Proof.Out9
public import proofs.«01_k».proof.Proof.Out10
public import proofs.«01_k».proof.Proof.StageC
public import proofs.«01_k».proof.Proof.Gen.KernelIdeal.Frame

@[expose] public section

set_option maxRecDepth 16384
set_option maxHeartbeats 4000000

noncomputable section

namespace Cert.Delta

open Idealize.ShloMosaic Idealize.SL.Sem Cert.KernelIdeal Cert.KernelIdeal.Gen

section
variable (x0 : Vec Ideal S128x128 .fp8e4m3) (x1 x2 : Vec Ideal S1x16x128 .bf16) (x3 : Vec Ideal S1x64x256 .bf16) (x4 x5 : Vec Ideal S1x1x64 .f32)
  (x6 : Vec Ideal S1x64x256x128 .fp8e4m3) (x7 : Vec Ideal S1x64x256 .f32)

/-- The key row that value head `H` uses. -/
def kOf (H : Fin 64) : Fin 16 := ⟨H.val / 4, by omega⟩

/-- The output of one point. -/
def G8 : S1x64x256.Idx → EReal := fun y =>
  oR (qnX x1 (kOf (y 1))) (knX x2 (kOf (y 1))) (cX x6 (y 1) (y 2)) (x7 (ix3 0 (y 1) (y 2))) (x3 (ix3 0 (y 1) (y 2)))
    (Ideal.exp (x4 (ix3 0 0 (y 1)))) (x5 (ix3 0 0 (y 1)))

/-- The new codes of one point. -/
def G9 : S1x64x256x128.Idx → EReal := fun y =>
  ncR (eyeX x0) (knX x2 (kOf (y 1))) (cX x6 (y 1) (y 2)) (x7 (ix3 0 (y 1) (y 2))) (x3 (ix3 0 (y 1) (y 2)))
    (Ideal.exp (x4 (ix3 0 0 (y 1)))) (x5 (ix3 0 0 (y 1))) (y 3)

/-- The new scales of one point. -/
def G10 : S1x64x256.Idx → EReal := fun y =>
  nsS (amR (eyeX x0) (knX x2 (kOf (y 1))) (cX x6 (y 1) (y 2)) (x7 (ix3 0 (y 1) (y 2))) (x3 (ix3 0 (y 1) (y 2)))
    (Ideal.exp (x4 (ix3 0 0 (y 1)))) (x5 (ix3 0 0 (y 1))))

theorem emb_blk (h : ℕ) (hh : h + 8 ≤ 64) (inb : ∀ a, (![0, h, 0] : Fin 3 → Nat) a + S1x8x256.size a ≤ S1x64x256.size a) (i : Fin 8) (n : Fin 256) :
    (Rect.unit (s := S1x64x256) ![0, h, 0] S1x8x256.size inb).emb (ix3 0 i n) = ix3 0 (hd h hh i) n := by
  funext a; apply Fin.ext
  rw [Rect.emb_apply]
  fin_cases a
  · rfl
  · show h + 1 * i.val = h + i.val
    omega
  · show 0 + 1 * n.val = n.val
    omega

theorem emb_head (h i : ℕ) (hh : h + 8 ≤ 64) (hi : i < 8) (inb : ∀ a, (![0, h + i, 0, 0] : Fin 4 → Nat) a + S1x1x256x128.size a ≤ S1x64x256x128.size a)
    (n : Fin 256) (e : Fin 128) :
    (Rect.unit (s := S1x64x256x128) ![0, h + i, 0, 0] S1x1x256x128.size inb).emb (ix4 0 0 n e) = ix4 0 (hd h hh ⟨i, hi⟩) n e := by
  funext a; apply Fin.ext
  rw [Rect.emb_apply]
  fin_cases a
  · rfl
  · rfl
  · show 0 + 1 * n.val = n.val
    omega
  · show 0 + 1 * e.val = e.val
    omega

theorem kOf_hd (h : ℕ) (hh : h + 8 ≤ 64) (j : ℕ) (hj : j + 1 < 16) (e : h = 4 * j) (i : Fin 8) : kOf (hd h hh i) = kd j hj i := by
  apply Fin.ext
  show (h + i.val) / 4 = j + i.val / 4
  omega

theorem piece8 (h : ℕ) (hh : h + 8 ≤ 64) (j : ℕ) (hj : j + 1 < 16) (e : h = 4 * j)
    (inb : ∀ a, (![0, h, 0] : Fin 3 → Nat) a + S1x8x256.size a ≤ S1x64x256.size a) (x : S1x8x256.Idx) :
    OB x1 x2 x3 x4 x5 x6 x7 h hh j hj x = G8 x1 x2 x3 x4 x5 x6 x7 ((Rect.unit (s := S1x64x256) ![0, h, 0] S1x8x256.size inb).emb x) := by
  obtain ⟨z, i, n, rfl⟩ : ∃ (z : Fin 1) (i : Fin 8) (n : Fin 256), x = ix3 z i n := ⟨x 0, x 1, x 2, eq_ix3 x⟩
  obtain rfl : z = 0 := Subsingleton.elim _ _
  rw [emb_blk h hh, OB_apply, ← kOf_hd h hh j hj e]; rfl

theorem piece10 (h : ℕ) (hh : h + 8 ≤ 64) (j : ℕ) (hj : j + 1 < 16) (e : h = 4 * j)
    (inb : ∀ a, (![0, h, 0] : Fin 3 → Nat) a + S1x8x256.size a ≤ S1x64x256.size a) (x : S1x8x256.Idx) :
    nsB x0 x1 x2 x3 x4 x5 x6 x7 h hh j hj x = G10 x0 x2 x3 x4 x5 x6 x7 ((Rect.unit (s := S1x64x256) ![0, h, 0] S1x8x256.size inb).emb x) := by
  obtain ⟨z, i, n, rfl⟩ : ∃ (z : Fin 1) (i : Fin 8) (n : Fin 256), x = ix3 z i n := ⟨x 0, x 1, x 2, eq_ix3 x⟩
  obtain rfl : z = 0 := Subsingleton.elim _ _
  rw [emb_blk h hh, nsB_apply, ← kOf_hd h hh j hj e]; rfl

theorem piece9 (h : ℕ) (hh : h + 8 ≤ 64) (j : ℕ) (hj : j + 1 < 16) (e : h = 4 * j) (i : ℕ) (hi : i < 8) (jj : ℕ) (hjj : jj < 16) (hjd : jj = j + i / 4)
    (inb : ∀ a, (![0, h + i, 0, 0] : Fin 4 → Nat) a + S1x1x256x128.size a ≤ S1x64x256x128.size a) (x : S1x1x256x128.Idx) :
    ncB x0 x1 x2 x3 x4 x5 x6 x7 h hh j hj i hi jj hjj x
      = G9 x0 x2 x3 x4 x5 x6 x7 ((Rect.unit (s := S1x64x256x128) ![0, h + i, 0, 0] S1x1x256x128.size inb).emb x) := by
  obtain ⟨z, z', n, d, rfl⟩ : ∃ (z : Fin 1) (z' : Fin 1) (n : Fin 256) (d : Fin 128), x = ix4 z z' n d := ⟨x 0, x 1, x 2, x 3, eq_ix4 x⟩
  obtain rfl : z = 0 := Subsingleton.elim _ _
  obtain rfl : z' = 0 := Subsingleton.elim _ _
  rw [emb_head h i hh hi, ncB_apply _ _ _ _ _ _ _ _ h hh j hj i hi jj hjj hjd, ← kOf_hd h hh j hj e]; rfl

end

/-- Output 8 of one point, whatever the buffers. -/
theorem out8_eq (c : Dev nD) (i : grid0.Coords) (arg1 : Memref sig .tc .vmem S128x128 .fp8e4m3) (harg1 : arg1.IsWhole) (arg2 : Memref sig .tc .vmem S1x16x128 .bf16) (harg2 : arg2.IsWhole) (arg3 : Memref sig .tc .vmem S1x16x128 .bf16) (harg3 : arg3.IsWhole) (arg4 : Memref sig .tc .vmem S1x64x256 .bf16) (harg4 : arg4.IsWhole) (arg5 : Memref sig .tc .vmem S1x1x64 .f32) (harg5 : arg5.IsWhole) (arg6 : Memref sig .tc .vmem S1x1x64 .f32) (harg6 : arg6.IsWhole) (arg7 : Memref sig .tc .vmem S1x64x256x128 .fp8e4m3) (harg7 : arg7.IsWhole) (arg8 : Memref sig .tc .vmem S1x64x256 .f32) (harg8 : arg8.IsWhole) (arg9 : Memref sig .tc .vmem S1x64x256 .bf16) (harg9 : arg9.IsWhole) (arg10 : Memref sig .tc .vmem S1x64x256x128 .fp8e4m3) (harg10 : arg10.IsWhole) (arg11 : Memref sig .tc .vmem S1x64x256 .f32) (harg11 : arg11.IsWhole) (arg12 : Memref sig .tc .vmem S16x128x128 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S64x256 .f32) (harg15 : arg15.IsWhole) (arg16 : Memref sig .tc .vmem S8x128x256 .f32) (harg16 : arg16.IsWhole) (x0 : Vec Ideal S128x128 .fp8e4m3) (x1 : Vec Ideal S1x16x128 .bf16) (x2 : Vec Ideal S1x16x128 .bf16) (x3 : Vec Ideal S1x64x256 .bf16) (x4 : Vec Ideal S1x1x64 .f32) (x5 : Vec Ideal S1x1x64 .f32) (x6 : Vec Ideal S1x64x256x128 .fp8e4m3) (x7 : Vec Ideal S1x64x256 .f32) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 = G8 x1 x2 x3 x4 x5 x6 x7 := by
  unfold out0_A_8
  rw [View.read_writes_junk_eq_canon]
  funext y
  have hp : View.PiecesOf (Val := Elt Ideal) (G8 x1 x2 x3 x4 x5 x6 x7) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).1 := by
    rw [out8_blk]
    exact ⟨piece8 x1 x2 x3 x4 x5 x6 x7 56 (by decide) 14 (by decide) rfl (by decide), piece8 x1 x2 x3 x4 x5 x6 x7 48 (by decide) 12 (by decide) rfl (by decide), piece8 x1 x2 x3 x4 x5 x6 x7 40 (by decide) 10 (by decide) rfl (by decide), piece8 x1 x2 x3 x4 x5 x6 x7 32 (by decide) 8 (by decide) rfl (by decide), piece8 x1 x2 x3 x4 x5 x6 x7 24 (by decide) 6 (by decide) rfl (by decide), piece8 x1 x2 x3 x4 x5 x6 x7 16 (by decide) 4 (by decide) rfl (by decide), piece8 x1 x2 x3 x4 x5 x6 x7 8 (by decide) 2 (by decide) rfl (by decide), piece8 x1 x2 x3 x4 x5 x6 x7 0 (by decide) 0 (by decide) rfl (by decide), trivial⟩
  have := View.canon_append_of_piecesOf (Val := Elt Ideal) (G8 x1 x2 x3 x4 x5 x6 x7) [] _ hp y (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 y)
  rwa [List.append_nil] at this

/-- Output 9 of one point, whatever the buffers. -/
theorem out9_eq (c : Dev nD) (i : grid0.Coords) (arg1 : Memref sig .tc .vmem S128x128 .fp8e4m3) (harg1 : arg1.IsWhole) (arg2 : Memref sig .tc .vmem S1x16x128 .bf16) (harg2 : arg2.IsWhole) (arg3 : Memref sig .tc .vmem S1x16x128 .bf16) (harg3 : arg3.IsWhole) (arg4 : Memref sig .tc .vmem S1x64x256 .bf16) (harg4 : arg4.IsWhole) (arg5 : Memref sig .tc .vmem S1x1x64 .f32) (harg5 : arg5.IsWhole) (arg6 : Memref sig .tc .vmem S1x1x64 .f32) (harg6 : arg6.IsWhole) (arg7 : Memref sig .tc .vmem S1x64x256x128 .fp8e4m3) (harg7 : arg7.IsWhole) (arg8 : Memref sig .tc .vmem S1x64x256 .f32) (harg8 : arg8.IsWhole) (arg9 : Memref sig .tc .vmem S1x64x256 .bf16) (harg9 : arg9.IsWhole) (arg10 : Memref sig .tc .vmem S1x64x256x128 .fp8e4m3) (harg10 : arg10.IsWhole) (arg11 : Memref sig .tc .vmem S1x64x256 .f32) (harg11 : arg11.IsWhole) (arg12 : Memref sig .tc .vmem S16x128x128 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S64x256 .f32) (harg15 : arg15.IsWhole) (arg16 : Memref sig .tc .vmem S8x128x256 .f32) (harg16 : arg16.IsWhole) (x0 : Vec Ideal S128x128 .fp8e4m3) (x1 : Vec Ideal S1x16x128 .bf16) (x2 : Vec Ideal S1x16x128 .bf16) (x3 : Vec Ideal S1x64x256 .bf16) (x4 : Vec Ideal S1x1x64 .f32) (x5 : Vec Ideal S1x1x64 .f32) (x6 : Vec Ideal S1x64x256x128 .fp8e4m3) (x7 : Vec Ideal S1x64x256 .f32) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 = G9 x0 x2 x3 x4 x5 x6 x7 := by
  unfold out0_A_9
  rw [View.read_writes_junk_eq_canon]
  funext y
  have hp : View.PiecesOf (Val := Elt Ideal) (G9 x0 x2 x3 x4 x5 x6 x7) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).2.1 := by
    rw [out9_blk]
    exact ⟨piece9 x0 x1 x2 x3 x4 x5 x6 x7 56 (by decide) 14 (by decide) rfl 7 (by decide) 15 (by decide) rfl (by decide), piece9 x0 x1 x2 x3 x4 x5 x6 x7 56 (by decide) 14 (by decide) rfl 6 (by decide) 15 (by decide) rfl (by decide), piece9 x0 x1 x2 x3 x4 x5 x6 x7 56 (by decide) 14 (by decide) rfl 5 (by decide) 15 (by decide) rfl (by decide), piece9 x0 x1 x2 x3 x4 x5 x6 x7 56 (by decide) 14 (by decide) rfl 4 (by decide) 15 (by decide) rfl (by decide), piece9 x0 x1 x2 x3 x4 x5 x6 x7 56 (by decide) 14 (by decide) rfl 3 (by decide) 14 (by decide) rfl (by decide), piece9 x0 x1 x2 x3 x4 x5 x6 x7 56 (by decide) 14 (by decide) rfl 2 (by decide) 14 (by decide) rfl (by decide), piece9 x0 x1 x2 x3 x4 x5 x6 x7 56 (by decide) 14 (by decide) rfl 1 (by decide) 14 (by decide) rfl (by decide), piece9 x0 x1 x2 x3 x4 x5 x6 x7 56 (by decide) 14 (by decide) rfl 0 (by decide) 14 (by decide) rfl (by decide), piece9 x0 x1 x2 x3 x4 x5 x6 x7 48 (by decide) 12 (by decide) rfl 7 (by decide) 13 (by decide) rfl (by decide), piece9 x0 x1 x2 x3 x4 x5 x6 x7 48 (by decide) 12 (by decide) rfl 6 (by decide) 13 (by decide) rfl (by decide), piece9 x0 x1 x2 x3 x4 x5 x6 x7 48 (by decide) 12 (by decide) rfl 5 (by decide) 13 (by decide) rfl (by decide), piece9 x0 x1 x2 x3 x4 x5 x6 x7 48 (by decide) 12 (by decide) rfl 4 (by decide) 13 (by decide) rfl (by decide), piece9 x0 x1 x2 x3 x4 x5 x6 x7 48 (by decide) 12 (by decide) rfl 3 (by decide) 12 (by decide) rfl (by decide), piece9 x0 x1 x2 x3 x4 x5 x6 x7 48 (by decide) 12 (by decide) rfl 2 (by decide) 12 (by decide) rfl (by decide), piece9 x0 x1 x2 x3 x4 x5 x6 x7 48 (by decide) 12 (by decide) rfl 1 (by decide) 12 (by decide) rfl (by decide), piece9 x0 x1 x2 x3 x4 x5 x6 x7 48 (by decide) 12 (by decide) rfl 0 (by decide) 12 (by decide) rfl (by decide), piece9 x0 x1 x2 x3 x4 x5 x6 x7 40 (by decide) 10 (by decide) rfl 7 (by decide) 11 (by decide) rfl (by decide), piece9 x0 x1 x2 x3 x4 x5 x6 x7 40 (by decide) 10 (by decide) rfl 6 (by decide) 11 (by decide) rfl (by decide), piece9 x0 x1 x2 x3 x4 x5 x6 x7 40 (by decide) 10 (by decide) rfl 5 (by decide) 11 (by decide) rfl (by decide), piece9 x0 x1 x2 x3 x4 x5 x6 x7 40 (by decide) 10 (by decide) rfl 4 (by decide) 11 (by decide) rfl (by decide), piece9 x0 x1 x2 x3 x4 x5 x6 x7 40 (by decide) 10 (by decide) rfl 3 (by decide) 10 (by decide) rfl (by decide), piece9 x0 x1 x2 x3 x4 x5 x6 x7 40 (by decide) 10 (by decide) rfl 2 (by decide) 10 (by decide) rfl (by decide), piece9 x0 x1 x2 x3 x4 x5 x6 x7 40 (by decide) 10 (by decide) rfl 1 (by decide) 10 (by decide) rfl (by decide), piece9 x0 x1 x2 x3 x4 x5 x6 x7 40 (by decide) 10 (by decide) rfl 0 (by decide) 10 (by decide) rfl (by decide), piece9 x0 x1 x2 x3 x4 x5 x6 x7 32 (by decide) 8 (by decide) rfl 7 (by decide) 9 (by decide) rfl (by decide), piece9 x0 x1 x2 x3 x4 x5 x6 x7 32 (by decide) 8 (by decide) rfl 6 (by decide) 9 (by decide) rfl (by decide), piece9 x0 x1 x2 x3 x4 x5 x6 x7 32 (by decide) 8 (by decide) rfl 5 (by decide) 9 (by decide) rfl (by decide), piece9 x0 x1 x2 x3 x4 x5 x6 x7 32 (by decide) 8 (by decide) rfl 4 (by decide) 9 (by decide) rfl (by decide), piece9 x0 x1 x2 x3 x4 x5 x6 x7 32 (by decide) 8 (by decide) rfl 3 (by decide) 8 (by decide) rfl (by decide), piece9 x0 x1 x2 x3 x4 x5 x6 x7 32 (by decide) 8 (by decide) rfl 2 (by decide) 8 (by decide) rfl (by decide), piece9 x0 x1 x2 x3 x4 x5 x6 x7 32 (by decide) 8 (by decide) rfl 1 (by decide) 8 (by decide) rfl (by decide), piece9 x0 x1 x2 x3 x4 x5 x6 x7 32 (by decide) 8 (by decide) rfl 0 (by decide) 8 (by decide) rfl (by decide), piece9 x0 x1 x2 x3 x4 x5 x6 x7 24 (by decide) 6 (by decide) rfl 7 (by decide) 7 (by decide) rfl (by decide), piece9 x0 x1 x2 x3 x4 x5 x6 x7 24 (by decide) 6 (by decide) rfl 6 (by decide) 7 (by decide) rfl (by decide), piece9 x0 x1 x2 x3 x4 x5 x6 x7 24 (by decide) 6 (by decide) rfl 5 (by decide) 7 (by decide) rfl (by decide), piece9 x0 x1 x2 x3 x4 x5 x6 x7 24 (by decide) 6 (by decide) rfl 4 (by decide) 7 (by decide) rfl (by decide), piece9 x0 x1 x2 x3 x4 x5 x6 x7 24 (by decide) 6 (by decide) rfl 3 (by decide) 6 (by decide) rfl (by decide), piece9 x0 x1 x2 x3 x4 x5 x6 x7 24 (by decide) 6 (by decide) rfl 2 (by decide) 6 (by decide) rfl (by decide), piece9 x0 x1 x2 x3 x4 x5 x6 x7 24 (by decide) 6 (by decide) rfl 1 (by decide) 6 (by decide) rfl (by decide), piece9 x0 x1 x2 x3 x4 x5 x6 x7 24 (by decide) 6 (by decide) rfl 0 (by decide) 6 (by decide) rfl (by decide), piece9 x0 x1 x2 x3 x4 x5 x6 x7 16 (by decide) 4 (by decide) rfl 7 (by decide) 5 (by decide) rfl (by decide), piece9 x0 x1 x2 x3 x4 x5 x6 x7 16 (by decide) 4 (by decide) rfl 6 (by decide) 5 (by decide) rfl (by decide), piece9 x0 x1 x2 x3 x4 x5 x6 x7 16 (by decide) 4 (by decide) rfl 5 (by decide) 5 (by decide) rfl (by decide), piece9 x0 x1 x2 x3 x4 x5 x6 x7 16 (by decide) 4 (by decide) rfl 4 (by decide) 5 (by decide) rfl (by decide), piece9 x0 x1 x2 x3 x4 x5 x6 x7 16 (by decide) 4 (by decide) rfl 3 (by decide) 4 (by decide) rfl (by decide), piece9 x0 x1 x2 x3 x4 x5 x6 x7 16 (by decide) 4 (by decide) rfl 2 (by decide) 4 (by decide) rfl (by decide), piece9 x0 x1 x2 x3 x4 x5 x6 x7 16 (by decide) 4 (by decide) rfl 1 (by decide) 4 (by decide) rfl (by decide), piece9 x0 x1 x2 x3 x4 x5 x6 x7 16 (by decide) 4 (by decide) rfl 0 (by decide) 4 (by decide) rfl (by decide), piece9 x0 x1 x2 x3 x4 x5 x6 x7 8 (by decide) 2 (by decide) rfl 7 (by decide) 3 (by decide) rfl (by decide), piece9 x0 x1 x2 x3 x4 x5 x6 x7 8 (by decide) 2 (by decide) rfl 6 (by decide) 3 (by decide) rfl (by decide), piece9 x0 x1 x2 x3 x4 x5 x6 x7 8 (by decide) 2 (by decide) rfl 5 (by decide) 3 (by decide) rfl (by decide), piece9 x0 x1 x2 x3 x4 x5 x6 x7 8 (by decide) 2 (by decide) rfl 4 (by decide) 3 (by decide) rfl (by decide), piece9 x0 x1 x2 x3 x4 x5 x6 x7 8 (by decide) 2 (by decide) rfl 3 (by decide) 2 (by decide) rfl (by decide), piece9 x0 x1 x2 x3 x4 x5 x6 x7 8 (by decide) 2 (by decide) rfl 2 (by decide) 2 (by decide) rfl (by decide), piece9 x0 x1 x2 x3 x4 x5 x6 x7 8 (by decide) 2 (by decide) rfl 1 (by decide) 2 (by decide) rfl (by decide), piece9 x0 x1 x2 x3 x4 x5 x6 x7 8 (by decide) 2 (by decide) rfl 0 (by decide) 2 (by decide) rfl (by decide), piece9 x0 x1 x2 x3 x4 x5 x6 x7 0 (by decide) 0 (by decide) rfl 7 (by decide) 1 (by decide) rfl (by decide), piece9 x0 x1 x2 x3 x4 x5 x6 x7 0 (by decide) 0 (by decide) rfl 6 (by decide) 1 (by decide) rfl (by decide), piece9 x0 x1 x2 x3 x4 x5 x6 x7 0 (by decide) 0 (by decide) rfl 5 (by decide) 1 (by decide) rfl (by decide), piece9 x0 x1 x2 x3 x4 x5 x6 x7 0 (by decide) 0 (by decide) rfl 4 (by decide) 1 (by decide) rfl (by decide), piece9 x0 x1 x2 x3 x4 x5 x6 x7 0 (by decide) 0 (by decide) rfl 3 (by decide) 0 (by decide) rfl (by decide), piece9 x0 x1 x2 x3 x4 x5 x6 x7 0 (by decide) 0 (by decide) rfl 2 (by decide) 0 (by decide) rfl (by decide), piece9 x0 x1 x2 x3 x4 x5 x6 x7 0 (by decide) 0 (by decide) rfl 1 (by decide) 0 (by decide) rfl (by decide), piece9 x0 x1 x2 x3 x4 x5 x6 x7 0 (by decide) 0 (by decide) rfl 0 (by decide) 0 (by decide) rfl (by decide), trivial⟩
  have := View.canon_append_of_piecesOf (Val := Elt Ideal) (G9 x0 x2 x3 x4 x5 x6 x7) [] _ hp y (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 y)
  rwa [List.append_nil] at this

/-- Output 10 of one point, whatever the buffers. -/
theorem out10_eq (c : Dev nD) (i : grid0.Coords) (arg1 : Memref sig .tc .vmem S128x128 .fp8e4m3) (harg1 : arg1.IsWhole) (arg2 : Memref sig .tc .vmem S1x16x128 .bf16) (harg2 : arg2.IsWhole) (arg3 : Memref sig .tc .vmem S1x16x128 .bf16) (harg3 : arg3.IsWhole) (arg4 : Memref sig .tc .vmem S1x64x256 .bf16) (harg4 : arg4.IsWhole) (arg5 : Memref sig .tc .vmem S1x1x64 .f32) (harg5 : arg5.IsWhole) (arg6 : Memref sig .tc .vmem S1x1x64 .f32) (harg6 : arg6.IsWhole) (arg7 : Memref sig .tc .vmem S1x64x256x128 .fp8e4m3) (harg7 : arg7.IsWhole) (arg8 : Memref sig .tc .vmem S1x64x256 .f32) (harg8 : arg8.IsWhole) (arg9 : Memref sig .tc .vmem S1x64x256 .bf16) (harg9 : arg9.IsWhole) (arg10 : Memref sig .tc .vmem S1x64x256x128 .fp8e4m3) (harg10 : arg10.IsWhole) (arg11 : Memref sig .tc .vmem S1x64x256 .f32) (harg11 : arg11.IsWhole) (arg12 : Memref sig .tc .vmem S16x128x128 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S64x256 .f32) (harg15 : arg15.IsWhole) (arg16 : Memref sig .tc .vmem S8x128x256 .f32) (harg16 : arg16.IsWhole) (x0 : Vec Ideal S128x128 .fp8e4m3) (x1 : Vec Ideal S1x16x128 .bf16) (x2 : Vec Ideal S1x16x128 .bf16) (x3 : Vec Ideal S1x64x256 .bf16) (x4 : Vec Ideal S1x1x64 .f32) (x5 : Vec Ideal S1x1x64 .f32) (x6 : Vec Ideal S1x64x256x128 .fp8e4m3) (x7 : Vec Ideal S1x64x256 .f32) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 = G10 x0 x2 x3 x4 x5 x6 x7 := by
  unfold out0_A_10
  rw [View.read_writes_junk_eq_canon]
  funext y
  have hp : View.PiecesOf (Val := Elt Ideal) (G10 x0 x2 x3 x4 x5 x6 x7) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).2.2.1 := by
    rw [out10_blk]
    exact ⟨piece10 x0 x1 x2 x3 x4 x5 x6 x7 56 (by decide) 14 (by decide) rfl (by decide), piece10 x0 x1 x2 x3 x4 x5 x6 x7 48 (by decide) 12 (by decide) rfl (by decide), piece10 x0 x1 x2 x3 x4 x5 x6 x7 40 (by decide) 10 (by decide) rfl (by decide), piece10 x0 x1 x2 x3 x4 x5 x6 x7 32 (by decide) 8 (by decide) rfl (by decide), piece10 x0 x1 x2 x3 x4 x5 x6 x7 24 (by decide) 6 (by decide) rfl (by decide), piece10 x0 x1 x2 x3 x4 x5 x6 x7 16 (by decide) 4 (by decide) rfl (by decide), piece10 x0 x1 x2 x3 x4 x5 x6 x7 8 (by decide) 2 (by decide) rfl (by decide), piece10 x0 x1 x2 x3 x4 x5 x6 x7 0 (by decide) 0 (by decide) rfl (by decide), trivial⟩
  have := View.canon_append_of_piecesOf (Val := Elt Ideal) (G10 x0 x2 x3 x4 x5 x6 x7) [] _ hp y (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 y)
  rwa [List.append_nil] at this

end Cert.Delta

end
-- ==== Proof.KRead.lean ====
/- What one grid point of the kernel reads and computes, as functions of the arguments. -/
module

public import proofs.«01_k».proof.Proof.KBlock
public import proofs.«01_k».proof.Proof.Gen.KernelIdeal.Value
public import Idealize.ShloMosaic.Lib.VecWindow
public import Idealize.ShloMosaic.Lib.Pipeline.ValueKit.Tiles
public import Idealize.ShloMosaic.Lib.Pipeline.ValueKit.Point
public import Idealize.ShloMosaic.Lib.Claim

@[expose] public section

set_option maxRecDepth 16384

noncomputable section

namespace Cert.Delta

open Idealize.ShloMosaic Idealize.SL.Sem Cert.KernelIdeal Cert.KernelIdeal.Gen
open Idealize.ShloMosaic.TcCoe

/-! ## The rows of the arguments -/

section
variable (a0 a1 : Vec Ideal S36x1x16x128 .bf16) (a2 : Vec Ideal S36x1x64x256 .bf16) (a3 a4 : Vec Ideal S36x1x64 .f32)
  (a5 : Vec Ideal S36x64x256x128 .i8) (a6 : Vec Ideal S36x64x256 .f32)

/-- The normalised, scaled query row of value head `H`. -/
def qA (b : Fin 36) (H : Fin 64) (e : Fin 128) : EReal := l2 (fun e => a0 (ix4 b 0 (kOf H) e)) e * QS

/-- The normalised key row of value head `H`. -/
def kA (b : Fin 36) (H : Fin 64) : Fin 128 → EReal := l2 (fun e => a1 (ix4 b 0 (kOf H) e))

/-- The stored codes of one row, as numbers. -/
def cA (b : Fin 36) (H : Fin 64) (n : Fin 256) (e : Fin 128) : EReal := Ideal.ofBits .fp8e4m3 (a5 (ix4 b H n e))

/-- The identity matrix. -/
def idM (e x : Fin 128) : EReal := if e = x then 1 else 0

/-- Result 1 at an index. -/
def oA (b : Fin 36) (H : Fin 64) (n : Fin 256) : EReal :=
  oR (qA a0 b H) (kA a1 b H) (cA a5 b H n) (a6 (ix3 b H n)) (a2 (ix4 b 0 H n)) (Ideal.exp (a3 (ix3 b 0 H))) (a4 (ix3 b 0 H))

/-- Result 2 at an index. -/
def ncA (b : Fin 36) (H : Fin 64) (n : Fin 256) (e : Fin 128) : EReal :=
  ncR idM (kA a1 b H) (cA a5 b H n) (a6 (ix3 b H n)) (a2 (ix4 b 0 H n)) (Ideal.exp (a3 (ix3 b 0 H))) (a4 (ix3 b 0 H)) e

/-- Result 3 at an index. -/
def nsA (b : Fin 36) (H : Fin 64) (n : Fin 256) : EReal :=
  nsS (amR idM (kA a1 b H) (cA a5 b H n) (a6 (ix3 b H n)) (a2 (ix4 b 0 H n)) (Ideal.exp (a3 (ix3 b 0 H))) (a4 (ix3 b 0 H)))

end

/-! ## The blocks of a point -/

/-- Point `t` reads and writes batch element `t`. -/
theorem idx : ∀ t : Fin cfg0.N, win0_0.index t = ![0, 0] ∧ win0_1.index t = ![t.val, 0, 0] ∧ win0_2.index t = ![t.val, 0, 0] ∧ win0_3.index t = ![t.val, 0, 0]
    ∧ win0_4.index t = ![t.val, 0, 0] ∧ win0_5.index t = ![t.val, 0, 0] ∧ win0_6.index t = ![t.val, 0, 0, 0] ∧ win0_7.index t = ![t.val, 0, 0]
    ∧ win0_8.index t = ![t.val, 0, 0] ∧ win0_9.index t = ![t.val, 0, 0, 0] ∧ win0_10.index t = ![t.val, 0, 0] :=
  (by decide +kernel : ∀ t : Fin grid0.N, _)

variable (m : (ℓ : Loc nD τ sig) → Buf (Elt Ideal) ℓ) (c : Dev nD) (t : Fin cfg0.N)

/-- The batch element of a point. -/
def bt : Fin 36 := ⟨t.val, t.isLt⟩

theorem i0 (j e : Fin 128) : iblk m c 0 t (ix2 j e) = (if j = e then 1 else 0 : EReal) := by
  show V m c main_v7 (((cfg0.win 0).blk t).view.emb (ix2 j e)) = _
  rw [show ((cfg0.win 0).blk t).view.emb (ix2 j e) = ix2 j e by blk_ext [idx t, bt]]
  entry_read
  pointwise
  have h : (BitVec.ofNat 32 j.val = BitVec.ofNat 32 e.val) ↔ j = e := by
    constructor
    · intro h
      have := congrArg BitVec.toNat h
      rw [BitVec.toNat_ofNat, BitVec.toNat_ofNat, Nat.mod_eq_of_lt (by omega), Nat.mod_eq_of_lt (by omega)] at this
      exact Fin.ext this
    · rintro rfl; rfl
  by_cases hje : j = e
  · subst hje
    simp [IntOp.addi, IntOp.cmpi, FloatOps.uitofp]
  · have : (BitVec.ofNat 32 j.val == BitVec.ofNat 32 e.val) = false := beq_eq_false_iff_ne.2 (fun h' => hje (h.1 h'))
    simp [IntOp.addi, IntOp.cmpi, FloatOps.uitofp, this, hje]

theorem i1 (j : Fin 16) (e : Fin 128) : iblk m c 1 t (ix3 0 j e) = m ((c : Thread nD τ).loc main_arg0) (ix4 (bt t) 0 j e) := by
  show V m c main_v8 (((cfg0.win 1).blk t).view.emb (ix3 0 j e)) = _
  rw [show ((cfg0.win 1).blk t).view.emb (ix3 0 j e) = ix3 (bt t) j e by blk_ext [idx t, bt]]
  entry_read
  pointwise

theorem i2 (j : Fin 16) (e : Fin 128) : iblk m c 2 t (ix3 0 j e) = m ((c : Thread nD τ).loc main_arg1) (ix4 (bt t) 0 j e) := by
  show V m c main_v9 (((cfg0.win 2).blk t).view.emb (ix3 0 j e)) = _
  rw [show ((cfg0.win 2).blk t).view.emb (ix3 0 j e) = ix3 (bt t) j e by blk_ext [idx t, bt]]
  entry_read
  pointwise

theorem i3 (h : Fin 64) (n : Fin 256) : iblk m c 3 t (ix3 0 h n) = m ((c : Thread nD τ).loc main_arg2) (ix4 (bt t) 0 h n) := by
  show V m c main_v10 (((cfg0.win 3).blk t).view.emb (ix3 0 h n)) = _
  rw [show ((cfg0.win 3).blk t).view.emb (ix3 0 h n) = ix3 (bt t) h n by blk_ext [idx t, bt]]
  entry_read
  pointwise

theorem i4 (h : Fin 64) : iblk m c 4 t (ix3 0 0 h) = m ((c : Thread nD τ).loc main_arg3) (ix3 (bt t) 0 h) := by
  blk_ext [iblk, V, idx t, bt]

theorem i5 (h : Fin 64) : iblk m c 5 t (ix3 0 0 h) = m ((c : Thread nD τ).loc main_arg4) (ix3 (bt t) 0 h) := by
  blk_ext [iblk, V, idx t, bt]

theorem i6 (h : Fin 64) (n : Fin 256) (e : Fin 128) :
    iblk m c 6 t (ix4 0 h n e) = Ideal.ofBits .fp8e4m3 (m ((c : Thread nD τ).loc main_arg5) (ix4 (bt t) h n e)) := by
  blk_ext [iblk, V, idx t, bt]

theorem i7 (h : Fin 64) (n : Fin 256) : iblk m c 7 t (ix3 0 h n) = m ((c : Thread nD τ).loc main_arg6) (ix3 (bt t) h n) := by
  blk_ext [iblk, V, idx t, bt]

theorem q_row (H : Fin 64) : qnX (iblk m c 1 t) (kOf H) = qA (m ((c : Thread nD τ).loc main_arg0)) (bt t) H := by
  funext e; unfold qnX qA; simp only [i1]

theorem k_row (H : Fin 64) : knX (iblk m c 2 t) (kOf H) = kA (m ((c : Thread nD τ).loc main_arg1)) (bt t) H := by
  unfold knX kA; simp only [i2]

theorem c_row (H : Fin 64) (n : Fin 256) : cX (iblk m c 6 t) H n = cA (m ((c : Thread nD τ).loc main_arg5)) (bt t) H n := by
  funext e; exact i6 m c t H n e

theorem e_mat : eyeX (iblk m c 0 t) = idM := by
  funext j e; exact i0 m c t j e

theorem G8_iblk (H : Fin 64) (n : Fin 256) :
    G8 (iblk m c 1 t) (iblk m c 2 t) (iblk m c 3 t) (iblk m c 4 t) (iblk m c 5 t) (iblk m c 6 t) (iblk m c 7 t) (ix3 0 H n)
      = oA (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (bt t) H n := by
  unfold oA
  rw [← q_row m c t, ← k_row m c t, ← c_row m c t, ← i3 m c t, ← i4 m c t, ← i5 m c t, ← i7 m c t]
  rfl

theorem G9_iblk (H : Fin 64) (n : Fin 256) (e : Fin 128) :
    G9 (iblk m c 0 t) (iblk m c 2 t) (iblk m c 3 t) (iblk m c 4 t) (iblk m c 5 t) (iblk m c 6 t) (iblk m c 7 t) (ix4 0 H n e)
      = ncA (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (bt t) H n e := by
  unfold ncA
  rw [← e_mat m c t, ← k_row m c t, ← c_row m c t, ← i3 m c t, ← i4 m c t, ← i5 m c t, ← i7 m c t]
  rfl

theorem G10_iblk (H : Fin 64) (n : Fin 256) :
    G10 (iblk m c 0 t) (iblk m c 2 t) (iblk m c 3 t) (iblk m c 4 t) (iblk m c 5 t) (iblk m c 6 t) (iblk m c 7 t) (ix3 0 H n)
      = nsA (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (bt t) H n := by
  unfold nsA
  rw [← e_mat m c t, ← k_row m c t, ← c_row m c t, ← i3 m c t, ← i4 m c t, ← i5 m c t, ← i7 m c t]
  rfl

end Cert.Delta

end
-- ==== Proof.KArr.lean ====
/- What the kernel's three result arrays hold after a run, as functions of the arguments. -/
module

public import proofs.«01_k».proof.Proof.KRead
public import proofs.«01_k».proof.Proof.Gen.KernelIdeal.Value
public import Idealize.ShloMosaic.Lib.VecWindow
public import Idealize.ShloMosaic.Lib.Pipeline.ValueKit.Tiles
public import Idealize.ShloMosaic.Lib.Pipeline.ValueKit.Point
public import Idealize.ShloMosaic.Lib.Claim

@[expose] public section

set_option maxRecDepth 16384

noncomputable section

namespace Cert.Delta

open Idealize.ShloMosaic Idealize.SL.Sem Cert.KernelIdeal Cert.KernelIdeal.Gen
open Idealize.ShloMosaic.TcCoe

variable (m : (ℓ : Loc nD τ sig) → Buf (Elt Ideal) ℓ) (c : Dev nD) (t : Fin cfg0.N)

theorem at8 : (outsAt0 (F := Ideal) m c t).1 = (G8 (iblk m c 1 t) (iblk m c 2 t) (iblk m c 3 t) (iblk m c 4 t) (iblk m c 5 t) (iblk m c 6 t) (iblk m c 7 t) : Vec Ideal S1x64x256 .bf16) := by
  simp only [outsAt0]
  exact out8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t)

theorem at9 : (outsAt0 (F := Ideal) m c t).2.1 = (G9 (iblk m c 0 t) (iblk m c 2 t) (iblk m c 3 t) (iblk m c 4 t) (iblk m c 5 t) (iblk m c 6 t) (iblk m c 7 t) : Vec Ideal S1x64x256x128 .fp8e4m3) := by
  simp only [outsAt0]
  exact out9_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t)

theorem at10 : (outsAt0 (F := Ideal) m c t).2.2 = (G10 (iblk m c 0 t) (iblk m c 2 t) (iblk m c 3 t) (iblk m c 4 t) (iblk m c 5 t) (iblk m c 6 t) (iblk m c 7 t) : Vec Ideal S1x64x256 .f32) := by
  simp only [outsAt0]
  exact out10_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t)

/-! ## The arrays after the run -/

theorem emb8 (z : Fin 1) (H : Fin 64) (n : Fin 256) : ((cfg0.win 8).blk t).view.emb (ix3 z H n) = ix3 (bt t) H n := by blk_ext [idx t, bt]
theorem emb9 (z : Fin 1) (H : Fin 64) (n : Fin 256) (e : Fin 128) : ((cfg0.win 9).blk t).view.emb (ix4 z H n e) = ix4 (bt t) H n e := by blk_ext [idx t, bt]
theorem emb10 (z : Fin 1) (H : Fin 64) (n : Fin 256) : ((cfg0.win 10).blk t).view.emb (ix3 z H n) = ix3 (bt t) H n := by blk_ext [idx t, bt]

/-- The first result array after the run. -/
theorem arr8 : (dats m 0 c).arrAt 8 cfg0.N = fun i =>
    oA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) (i 2) := by
  refine (dats m 0 c).arrAt_eq_of_covers 8 _ (by decide +kernel) fun t hf y => ?_
  obtain ⟨z, H, n, rfl⟩ : ∃ (z : Fin 1) (H : Fin 64) (n : Fin 256), y = ix3 z H n := ⟨y 0, y 1, y 2, eq_ix3 y⟩
  obtain rfl : z = 0 := Subsingleton.elim _ _
  rw [emb8 t]
  have h : (dats m 0 c).after 8 t = G8 (iblk m c 1 t) (iblk m c 2 t) (iblk m c 3 t) (iblk m c 4 t) (iblk m c 5 t) (iblk m c 6 t) (iblk m c 7 t) := by
    rw [after0_8]; exact at8 m c t
  show (dats m 0 c).after 8 t (ix3 0 H n) = oA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (bt t) H n
  rw [h]; exact G8_iblk m c t H n

/-- The second result array after the run. -/
theorem arr9 : (dats m 0 c).arrAt 9 cfg0.N = fun i =>
    ncA (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) (i 2) (i 3) := by
  refine (dats m 0 c).arrAt_eq_of_covers 9 _ (by decide +kernel) fun t hf y => ?_
  obtain ⟨z, H, n, e, rfl⟩ : ∃ (z : Fin 1) (H : Fin 64) (n : Fin 256) (e : Fin 128), y = ix4 z H n e := ⟨y 0, y 1, y 2, y 3, eq_ix4 y⟩
  obtain rfl : z = 0 := Subsingleton.elim _ _
  rw [emb9 t]
  have h : (dats m 0 c).after 9 t = G9 (iblk m c 0 t) (iblk m c 2 t) (iblk m c 3 t) (iblk m c 4 t) (iblk m c 5 t) (iblk m c 6 t) (iblk m c 7 t) := by
    rw [after0_9]; exact at9 m c t
  show (dats m 0 c).after 9 t (ix4 0 H n e) = ncA (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (bt t) H n e
  rw [h]; exact G9_iblk m c t H n e

/-- The third result array after the run. -/
theorem arr10 : (dats m 0 c).arrAt 10 cfg0.N = fun i =>
    nsA (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) (i 2) := by
  refine (dats m 0 c).arrAt_eq_of_covers 10 _ (by decide +kernel) fun t hf y => ?_
  obtain ⟨z, H, n, rfl⟩ : ∃ (z : Fin 1) (H : Fin 64) (n : Fin 256), y = ix3 z H n := ⟨y 0, y 1, y 2, eq_ix3 y⟩
  obtain rfl : z = 0 := Subsingleton.elim _ _
  rw [emb10 t]
  have h : (dats m 0 c).after 10 t = G10 (iblk m c 0 t) (iblk m c 2 t) (iblk m c 3 t) (iblk m c 4 t) (iblk m c 5 t) (iblk m c 6 t) (iblk m c 7 t) := by
    rw [after0_10]; exact at10 m c t
  show (dats m 0 c).after 10 t (ix3 0 H n) = nsA (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (bt t) H n
  rw [h]; exact G10_iblk m c t H n

end Cert.Delta

end
-- ==== Proof.KRun.lean ====
/- What a run of the kernel leaves, as functions of the arguments. -/
module

public import proofs.«01_k».proof.Proof.KArr

@[expose] public section

set_option maxRecDepth 16384

noncomputable section

namespace Cert.Delta

open Idealize.ShloMosaic Idealize.SL.Sem Cert.KernelIdeal Cert.KernelIdeal.Gen
open Idealize.ShloMosaic.TcCoe

/-- What a run of the kernel leaves: its three results at an index, and its arguments as they were. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (∀ i : S36x64x256.Idx, r.2.mem ((c.tc : Thread nD τ).loc main_v11_0) i
        = oA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1) (i 2))
      ∧ (∀ i : S36x64x256x128.Idx, r.2.mem ((c.tc : Thread nD τ).loc main_v11_1) i
        = ncA (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1) (i 2) (i 3))
      ∧ (∀ i : S36x64x256.Idx, r.2.mem ((c.tc : Thread nD τ).loc main_v11_2) i
        = nsA (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run _ _ _).mono (fun r h c => ?_) (Cert.KernelIdeal.Value.run_blocks m ρ)
  obtain ⟨h8, h9, h10, ha⟩ := h c
  rw [arr8] at h8
  rw [arr9] at h9
  rw [arr10] at h10
  exact ⟨fun i => congrFun h8 i, fun i => congrFun h9 i, fun i => congrFun h10 i, ha⟩

end Cert.Delta

end
-- ==== Proof.Ref.lean ====
/- What the reference's three results are at an index, as functions of the arguments. -/
module

public import proofs.«01_k».proof.Proof.KRead
public import proofs.«01_k».proof.Proof.Gen.ReferenceIdeal.Run
public import proofs.«01_k».proof.Proof.Gen.ReferenceIdeal.Read

@[expose] public section

set_option maxRecDepth 16384

noncomputable section

namespace Cert.Delta

open Idealize.ShloMosaic Idealize.SL.Sem
open Idealize.ShloMosaic.TcCoe

section
open Cert.ReferenceIdeal Cert.ReferenceIdeal.Read

variable (x0 x1 : Vec Ideal S36x1x16x128 .bf16) (x2 : Vec Ideal S36x1x64x256 .bf16) (x3 x4 : Vec Ideal S36x1x64 .f32)
  (x6 : Vec Ideal S36x64x256 .f32) (r0 : Vec Ideal S36x64x256x128 .f32)

theorem v14_apply (b : Fin 36) (j : Fin 16) (e : Fin 128) :
    val_main_v14 (F := Ideal) x0 (ix3 b j e) = l2 (fun e => x0 (ix4 b 0 j e)) e * QS := by
  pointwise [val_main_v14, val_main_v13, val_main_v12, val_main_cst_1, val_main_v11, val_main_v10, val_main_v9, val_main_v8, val_main_v7, val_main_cst_0, val_main_v6, val_main_v5, val_main_cst, val_main_v4, val_main_v3, val_main_v2]
  rfl

theorem v25_apply (b : Fin 36) (j : Fin 16) (e : Fin 128) :
    val_main_v25 (F := Ideal) x1 (ix3 b j e) = l2 (fun e => x1 (ix4 b 0 j e)) e := by
  pointwise [val_main_v25, val_main_v24, val_main_v23, val_main_v22, val_main_v21, val_main_v20, val_main_cst_3, val_main_v19, val_main_v18, val_main_cst_2, val_main_v17, val_main_v16, val_main_v15]
  rfl

theorem v28_apply (b : Fin 36) (H : Fin 64) (e : Fin 128) : val_main_v28 (F := Ideal) x0 (ix3 b H e) = qA x0 b H e := by
  unfold qA; rw [← v14_apply]
  pointwise [val_main_v28, val_main_v27, val_main_v26]
  rfl

theorem v31_apply (b : Fin 36) (H : Fin 64) (e : Fin 128) : val_main_v31 (F := Ideal) x1 (ix3 b H e) = kA x1 b H e := by
  unfold kA; rw [← v25_apply]
  pointwise [val_main_v31, val_main_v30, val_main_v29]
  rfl

theorem v39_apply (b : Fin 36) (H : Fin 64) (n : Fin 256) :
    val_main_v39 (F := Ideal) x1 x6 r0 (ix3 b H n) = (∑ e, kA x1 b H e * r0 (ix4 b H n e)) * x6 (ix3 b H n) := by
  simp only [← v31_apply, mul_comm (val_main_v31 (F := Ideal) _ _)]
  pointwise [val_main_v39, val_main_v38, val_main_cst_4, val_main_v37, val_main_v36, val_main_v35]

theorem v44_apply (b : Fin 36) (H : Fin 64) (n : Fin 256) :
    val_main_v44 (F := Ideal) x0 x6 r0 (ix3 b H n) = (∑ e, qA x0 b H e * r0 (ix4 b H n e)) * x6 (ix3 b H n) := by
  simp only [← v28_apply, mul_comm (val_main_v28 (F := Ideal) _ _)]
  pointwise [val_main_v44, val_main_v43, val_main_cst_5, val_main_v42, val_main_v41, val_main_v40]

/-- The reference's update of one row. -/
theorem v55_apply (b : Fin 36) (H : Fin 64) (n : Fin 256) :
    val_main_v55 (F := Ideal) x1 x2 x3 x4 x6 r0 (ix3 b H n)
      = deltaR (kA x1 b H) (fun e => r0 (ix4 b H n e)) (x6 (ix3 b H n)) (x2 (ix4 b 0 H n)) (Ideal.exp (x3 (ix3 b 0 H))) (x4 (ix3 b 0 H)) := by
  unfold deltaR
  rw [← v39_apply]
  pointwise [val_main_v55, val_main_v54, val_main_v53, val_main_v52, val_main_v51, val_main_v50, val_main_v49, val_main_v48, val_main_v47, val_main_v34, val_main_v33, val_main_v32]

/-- The reference's output of one row. -/
theorem v99_apply (b : Fin 36) (H : Fin 64) (n : Fin 256) :
    val_main_v99 (F := Ideal) x0 x1 x2 x3 x4 x6 r0 (ix3 b H n)
      = oR (qA x0 b H) (kA x1 b H) (fun e => r0 (ix4 b H n e)) (x6 (ix3 b H n)) (x2 (ix4 b 0 H n)) (Ideal.exp (x3 (ix3 b 0 H))) (x4 (ix3 b 0 H)) := by
  unfold oR
  rw [← v55_apply, ← v44_apply]
  simp only [← v31_apply, ← v28_apply]
  pointwise [val_main_v99, val_main_v62, val_main_v61, val_main_v60, val_main_v59, val_main_v58, val_main_v57, val_main_v56, val_main_v46, val_main_cst_6, val_main_v45, val_main_v33, val_main_v32]

end

end Cert.Delta

end
-- ==== Proof.RefState.lean ====
/- What the reference's two state results are at an index, as functions of the arguments. -/
module

public import proofs.«01_k».proof.Proof.Ref
public import proofs.«01_k».proof.Proof.Gen.ReferenceIdeal.Run
public import proofs.«01_k».proof.Proof.Gen.ReferenceIdeal.Read

@[expose] public section

set_option maxRecDepth 16384

noncomputable section

namespace Cert.Delta

open Idealize.ShloMosaic Idealize.SL.Sem
open Idealize.ShloMosaic.TcCoe

section
open Cert.ReferenceIdeal Cert.ReferenceIdeal.Gen Cert.ReferenceIdeal.Read

variable (x0 x1 : Vec Ideal S36x1x16x128 .bf16) (x2 : Vec Ideal S36x1x64x256 .bf16) (x3 x4 : Vec Ideal S36x1x64 .f32)
  (x6 : Vec Ideal S36x64x256 .f32) (r0 : Vec Ideal S36x64x256x128 .f32)

/-- The new state of one row. -/
def sR (kn C : Fin 128 → EReal) (s v a b : EReal) (e : Fin 128) : EReal := a * (C e * s) + deltaR kn C s v a b * kn e

/-- The largest entry of the new state over 448. -/
def xR (kn C : Fin 128 → EReal) (s v a b : EReal) : EReal := topR (sR kn C s v a b) * Ideal.ofBits .f32 991054117#32

/-- The exponent of the new scale. -/
def eR (x : EReal) : EReal :=
  if x < Ideal.ofBits .f32 8388608#32 then 0 else Ideal.liftRound Int.floor (Ideal.div (Ideal.log x) (Ideal.log (Ideal.ofBits .f32 1073741824#32))) + 1

theorem v74_apply (b : Fin 36) (H : Fin 64) (n : Fin 256) (e : Fin 128) :
    val_main_v74 (F := Ideal) x1 x2 x3 x4 x6 r0 (ix4 b H n e)
      = sR (kA x1 b H) (fun e => r0 (ix4 b H n e)) (x6 (ix3 b H n)) (x2 (ix4 b 0 H n)) (Ideal.exp (x3 (ix3 b 0 H))) (x4 (ix3 b 0 H)) e := by
  unfold sR
  rw [← v55_apply]
  simp only [← v31_apply]
  pointwise [val_main_v74, val_main_v73, val_main_v72, val_main_v71, val_main_v70, val_main_v69, val_main_v68, val_main_v67, val_main_v66, val_main_v65, val_main_v64, val_main_v63, val_main_v33, val_main_v32]

theorem max_apply (y : Vec Ideal S36x64x256x128 .f32) (b : Fin 36) (H : Fin 64) (n : Fin 256) :
    Host.reduce (FloatOps.maximumf (F := Ideal) (φ := .f32)) y (val_main_cst_7 (F := Ideal)) reducesTo_S36x64x256x128_S36x64x256_d3 h_S_ (ix3 b H n)
      = Finset.univ.fold max (Ideal.ofBits .f32 4286578688#32) (fun e => y (ix4 b H n e)) := by
  rw [Host.reduce_eq_fold]
  simp only [pointwise]
  rw [val_main_cst_7_apply]
  rfl

theorem v78_apply (b : Fin 36) (H : Fin 64) (n : Fin 256) :
    val_main_v78 (F := Ideal) x1 x2 x3 x4 x6 r0 (ix3 b H n)
      = xR (kA x1 b H) (fun e => r0 (ix4 b H n e)) (x6 (ix3 b H n)) (x2 (ix4 b 0 H n)) (Ideal.exp (x3 (ix3 b 0 H))) (x4 (ix3 b 0 H)) := by
  unfold xR
  rw [show sR (kA x1 b H) (fun e => r0 (ix4 b H n e)) (x6 (ix3 b H n)) (x2 (ix4 b 0 H n)) (Ideal.exp (x3 (ix3 b 0 H))) (x4 (ix3 b 0 H))
    = fun e => val_main_v74 (F := Ideal) x1 x2 x3 x4 x6 r0 (ix4 b H n e) from funext fun e => (v74_apply x1 x2 x3 x4 x6 r0 b H n e).symm]
  unfold topR
  rw [val_main_v78_apply, val_main_v77_apply, val_main_cst_8_apply]
  unfold val_main_v76
  rw [max_apply, Ideal.mulf_def, Ideal.ofBits_def]
  refine congrArg (· * _) (congrArg (fun f => Finset.univ.fold max _ f) (funext fun e => ?_))
  rw [val_main_v75_apply]; rfl

theorem v88_apply (b : Fin 36) (H : Fin 64) (n : Fin 256) :
    val_main_v88 (F := Ideal) x1 x2 x3 x4 x6 r0 (ix3 b H n)
      = eR (xR (kA x1 b H) (fun e => r0 (ix4 b H n e)) (x6 (ix3 b H n)) (x2 (ix4 b 0 H n)) (Ideal.exp (x3 (ix3 b 0 H))) (x4 (ix3 b 0 H))) := by
  unfold eR
  rw [← v78_apply x1 x2 x3 x4 x6 r0 b H n]
  rw [val_main_v88_apply, val_main_v84_apply, val_main_call0_v1_apply, val_main_call0_v0_apply, val_main_v87_apply, val_main_v86_apply, val_main_v85_apply, val_main_v83_apply, val_main_v82_apply, val_main_v81_apply, val_main_v80_apply, val_main_v79_apply, val_main_cst_9_apply, val_main_cst_10_apply, val_main_cst_11_apply, val_main_cst_12_apply]
  generalize val_main_v78 (F := Ideal) x1 x2 x3 x4 x6 r0 (ix3 b H n) = y
  simp only [Ideal.ofBits_def, Ideal.hostUnary_floor_def, Ideal.hostUnary_log_def, Ideal.hostDivf_def, Ideal.addf_def, Ideal.ofBits_zero_f32, Ideal.ofBits_one_f32]
  generalize Ideal.ofBits FTy.f32 8388608#32 = z
  simp only [pointwise]

/-- The reference's new scale of one row. -/
theorem v90_apply (b : Fin 36) (H : Fin 64) (n : Fin 256) :
    val_main_v90 (F := Ideal) x1 x2 x3 x4 x6 r0 (ix3 b H n)
      = Ideal.pow (Ideal.ofBits .f32 1073741824#32) (eR (xR (kA x1 b H) (fun e => r0 (ix4 b H n e)) (x6 (ix3 b H n)) (x2 (ix4 b 0 H n)) (Ideal.exp (x3 (ix3 b 0 H))) (x4 (ix3 b 0 H)))) := by
  rw [← v88_apply x1 x2 x3 x4 x6 r0 b H n]
  rw [val_main_v90_apply, val_main_v89_apply, val_main_cst_13_apply, Ideal.hostPowf_def, Ideal.ofBits_def]

/-- The reference's new codes of one row. -/
theorem v98_apply (b : Fin 36) (H : Fin 64) (n : Fin 256) (e : Fin 128) :
    val_main_v98 (F := Ideal) x1 x2 x3 x4 x6 r0 (ix4 b H n e)
      = min (Ideal.ofBits .f32 0x43E00000#32) (max (Ideal.ofBits .f32 0xC3E00000#32)
        (sR (kA x1 b H) (fun e => r0 (ix4 b H n e)) (x6 (ix3 b H n)) (x2 (ix4 b 0 H n)) (Ideal.exp (x3 (ix3 b 0 H))) (x4 (ix3 b 0 H)) e
          * Ideal.pow (Ideal.ofBits .f32 1073741824#32) (-(eR (xR (kA x1 b H) (fun e => r0 (ix4 b H n e)) (x6 (ix3 b H n)) (x2 (ix4 b 0 H n)) (Ideal.exp (x3 (ix3 b 0 H))) (x4 (ix3 b 0 H))))))) := by
  rw [← v88_apply x1 x2 x3 x4 x6 r0 b H n, ← v74_apply x1 x2 x3 x4 x6 r0 b H n e]
  rw [val_main_v98_apply, val_main_v97_apply, val_main_call1_v4_apply, val_main_call1_v3_apply, val_main_cst_16_apply, val_main_call1_v2_apply, val_main_call1_v1_apply, val_main_call1_v0_apply, val_main_cst_15_apply, val_main_v96_apply, val_main_v95_apply, val_main_v94_apply, val_main_v93_apply, val_main_v92_apply, val_main_cst_14_apply, val_main_v91_apply]
  rw [show idx_main_v94 (idx_main_v95 (ix4 b H n e)) = ix3 b H n from funext fun a => by
    match a with
    | ⟨0, _⟩ => rfl
    | ⟨1, _⟩ => rfl
    | ⟨2, _⟩ => rfl]
  generalize val_main_v88 (F := Ideal) x1 x2 x3 x4 x6 r0 (ix3 b H n) = y
  simp only [Ideal.hostConvertf_def, Ideal.ofBits_def, Ideal.minimumf_def, Ideal.maximumf_def, Ideal.mulf_def, Ideal.hostPowf_def, Ideal.hostNegf_def, Ideal.negf_def]
end

end Cert.Delta

end
-- ==== Proof.RefRun.lean ====
/- What a run of the reference leaves in its three results. -/
module

public import proofs.«01_k».proof.Proof.RefState
public import Idealize.ShloMosaic.Lib.Pipeline.ValueKit.Tiles
public import Idealize.ShloMosaic.Lib.Pipeline.ValueKit.Point
public import Idealize.ShloMosaic.Lib.Claim

@[expose] public section

set_option maxRecDepth 16384

noncomputable section

namespace Cert.Delta

open Idealize.ShloMosaic Idealize.SL.Sem
open Idealize.ShloMosaic.TcCoe
open Cert.ReferenceIdeal Cert.ReferenceIdeal.Gen Cert.ReferenceIdeal.Read

variable (m : (ℓ : Loc nD τ sig) → Buf (Elt Ideal) ℓ) (ρ : Dev nD → PrngReg) (c : Dev nD)

theorem ridx : ∀ t : Fin cfg0.N, win0_0.index t = ![0, 0, 0, 0] ∧ win0_1.index t = ![0, 0, 0, 0] :=
  (by decide +kernel : ∀ t : Fin grid0.N, _)

theorem emb_whole (t : Fin cfg0.N) (y : S36x64x256x128.Idx) : ((cfg0.win 1).blk t).view.emb y = y := by
  blk_ext [ridx t]

theorem emb_in (t : Fin cfg0.N) (y : S36x64x256x128.Idx) : ((cfg0.win 0).blk t).view.emb y = y := by
  blk_ext [ridx t]

theorem iblk_codes (t : Fin cfg0.N) (y : S36x64x256x128.Idx) :
    iblk m c 0 t y = Ideal.ofBits .fp8e4m3 (m ((c : Thread nD τ).loc main_arg5) y) := by
  show V m c main_v0 (((cfg0.win 0).blk t).view.emb y) = _
  rw [emb_in t y]
  unfold V V0
  simp only [hostOps0, List.flatten_cons, List.flatten_nil, List.append_nil]
  entry_read
  pointwise

theorem Ideal_extf_ld (t : Fin cfg0.N) (y : S36x64x256x128.Idx) :
    k0_pay1 (View.ld (iblk m c 0 t) r0_0) y = Ideal.ofBits .fp8e4m3 (m ((c : Thread nD τ).loc main_arg5) y) := by
  rw [← iblk_codes m c t]
  obtain ⟨b, H, n, e, rfl⟩ : ∃ (b : Fin 36) (H : Fin 64) (n : Fin 256) (e : Fin 128), y = ix4 b H n e := ⟨y 0, y 1, y 2, y 3, eq_ix4 y⟩
  pointwise [k0_pay1]

/-- The codes widened by the reference: the numbers their bytes denote. -/
theorem reg_eq : Cert.ReferenceIdeal.Value.reg_main_v1 (F := Ideal) m c
    = fun i => Ideal.ofBits .fp8e4m3 (m ((c : Thread nD τ).loc main_arg5) i) := by
  unfold Cert.ReferenceIdeal.Value.reg_main_v1
  refine (dats m 0 c).arrAt_eq_of_covers 1 _ (by decide +kernel) fun t hf y => ?_
  rw [emb_whole t y]
  have h : (dats m 0 c).after 1 t = (fun i => Ideal.ofBits .fp8e4m3 (m ((c : Thread nD τ).loc main_arg5) i) : Vec Ideal S36x64x256x128 .f32) := by
    rw [after0_1]
    funext y
    unfold out0_1
    have e1 : ∀ y : S36x64x256x128.Idx, r0_0.emb y = y := fun y => by
      funext a; apply Fin.ext; rw [Rect.emb_apply]
      match a with
      | ⟨0, _⟩ => show 0 + 1 * (y 0).val = (y 0).val; omega
      | ⟨1, _⟩ => show 0 + 1 * (y 1).val = (y 1).val; omega
      | ⟨2, _⟩ => show 0 + 1 * (y 2).val = (y 2).val; omega
      | ⟨3, _⟩ => show 0 + 1 * (y 3).val = (y 3).val; omega
    have h2 := View.canon_cons_emb (Val := Elt Ideal) (e := .f32) r0_0 (k0_pay1 (View.ld (iblk m c 0 t) r0_0)) [] y
    rw [e1] at h2
    refine h2.trans ?_
    exact Ideal_extf_ld m c t y
  show (dats m 0 c).after 1 t y = _
  rw [h]
/-- The exponent of the new scale of one row, from the arguments. -/
def eA (a1 : Vec Ideal S36x1x16x128 .bf16) (a2 : Vec Ideal S36x1x64x256 .bf16) (a3 a4 : Vec Ideal S36x1x64 .f32)
    (a5 : Vec Ideal S36x64x256x128 .i8) (a6 : Vec Ideal S36x64x256 .f32) (b : Fin 36) (H : Fin 64) (n : Fin 256) : EReal :=
  eR (xR (kA a1 b H) (cA a5 b H n) (a6 (ix3 b H n)) (a2 (ix4 b 0 H n)) (Ideal.exp (a3 (ix3 b 0 H))) (a4 (ix3 b 0 H)))

/-- The reference's new scale of one row, from the arguments. -/
def rsA (a1 : Vec Ideal S36x1x16x128 .bf16) (a2 : Vec Ideal S36x1x64x256 .bf16) (a3 a4 : Vec Ideal S36x1x64 .f32)
    (a5 : Vec Ideal S36x64x256x128 .i8) (a6 : Vec Ideal S36x64x256 .f32) (b : Fin 36) (H : Fin 64) (n : Fin 256) : EReal :=
  Ideal.pow (Ideal.ofBits .f32 1073741824#32) (eA a1 a2 a3 a4 a5 a6 b H n)

/-- The reference's new codes of one row, from the arguments. -/
def rcA (a1 : Vec Ideal S36x1x16x128 .bf16) (a2 : Vec Ideal S36x1x64x256 .bf16) (a3 a4 : Vec Ideal S36x1x64 .f32)
    (a5 : Vec Ideal S36x64x256x128 .i8) (a6 : Vec Ideal S36x64x256 .f32) (b : Fin 36) (H : Fin 64) (n : Fin 256) (e : Fin 128) : EReal :=
  min (Ideal.ofBits .f32 0x43E00000#32) (max (Ideal.ofBits .f32 0xC3E00000#32)
    (sR (kA a1 b H) (cA a5 b H n) (a6 (ix3 b H n)) (a2 (ix4 b 0 H n)) (Ideal.exp (a3 (ix3 b 0 H))) (a4 (ix3 b 0 H)) e
      * Ideal.pow (Ideal.ofBits .f32 1073741824#32) (-(eA a1 a2 a3 a4 a5 a6 b H n))))

/-- What a run of the reference leaves: its three results at an index, and its arguments as they were. -/
theorem ref_run :
    θ_run (defs (F := Ideal)) (onTc (τ := τ) (main (F := Ideal))) ⟨m, fun _ => 0, ρ⟩ fun r => ∀ c : Dev nD,
      (∀ i : S36x64x256.Idx, r.2.mem ((c.tc : Thread nD τ).loc main_v99) i
        = oA (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (i 0) (i 1) (i 2))
      ∧ (∀ i : S36x64x256x128.Idx, r.2.mem ((c.tc : Thread nD τ).loc main_v98) i
        = rcA (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (i 0) (i 1) (i 2) (i 3))
      ∧ (∀ i : S36x64x256.Idx, r.2.mem ((c.tc : Thread nD τ).loc main_v90) i
        = rsA (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run _ _ _).mono (fun r h c => ?_) (Cert.ReferenceIdeal.Value.run (F := Ideal) m ρ)
  obtain ⟨h99, h98, h90, ha⟩ := h c
  refine ⟨fun i => ?_, fun i => ?_, fun i => ?_, ha⟩
  · obtain ⟨b, H, n, rfl⟩ : ∃ (b : Fin 36) (H : Fin 64) (n : Fin 256), i = ix3 b H n := ⟨i 0, i 1, i 2, eq_ix3 i⟩
    rw [h99, val_main_v99_eq, Cert.ReferenceIdeal.Value.exit_main_arg0, Cert.ReferenceIdeal.Value.exit_main_arg1, Cert.ReferenceIdeal.Value.exit_main_arg2,
      Cert.ReferenceIdeal.Value.exit_main_arg3, Cert.ReferenceIdeal.Value.exit_main_arg4, Cert.ReferenceIdeal.Value.exit_main_arg6,
      Cert.ReferenceIdeal.Value.exit_main_v1, reg_eq]
    exact v99_apply _ _ _ _ _ _ _ b H n
  · obtain ⟨b, H, n, e, rfl⟩ : ∃ (b : Fin 36) (H : Fin 64) (n : Fin 256) (e : Fin 128), i = ix4 b H n e := ⟨i 0, i 1, i 2, i 3, eq_ix4 i⟩
    rw [h98, val_main_v98_eq, Cert.ReferenceIdeal.Value.exit_main_arg1, Cert.ReferenceIdeal.Value.exit_main_arg2,
      Cert.ReferenceIdeal.Value.exit_main_arg3, Cert.ReferenceIdeal.Value.exit_main_arg4, Cert.ReferenceIdeal.Value.exit_main_arg6,
      Cert.ReferenceIdeal.Value.exit_main_v1, reg_eq]
    exact v98_apply _ _ _ _ _ _ b H n e
  · obtain ⟨b, H, n, rfl⟩ : ∃ (b : Fin 36) (H : Fin 64) (n : Fin 256), i = ix3 b H n := ⟨i 0, i 1, i 2, eq_ix3 i⟩
    rw [h90, val_main_v90_eq, Cert.ReferenceIdeal.Value.exit_main_arg1, Cert.ReferenceIdeal.Value.exit_main_arg2,
      Cert.ReferenceIdeal.Value.exit_main_arg3, Cert.ReferenceIdeal.Value.exit_main_arg4, Cert.ReferenceIdeal.Value.exit_main_arg6,
      Cert.ReferenceIdeal.Value.exit_main_v1, reg_eq]
    exact v90_apply _ _ _ _ _ _ b H n

end Cert.Delta

end
-- ==== Proof.Pow2.lean ====
/- Powers of two in the bits of a number: what the kernel's exponent field is, and what it reads as. -/
module

public import proofs.«01_k».proof.Proof.StageC

@[expose] public section

noncomputable section

namespace Cert.Delta

open Idealize.ShloMosaic

/-- The word with `k` in the exponent field. -/
def pw (k : ℕ) : BitVec 32 := BitVec.ofNat 32 (k * 8388608)

/-- A positive word with exponent field `k` and no fraction is a power of two. -/
theorem ieee_pow (b : BitVec 32) (k : ℕ) (ha : b.extractLsb' 31 1 = 0#1) (hb : (b.extractLsb' 23 8).toNat = k)
    (hc : (b.extractLsb' 0 23).toNat = 0) (h1 : 1 ≤ k) (h2 : k ≤ 254) : Ideal.ieee 8 23 b = (((2 : ℝ) ^ ((k : ℤ) - 127) : ℝ) : EReal) := by
  unfold Ideal.ieee
  simp only [Nat.reduceAdd, ha, hb, hc]
  rw [if_neg (by omega), if_neg (by omega)]
  congr 1
  rw [if_neg (by decide), one_mul, show ((k : ℤ) - 127) = 23 + ((k : ℤ) - (2 ^ (8 - 1) - 1) - (23 : ℕ)) by norm_num,
    zpow_add₀ (by norm_num : (2 : ℝ) ≠ 0)]
  congr 1
  push_cast
  norm_num

theorem ofBits_f32 (b : BitVec 32) : Ideal.ofBits .f32 b = Ideal.ieee 8 23 b := rfl

theorem pw_toNat (k : ℕ) (h2 : k ≤ 254) : (pw k).toNat = k * 8388608 := by
  unfold pw
  rw [BitVec.toNat_ofNat]
  exact Nat.mod_eq_of_lt (by omega)

theorem field_eq (b : BitVec 32) (k : ℕ) (h : b.toNat = k * 8388608) (h2 : k ≤ 254) :
    b.extractLsb' 31 1 = 0#1 ∧ (b.extractLsb' 23 8).toNat = k ∧ (b.extractLsb' 0 23).toNat = 0 := by
  refine ⟨?_, ?_, ?_⟩
  · apply BitVec.eq_of_toNat_eq
    rw [BitVec.extractLsb'_toNat, h, Nat.shiftRight_eq_div_pow]
    simp only [BitVec.toNat_ofNat]
    omega
  · rw [BitVec.extractLsb'_toNat, h, Nat.shiftRight_eq_div_pow]
    omega
  · rw [BitVec.extractLsb'_toNat, h, Nat.shiftRight_eq_div_pow]
    omega

/-- A word with only an exponent field, read as a number: a power of two. -/
theorem ofBits_pw (k : ℕ) (h1 : 1 ≤ k) (h2 : k ≤ 254) : Ideal.ofBits .f32 (pw k) = (((2 : ℝ) ^ ((k : ℤ) - 127) : ℝ) : EReal) := by
  obtain ⟨ha, hb, hc⟩ := field_eq (pw k) k (pw_toNat k h2) h2
  rw [ofBits_f32]
  exact ieee_pow (pw k) k ha hb hc h1 h2

theorem ofBits_pw_zero : Ideal.ofBits .f32 (pw 0) = 0 := by
  rw [show pw 0 = 0#32 from rfl]; exact Ideal.ofBits_zero_f32

/-- The word the kernel builds from a whole number. -/
theorem word_eq (k : ℤ) (h1 : -126 ≤ k) (h2 : k ≤ 127) :
    IntOp.shli .vector (IntOp.addi (BitVec.ofInt 32 k) 127#32) 23#32 = pw (k + 127).toNat := by
  obtain ⟨j, rfl⟩ : ∃ j : ℕ, k = (j : ℤ) - 127 := ⟨(k + 127).toNat, by omega⟩
  have : j < 255 := by omega
  rw [show (((j : ℤ) - 127) + 127).toNat = j by omega]
  have : ∀ j : Fin 255, IntOp.shli .vector (IntOp.addi (BitVec.ofInt 32 ((j.val : ℤ) - 127)) 127#32) 23#32 = pw j.val := by decide +kernel
  exact this ⟨j, by omega⟩

theorem lit_two : Ideal.ofBits .f32 1073741824#32 = ((2 : ℝ) : EReal) := by
  rw [show (1073741824#32 : BitVec 32) = pw 128 from rfl, ofBits_pw _ (by norm_num) (by norm_num)]; norm_num
theorem lit_127 : Ideal.ofBits .f32 1123942400#32 = ((127 : ℝ) : EReal) := by
  simp [Ideal.ofBits, Ideal.ieee, -EReal.coe_mul]; norm_num
theorem lit_n126 : Ideal.ofBits .f32 3271294976#32 = ((-126 : ℝ) : EReal) := by
  simp [Ideal.ofBits, Ideal.ieee, -EReal.coe_mul, -EReal.coe_neg]; norm_num
theorem lit_min : Ideal.ofBits .f32 8388608#32 = (((2 : ℝ) ^ (-126 : ℤ) : ℝ) : EReal) := by
  rw [show (8388608#32 : BitVec 32) = pw 1 from rfl, ofBits_pw _ (by norm_num) (by norm_num)]; norm_num

/-- The logarithm to base two, rounded down. -/
theorem floor_log {x : ℝ} {k : ℤ} (h1 : (2 : ℝ) ^ k ≤ x) (h2 : x < (2 : ℝ) ^ (k + 1)) :
    Ideal.liftRound Int.floor (Ideal.div (Ideal.log (x : EReal)) (Ideal.log (Ideal.ofBits .f32 1073741824#32))) = ((k : ℝ) : EReal) := by
  have hx : 0 < x := lt_of_lt_of_le (by positivity) h1
  have hl : 0 < Real.log 2 := Real.log_pos (by norm_num)
  rw [lit_two]
  have e1 : Ideal.log (x : EReal) = ((Real.log x : ℝ) : EReal) := by
    show (if x ≤ 0 then _ else _) = _
    rw [if_neg (not_le.mpr hx)]
  have e2 : Ideal.log ((2 : ℝ) : EReal) = ((Real.log 2 : ℝ) : EReal) := by
    show (if (2 : ℝ) ≤ 0 then _ else _) = _
    rw [if_neg (by norm_num)]
  rw [e1, e2]
  have e3 : Ideal.div ((Real.log x : ℝ) : EReal) ((Real.log 2 : ℝ) : EReal) = ((Real.log x / Real.log 2 : ℝ) : EReal) := by
    unfold Ideal.div
    rw [if_neg (by exact_mod_cast hl.ne'), ← EReal.coe_inv, ← EReal.coe_mul, div_eq_mul_inv]
  rw [e3]
  show (((⌊Real.log x / Real.log 2⌋ : ℤ) : ℝ) : EReal) = _
  congr 2
  rw [Int.floor_eq_iff]
  constructor
  · rw [le_div_iff₀ hl, ← Real.log_zpow]
    exact Real.log_le_log (by positivity) h1
  · rw [div_lt_iff₀ hl, show ((k : ℝ) + 1) = (((k + 1 : ℤ)) : ℝ) by push_cast; ring, ← Real.log_zpow]
    exact Real.log_lt_log hx h2

theorem fptosi_int (k : ℤ) (h1 : -126 ≤ k) (h2 : k ≤ 127) :
    FloatOps.fptosi (F := Ideal) (φ := .f32) 32 ((k : ℝ) : EReal) = BitVec.ofInt 32 k := by
  show BitVec.ofInt 32 (Ideal.toIntClamped _ _ _) = _
  congr 1
  show max _ (min _ (Ideal.truncInt (k : ℝ))) = k
  have : Ideal.truncInt (k : ℝ) = k := by unfold Ideal.truncInt; simp
  rw [this]
  omega

/-- The exponent field of a normal number. -/
theorem ebits_of {x : ℝ} {k : ℤ} (h1 : (2 : ℝ) ^ k ≤ x) (h2 : x < (2 : ℝ) ^ (k + 1)) (hk1 : -126 ≤ k) (hk2 : k ≤ 126) :
    ebits (x : EReal) = pw (k + 127).toNat := by
  unfold ebits
  rw [floor_log h1 h2, lit_127, lit_n126, max_eq_right (by exact_mod_cast hk1),
    min_eq_right (by exact_mod_cast (show k ≤ 127 by omega)), fptosi_int k hk1 (by omega), word_eq k hk1 (by omega), lit_two]
  have e : ((((k + 127).toNat : ℕ) : ℤ) - 127) = k := by omega
  simp only [ofBits_pw (k + 127).toNat (by omega) (by omega), e]
  rw [if_neg (not_lt.mpr (by exact_mod_cast h1)), if_pos]
  rw [← EReal.coe_mul, EReal.coe_lt_coe_iff]
  rw [zpow_add₀ (by norm_num)] at h2
  linarith

/-- The exponent field of zero and of a number below every normal one. -/
theorem ebits_small {x : ℝ} (h0 : 0 ≤ x) (h1 : x < (2 : ℝ) ^ (-126 : ℤ)) : ebits (x : EReal) = pw 0 := by
  have key : max ((-126 : ℝ) : EReal) (Ideal.liftRound Int.floor (Ideal.div (Ideal.log (x : EReal)) (Ideal.log (Ideal.ofBits .f32 1073741824#32)))) = (((-126 : ℤ) : ℝ) : EReal) := by
    rcases h0.eq_or_lt with h | h
    · subst h
      have e1 : Ideal.log ((0 : ℝ) : EReal) = ⊥ := by
        show (if (0 : ℝ) ≤ 0 then _ else _) = _
        rw [if_pos le_rfl]
      have e2 : Ideal.log ((2 : ℝ) : EReal) = ((Real.log 2 : ℝ) : EReal) := by
        show (if (2 : ℝ) ≤ 0 then _ else _) = _
        rw [if_neg (by norm_num)]
      have hl : 0 < Real.log 2 := Real.log_pos (by norm_num)
      rw [e1, lit_two, e2]
      unfold Ideal.div
      rw [if_neg (by exact_mod_cast hl.ne'), ← EReal.coe_inv, EReal.bot_mul_coe_of_pos (inv_pos.mpr hl)]
      show max _ (⊥ : EReal) = _
      simp
    · obtain ⟨k, hk1, hk2⟩ := exists_mem_Ico_zpow h (show (1 : ℝ) < 2 by norm_num)
      rw [floor_log hk1 hk2]
      have : k < -126 := by
        by_contra hc
        exact absurd (lt_of_le_of_lt (le_trans (zpow_le_zpow_right₀ (by norm_num) (not_lt.mp hc)) hk1) h1) (lt_irrefl _)
      rw [max_eq_left (by exact_mod_cast this.le)]
      norm_num
  unfold ebits
  rw [lit_127, lit_n126, key, min_eq_right (by exact_mod_cast (show (-126 : ℤ) ≤ 127 by norm_num)), fptosi_int (-126) (by norm_num) (by norm_num),
    word_eq (-126) (by norm_num) (by norm_num)]
  simp only [show ((-126 : ℤ) + 127).toNat = 1 from rfl, ofBits_pw 1 (by norm_num) (by norm_num)]
  rw [if_pos (by rw [EReal.coe_lt_coe_iff]; convert h1 using 2; norm_num)]
  rfl

theorem sub_pw (k : ℕ) (h : k ≤ 254) : IntOp.subi 2130706432#32 (pw k) = pw (254 - k) := by
  have : ∀ k : Fin 255, IntOp.subi 2130706432#32 (pw k.val) = pw (254 - k.val) := by decide +kernel
  exact this ⟨k, by omega⟩

theorem add_pw (k : ℕ) (h : k ≤ 254) : IntOp.addi (pw k) 8388608#32 = pw (k + 1) := by
  have : ∀ k : Fin 255, IntOp.addi (pw k.val) 8388608#32 = pw (k.val + 1) := by decide +kernel
  exact this ⟨k, by omega⟩

theorem pw_ne (k : ℕ) (h : k ≤ 254) (h1 : 1 ≤ k) : pw k ≠ 0#32 := by
  intro hc
  have := congrArg BitVec.toNat hc
  simp only [pw, BitVec.toNat_ofNat] at this
  omega

/-- The power of two at or below a number, and its reciprocal. -/
theorem pUp_of {x : ℝ} {k : ℤ} (h1 : (2 : ℝ) ^ k ≤ x) (h2 : x < (2 : ℝ) ^ (k + 1)) (hk1 : -126 ≤ k) (hk2 : k ≤ 126) :
    pUp (x : EReal) = (((2 : ℝ) ^ k : ℝ) : EReal) := by
  rw [pUp, ebits_of h1 h2 hk1 hk2, ofBits_pw _ (by omega) (by omega)]
  congr 2; omega

theorem pDn_of {x : ℝ} {k : ℤ} (h1 : (2 : ℝ) ^ k ≤ x) (h2 : x < (2 : ℝ) ^ (k + 1)) (hk1 : -126 ≤ k) (hk2 : k ≤ 126) :
    pDn (x : EReal) = (((2 : ℝ) ^ (-k) : ℝ) : EReal) := by
  rw [pDn, ebits_of h1 h2 hk1 hk2, sub_pw _ (by omega), ofBits_pw _ (by omega) (by omega)]
  congr 2; omega

theorem pUp_zero : pUp ((0 : ℝ) : EReal) = ((0 : ℝ) : EReal) := by
  rw [pUp, ebits_small le_rfl (by positivity), ofBits_pw_zero]; rfl

theorem pDn_zero : pDn ((0 : ℝ) : EReal) = (((2 : ℝ) ^ (127 : ℤ) : ℝ) : EReal) := by
  rw [pDn, ebits_small le_rfl (by positivity), sub_pw _ (by omega), ofBits_pw _ (by omega) (by omega)]; norm_num

end Cert.Delta

end
-- ==== Proof.Quant.lean ====
/- The rescaled arithmetic of one row over the reals: the kernel's units cancel, and its codes and scale are the plain ones. -/
module

public import proofs.«01_k».proof.Proof.Pow2
public import proofs.«01_k».proof.Proof.KRead
public import proofs.«01_k».proof.Proof.RefState

@[expose] public section

noncomputable section

namespace Cert.Delta

open Idealize.ShloMosaic

/-- The largest absolute value of a real row. -/
def tr (f : Fin 128 → ℝ) : ℝ := Finset.univ.sup' Finset.univ_nonempty (fun e => |f e|)

theorem tr_le {f : Fin 128 → ℝ} {y : ℝ} : tr f ≤ y ↔ ∀ e, |f e| ≤ y := by
  unfold tr; rw [Finset.sup'_le_iff]; simp

theorem le_tr (f : Fin 128 → ℝ) (e : Fin 128) : |f e| ≤ tr f := Finset.le_sup' (fun e => |f e|) (Finset.mem_univ e)

theorem tr_mem (f : Fin 128 → ℝ) : ∃ e, tr f = |f e| := by
  obtain ⟨e, _, h⟩ := Finset.exists_mem_eq_sup' (s := Finset.univ) Finset.univ_nonempty (fun e => |f e|)
  exact ⟨e, h⟩

theorem tr_nonneg (f : Fin 128 → ℝ) : 0 ≤ tr f := (abs_nonneg (f 0)).trans (le_tr f 0)

/-- A positive factor comes out of the largest absolute value. -/
theorem tr_mul (f : Fin 128 → ℝ) {c : ℝ} (hc : 0 ≤ c) : tr (fun e => f e * c) = tr f * c := by
  apply le_antisymm
  · rw [tr_le]
    intro e
    rw [abs_mul, abs_of_nonneg hc]
    exact mul_le_mul_of_nonneg_right (le_tr f e) hc
  · obtain ⟨e, h⟩ := tr_mem f
    have := le_tr (fun e => f e * c) e
    rw [abs_mul, abs_of_nonneg hc] at this
    rw [h]; exact this

theorem ab_coe (x : ℝ) : ab (x : EReal) = ((|x| : ℝ) : EReal) := by
  unfold ab
  rw [abs_eq_max_neg, ← EReal.coe_neg]
  exact (EReal.coe_strictMono.monotone.map_max).symm

theorem lit_bot : Ideal.ofBits .f32 4286578688#32 = ⊥ := by simp [Ideal.ofBits, Ideal.ieee]

theorem topR_coe (f : Fin 128 → ℝ) : topR (fun e => (f e : EReal)) = ((tr f : ℝ) : EReal) := by
  unfold topR
  rw [lit_bot]
  apply le_antisymm
  · rw [Finset.fold_max_le]
    refine ⟨bot_le, fun e _ => ?_⟩
    rw [ab_coe]; exact_mod_cast le_tr f e
  · rw [Finset.le_fold_max]
    obtain ⟨e, h⟩ := tr_mem f
    exact .inr ⟨e, Finset.mem_univ _, by rw [ab_coe, h]⟩

theorem coe_sum' {ι : Type} (t : Finset ι) (f : ι → ℝ) : ((∑ e ∈ t, f e : ℝ) : EReal) = ∑ e ∈ t, (f e : EReal) := by
  classical
  induction t using Finset.induction_on with
  | empty => simp
  | insert a t h ih => rw [Finset.sum_insert h, Finset.sum_insert h, EReal.coe_add, ih]

theorem coe_max' (x y : ℝ) : max (x : EReal) (y : EReal) = ((max x y : ℝ) : EReal) := (EReal.coe_strictMono.monotone.map_max).symm

/-- The update of one row over the reals. -/
def deltaX (K C : Fin 128 → ℝ) (s v a b : ℝ) : ℝ := b * (v - a * ((∑ e, K e * C e) * s))

/-- The new state of one row over the reals. -/
def SX (K C : Fin 128 → ℝ) (s v a b : ℝ) (e : Fin 128) : ℝ := a * (C e * s) + deltaX K C s v a b * K e

theorem deltaR_coe (K C : Fin 128 → ℝ) (s v a b : ℝ) :
    deltaR (fun e => (K e : EReal)) (fun e => (C e : EReal)) s v a b = ((deltaX K C s v a b : ℝ) : EReal) := by
  unfold deltaR deltaX
  simp only [← EReal.coe_mul, ← coe_sum', ← EReal.coe_sub]

theorem sR_coe (K C : Fin 128 → ℝ) (s v a b : ℝ) (e : Fin 128) :
    sR (fun e => (K e : EReal)) (fun e => (C e : EReal)) s v a b e = ((SX K C s v a b e : ℝ) : EReal) := by
  unfold sR SX
  rw [deltaR_coe]
  simp only [← EReal.coe_mul, ← EReal.coe_add]

/-- What is asked of a row: a normalised key, codes that are numbers, a decayed scale in range, an update that is not
    more than `2^60` decayed scales. -/
structure RowOk (K C : Fin 128 → ℝ) (s v a b : ℝ) : Prop where
  hK : ∀ e, |K e| ≤ 1
  hT : tr K = 0 ∨ (2 : ℝ) ^ (-126 : ℤ) ≤ tr K
  hC : ∀ e, |C e| ≤ 448
  hr1 : (2 : ℝ) ^ (-126 : ℤ) ≤ a * s
  hr2 : a * s ≤ 2 ^ 60
  hd : |b| * (|v| + 65536 * (a * s)) ≤ 2 ^ 60 * (a * s)

theorem exists_exp {x : ℝ} (lo hi : ℤ) (h1 : (2 : ℝ) ^ lo ≤ x) (h2 : x < (2 : ℝ) ^ hi) :
    ∃ k : ℤ, (2 : ℝ) ^ k ≤ x ∧ x < (2 : ℝ) ^ (k + 1) ∧ lo ≤ k ∧ k < hi := by
  have hx : 0 < x := lt_of_lt_of_le (by positivity) h1
  obtain ⟨k, hk1, hk2⟩ := exists_mem_Ico_zpow hx (show (1 : ℝ) < 2 by norm_num)
  refine ⟨k, hk1, hk2, ?_, ?_⟩
  · have := (zpow_lt_zpow_iff_right₀ (show (1 : ℝ) < 2 by norm_num)).1 (lt_of_le_of_lt h1 hk2)
    omega
  · exact (zpow_lt_zpow_iff_right₀ (show (1 : ℝ) < 2 by norm_num)).1 (lt_of_le_of_lt hk1 h2)

/-- The key's unit cancels. -/
theorem key_scale (K : Fin 128 → ℝ) (hK : ∀ e, |K e| ≤ 1) (hT : tr K = 0 ∨ (2 : ℝ) ^ (-126 : ℤ) ≤ tr K) :
    ∃ ku kd : ℝ, 0 ≤ ku ∧ ku ≤ 1 ∧ pUp ((tr K : ℝ) : EReal) = ku ∧ pDn ((tr K : ℝ) : EReal) = kd ∧ ∀ e, K e * kd * ku = K e := by
  rcases hT with h | h
  · refine ⟨0, (2 : ℝ) ^ (127 : ℤ), le_rfl, zero_le_one, by rw [h]; exact pUp_zero, by rw [h]; exact pDn_zero, fun e => ?_⟩
    have := le_tr K e
    rw [h] at this
    rw [abs_nonpos_iff.1 this]; ring
  · obtain ⟨k, h1, h2, h3, h4⟩ := exists_exp (-126) 1 h (lt_of_le_of_lt (tr_le.2 hK) (by norm_num))
    refine ⟨(2 : ℝ) ^ k, (2 : ℝ) ^ (-k), by positivity, ?_, pUp_of h1 h2 h3 (by omega), pDn_of h1 h2 h3 (by omega), fun e => ?_⟩
    · exact h1.trans (tr_le.2 hK)
    · rw [mul_assoc, ← zpow_add₀ (by norm_num : (2 : ℝ) ≠ 0)]; simp

theorem lit_n60 : Ideal.ofBits .f32 562036736#32 = (((2 : ℝ) ^ (-60 : ℤ) : ℝ) : EReal) := by
  rw [show (562036736#32 : BitVec 32) = pw 67 from rfl, ofBits_pw _ (by norm_num) (by norm_num)]; norm_num

theorem lit_n100 : Ideal.ofBits .f32 226492416#32 = (((2 : ℝ) ^ (-100 : ℤ) : ℝ) : EReal) := by
  rw [show (226492416#32 : BitVec 32) = pw 27 from rfl, ofBits_pw _ (by norm_num) (by norm_num)]; norm_num

/-- The row's unit cancels, and no clamp acts. -/
theorem row_scale (r d : ℝ) (hr1 : (2 : ℝ) ^ (-126 : ℤ) ≤ r) (hr2 : r ≤ 2 ^ 60) (hd : |d| ≤ 2 ^ 60 * r) :
    ∃ u w : ℝ, u * w = 1 ∧ pUp (max (r : EReal) (ab (d : EReal))) = u ∧ rcS r d = ((r * w : ℝ) : EReal) ∧ icS r d = ((d / r : ℝ) : EReal) := by
  have hr0 : 0 < r := lt_of_lt_of_le (by positivity) hr1
  have hmr : max r |d| ≤ 2 ^ 60 * r := max_le (by nlinarith) hd
  obtain ⟨k, h1, h2, h3, h4⟩ := exists_exp (x := max r |d|) (-126) 121 (hr1.trans (le_max_left _ _))
    (lt_of_le_of_lt (hmr.trans (mul_le_mul_of_nonneg_left hr2 (by positivity))) (by norm_num))
  have hw : (0 : ℝ) < (2 : ℝ) ^ (-k) := by positivity
  have e0 : max (r : EReal) (ab (d : EReal)) = ((max r |d| : ℝ) : EReal) := by rw [ab_coe, coe_max']
  have eu := pUp_of h1 h2 h3 (by omega)
  have ed := pDn_of h1 h2 h3 (by omega)
  have erc : rcS r d = ((r * (2 : ℝ) ^ (-k) : ℝ) : EReal) := by
    unfold rcS
    rw [e0, ed, lit_n60, ← EReal.coe_mul, ← EReal.coe_mul, ab_coe, ← EReal.coe_mul, coe_max', max_eq_left]
    rw [abs_mul, abs_of_pos hw]
    have : |d| * (2 : ℝ) ^ (-60 : ℤ) ≤ r := by
      rw [show ((2 : ℝ) ^ (-60 : ℤ)) = 1 / 2 ^ 60 by norm_num]
      rw [mul_one_div, div_le_iff₀ (by positivity)]
      linarith
    calc |d| * (2 : ℝ) ^ (-k) * (2 : ℝ) ^ (-60 : ℤ) = (|d| * (2 : ℝ) ^ (-60 : ℤ)) * (2 : ℝ) ^ (-k) := by ring
      _ ≤ r * (2 : ℝ) ^ (-k) := mul_le_mul_of_nonneg_right this hw.le
  refine ⟨(2 : ℝ) ^ k, (2 : ℝ) ^ (-k), ?_, by rw [e0]; exact eu, erc, ?_⟩
  · rw [← zpow_add₀ (by norm_num : (2 : ℝ) ≠ 0)]; simp
  · unfold icS
    rw [erc, e0, ed, lit_n100, coe_max', max_eq_left, ← EReal.coe_mul]
    · unfold Ideal.div
      rw [if_neg (by exact_mod_cast (mul_pos hr0 hw).ne'), ← EReal.coe_inv, ← EReal.coe_mul]
      congr 1
      field_simp
    · have h5 : (2 : ℝ) ^ k * (2 : ℝ) ^ (-k) = 1 := by rw [← zpow_add₀ (by norm_num : (2 : ℝ) ≠ 0)]; simp
      have h6 : 1 ≤ 2 ^ 60 * (r * (2 : ℝ) ^ (-k)) := by
        calc (1 : ℝ) = (2 : ℝ) ^ k * (2 : ℝ) ^ (-k) := h5.symm
          _ ≤ (2 ^ 60 * r) * (2 : ℝ) ^ (-k) := mul_le_mul_of_nonneg_right (h1.trans hmr) hw.le
          _ = _ := by ring
      have h7 : (2 : ℝ) ^ (-100 : ℤ) * 2 ^ 60 ≤ 1 := by norm_num
      nlinarith

/-- The update is at most `2^60` decayed scales. -/
theorem delta_le {K C : Fin 128 → ℝ} {s v a b : ℝ} (h : RowOk K C s v a b) : |deltaX K C s v a b| ≤ 2 ^ 60 * (a * s) := by
  have hr0 : 0 < a * s := lt_of_lt_of_le (by positivity) h.hr1
  refine le_trans ?_ h.hd
  unfold deltaX
  rw [abs_mul]
  refine mul_le_mul_of_nonneg_left ?_ (abs_nonneg _)
  have hs : |∑ e, K e * C e| ≤ 65536 := by
    refine (Finset.abs_sum_le_sum_abs _ _).trans ?_
    have : ∀ e ∈ (Finset.univ : Finset (Fin 128)), |K e * C e| ≤ 448 := fun e _ => by
      rw [abs_mul]
      nlinarith [h.hK e, h.hC e, abs_nonneg (K e), abs_nonneg (C e)]
    refine (Finset.sum_le_card_nsmul _ _ _ this).trans ?_
    simp; norm_num
  rw [show a * ((∑ e, K e * C e) * s) = (∑ e, K e * C e) * (a * s) by ring]
  refine (abs_sub _ _).trans ?_
  rw [abs_mul, abs_of_pos hr0]
  nlinarith [mul_le_mul_of_nonneg_right hs hr0.le]

theorem idM_sum (C : Fin 128 → ℝ) (e : Fin 128) : ∑ x, idM e x * (C x : EReal) = (C e : EReal) := by
  unfold idM
  simp [ite_mul]

end Cert.Delta

end
-- ==== Proof.Row.lean ====
/- One row: the kernel's new codes and scale are the reference's. -/
module

public import proofs.«01_k».proof.Proof.Quant

@[expose] public section

noncomputable section

namespace Cert.Delta

open Idealize.ShloMosaic

/-- In units of the codes the kernel's new row is the plain new row over the decayed scale. -/
theorem z_coe {K C : Fin 128 → ℝ} {s v a b : ℝ} (h : RowOk K C s v a b) :
    ∃ u w : ℝ, u * w = 1
      ∧ pUp (max ((a : EReal) * s) (ab (dkR (fun e => (K e : EReal)) (fun e => (C e : EReal)) s v a b))) = u
      ∧ rcS ((a : EReal) * s) (dkR (fun e => (K e : EReal)) (fun e => (C e : EReal)) s v a b) = ((a * s * w : ℝ) : EReal)
      ∧ ∀ e, zR idM (fun e => (K e : EReal)) (fun e => (C e : EReal)) s v a b e = ((SX K C s v a b e * (a * s)⁻¹ : ℝ) : EReal) := by
  have hr0 : 0 < a * s := lt_of_lt_of_le (by positivity) h.hr1
  obtain ⟨ku, kd, hku0, hku1, eku, ekd, hk⟩ := key_scale K h.hK h.hT
  have edk : dkR (fun e => (K e : EReal)) (fun e => (C e : EReal)) s v a b = ((deltaX K C s v a b * ku : ℝ) : EReal) := by
    unfold dkR
    rw [deltaR_coe, topR_coe, eku, EReal.coe_mul]
  have hdk : |deltaX K C s v a b * ku| ≤ 2 ^ 60 * (a * s) := by
    rw [abs_mul, abs_of_nonneg hku0]
    exact (mul_le_of_le_one_right (abs_nonneg _) hku1).trans (delta_le h)
  obtain ⟨u, w, huw, eu, erc, eic⟩ := row_scale (a * s) (deltaX K C s v a b * ku) h.hr1 h.hr2 hdk
  rw [EReal.coe_mul a s] at eu erc eic
  refine ⟨u, w, huw, by rw [edk]; exact eu, by rw [edk]; exact erc, fun e => ?_⟩
  unfold zR
  rw [idM_sum, topR_coe, ekd, edk, eic, ← EReal.coe_mul, ← EReal.coe_mul, ← EReal.coe_add]
  congr 1
  unfold SX
  have h1 := hk e
  have : K e * kd * (deltaX K C s v a b * ku / (a * s)) = (K e * kd * ku) * deltaX K C s v a b / (a * s) := by ring
  rw [this, h1]
  have ha : a ≠ 0 := fun hc => by rw [hc, zero_mul] at hr0; exact lt_irrefl _ hr0
  have hs : s ≠ 0 := fun hc => by rw [hc, mul_zero] at hr0; exact lt_irrefl _ hr0
  field_simp

/-- The largest entry of the kernel's new row is the plain one. -/
theorem am_coe {K C : Fin 128 → ℝ} {s v a b : ℝ} (h : RowOk K C s v a b) :
    amR idM (fun e => (K e : EReal)) (fun e => (C e : EReal)) s v a b = ((tr (SX K C s v a b) : ℝ) : EReal) := by
  have hr0 : 0 < a * s := lt_of_lt_of_le (by positivity) h.hr1
  obtain ⟨u, w, huw, eu, erc, ez⟩ := z_coe h
  unfold amR
  rw [eu, erc, funext ez, topR_coe, tr_mul _ (inv_nonneg.2 hr0.le), ← EReal.coe_mul, ← EReal.coe_mul]
  congr 1
  calc tr (SX K C s v a b) * (a * s)⁻¹ * (a * s * w) * u = tr (SX K C s v a b) * ((a * s)⁻¹ * (a * s)) * (u * w) := by ring
    _ = _ := by rw [huw, inv_mul_cancel₀ hr0.ne']; ring

theorem lit_inv448 : ∃ q : ℝ, 0 < q ∧ q ≤ 1 ∧ Ideal.ofBits .f32 991054117#32 = (q : EReal) := by
  refine ⟨9586981 * (2 : ℝ) ^ (-32 : ℤ), by positivity, by norm_num, ?_⟩
  simp [Ideal.ofBits, Ideal.ieee, -EReal.coe_mul]

theorem S_top_le {K C : Fin 128 → ℝ} {s v a b : ℝ} (h : RowOk K C s v a b) : tr (SX K C s v a b) ≤ 2 ^ 121 := by
  have hr0 : 0 < a * s := lt_of_lt_of_le (by positivity) h.hr1
  rw [tr_le]
  intro e
  unfold SX
  refine (abs_add_le _ _).trans ?_
  rw [show a * (C e * s) = C e * (a * s) by ring, abs_mul (C e), abs_mul (deltaX K C s v a b), abs_of_pos hr0]
  have h1 := delta_le h
  have h2 : |deltaX K C s v a b| * |K e| ≤ |deltaX K C s v a b| := mul_le_of_le_one_right (abs_nonneg _) (h.hK e)
  have h3 : |C e| * (a * s) ≤ 448 * (a * s) := mul_le_mul_of_nonneg_right (h.hC e) hr0.le
  have h4 := h.hr2
  nlinarith

theorem pow_two (k : ℤ) : Ideal.pow (Ideal.ofBits .f32 1073741824#32) ((k : ℝ) : EReal) = (((2 : ℝ) ^ k : ℝ) : EReal) := by
  rw [lit_two]
  show ((Real.rpow 2 (k : ℝ) : ℝ) : EReal) = _
  congr 1
  exact Real.rpow_intCast 2 k

/-- The scale of a row and its reciprocal, by the kernel's bits and by the reference's powers. -/
theorem scale_eq {t : ℝ} (h0 : 0 ≤ t) (h1 : t ≤ 2 ^ 121) :
    ∃ i : ℝ, nsS (t : EReal) = Ideal.pow (Ideal.ofBits .f32 1073741824#32) (eR ((t : EReal) * Ideal.ofBits .f32 991054117#32))
      ∧ invS (t : EReal) = i
      ∧ Ideal.pow (Ideal.ofBits .f32 1073741824#32) (-(eR ((t : EReal) * Ideal.ofBits .f32 991054117#32))) = i := by
  obtain ⟨q, hq0, hq1, eq⟩ := lit_inv448
  rw [eq, ← EReal.coe_mul]
  by_cases hx : t * q < (2 : ℝ) ^ (-126 : ℤ)
  · have ee : eR ((t * q : ℝ) : EReal) = (((0 : ℤ) : ℝ) : EReal) := by
      unfold eR
      rw [lit_min, if_pos (by exact_mod_cast hx)]; simp
    have eb : sbits (t : EReal) = pw 127 := by
      unfold sbits
      rw [eq, ← EReal.coe_mul, ebits_small (by positivity) hx]
      rfl
    refine ⟨1, ?_, ?_, ?_⟩
    · rw [ee, pow_two, nsS, eb, ofBits_pw _ (by norm_num) (by norm_num)]; norm_num
    · rw [invS, eb, sub_pw _ (by norm_num), ofBits_pw _ (by norm_num) (by norm_num)]; norm_num
    · rw [ee, ← EReal.coe_neg, ← Int.cast_neg, pow_two]; norm_num
  · push Not at hx
    obtain ⟨k, hk1, hk2, hk3, hk4⟩ := exists_exp (x := t * q) (-126) 122 hx
      (lt_of_le_of_lt ((mul_le_of_le_one_right h0 hq1).trans h1) (by norm_num))
    have ee : eR ((t * q : ℝ) : EReal) = (((k + 1 : ℤ) : ℝ) : EReal) := by
      unfold eR
      rw [lit_min, if_neg (not_lt.2 (by exact_mod_cast hx)), floor_log hk1 hk2, ← EReal.coe_one, ← EReal.coe_add]
      push_cast; rfl
    have eb : sbits (t : EReal) = pw ((k + 127).toNat + 1) := by
      unfold sbits
      rw [eq, ← EReal.coe_mul, ebits_of hk1 hk2 hk3 (by omega)]
      simp only [if_neg (pw_ne (k + 127).toNat (by omega) (by omega)), add_pw (k + 127).toNat (by omega)]
    refine ⟨(2 : ℝ) ^ (-(k + 1)), ?_, ?_, ?_⟩
    · rw [ee, pow_two, nsS, eb, ofBits_pw _ (by omega) (by omega)]
      congr 2; omega
    · rw [invS, eb, sub_pw _ (by omega), ofBits_pw _ (by omega) (by omega)]
      congr 2; omega
    · rw [ee, ← EReal.coe_neg, ← Int.cast_neg, pow_two]

/-- The kernel's new scale of a row is the reference's. -/
theorem row_scales {K C : Fin 128 → ℝ} {s v a b : ℝ} (h : RowOk K C s v a b) :
    nsS (amR idM (fun e => (K e : EReal)) (fun e => (C e : EReal)) s v a b)
      = Ideal.pow (Ideal.ofBits .f32 1073741824#32) (eR (xR (fun e => (K e : EReal)) (fun e => (C e : EReal)) s v a b)) := by
  obtain ⟨i, h1, _, _⟩ := scale_eq (tr_nonneg (SX K C s v a b)) (S_top_le h)
  rw [am_coe h, h1, xR, funext (sR_coe K C s v a b), topR_coe]

/-- The kernel's new codes of a row are the reference's. -/
theorem row_codes {K C : Fin 128 → ℝ} {s v a b : ℝ} (h : RowOk K C s v a b) (e : Fin 128) :
    ncR idM (fun e => (K e : EReal)) (fun e => (C e : EReal)) s v a b e
      = min (Ideal.ofBits .f32 0x43E00000#32) (max (Ideal.ofBits .f32 0xC3E00000#32)
        (sR (fun e => (K e : EReal)) (fun e => (C e : EReal)) s v a b e
          * Ideal.pow (Ideal.ofBits .f32 1073741824#32) (-(eR (xR (fun e => (K e : EReal)) (fun e => (C e : EReal)) s v a b))))) := by
  have hr0 : 0 < a * s := lt_of_lt_of_le (by positivity) h.hr1
  obtain ⟨i, _, h2, h3⟩ := scale_eq (tr_nonneg (SX K C s v a b)) (S_top_le h)
  obtain ⟨u, w, huw, eu, erc, ez⟩ := z_coe h
  unfold ncR
  congr 2
  rw [am_coe h, h2, eu, erc, ez, xR, funext (sR_coe K C s v a b), topR_coe, h3]
  simp only [← EReal.coe_mul]
  congr 1
  calc SX K C s v a b e * (a * s)⁻¹ * (i * u * (a * s * w)) = SX K C s v a b e * ((a * s)⁻¹ * (a * s)) * i * (u * w) := by ring
    _ = _ := by rw [huw, inv_mul_cancel₀ hr0.ne']; ring

end Cert.Delta

end
-- ==== Proof.MaskRead.lean ====
/- The predicate that selects the compared rows, read at an index. -/
module

public import proofs.«01_k».proof.Proof.KRead
public import proofs.«01_k».proof.Proof.Gen.On_compared
public import proofs.«01_k».proof.On_compared
public import Idealize.ShloMosaic.Lib.ReduceAll

@[expose] public section

set_option maxRecDepth 16384

noncomputable section

namespace Cert.Delta

open Idealize.ShloMosaic Cert.On_compared Cert.On_compared.Gen

variable (a0 a1 : Vec Ideal S36x1x16x128 .bf16) (a2 : Vec Ideal S36x1x64x256 .bf16) (a3 a4 : Vec Ideal S36x1x64 .f32)
  (a5 : Vec Ideal S36x64x256x128 .i8) (a6 : Vec Ideal S36x64x256 .f32) (b : Fin 36) (H : Fin 64) (n : Fin 256)

/-- The largest absolute value of every head's key, as the predicate computes it. -/
def selK : FVec Ideal S36x64x1 .f32 :=
  broadcastInDim S36x64x1 ![0, 1] bcast_S36x64_S36x64x1_0_1 (shapeCast S36x64 (broadcastInDim S36x16x4 ![0, 1] bcast_S36x16_S36x16x4_0_1
    (Host.reduce FloatOps.maximumf (Host.absf (extf .f32 (shapeCast S36x16x128 a1 shapeCasts_S36x1x16x128_S36x16x128) bitsLt_bf16_f32))
      (constant S_ .f32 0xFF800000#32) reducesTo_S36x16x128_S36x16_d2 h_S_)) shapeCasts_S36x16x4_S36x64)

/-- The absolute values. -/
def selV : FVec Ideal S36x64x256 .f32 := Host.absf (extf .f32 (shapeCast S36x64x256 a2 shapeCasts_S36x1x64x256_S36x64x256) bitsLt_bf16_f32)

/-- The absolute strengths. -/
def selB : FVec Ideal S36x64x1 .f32 :=
  broadcastInDim S36x64x1 ![0, 1] bcast_S36x64_S36x64x1_0_1 (Host.absf (shapeCast S36x64 a4 shapeCasts_S36x1x64_S36x64))

/-- The decayed scales. -/
def selR : FVec Ideal S36x64x256 .f32 :=
  mulf (broadcastInDim S36x64x256 ![0, 1, 2] bcast_S36x64x1_S36x64x256_0_1_2 (broadcastInDim S36x64x1 ![0, 1] bcast_S36x64_S36x64x1_0_1
    (Host.exp (shapeCast S36x64 a3 shapeCasts_S36x1x64_S36x64)))) a6

/-- One constant at every row, or at every head. -/
def selC3 (w : BitVec 32) : FVec Ideal S36x64x256 .f32 := broadcastInDim S36x64x256 ![] bcast_S_S36x64x256 (constant S_ .f32 w)
def selC1 (w : BitVec 32) : FVec Ideal S36x64x1 .f32 := broadcastInDim S36x64x1 ![] bcast_S_S36x64x1 (constant S_ .f32 w)
def selC8 (w : BitVec 8) : IVec S36x64x256x128 8 := broadcastInDim S36x64x256x128 ![] bcast_S_S36x64x256x128 (constantI S_ 8 w)

/-- The rows' predicate as the conjunction it is. -/
def selAll : IVec S36x64x256 1 :=
  andi (andi (andi
      (andi (Host.reduce IntOp.andi (andi (cmpi .ne a5 (selC8 127#8)) (cmpi .ne a5 (selC8 255#8))) (constantI S_ 1 1#1) reducesTo_S36x64x256x128_S36x64x256_d3 h_S_)
        (broadcastInDim S36x64x256 ![0, 1, 2] bcast_S36x64x1_S36x64x256_0_1_2
          (andi (cmpf .ole (selK a1) (selC1 0x7F7FFFFF#32)) (ori (cmpf .oeq (selK a1) (selC1 0x00000000#32)) (cmpf .oge (selK a1) (selC1 0x00800000#32))))))
      (andi (cmpf .ole (selV a2) (selC3 0x7F7FFFFF#32))
        (broadcastInDim S36x64x256 ![0, 1, 2] bcast_S36x64x1_S36x64x256_0_1_2 (cmpf .ole (selB a4) (selC1 0x7F7FFFFF#32)))))
    (andi (cmpf .oge (selR a3 a6) (selC3 0x00800000#32)) (cmpf .ole (selR a3 a6) (selC3 0x5D800000#32))))
  (cmpf .ole (mulf (broadcastInDim S36x64x256 ![0, 1, 2] bcast_S36x64x1_S36x64x256_0_1_2 (selB a4)) (addf (selV a2) (mulf (selC3 0x47800000#32) (selR a3 a6))))
    (mulf (selC3 0x5D800000#32) (selR a3 a6)))

theorem fn_scales : (Cert.On_compared.fn (F := Ideal) a0 a1 a2 a3 a4 a5 a6).2.2 = selAll a1 a2 a3 a4 a5 a6 := rfl

theorem fn_codes (e : Fin 128) : (Cert.On_compared.fn (F := Ideal) a0 a1 a2 a3 a4 a5 a6).2.1 (ix4 b H n e) = selAll a1 a2 a3 a4 a5 a6 (ix3 b H n) := by
  rw [← fn_scales a0]
  show broadcastInDim S36x64x256x128 ![0, 1, 2, 3] bcast_S36x64x256x1_S36x64x256x128_0_1_2_3 (broadcastInDim S36x64x256x1 ![0, 1, 2] bcast_S36x64x256_S36x64x256x1_0_1_2
    (Cert.On_compared.fn (F := Ideal) a0 a1 a2 a3 a4 a5 a6).2.2) (ix4 b H n e) = _
  generalize (Cert.On_compared.fn (F := Ideal) a0 a1 a2 a3 a4 a5 a6).2.2 = y
  pointwise []

theorem and_iff (x y : BitVec 1) : IntOp.andi x y = 1#1 ↔ x = 1#1 ∧ y = 1#1 := by revert x y; decide
theorem or_iff (x y : BitVec 1) : IntOp.ori x y = 1#1 ↔ x = 1#1 ∨ y = 1#1 := by revert x y; decide
theorem ofBool_iff (p : Bool) : BitVec.ofBool p = 1#1 ↔ p = true := by revert p; decide
theorem le_iff (x y : EReal) : FloatOps.cmpf (F := Ideal) (φ := .f32) .ole x y = 1#1 ↔ x ≤ y :=
  (ofBool_iff (decide (x ≤ y))).trans decide_eq_true_iff
theorem ge_iff (x y : EReal) : FloatOps.cmpf (F := Ideal) (φ := .f32) .oge x y = 1#1 ↔ y ≤ x :=
  (ofBool_iff (decide (y ≤ x))).trans decide_eq_true_iff
theorem eq_iff' (x y : EReal) : FloatOps.cmpf (F := Ideal) (φ := .f32) .oeq x y = 1#1 ↔ x = y :=
  (ofBool_iff (decide (x = y))).trans decide_eq_true_iff
theorem ne_iff' (x y : BitVec 8) : IntOp.cmpi .ne x y = 1#1 ↔ x ≠ y :=
  (ofBool_iff (x != y)).trans bne_iff_ne

theorem selK_apply : selK a1 (ix3 b H 0) = topR (fun e => a1 (ix4 b 0 (kOf H) e)) := by
  have h1 : selK a1 (ix3 b H 0) = Host.reduce FloatOps.maximumf (Host.absf (extf .f32 (shapeCast S36x16x128 a1 shapeCasts_S36x1x16x128_S36x16x128) bitsLt_bf16_f32))
      (constant (F := Ideal) S_ .f32 0xFF800000#32) reducesTo_S36x16x128_S36x16_d2 h_S_ (ix2 b (kOf H)) := by
    unfold selK
    generalize Host.reduce FloatOps.maximumf (Host.absf (extf .f32 (shapeCast S36x16x128 a1 shapeCasts_S36x1x16x128_S36x16x128) bitsLt_bf16_f32))
      (constant (F := Ideal) S_ .f32 0xFF800000#32) reducesTo_S36x16x128_S36x16_d2 h_S_ = y
    pointwise [kOf]
  rw [h1, Host.reduce_eq_fold]
  have h2 : ∀ e, Host.absf (F := Ideal) (φ := .f32) (extf .f32 (shapeCast S36x16x128 a1 shapeCasts_S36x1x16x128_S36x16x128) bitsLt_bf16_f32) (ix3 b (kOf H) e)
      = ab (a1 (ix4 b 0 (kOf H) e)) := fun e => by pointwise []; rfl
  generalize Host.absf (F := Ideal) (φ := .f32) (extf .f32 (shapeCast S36x16x128 a1 shapeCasts_S36x1x16x128_S36x16x128) bitsLt_bf16_f32) = y at h2 ⊢
  unfold topR
  simp only [← h2]
  simp only [pointwise]

theorem selV_apply : selV a2 (ix3 b H n) = ab (a2 (ix4 b 0 H n)) := by
  unfold selV; pointwise []; rfl

theorem selB_apply : selB a4 (ix3 b H 0) = ab (a4 (ix3 b 0 H)) := by
  unfold selB; pointwise []; rfl

theorem selR_apply : selR a3 a6 (ix3 b H n) = Ideal.exp (a3 (ix3 b 0 H)) * a6 (ix3 b H n) := by
  unfold selR; pointwise []

theorem selC3_apply (w : BitVec 32) (i : S36x64x256.Idx) : selC3 w i = Ideal.ofBits .f32 w := rfl
theorem selC1_apply (w : BitVec 32) (i : S36x64x1.Idx) : selC1 w i = Ideal.ofBits .f32 w := rfl
theorem selC8_apply (w : BitVec 8) (i : S36x64x256x128.Idx) : selC8 w i = w := rfl

theorem drop_eq (e : Fin 128) : reducesTo_S36x64x256x128_S36x64x256_d3.drop (ix4 b H n e) = ix3 b H n := by
  funext a
  match a with
  | ⟨0, _⟩ => rfl
  | ⟨1, _⟩ => rfl
  | ⟨2, _⟩ => rfl

theorem wide1_apply {α : Type} (y : S36x64x1.Idx → α) :
    broadcastInDim S36x64x256 ![0, 1, 2] bcast_S36x64x1_S36x64x256_0_1_2 y (ix3 b H n) = y (ix3 b H 0) := by
  pointwise []

/-- What a selected row satisfies. -/
theorem facts_of_mask (h : selAll a1 a2 a3 a4 a5 a6 (ix3 b H n) = 1#1) :
    (∀ e, a5 (ix4 b H n e) ≠ 127#8 ∧ a5 (ix4 b H n e) ≠ 255#8)
    ∧ (topR (fun e => a1 (ix4 b 0 (kOf H) e)) ≤ Ideal.ofBits .f32 0x7F7FFFFF#32
      ∧ (topR (fun e => a1 (ix4 b 0 (kOf H) e)) = Ideal.ofBits .f32 0x00000000#32 ∨ Ideal.ofBits .f32 0x00800000#32 ≤ topR (fun e => a1 (ix4 b 0 (kOf H) e))))
    ∧ (ab (a2 (ix4 b 0 H n)) ≤ Ideal.ofBits .f32 0x7F7FFFFF#32 ∧ ab (a4 (ix3 b 0 H)) ≤ Ideal.ofBits .f32 0x7F7FFFFF#32)
    ∧ (Ideal.ofBits .f32 0x00800000#32 ≤ Ideal.exp (a3 (ix3 b 0 H)) * a6 (ix3 b H n) ∧ Ideal.exp (a3 (ix3 b 0 H)) * a6 (ix3 b H n) ≤ Ideal.ofBits .f32 0x5D800000#32)
    ∧ ab (a4 (ix3 b 0 H)) * (ab (a2 (ix4 b 0 H n)) + Ideal.ofBits .f32 0x47800000#32 * (Ideal.exp (a3 (ix3 b 0 H)) * a6 (ix3 b H n)))
        ≤ Ideal.ofBits .f32 0x5D800000#32 * (Ideal.exp (a3 (ix3 b 0 H)) * a6 (ix3 b H n)) := by
  rw [← selK_apply, ← selV_apply, ← selB_apply, ← selR_apply]
  obtain ⟨h123, h4⟩ := (and_iff _ _).1 h
  obtain ⟨h12, h3⟩ := (and_iff _ _).1 h123
  obtain ⟨h1, h2⟩ := (and_iff _ _).1 h12
  obtain ⟨hc, hk⟩ := (and_iff _ _).1 h1
  obtain ⟨hv, hb⟩ := (and_iff _ _).1 h2
  obtain ⟨hr1, hr2⟩ := (and_iff _ _).1 h3
  rw [wide1_apply] at hk hb
  obtain ⟨hk1, hk2⟩ := (and_iff _ _).1 hk
  refine ⟨fun e => ?_, ⟨(le_iff _ _).1 hk1, ((or_iff _ _).1 hk2).imp (eq_iff' _ _).1 (ge_iff _ _).1⟩, ⟨(le_iff _ _).1 hv, (le_iff _ _).1 hb⟩,
    ⟨(ge_iff _ _).1 hr1, (le_iff _ _).1 hr2⟩, ?_⟩
  · have := Host.reduce_andi_eq_one _ _ _ _ _ hc (ix4 b H n e) (drop_eq b H n e)
    obtain ⟨g1, g2⟩ := (and_iff _ _).1 this
    exact ⟨(ne_iff' _ _).1 g1, (ne_iff' _ _).1 g2⟩
  · have h5 := (le_iff _ _).1 h4
    rw [show mulf (broadcastInDim S36x64x256 ![0, 1, 2] bcast_S36x64x1_S36x64x256_0_1_2 (selB a4)) (addf (selV a2) (mulf (selC3 0x47800000#32) (selR a3 a6))) (ix3 b H n)
      = broadcastInDim S36x64x256 ![0, 1, 2] bcast_S36x64x1_S36x64x256_0_1_2 (selB a4) (ix3 b H n) * (selV a2 (ix3 b H n) + selC3 0x47800000#32 (ix3 b H n) * selR a3 a6 (ix3 b H n)) from rfl,
      wide1_apply] at h5
    exact h5

end Cert.Delta

end
-- ==== Proof.RowFacts.lean ====
/- What a selected row satisfies over the reals: numbers in range, a normalised key, codes that are numbers. -/
module

public import proofs.«01_k».proof.Proof.Row
public import proofs.«01_k».proof.Proof.RefRun

@[expose] public section

noncomputable section

namespace Cert.Delta

open Idealize.ShloMosaic

theorem lit_f32max : ∃ M : ℝ, Ideal.ofBits .f32 0x7F7FFFFF#32 = (M : EReal) := by
  refine ⟨16777215 * (2 : ℝ) ^ (104 : ℤ), ?_⟩
  simp [Ideal.ofBits, Ideal.ieee, -EReal.coe_mul]

theorem lit_16 : Ideal.ofBits .f32 0x47800000#32 = ((65536 : ℝ) : EReal) := by
  rw [show (0x47800000#32 : BitVec 32) = pw 143 from rfl, ofBits_pw _ (by norm_num) (by norm_num)]; norm_num

theorem lit_60 : Ideal.ofBits .f32 0x5D800000#32 = ((2 ^ 60 : ℝ) : EReal) := by
  rw [show (0x5D800000#32 : BitVec 32) = pw 187 from rfl, ofBits_pw _ (by norm_num) (by norm_num)]; norm_num

theorem lit_eps : ∃ q : ℝ, 0 < q ∧ q ≤ (2 : ℝ) ^ (-19 : ℤ) ∧ Ideal.ofBits .f32 897988541#32 = (q : EReal) := by
  refine ⟨8796093 * (2 : ℝ) ^ (-43 : ℤ), by positivity, by norm_num, ?_⟩
  simp [Ideal.ofBits, Ideal.ieee, -EReal.coe_mul]

/-- A number whose absolute value is below a real is real. -/
theorem real_of_ab {x : EReal} {M : ℝ} (h : ab x ≤ (M : EReal)) : ∃ y : ℝ, x = (y : EReal) := by
  induction x with
  | bot => exact absurd h (by simp [ab])
  | top => exact absurd h (by simp [ab])
  | coe y => exact ⟨y, rfl⟩

theorem reals_of_topR {x : Fin 128 → EReal} {M : ℝ} (h : topR x ≤ (M : EReal)) : ∃ y : Fin 128 → ℝ, x = fun e => (y e : EReal) := by
  have h1 : ∀ e, ab (x e) ≤ (M : EReal) := fun e => ((Finset.fold_max_le _).1 h).2 e (Finset.mem_univ e)
  choose y hy using fun e => real_of_ab (h1 e)
  exact ⟨y, funext hy⟩

/-- A code byte that is not a NaN is a number of magnitude at most 448. -/
theorem code_real (w : BitVec 8) (h1 : w ≠ 127#8) (h2 : w ≠ 255#8) : ∃ c : ℝ, |c| ≤ 448 ∧ Ideal.ofBits .fp8e4m3 w = (c : EReal) := by
  have hb : ¬((w.extractLsb' 3 4).toNat = 15 ∧ (w.extractLsb' 0 3).toNat = 7) := by revert w; decide
  have he : (w.extractLsb' 3 4).toNat < 16 := (w.extractLsb' 3 4).isLt
  have hf : (w.extractLsb' 0 3).toNat < 8 := (w.extractLsb' 0 3).isLt
  show ∃ c : ℝ, |c| ≤ 448 ∧ Ideal.e4m3fn w = (c : EReal)
  unfold Ideal.e4m3fn
  simp only [if_neg hb]
  generalize (w.extractLsb' 3 4).toNat = E at *
  generalize (w.extractLsb' 0 3).toNat = f at *
  have hs : |(if (w.extractLsb' 7 1 == 1#1) = true then (-1 : ℝ) else 1)| = 1 := by split <;> norm_num
  generalize (if (w.extractLsb' 7 1 == 1#1) = true then (-1 : ℝ) else 1) = sg at *
  have hfr : (f : ℝ) ≤ 7 := by exact_mod_cast (show f ≤ 7 by omega)
  by_cases hE : E = 0
  · rw [if_pos hE]
    refine ⟨_, ?_, rfl⟩
    rw [abs_mul, abs_mul, hs, abs_of_nonneg (Nat.cast_nonneg f), abs_of_pos (by positivity)]
    nlinarith [show (2 : ℝ) ^ (-9 : ℤ) ≤ 1 by norm_num, show (0 : ℝ) < (2 : ℝ) ^ (-9 : ℤ) by positivity, Nat.cast_nonneg (α := ℝ) f]
  · rw [if_neg hE]
    refine ⟨_, ?_, rfl⟩
    rw [abs_mul, abs_mul, hs, abs_of_nonneg (Nat.cast_nonneg _), abs_of_pos (by positivity), one_mul]
    by_cases h15 : E = 15
    · have : ((8 + f : ℕ) : ℝ) ≤ 14 := by exact_mod_cast (show 8 + f ≤ 14 by omega)
      rw [h15]
      norm_num at this ⊢
      linarith
    · have h8 : ((8 + f : ℕ) : ℝ) ≤ 15 := by exact_mod_cast (show 8 + f ≤ 15 by omega)
      have h9 : (2 : ℝ) ^ ((E : ℤ) - 10) ≤ (2 : ℝ) ^ (4 : ℤ) := zpow_le_zpow_right₀ (by norm_num) (by omega)
      have h10 : (0 : ℝ) < (2 : ℝ) ^ ((E : ℤ) - 10) := by positivity
      have h11 : (2 : ℝ) ^ (4 : ℤ) = 16 := by norm_num
      rw [h11] at h9
      nlinarith [Nat.cast_nonneg (α := ℝ) (8 + f)]

/-- A product of an exponential and a number that lies in a real range above zero is one of reals. -/
theorem reals_of_exp {x y : EReal} {L M : ℝ} (hL : 0 < L) (h1 : (L : EReal) ≤ Ideal.exp x * y) (h2 : Ideal.exp x * y ≤ (M : EReal)) :
    ∃ a s : ℝ, Ideal.exp x = (a : EReal) ∧ y = (s : EReal) := by
  have hp : (0 : EReal) < Ideal.exp x * y := lt_of_lt_of_le (by exact_mod_cast hL) h1
  have ht : Ideal.exp x * y ≠ ⊤ := fun hc => by rw [hc] at h2; exact absurd h2 (by simp)
  induction x with
  | bot => rw [Ideal.exp_bot, zero_mul] at hp; exact absurd hp (lt_irrefl _)
  | top =>
    rw [Ideal.exp_top] at hp ht
    rcases lt_trichotomy y 0 with h | h | h
    · rw [EReal.top_mul_of_neg h] at hp; exact absurd hp (by simp)
    · rw [h, mul_zero] at hp; exact absurd hp (lt_irrefl _)
    · exact absurd (EReal.top_mul_of_pos h) ht
  | coe r =>
    rw [Ideal.exp_coe] at hp ht
    have hr := Real.exp_pos r
    induction y with
    | bot => rw [EReal.coe_mul_bot_of_pos hr] at hp; exact absurd hp (by simp)
    | top => exact absurd (EReal.coe_mul_top_of_pos hr) ht
    | coe s => exact ⟨_, s, Ideal.exp_coe r, rfl⟩

/-- The normalised key of a real key: at most one in magnitude, its largest entry zero or a normal number. -/
theorem l2_real (k : Fin 128 → ℝ) (hT : tr k = 0 ∨ (2 : ℝ) ^ (-126 : ℤ) ≤ tr k) :
    ∃ K : Fin 128 → ℝ, l2 (fun e => (k e : EReal)) = (fun e => (K e : EReal)) ∧ (∀ e, |K e| ≤ 1) ∧ (tr K = 0 ∨ (2 : ℝ) ^ (-126 : ℤ) ≤ tr K) := by
  obtain ⟨q, hq0, hq1, eq⟩ := lit_eps
  have hS : 0 ≤ ∑ e, k e * k e := Finset.sum_nonneg fun e _ => mul_self_nonneg _
  set Q := ∑ e, k e * k e + q with hQ
  have hQ0 : 0 < Q := by linarith
  have hR0 : 0 < Real.sqrt Q := Real.sqrt_pos.2 hQ0
  refine ⟨fun e => k e * (Real.sqrt Q)⁻¹, ?_, ?_, ?_⟩
  · funext e
    unfold l2
    rw [eq]
    simp only [← EReal.coe_mul, ← coe_sum', ← EReal.coe_add]
    rw [← hQ, Ideal.rsqrt_coe, if_neg (not_lt.2 hQ0.le), if_neg hQ0.ne', ← EReal.coe_mul]
  · intro e
    show |k e * (Real.sqrt Q)⁻¹| ≤ 1
    rw [abs_mul, abs_of_pos (inv_pos.2 hR0), ← div_eq_mul_inv, div_le_one hR0]
    apply Real.le_sqrt_of_sq_le
    have := Finset.single_le_sum (f := fun e => k e * k e) (fun e _ => mul_self_nonneg (k e)) (Finset.mem_univ e)
    rw [sq_abs, sq]
    linarith
  · rw [tr_mul k (inv_nonneg.2 hR0.le)]
    rcases hT with h | h
    · left; rw [h, zero_mul]
    · right
      have hT0 : 0 < tr k := lt_of_lt_of_le (by positivity) h
      have hb : ∑ e, k e * k e ≤ 128 * (tr k * tr k) := by
        have : ∀ e ∈ (Finset.univ : Finset (Fin 128)), k e * k e ≤ tr k * tr k := fun e _ => by
          rw [← abs_mul_abs_self]
          exact mul_self_le_mul_self (abs_nonneg _) (le_tr k e)
        refine (Finset.sum_le_card_nsmul _ _ _ this).trans ?_
        simp
      have hR : Real.sqrt Q ≤ 2 ^ 126 * tr k := by
        apply Real.sqrt_le_iff.2
        refine ⟨by positivity, ?_⟩
        have h1 : (2 : ℝ) ^ (-126 : ℤ) * (2 : ℝ) ^ (-126 : ℤ) ≤ tr k * tr k := mul_self_le_mul_self (by positivity) h
        have h2 : (2 : ℝ) ^ (-19 : ℤ) = 2 ^ 233 * ((2 : ℝ) ^ (-126 : ℤ) * (2 : ℝ) ^ (-126 : ℤ)) := by norm_num
        have h3 : (2 : ℝ) ^ (-19 : ℤ) ≤ 2 ^ 233 * (tr k * tr k) := by rw [h2]; exact mul_le_mul_of_nonneg_left h1 (by positivity)
        have h4 : (2 ^ 126 * tr k) ^ 2 = 2 ^ 252 * (tr k * tr k) := by ring
        rw [h4]
        have h5 : (128 + 2 ^ 233) * (tr k * tr k) ≤ 2 ^ 252 * (tr k * tr k) := mul_le_mul_of_nonneg_right (by norm_num) (mul_self_nonneg _)
        linarith
      rw [← div_eq_mul_inv, le_div_iff₀ hR0]
      calc (2 : ℝ) ^ (-126 : ℤ) * Real.sqrt Q ≤ (2 : ℝ) ^ (-126 : ℤ) * (2 ^ 126 * tr k) := mul_le_mul_of_nonneg_left hR (by positivity)
        _ = ((2 : ℝ) ^ (-126 : ℤ) * 2 ^ 126) * tr k := by ring
        _ = tr k := by rw [show (2 : ℝ) ^ (-126 : ℤ) * 2 ^ 126 = 1 by norm_num, one_mul]

/-- A row the predicate selects is one of reals, in range. -/
theorem row_of_facts (x : Fin 128 → EReal) (w : Fin 128 → BitVec 8) (s v g b : EReal)
    (hw : ∀ e, w e ≠ 127#8 ∧ w e ≠ 255#8)
    (hk : topR x ≤ Ideal.ofBits .f32 0x7F7FFFFF#32 ∧ (topR x = Ideal.ofBits .f32 0x00000000#32 ∨ Ideal.ofBits .f32 0x00800000#32 ≤ topR x))
    (hvb : ab v ≤ Ideal.ofBits .f32 0x7F7FFFFF#32 ∧ ab b ≤ Ideal.ofBits .f32 0x7F7FFFFF#32)
    (hr : Ideal.ofBits .f32 0x00800000#32 ≤ Ideal.exp g * s ∧ Ideal.exp g * s ≤ Ideal.ofBits .f32 0x5D800000#32)
    (hd : ab b * (ab v + Ideal.ofBits .f32 0x47800000#32 * (Ideal.exp g * s)) ≤ Ideal.ofBits .f32 0x5D800000#32 * (Ideal.exp g * s)) :
    ∃ (K C : Fin 128 → ℝ) (s' v' a' b' : ℝ), RowOk K C s' v' a' b' ∧ l2 x = (fun e => (K e : EReal))
      ∧ (fun e => Ideal.ofBits .fp8e4m3 (w e)) = (fun e => (C e : EReal)) ∧ s = (s' : EReal) ∧ v = (v' : EReal) ∧ Ideal.exp g = (a' : EReal) ∧ b = (b' : EReal) := by
  obtain ⟨M, eM⟩ := lit_f32max
  rw [show (0x00800000#32 : BitVec 32) = 8388608#32 from rfl, lit_min] at hk hr
  rw [eM] at hk hvb
  rw [lit_60] at hr hd
  rw [lit_16] at hd
  rw [show Ideal.ofBits .f32 0x00000000#32 = 0 from Ideal.ofBits_zero_f32] at hk
  obtain ⟨k, rfl⟩ := reals_of_topR hk.1
  obtain ⟨v', rfl⟩ := real_of_ab hvb.1
  obtain ⟨b', rfl⟩ := real_of_ab hvb.2
  obtain ⟨a', s', ea, rfl⟩ := reals_of_exp (by positivity) hr.1 hr.2
  rw [ea, ← EReal.coe_mul] at hr hd
  rw [topR_coe] at hk
  have hT : tr k = 0 ∨ (2 : ℝ) ^ (-126 : ℤ) ≤ tr k := hk.2.imp (fun h => by exact_mod_cast h) (fun h => by exact_mod_cast h)
  obtain ⟨K, eK, hK, hKT⟩ := l2_real k hT
  choose C hC eC using fun e => code_real (w e) (hw e).1 (hw e).2
  rw [ab_coe, ab_coe] at hd
  simp only [← EReal.coe_mul, ← EReal.coe_add, EReal.coe_le_coe_iff] at hd hr
  exact ⟨K, C, s', v', a', b', ⟨hK, hKT, hC, hr.1, hr.2, hd⟩, eK, funext eC, rfl, rfl, ea, rfl⟩

end Cert.Delta

end
-- ==== Proof.Mask.lean ====
/- The compared elements: on them the kernel's codes and scales are the reference's. -/
module

public import proofs.«01_k».proof.Proof.KRead
public import proofs.«01_k».proof.Proof.RefRun
public import proofs.«01_k».proof.Proof.Gen.On_compared
public import proofs.«01_k».proof.On_compared
public import proofs.«01_k».proof.Proof.Row
public import proofs.«01_k».proof.Proof.MaskRead
public import proofs.«01_k».proof.Proof.RowFacts

@[expose] public section

set_option maxRecDepth 16384

noncomputable section

namespace Cert.Delta

open Idealize.ShloMosaic Idealize.SL.Sem Cert.On_compared Cert.On_compared.Gen

variable (a0 a1 : Vec Ideal S36x1x16x128 .bf16) (a2 : Vec Ideal S36x1x64x256 .bf16) (a3 a4 : Vec Ideal S36x1x64 .f32)
  (a5 : Vec Ideal S36x64x256x128 .i8) (a6 : Vec Ideal S36x64x256 .f32) (b : Fin 36) (H : Fin 64) (n : Fin 256)

/-- On a selected row the kernel's codes and scale are the reference's. -/
theorem row_of_mask (h : selAll a1 a2 a3 a4 a5 a6 (ix3 b H n) = 1#1) :
    (∀ e, ncA a1 a2 a3 a4 a5 a6 b H n e = rcA a1 a2 a3 a4 a5 a6 b H n e) ∧ nsA a1 a2 a3 a4 a5 a6 b H n = rsA a1 a2 a3 a4 a5 a6 b H n := by
  obtain ⟨hw, hk, hvb, hr, hd⟩ := facts_of_mask a1 a2 a3 a4 a5 a6 b H n h
  obtain ⟨K, C, s', v', a', b', ok, eK, eC, es, ev, ea, eb⟩ := row_of_facts _ (fun e => a5 (ix4 b H n e)) _ _ _ _ hw hk hvb hr hd
  have eK' : kA a1 b H = (fun e => (K e : EReal)) := eK
  have eC' : cA a5 b H n = (fun e => (C e : EReal)) := eC
  unfold ncA rcA nsA rsA eA
  rw [eK', eC', es, ev, ea, eb]
  exact ⟨row_codes ok, row_scales ok⟩

/-- Where the predicate selects a code, the kernel's is the reference's. -/
theorem codes_of_mask (e : Fin 128) (h : (Cert.On_compared.fn (F := Ideal) a0 a1 a2 a3 a4 a5 a6).2.1 (ix4 b H n e) = 1#1) :
    ncA a1 a2 a3 a4 a5 a6 b H n e = rcA a1 a2 a3 a4 a5 a6 b H n e :=
  (row_of_mask a1 a2 a3 a4 a5 a6 b H n ((fn_codes a0 a1 a2 a3 a4 a5 a6 b H n e).symm.trans h)).1 e

/-- Where the predicate selects a scale, the kernel's is the reference's. -/
theorem scales_of_mask (h : (Cert.On_compared.fn (F := Ideal) a0 a1 a2 a3 a4 a5 a6).2.2 (ix3 b H n) = 1#1) :
    nsA a1 a2 a3 a4 a5 a6 b H n = rsA a1 a2 a3 a4 a5 a6 b H n :=
  (row_of_mask a1 a2 a3 a4 a5 a6 b H n ((congrFun (fn_scales a0 a1 a2 a3 a4 a5 a6) (ix3 b H n)).symm.trans h)).2

end Cert.Delta

end
-- ==== Proof.lean ====
/- The proof of the certificate's claim: the three programs run to the end with every counter at zero, and the
   kernel's results equal the reference's on the compared elements over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Read
public import proofs.«01_k».proof.Proof.Gen.On_compared
public import proofs.«01_k».proof.Proof.KRun
public import proofs.«01_k».proof.Proof.RefRun
public import proofs.«01_k».proof.Proof.Mask
public import Idealize.ShloMosaic.Adequacy
public import Idealize.ShloMosaic.Init

@[expose] public section

noncomputable section

namespace Cert.Proof

open Idealize.ShloMosaic Idealize.SL.Sem Cert.Kernel Cert.Delta

/-- The kernel and the reference, run from equal arguments, leave equal outputs everywhere and equal new codes and
    new scales on the compared rows. -/
theorem algebraic : algebraic_KernelIdeal_ReferenceIdeal_on_compared (hKernelIdeal := Cert.KernelIdeal.Gen.facts)
    (hReferenceIdeal := Cert.ReferenceIdeal.Gen.facts) (hOn_compared := Cert.On_compared.Gen.facts) := by
  intro m g m' g' _ hm
  refine ⟨fun c i => oA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (i 0) (i 1) (i 2),
    fun c i => ncA (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (i 0) (i 1) (i 2) (i 3),
    fun c i => nsA (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (i 0) (i 1) (i 2), ?_, ?_⟩
  · refine (θ_run _ _ _).mono (fun r h c => ?_) (kernel_run m g)
    obtain ⟨h8, h9, h10, ha⟩ := h c
    exact ⟨fun i _ => h8 i, fun i _ => h9 i, fun i _ => h10 i, ha⟩
  · refine (θ_run _ _ _).mono (fun r h c => ?_) (ref_run m' g')
    obtain ⟨h99, h98, h90, ha⟩ := h c
    obtain ⟨e0, e1, e2, e3, e4, e5, e6⟩ := hm c
    rw [e0, e1, e2, e3, e4, e5, e6] at h99
    rw [e1, e2, e3, e4, e5, e6] at h98 h90
    refine ⟨fun i _ => h99 i, fun i hi => ?_, fun i hi => ?_, ha⟩
    · obtain ⟨b, H, n, e, rfl⟩ : ∃ (b : Fin 36) (H : Fin 64) (n : Fin 256) (e : Fin 128), i = ix4 b H n e := ⟨i 0, i 1, i 2, i 3, eq_ix4 i⟩
      exact (h98 _).trans (codes_of_mask _ _ _ _ _ _ _ b H n e hi).symm
    · obtain ⟨b, H, n, rfl⟩ : ∃ (b : Fin 36) (H : Fin 64) (n : Fin 256), i = ix3 b H n := ⟨i 0, i 1, i 2, eq_ix3 i⟩
      exact (h90 _).trans (scales_of_mask _ _ _ _ _ _ _ b H n hi).symm

/-- Everything the certificate claims. -/
theorem claim : Cert.Claim := ⟨Cert.Kernel.Gen.facts, Cert.KernelIdeal.Gen.facts, Cert.ReferenceIdeal.Gen.facts, Cert.On_compared.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
